-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  IdealRules.named_const.Statement Cert.KernelIdeal.κ "dead" .f32 0xC2D00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v22) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v33) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v21)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v21) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v58) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite11 : Cert.Pre_finite11.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite11.lean ====
abbrev S16384x4096 : Shape := ⟨2, ![16384, 4096]⟩
abbrev S4x4096x1024 : Shape := ⟨3, ![4, 4096, 1024]⟩
abbrev S1x257x32 : Shape := ⟨3, ![1, 257, 32]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S1x257x32 : S_.BroadcastsInDim S1x257x32 (![] : Fin 0 → Fin S1x257x32.rank)
  reducesTo_S1x257x32_S_d0_1_2 : S1x257x32.ReducesTo [0, 1, 2] S_

variable [Facts]

def fn {F : FTy → Type} [FloatOps F] (main_arg0 : FVec F S16384x4096 .f32) (main_arg1 : FVec F S4x4096x1024 .f32) (main_arg2 : FVec F S4x4096x1024 .f32) (main_arg3 : FVec F S1x257x32 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S1x257x32 .f32 := Host.absf main_arg3
  let main_cst_2 : FVec F S_ .f32 := constant S_ .f32 0x7F800000#32
  let main_v10 : FVec F S1x257x32 .f32 := broadcastInDim S1x257x32 ![] bcast_S_S1x257x32 main_cst_2
  let main_v11 : IVec S1x257x32 1 := cmpf .olt main_v9 main_v10
  let main_c_3 : IVec S_ 1 := constantI S_ 1 1#1
  let main_v12 : IVec S_ 1 := (fun x v => Host.reduce IntOp.andi x v reducesTo_S1x257x32_S_d0_1_2 h_S_) main_v11 main_c_3
  let main_v13 : IVec S_ 1 := andi main_v8 main_v12
  main_v13
-- ==== Kernel.lean ====
abbrev S16384x4096 : Shape := ⟨2, ![16384, 4096]⟩
abbrev S_ : Shape := ⟨0, ![]⟩
abbrev S4096x128 : Shape := ⟨2, ![4096, 128]⟩
abbrev S4352x128 : Shape := ⟨2, ![4352, 128]⟩
abbrev S256x128 : Shape := ⟨2, ![256, 128]⟩
abbrev S512x256 : Shape := ⟨2, ![512, 256]⟩
abbrev S256x256 : Shape := ⟨2, ![256, 256]⟩
abbrev S256x1 : Shape := ⟨2, ![256, 1]⟩
abbrev S256x512 : Shape := ⟨2, ![256, 512]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x4096, .bf16⟩
  | .hbm, ⟨7, _⟩ => ⟨S16384x4096, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .bf16⟩
  | .local _ .vmem, ⟨7, _⟩ => ⟨S4096x128, .bf16⟩
  | .local _ .vmem, ⟨8, _⟩ => ⟨S4352x128, .bf16⟩
  | .local _ .vmem, ⟨9, _⟩ => ⟨S4352x128, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_mult1 : BitVec 32 :=
  let c16_i32 : BitVec 32 := 16#32
  let c0_i32_16 : BitVec 32 := 0#32
  let v44 : BitVec 32 := Scalar.muli c16_i32 c0_i32_16
  let c0_i32_17 : BitVec 32 := 0#32
  let v45 : BitVec 32 := Scalar.addi v44 c0_i32_17
  let c256_i32_34 : BitVec 32 := 256#32
  let v76 : BitVec 32 := Scalar.muli v45 c256_i32_34
  v76
def k0_off1 (c0_i32_17 : BitVec 32) : Fin 2 → Nat :=
  let c16_i32 : BitVec 32 := 16#32
  let c0_i32_16 : BitVec 32 := 0#32
  let v44 : BitVec 32 := Scalar.muli c16_i32 c0_i32_16
  let v45 : BitVec 32 := Scalar.addi v44 c0_i32_17
  let c256_i32_34 : BitVec 32 := 256#32
  let v76 : BitVec 32 := Scalar.muli v45 c256_i32_34
  let v77 : BitVec 32 := v76
  let v78 : Index := Scalar.indexCast v77
  let c0_35 : Index := 0#32
  ![v78.toNat, 0]
def k0_mult2 : BitVec 32 :=
  let c16_i32 : BitVec 32 := 16#32
  let c0_i32_16 : BitVec 32 := 0#32
  let v44 : BitVec 32 := Scalar.muli c16_i32 c0_i32_16
  let c0_i32_17 : BitVec 32 := 0#32
  let v45 : BitVec 32 := Scalar.addi v44 c0_i32_17
  let c1_i32_38 : BitVec 32 := 1#32
  let v83 : BitVec 32 := Scalar.addi v45 c1_i32_38
  let c256_i32_39 : BitVec 32 := 256#32
  let v84 : BitVec 32 := Scalar.muli v83 c256_i32_39
  v84
def k0_off2 (c0_i32_17 : BitVec 32) : Fin 2 → Nat :=
  let c16_i32 : BitVec 32 := 16#32
  let c0_i32_16 : BitVec 32 := 0#32
  let v44 : BitVec 32 := Scalar.muli c16_i32 c0_i32_16
  let v45 : BitVec 32 := Scalar.addi v44 c0_i32_17
  let c1_i32_38 : BitVec 32 := 1#32
  let v83 : BitVec 32 := Scalar.addi v45 c1_i32_38
  let c256_i32_39 : BitVec 32 := 256#32
  let v84 : BitVec 32 := Scalar.muli v83 c256_i32_39
  let v85 : BitVec 32 := v84
  let v86 : Index := Scalar.indexCast v85
  let c0_40 : Index := 0#32
  ![v86.toNat, 0]
def k0_mult3 : BitVec 32 :=
  let c16_i32 : BitVec 32 := 16#32
  let c0_i32_16 : BitVec 32 := 0#32
  let v44 : BitVec 32 := Scalar.muli c16_i32 c0_i32_16
  let c0_i32_17 : BitVec 32 := 0#32
  let v45 : BitVec 32 := Scalar.addi v44 c0_i32_17
  let c1_i32_53 : BitVec 32 := 1#32
  let v126 : BitVec 32 := Scalar.subi v45 c1_i32_53
  let c1_i32_54 : BitVec 32 := 1#32
  let v127 : BitVec 32 := Scalar.addi v126 c1_i32_54
  let c256_i32_55 : BitVec 32 := 256#32
  let v128 : BitVec 32 := Scalar.muli v127 c256_i32_55
  v128
def k0_off3 (c0_i32_17 : BitVec 32) : Fin 2 → Nat :=
  let c16_i32 : BitVec 32 := 16#32
  let c0_i32_16 : BitVec 32 := 0#32
  let v44 : BitVec 32 := Scalar.muli c16_i32 c0_i32_16
  let v45 : BitVec 32 := Scalar.addi v44 c0_i32_17
  let c1_i32_53 : BitVec 32 := 1#32
  let v126 : BitVec 32 := Scalar.subi v45 c1_i32_53
  let c1_i32_54 : BitVec 32 := 1#32
  let v127 : BitVec 32 := Scalar.addi v126 c1_i32_54
  let c256_i32_55 : BitVec 32 := 256#32
  let v128 : BitVec 32 := Scalar.muli v127 c256_i32_55
  let v129 : BitVec 32 := v128
  let v130 : Index := Scalar.indexCast v129
  let c0_56 : Index := 0#32
  ![v130.toNat, 0]
def k0_mult4 : BitVec 32 :=
  let c16_i32_18 : BitVec 32 := 16#32
  let c0_i32_16 : BitVec 32 := 0#32
  let v46 : BitVec 32 := Scalar.muli c16_i32_18 c0_i32_16
  let c1_i32_19 : BitVec 32 := 1#32
  let v47 : BitVec 32 := Scalar.addi v46 c1_i32_19
  let c256_i32_67 : BitVec 32 := 256#32
  let v166 : BitVec 32 := Scalar.muli v47 c256_i32_67
  v166
def k0_mult5 : BitVec 32 :=
  let c16_i32_18 : BitVec 32 := 16#32
  let c0_i32_16 : BitVec 32 := 0#32
  let v46 : BitVec 32 := Scalar.muli c16_i32_18 c0_i32_16
  let c1_i32_19 : BitVec 32 := 1#32
  let v47 : BitVec 32 := Scalar.addi v46 c1_i32_19
  let c1_i32_71 : BitVec 32 := 1#32
  let v173 : BitVec 32 := Scalar.addi v47 c1_i32_71
  let c256_i32_72 : BitVec 32 := 256#32
  let v174 : BitVec 32 := Scalar.muli v173 c256_i32_72
  v174
def k0_mult6 : BitVec 32 :=
  let c16_i32_18 : BitVec 32 := 16#32
  let c0_i32_16 : BitVec 32 := 0#32
  let v46 : BitVec 32 := Scalar.muli c16_i32_18 c0_i32_16
  let c1_i32_19 : BitVec 32 := 1#32
  let v47 : BitVec 32 := Scalar.addi v46 c1_i32_19
  let c1_i32_86 : BitVec 32 := 1#32
  let v216 : BitVec 32 := Scalar.subi v47 c1_i32_86
  let c1_i32_87 : BitVec 32 := 1#32
  let v217 : BitVec 32 := Scalar.addi v216 c1_i32_87
  let c256_i32_88 : BitVec 32 := 256#32
  let v218 : BitVec 32 := Scalar.muli v217 c256_i32_88
  v218
def k0_mult7 : BitVec 32 :=
  let c16_i32_20 : BitVec 32 := 16#32
  let c0_i32_16 : BitVec 32 := 0#32
  let v48 : BitVec 32 := Scalar.muli c16_i32_20 c0_i32_16
  let c2_i32 : BitVec 32 := 2#32
  let v49 : BitVec 32 := Scalar.addi v48 c2_i32
  let c256_i32_100 : BitVec 32 := 256#32
  let v256 : BitVec 32 := Scalar.muli v49 c256_i32_100
  v256
def k0_mult8 : BitVec 32 :=
  let c16_i32_20 : BitVec 32 := 16#32
  let c0_i32_16 : BitVec 32 := 0#32
  let v48 : BitVec 32 := Scalar.muli c16_i32_20 c0_i32_16
  let c2_i32 : BitVec 32 := 2#32
  let v49 : BitVec 32 := Scalar.addi v48 c2_i32
  let c1_i32_104 : BitVec 32 := 1#32
  let v263 : BitVec 32 := Scalar.addi v49 c1_i32_104
  let c256_i32_105 : BitVec 32 := 256#32
  let v264 : BitVec 32 := Scalar.muli v263 c256_i32_105
  v264
def k0_mult9 : BitVec 32 :=
  let c16_i32_20 : BitVec 32 := 16#32
  let c0_i32_16 : BitVec 32 := 0#32
  let v48 : BitVec 32 := Scalar.muli c16_i32_20 c0_i32_16
  let c2_i32 : BitVec 32 := 2#32
  let v49 : BitVec 32 := Scalar.addi v48 c2_i32
  let c1_i32_119 : BitVec 32 := 1#32
  let v306 : BitVec 32 := Scalar.subi v49 c1_i32_119
  let c1_i32_120 : BitVec 32 := 1#32
  let v307 : BitVec 32 := Scalar.addi v306 c1_i32_120
  let c256_i32_121 : BitVec 32 := 256#32
  let v308 : BitVec 32 := Scalar.muli v307 c256_i32_121
  v308
def k0_mult10 : BitVec 32 :=
  let c16_i32_21 : BitVec 32 := 16#32
  let c0_i32_16 : BitVec 32 := 0#32
  let v50 : BitVec 32 := Scalar.muli c16_i32_21 c0_i32_16
  let c3_i32 : BitVec 32 := 3#32
  let v51 : BitVec 32 := Scalar.addi v50 c3_i32
  let c256_i32_133 : BitVec 32 := 256#32
  let v346 : BitVec 32 := Scalar.muli v51 c256_i32_133
  v346
def k0_mult11 : BitVec 32 :=
  let c16_i32_21 : BitVec 32 := 16#32
  let c0_i32_16 : BitVec 32 := 0#32
  let v50 : BitVec 32 := Scalar.muli c16_i32_21 c0_i32_16
  let c3_i32 : BitVec 32 := 3#32
  let v51 : BitVec 32 := Scalar.addi v50 c3_i32
  let c1_i32_137 : BitVec 32 := 1#32
  let v353 : BitVec 32 := Scalar.addi v51 c1_i32_137
  let c256_i32_138 : BitVec 32 := 256#32
  let v354 : BitVec 32 := Scalar.muli v353 c256_i32_138
  v354
def k0_mult12 : BitVec 32 :=
  let c16_i32_21 : BitVec 32 := 16#32
  let c0_i32_16 : BitVec 32 := 0#32
  let v50 : BitVec 32 := Scalar.muli c16_i32_21 c0_i32_16
  let c3_i32 : BitVec 32 := 3#32
  let v51 : BitVec 32 := Scalar.addi v50 c3_i32
  let c1_i32_152 : BitVec 32 := 1#32
  let v396 : BitVec 32 := Scalar.subi v51 c1_i32_152
  let c1_i32_153 : BitVec 32 := 1#32
  let v397 : BitVec 32 := Scalar.addi v396 c1_i32_153
  let c256_i32_154 : BitVec 32 := 256#32
  let v398 : BitVec 32 := Scalar.muli v397 c256_i32_154
  v398
def k0_mult13 : BitVec 32 :=
  let c16_i32_22 : BitVec 32 := 16#32
  let c0_i32_16 : BitVec 32 := 0#32
  let v52 : BitVec 32 := Scalar.muli c16_i32_22 c0_i32_16
  let c4_i32 : BitVec 32 := 4#32
  let v53 : BitVec 32 := Scalar.addi v52 c4_i32
  let c256_i32_166 : BitVec 32 := 256#32
  let v436 : BitVec 32 := Scalar.muli v53 c256_i32_166
  v436
def k0_mult14 : BitVec 32 :=
  let c16_i32_22 : BitVec 32 := 16#32
  let c0_i32_16 : BitVec 32 := 0#32
  let v52 : BitVec 32 := Scalar.muli c16_i32_22 c0_i32_16
  let c4_i32 : BitVec 32 := 4#32
  let v53 : BitVec 32 := Scalar.addi v52 c4_i32
  let c1_i32_170 : BitVec 32 := 1#32
  let v443 : BitVec 32 := Scalar.addi v53 c1_i32_170
  let c256_i32_171 : BitVec 32 := 256#32
  let v444 : BitVec 32 := Scalar.muli v443 c256_i32_171
  v444
def k0_mult15 : BitVec 32 :=
  let c16_i32_22 : BitVec 32 := 16#32
  let c0_i32_16 : BitVec 32 := 0#32
  let v52 : BitVec 32 := Scalar.muli c16_i32_22 c0_i32_16
  let c4_i32 : BitVec 32 := 4#32
  let v53 : BitVec 32 := Scalar.addi v52 c4_i32
  let c1_i32_185 : BitVec 32 := 1#32
  let v486 : BitVec 32 := Scalar.subi v53 c1_i32_185
  let c1_i32_186 : BitVec 32 := 1#32
  let v487 : BitVec 32 := Scalar.addi v486 c1_i32_186
  let c256_i32_187 : BitVec 32 := 256#32
  let v488 : BitVec 32 := Scalar.muli v487 c256_i32_187
  v488
def k0_mult16 : BitVec 32 :=
  let c16_i32_23 : BitVec 32 := 16#32
  let c0_i32_16 : BitVec 32 := 0#32
  let v54 : BitVec 32 := Scalar.muli c16_i32_23 c0_i32_16
  let c5_i32 : BitVec 32 := 5#32
  let v55 : BitVec 32 := Scalar.addi v54 c5_i32
  let c256_i32_199 : BitVec 32 := 256#32
  let v526 : BitVec 32 := Scalar.muli v55 c256_i32_199
  v526
def k0_mult17 : BitVec 32 :=
  let c16_i32_23 : BitVec 32 := 16#32
  let c0_i32_16 : BitVec 32 := 0#32
  let v54 : BitVec 32 := Scalar.muli c16_i32_23 c0_i32_16
  let c5_i32 : BitVec 32 := 5#32
  let v55 : BitVec 32 := Scalar.addi v54 c5_i32
  let c1_i32_203 : BitVec 32 := 1#32
  let v533 : BitVec 32 := Scalar.addi v55 c1_i32_203
  let c256_i32_204 : BitVec 32 := 256#32
  let v534 : BitVec 32 := Scalar.muli v533 c256_i32_204
  v534
def k0_mult18 : BitVec 32 :=
  let c16_i32_23 : BitVec 32 := 16#32
  let c0_i32_16 : BitVec 32 := 0#32
  let v54 : BitVec 32 := Scalar.muli c16_i32_23 c0_i32_16
  let c5_i32 : BitVec 32 := 5#32
  let v55 : BitVec 32 := Scalar.addi v54 c5_i32
  let c1_i32_218 : BitVec 32 := 1#32
  let v576 : BitVec 32 := Scalar.subi v55 c1_i32_218
  let c1_i32_219 : BitVec 32 := 1#32
  let v577 : BitVec 32 := Scalar.addi v576 c1_i32_219
  let c256_i32_220 : BitVec 32 := 256#32
  let v578 : BitVec 32 := Scalar.muli v577 c256_i32_220
  v578
def k0_mult19 : BitVec 32 :=
  let c16_i32_24 : BitVec 32 := 16#32
  let c0_i32_16 : BitVec 32 := 0#32
  let v56 : BitVec 32 := Scalar.muli c16_i32_24 c0_i32_16
  let c6_i32 : BitVec 32 := 6#32
  let v57 : BitVec 32 := Scalar.addi v56 c6_i32
  let c256_i32_232 : BitVec 32 := 256#32
  let v616 : BitVec 32 := Scalar.muli v57 c256_i32_232
  v616
def k0_mult20 : BitVec 32 :=
  let c16_i32_24 : BitVec 32 := 16#32
  let c0_i32_16 : BitVec 32 := 0#32
  let v56 : BitVec 32 := Scalar.muli c16_i32_24 c0_i32_16
  let c6_i32 : BitVec 32 := 6#32
  let v57 : BitVec 32 := Scalar.addi v56 c6_i32
  let c1_i32_236 : BitVec 32 := 1#32
  let v623 : BitVec 32 := Scalar.addi v57 c1_i32_236
  let c256_i32_237 : BitVec 32 := 256#32
  let v624 : BitVec 32 := Scalar.muli v623 c256_i32_237
  v624
def k0_mult21 : BitVec 32 :=
  let c16_i32_24 : BitVec 32 := 16#32
  let c0_i32_16 : BitVec 32 := 0#32
  let v56 : BitVec 32 := Scalar.muli c16_i32_24 c0_i32_16
  let c6_i32 : BitVec 32 := 6#32
  let v57 : BitVec 32 := Scalar.addi v56 c6_i32
  let c1_i32_251 : BitVec 32 := 1#32
  let v666 : BitVec 32 := Scalar.subi v57 c1_i32_251
  let c1_i32_252 : BitVec 32 := 1#32
  let v667 : BitVec 32 := Scalar.addi v666 c1_i32_252
  let c256_i32_253 : BitVec 32 := 256#32
  let v668 : BitVec 32 := Scalar.muli v667 c256_i32_253
  v668
def k0_mult22 : BitVec 32 :=
  let c16_i32_25 : BitVec 32 := 16#32
  let c0_i32_16 : BitVec 32 := 0#32
  let v58 : BitVec 32 := Scalar.muli c16_i32_25 c0_i32_16
  let c7_i32 : BitVec 32 := 7#32
  let v59 : BitVec 32 := Scalar.addi v58 c7_i32
  let c256_i32_265 : BitVec 32 := 256#32
  let v706 : BitVec 32 := Scalar.muli v59 c256_i32_265
  v706
def k0_mult23 : BitVec 32 :=
  let c16_i32_25 : BitVec 32 := 16#32
  let c0_i32_16 : BitVec 32 := 0#32
  let v58 : BitVec 32 := Scalar.muli c16_i32_25 c0_i32_16
  let c7_i32 : BitVec 32 := 7#32
  let v59 : BitVec 32 := Scalar.addi v58 c7_i32
  let c1_i32_269 : BitVec 32 := 1#32
  let v713 : BitVec 32 := Scalar.addi v59 c1_i32_269
  let c256_i32_270 : BitVec 32 := 256#32
  let v714 : BitVec 32 := Scalar.muli v713 c256_i32_270
  v714
def k0_mult24 : BitVec 32 :=
  let c16_i32_25 : BitVec 32 := 16#32
  let c0_i32_16 : BitVec 32 := 0#32
  let v58 : BitVec 32 := Scalar.muli c16_i32_25 c0_i32_16
  let c7_i32 : BitVec 32 := 7#32
  let v59 : BitVec 32 := Scalar.addi v58 c7_i32
  let c1_i32_284 : BitVec 32 := 1#32
  let v756 : BitVec 32 := Scalar.subi v59 c1_i32_284
  let c1_i32_285 : BitVec 32 := 1#32
  let v757 : BitVec 32 := Scalar.addi v756 c1_i32_285
  let c256_i32_286 : BitVec 32 := 256#32
  let v758 : BitVec 32 := Scalar.muli v757 c256_i32_286
  v758
def k0_mult25 : BitVec 32 :=
  let c16_i32_26 : BitVec 32 := 16#32
  let c0_i32_16 : BitVec 32 := 0#32
  let v60 : BitVec 32 := Scalar.muli c16_i32_26 c0_i32_16
  let c8_i32 : BitVec 32 := 8#32
  let v61 : BitVec 32 := Scalar.addi v60 c8_i32
  let c256_i32_298 : BitVec 32 := 256#32
  let v796 : BitVec 32 := Scalar.muli v61 c256_i32_298
  v796
def k0_mult26 : BitVec 32 :=
  let c16_i32_26 : BitVec 32 := 16#32
  let c0_i32_16 : BitVec 32 := 0#32
  let v60 : BitVec 32 := Scalar.muli c16_i32_26 c0_i32_16
  let c8_i32 : BitVec 32 := 8#32
  let v61 : BitVec 32 := Scalar.addi v60 c8_i32
  let c1_i32_302 : BitVec 32 := 1#32
  let v803 : BitVec 32 := Scalar.addi v61 c1_i32_302
  let c256_i32_303 : BitVec 32 := 256#32
  let v804 : BitVec 32 := Scalar.muli v803 c256_i32_303
  v804
def k0_mult27 : BitVec 32 :=
  let c16_i32_26 : BitVec 32 := 16#32
  let c0_i32_16 : BitVec 32 := 0#32
  let v60 : BitVec 32 := Scalar.muli c16_i32_26 c0_i32_16
  let c8_i32 : BitVec 32 := 8#32
  let v61 : BitVec 32 := Scalar.addi v60 c8_i32
  let c1_i32_317 : BitVec 32 := 1#32
  let v846 : BitVec 32 := Scalar.subi v61 c1_i32_317
  let c1_i32_318 : BitVec 32 := 1#32
  let v847 : BitVec 32 := Scalar.addi v846 c1_i32_318
  let c256_i32_319 : BitVec 32 := 256#32
  let v848 : BitVec 32 := Scalar.muli v847 c256_i32_319
  v848
def k0_mult28 : BitVec 32 :=
  let c16_i32_27 : BitVec 32 := 16#32
  let c0_i32_16 : BitVec 32 := 0#32
  let v62 : BitVec 32 := Scalar.muli c16_i32_27 c0_i32_16
  let c9_i32 : BitVec 32 := 9#32
  let v63 : BitVec 32 := Scalar.addi v62 c9_i32
  let c256_i32_331 : BitVec 32 := 256#32
  let v886 : BitVec 32 := Scalar.muli v63 c256_i32_331
  v886
def k0_mult29 : BitVec 32 :=
  let c16_i32_27 : BitVec 32 := 16#32
  let c0_i32_16 : BitVec 32 := 0#32
  let v62 : BitVec 32 := Scalar.muli c16_i32_27 c0_i32_16
  let c9_i32 : BitVec 32 := 9#32
  let v63 : BitVec 32 := Scalar.addi v62 c9_i32
  let c1_i32_335 : BitVec 32 := 1#32
  let v893 : BitVec 32 := Scalar.addi v63 c1_i32_335
  let c256_i32_336 : BitVec 32 := 256#32
  let v894 : BitVec 32 := Scalar.muli v893 c256_i32_336
  v894
def k0_mult30 : BitVec 32 :=
  let c16_i32_27 : BitVec 32 := 16#32
  let c0_i32_16 : BitVec 32 := 0#32
  let v62 : BitVec 32 := Scalar.muli c16_i32_27 c0_i32_16
  let c9_i32 : BitVec 32 := 9#32
  let v63 : BitVec 32 := Scalar.addi v62 c9_i32
  let c1_i32_350 : BitVec 32 := 1#32
  let v936 : BitVec 32 := Scalar.subi v63 c1_i32_350
  let c1_i32_351 : BitVec 32 := 1#32
  let v937 : BitVec 32 := Scalar.addi v936 c1_i32_351
  let c256_i32_352 : BitVec 32 := 256#32
  let v938 : BitVec 32 := Scalar.muli v937 c256_i32_352
  v938
def k0_mult31 : BitVec 32 :=
  let c16_i32_28 : BitVec 32 := 16#32
  let c0_i32_16 : BitVec 32 := 0#32
  let v64 : BitVec 32 := Scalar.muli c16_i32_28 c0_i32_16
  let c10_i32 : BitVec 32 := 10#32
  let v65 : BitVec 32 := Scalar.addi v64 c10_i32
  let c256_i32_364 : BitVec 32 := 256#32
  let v976 : BitVec 32 := Scalar.muli v65 c256_i32_364
  v976
def k0_mult32 : BitVec 32 :=
  let c16_i32_28 : BitVec 32 := 16#32
  let c0_i32_16 : BitVec 32 := 0#32
  let v64 : BitVec 32 := Scalar.muli c16_i32_28 c0_i32_16
  let c10_i32 : BitVec 32 := 10#32
  let v65 : BitVec 32 := Scalar.addi v64 c10_i32
  let c1_i32_368 : BitVec 32 := 1#32
  let v983 : BitVec 32 := Scalar.addi v65 c1_i32_368
  let c256_i32_369 : BitVec 32 := 256#32
  let v984 : BitVec 32 := Scalar.muli v983 c256_i32_369
  v984
def k0_mult33 : BitVec 32 :=
  let c16_i32_28 : BitVec 32 := 16#32
  let c0_i32_16 : BitVec 32 := 0#32
  let v64 : BitVec 32 := Scalar.muli c16_i32_28 c0_i32_16
  let c10_i32 : BitVec 32 := 10#32
  let v65 : BitVec 32 := Scalar.addi v64 c10_i32
  let c1_i32_383 : BitVec 32 := 1#32
  let v1026 : BitVec 32 := Scalar.subi v65 c1_i32_383
  let c1_i32_384 : BitVec 32 := 1#32
  let v1027 : BitVec 32 := Scalar.addi v1026 c1_i32_384
  let c256_i32_385 : BitVec 32 := 256#32
  let v1028 : BitVec 32 := Scalar.muli v1027 c256_i32_385
  v1028
def k0_mult34 : BitVec 32 :=
  let c16_i32_29 : BitVec 32 := 16#32
  let c0_i32_16 : BitVec 32 := 0#32
  let v66 : BitVec 32 := Scalar.muli c16_i32_29 c0_i32_16
  let c11_i32 : BitVec 32 := 11#32
  let v67 : BitVec 32 := Scalar.addi v66 c11_i32
  let c256_i32_397 : BitVec 32 := 256#32
  let v1066 : BitVec 32 := Scalar.muli v67 c256_i32_397
  v1066
def k0_mult35 : BitVec 32 :=
  let c16_i32_29 : BitVec 32 := 16#32
  let c0_i32_16 : BitVec 32 := 0#32
  let v66 : BitVec 32 := Scalar.muli c16_i32_29 c0_i32_16
  let c11_i32 : BitVec 32 := 11#32
  let v67 : BitVec 32 := Scalar.addi v66 c11_i32
  let c1_i32_401 : BitVec 32 := 1#32
  let v1073 : BitVec 32 := Scalar.addi v67 c1_i32_401
  let c256_i32_402 : BitVec 32 := 256#32
  let v1074 : BitVec 32 := Scalar.muli v1073 c256_i32_402
  v1074
def k0_mult36 : BitVec 32 :=
  let c16_i32_29 : BitVec 32 := 16#32
  let c0_i32_16 : BitVec 32 := 0#32
  let v66 : BitVec 32 := Scalar.muli c16_i32_29 c0_i32_16
  let c11_i32 : BitVec 32 := 11#32
  let v67 : BitVec 32 := Scalar.addi v66 c11_i32
  let c1_i32_416 : BitVec 32 := 1#32
  let v1116 : BitVec 32 := Scalar.subi v67 c1_i32_416
  let c1_i32_417 : BitVec 32 := 1#32
  let v1117 : BitVec 32 := Scalar.addi v1116 c1_i32_417
  let c256_i32_418 : BitVec 32 := 256#32
  let v1118 : BitVec 32 := Scalar.muli v1117 c256_i32_418
  v1118
def k0_mult37 : BitVec 32 :=
  let c16_i32_30 : BitVec 32 := 16#32
  let c0_i32_16 : BitVec 32 := 0#32
  let v68 : BitVec 32 := Scalar.muli c16_i32_30 c0_i32_16
  let c12_i32 : BitVec 32 := 12#32
  let v69 : BitVec 32 := Scalar.addi v68 c12_i32
  let c256_i32_430 : BitVec 32 := 256#32
  let v1156 : BitVec 32 := Scalar.muli v69 c256_i32_430
  v1156
def k0_mult38 : BitVec 32 :=
  let c16_i32_30 : BitVec 32 := 16#32
  let c0_i32_16 : BitVec 32 := 0#32
  let v68 : BitVec 32 := Scalar.muli c16_i32_30 c0_i32_16
  let c12_i32 : BitVec 32 := 12#32
  let v69 : BitVec 32 := Scalar.addi v68 c12_i32
  let c1_i32_434 : BitVec 32 := 1#32
  let v1163 : BitVec 32 := Scalar.addi v69 c1_i32_434
  let c256_i32_435 : BitVec 32 := 256#32
  let v1164 : BitVec 32 := Scalar.muli v1163 c256_i32_435
  v1164
def k0_mult39 : BitVec 32 :=
  let c16_i32_30 : BitVec 32 := 16#32
  let c0_i32_16 : BitVec 32 := 0#32
  let v68 : BitVec 32 := Scalar.muli c16_i32_30 c0_i32_16
  let c12_i32 : BitVec 32 := 12#32
  let v69 : BitVec 32 := Scalar.addi v68 c12_i32
  let c1_i32_449 : BitVec 32 := 1#32
  let v1206 : BitVec 32 := Scalar.subi v69 c1_i32_449
  let c1_i32_450 : BitVec 32 := 1#32
  let v1207 : BitVec 32 := Scalar.addi v1206 c1_i32_450
  let c256_i32_451 : BitVec 32 := 256#32
  let v1208 : BitVec 32 := Scalar.muli v1207 c256_i32_451
  v1208
def k0_mult40 : BitVec 32 :=
  let c16_i32_31 : BitVec 32 := 16#32
  let c0_i32_16 : BitVec 32 := 0#32
  let v70 : BitVec 32 := Scalar.muli c16_i32_31 c0_i32_16
  let c13_i32 : BitVec 32 := 13#32
  let v71 : BitVec 32 := Scalar.addi v70 c13_i32
  let c256_i32_463 : BitVec 32 := 256#32
  let v1246 : BitVec 32 := Scalar.muli v71 c256_i32_463
  v1246
def k0_mult41 : BitVec 32 :=
  let c16_i32_31 : BitVec 32 := 16#32
  let c0_i32_16 : BitVec 32 := 0#32
  let v70 : BitVec 32 := Scalar.muli c16_i32_31 c0_i32_16
  let c13_i32 : BitVec 32 := 13#32
  let v71 : BitVec 32 := Scalar.addi v70 c13_i32
  let c1_i32_467 : BitVec 32 := 1#32
  let v1253 : BitVec 32 := Scalar.addi v71 c1_i32_467
  let c256_i32_468 : BitVec 32 := 256#32
  let v1254 : BitVec 32 := Scalar.muli v1253 c256_i32_468
  v1254
def k0_mult42 : BitVec 32 :=
  let c16_i32_31 : BitVec 32 := 16#32
  let c0_i32_16 : BitVec 32 := 0#32
  let v70 : BitVec 32 := Scalar.muli c16_i32_31 c0_i32_16
  let c13_i32 : BitVec 32 := 13#32
  let v71 : BitVec 32 := Scalar.addi v70 c13_i32
  let c1_i32_482 : BitVec 32 := 1#32
  let v1296 : BitVec 32 := Scalar.subi v71 c1_i32_482
  let c1_i32_483 : BitVec 32 := 1#32
  let v1297 : BitVec 32 := Scalar.addi v1296 c1_i32_483
  let c256_i32_484 : BitVec 32 := 256#32
  let v1298 : BitVec 32 := Scalar.muli v1297 c256_i32_484
  v1298
def k0_mult43 : BitVec 32 :=
  let c16_i32_32 : BitVec 32 := 16#32
  let c0_i32_16 : BitVec 32 := 0#32
  let v72 : BitVec 32 := Scalar.muli c16_i32_32 c0_i32_16
  let c14_i32 : BitVec 32 := 14#32
  let v73 : BitVec 32 := Scalar.addi v72 c14_i32
  let c256_i32_496 : BitVec 32 := 256#32
  let v1336 : BitVec 32 := Scalar.muli v73 c256_i32_496
  v1336
def k0_mult44 : BitVec 32 :=
  let c16_i32_32 : BitVec 32 := 16#32
  let c0_i32_16 : BitVec 32 := 0#32
  let v72 : BitVec 32 := Scalar.muli c16_i32_32 c0_i32_16
  let c14_i32 : BitVec 32 := 14#32
  let v73 : BitVec 32 := Scalar.addi v72 c14_i32
  let c1_i32_500 : BitVec 32 := 1#32
  let v1343 : BitVec 32 := Scalar.addi v73 c1_i32_500
  let c256_i32_501 : BitVec 32 := 256#32
  let v1344 : BitVec 32 := Scalar.muli v1343 c256_i32_501
  v1344
def k0_mult45 : BitVec 32 :=
  let c16_i32_32 : BitVec 32 := 16#32
  let c0_i32_16 : BitVec 32 := 0#32
  let v72 : BitVec 32 := Scalar.muli c16_i32_32 c0_i32_16
  let c14_i32 : BitVec 32 := 14#32
  let v73 : BitVec 32 := Scalar.addi v72 c14_i32
  let c1_i32_515 : BitVec 32 := 1#32
  let v1386 : BitVec 32 := Scalar.subi v73 c1_i32_515
  let c1_i32_516 : BitVec 32 := 1#32
  let v1387 : BitVec 32 := Scalar.addi v1386 c1_i32_516
  let c256_i32_517 : BitVec 32 := 256#32
  let v1388 : BitVec 32 := Scalar.muli v1387 c256_i32_517
  v1388
def k0_mult46 : BitVec 32 :=
  let c16_i32_33 : BitVec 32 := 16#32
  let c0_i32_16 : BitVec 32 := 0#32
  let v74 : BitVec 32 := Scalar.muli c16_i32_33 c0_i32_16
  let c15_i32 : BitVec 32 := 15#32
  let v75 : BitVec 32 := Scalar.addi v74 c15_i32
  let c256_i32_529 : BitVec 32 := 256#32
  let v1426 : BitVec 32 := Scalar.muli v75 c256_i32_529
  v1426
def k0_mult47 : BitVec 32 :=
  let c16_i32_33 : BitVec 32 := 16#32
  let c0_i32_16 : BitVec 32 := 0#32
  let v74 : BitVec 32 := Scalar.muli c16_i32_33 c0_i32_16
  let c15_i32 : BitVec 32 := 15#32
  let v75 : BitVec 32 := Scalar.addi v74 c15_i32
  let c1_i32_533 : BitVec 32 := 1#32
  let v1433 : BitVec 32 := Scalar.addi v75 c1_i32_533
  let c256_i32_534 : BitVec 32 := 256#32
  let v1434 : BitVec 32 := Scalar.muli v1433 c256_i32_534
  v1434
def k0_mult48 : BitVec 32 :=
  let c16_i32_33 : BitVec 32 := 16#32
  let c0_i32_16 : BitVec 32 := 0#32
  let v74 : BitVec 32 := Scalar.muli c16_i32_33 c0_i32_16
  let c15_i32 : BitVec 32 := 15#32
  let v75 : BitVec 32 := Scalar.addi v74 c15_i32
  let c1_i32_548 : BitVec 32 := 1#32
  let v1476 : BitVec 32 := Scalar.subi v75 c1_i32_548
  let c1_i32_549 : BitVec 32 := 1#32
  let v1477 : BitVec 32 := Scalar.addi v1476 c1_i32_549
  let c256_i32_550 : BitVec 32 := 256#32
  let v1478 : BitVec 32 := Scalar.muli v1477 c256_i32_550
  v1478
def k0_mult49 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off4 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk1 (arg8 : BitVec 32) : Prop :=
  (256 ∣ (k0_mult49 arg8).toNat) ∧
  (∀ a, (k0_off4 arg8) a + S256x128.size a ≤ S4352x128.size a)
theorem k0_mult49_dvd : ∀ (arg8 : BitVec 32) (k0_hw1 : k0_chk1 arg8), 256 ∣ (k0_mult49 arg8).toNat := fun arg8 k0_hw1 => k0_hw1.1
theorem k0_off4_inb : ∀ (arg8 : BitVec 32) (k0_hw1 : k0_chk1 arg8), ∀ a, (k0_off4 arg8) a + S256x128.size a ≤ S4352x128.size a := fun arg8 k0_hw1 => k0_hw1.2

def k0_mult50 : BitVec 32 :=
  let c16_i32 : BitVec 32 := 16#32
  let c0_i32_16 : BitVec 32 := 0#32
  let v44 : BitVec 32 := Scalar.muli c16_i32 c0_i32_16
  let c0_i32_17 : BitVec 32 := 0#32
  let v45 : BitVec 32 := Scalar.addi v44 c0_i32_17
  let c256_i32_564 : BitVec 32 := 256#32
  let v1523 : BitVec 32 := Scalar.muli v45 c256_i32_564
  v1523
def k0_mult51 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off5 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk2 (arg8 : BitVec 32) : Prop :=
  (256 ∣ (k0_mult51 arg8).toNat) ∧
  (∀ a, (k0_off5 arg8) a + S256x128.size a ≤ S4352x128.size a)
theorem k0_mult51_dvd : ∀ (arg8 : BitVec 32) (k0_hw2 : k0_chk2 arg8), 256 ∣ (k0_mult51 arg8).toNat := fun arg8 k0_hw2 => k0_hw2.1
theorem k0_off5_inb : ∀ (arg8 : BitVec 32) (k0_hw2 : k0_chk2 arg8), ∀ a, (k0_off5 arg8) a + S256x128.size a ≤ S4352x128.size a := fun arg8 k0_hw2 => k0_hw2.2

def k0_mult52 : BitVec 32 :=
  let c16_i32_18 : BitVec 32 := 16#32
  let c0_i32_16 : BitVec 32 := 0#32
  let v46 : BitVec 32 := Scalar.muli c16_i32_18 c0_i32_16
  let c1_i32_19 : BitVec 32 := 1#32
  let v47 : BitVec 32 := Scalar.addi v46 c1_i32_19
  let c256_i32_568 : BitVec 32 := 256#32
  let v1534 : BitVec 32 := Scalar.muli v47 c256_i32_568
  v1534
def k0_mult53 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off6 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk3 (arg8 : BitVec 32) : Prop :=
  (256 ∣ (k0_mult53 arg8).toNat) ∧
  (∀ a, (k0_off6 arg8) a + S256x128.size a ≤ S4352x128.size a)
theorem k0_mult53_dvd : ∀ (arg8 : BitVec 32) (k0_hw3 : k0_chk3 arg8), 256 ∣ (k0_mult53 arg8).toNat := fun arg8 k0_hw3 => k0_hw3.1
theorem k0_off6_inb : ∀ (arg8 : BitVec 32) (k0_hw3 : k0_chk3 arg8), ∀ a, (k0_off6 arg8) a + S256x128.size a ≤ S4352x128.size a := fun arg8 k0_hw3 => k0_hw3.2

def k0_mult54 : BitVec 32 :=
  let c16_i32_20 : BitVec 32 := 16#32
  let c0_i32_16 : BitVec 32 := 0#32
  let v48 : BitVec 32 := Scalar.muli c16_i32_20 c0_i32_16
  let c2_i32 : BitVec 32 := 2#32
  let v49 : BitVec 32 := Scalar.addi v48 c2_i32
  let c256_i32_572 : BitVec 32 := 256#32
  let v1545 : BitVec 32 := Scalar.muli v49 c256_i32_572
  v1545
def k0_mult55 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off7 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk4 (arg8 : BitVec 32) : Prop :=
  (256 ∣ (k0_mult55 arg8).toNat) ∧
  (∀ a, (k0_off7 arg8) a + S256x128.size a ≤ S4352x128.size a)
theorem k0_mult55_dvd : ∀ (arg8 : BitVec 32) (k0_hw4 : k0_chk4 arg8), 256 ∣ (k0_mult55 arg8).toNat := fun arg8 k0_hw4 => k0_hw4.1
theorem k0_off7_inb : ∀ (arg8 : BitVec 32) (k0_hw4 : k0_chk4 arg8), ∀ a, (k0_off7 arg8) a + S256x128.size a ≤ S4352x128.size a := fun arg8 k0_hw4 => k0_hw4.2

def k0_mult56 : BitVec 32 :=
  let c16_i32_21 : BitVec 32 := 16#32
  let c0_i32_16 : BitVec 32 := 0#32
  let v50 : BitVec 32 := Scalar.muli c16_i32_21 c0_i32_16
  let c3_i32 : BitVec 32 := 3#32
  let v51 : BitVec 32 := Scalar.addi v50 c3_i32
  let c256_i32_576 : BitVec 32 := 256#32
  let v1556 : BitVec 32 := Scalar.muli v51 c256_i32_576
  v1556
def k0_mult57 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off8 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk5 (arg8 : BitVec 32) : Prop :=
  (256 ∣ (k0_mult57 arg8).toNat) ∧
  (∀ a, (k0_off8 arg8) a + S256x128.size a ≤ S4352x128.size a)
theorem k0_mult57_dvd : ∀ (arg8 : BitVec 32) (k0_hw5 : k0_chk5 arg8), 256 ∣ (k0_mult57 arg8).toNat := fun arg8 k0_hw5 => k0_hw5.1
theorem k0_off8_inb : ∀ (arg8 : BitVec 32) (k0_hw5 : k0_chk5 arg8), ∀ a, (k0_off8 arg8) a + S256x128.size a ≤ S4352x128.size a := fun arg8 k0_hw5 => k0_hw5.2

def k0_mult58 : BitVec 32 :=
  let c16_i32_22 : BitVec 32 := 16#32
  let c0_i32_16 : BitVec 32 := 0#32
  let v52 : BitVec 32 := Scalar.muli c16_i32_22 c0_i32_16
  let c4_i32 : BitVec 32 := 4#32
  let v53 : BitVec 32 := Scalar.addi v52 c4_i32
  let c256_i32_580 : BitVec 32 := 256#32
  let v1567 : BitVec 32 := Scalar.muli v53 c256_i32_580
  v1567
def k0_mult59 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off9 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk6 (arg8 : BitVec 32) : Prop :=
  (256 ∣ (k0_mult59 arg8).toNat) ∧
  (∀ a, (k0_off9 arg8) a + S256x128.size a ≤ S4352x128.size a)
theorem k0_mult59_dvd : ∀ (arg8 : BitVec 32) (k0_hw6 : k0_chk6 arg8), 256 ∣ (k0_mult59 arg8).toNat := fun arg8 k0_hw6 => k0_hw6.1
theorem k0_off9_inb : ∀ (arg8 : BitVec 32) (k0_hw6 : k0_chk6 arg8), ∀ a, (k0_off9 arg8) a + S256x128.size a ≤ S4352x128.size a := fun arg8 k0_hw6 => k0_hw6.2

def k0_mult60 : BitVec 32 :=
  let c16_i32_23 : BitVec 32 := 16#32
  let c0_i32_16 : BitVec 32 := 0#32
  let v54 : BitVec 32 := Scalar.muli c16_i32_23 c0_i32_16
  let c5_i32 : BitVec 32 := 5#32
  let v55 : BitVec 32 := Scalar.addi v54 c5_i32
  let c256_i32_584 : BitVec 32 := 256#32
  let v1578 : BitVec 32 := Scalar.muli v55 c256_i32_584
  v1578
def k0_mult61 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off10 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk7 (arg8 : BitVec 32) : Prop :=
  (256 ∣ (k0_mult61 arg8).toNat) ∧
  (∀ a, (k0_off10 arg8) a + S256x128.size a ≤ S4352x128.size a)
theorem k0_mult61_dvd : ∀ (arg8 : BitVec 32) (k0_hw7 : k0_chk7 arg8), 256 ∣ (k0_mult61 arg8).toNat := fun arg8 k0_hw7 => k0_hw7.1
theorem k0_off10_inb : ∀ (arg8 : BitVec 32) (k0_hw7 : k0_chk7 arg8), ∀ a, (k0_off10 arg8) a + S256x128.size a ≤ S4352x128.size a := fun arg8 k0_hw7 => k0_hw7.2

def k0_mult62 : BitVec 32 :=
  let c16_i32_24 : BitVec 32 := 16#32
  let c0_i32_16 : BitVec 32 := 0#32
  let v56 : BitVec 32 := Scalar.muli c16_i32_24 c0_i32_16
  let c6_i32 : BitVec 32 := 6#32
  let v57 : BitVec 32 := Scalar.addi v56 c6_i32
  let c256_i32_588 : BitVec 32 := 256#32
  let v1589 : BitVec 32 := Scalar.muli v57 c256_i32_588
  v1589
def k0_mult63 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off11 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk8 (arg8 : BitVec 32) : Prop :=
  (256 ∣ (k0_mult63 arg8).toNat) ∧
  (∀ a, (k0_off11 arg8) a + S256x128.size a ≤ S4352x128.size a)
theorem k0_mult63_dvd : ∀ (arg8 : BitVec 32) (k0_hw8 : k0_chk8 arg8), 256 ∣ (k0_mult63 arg8).toNat := fun arg8 k0_hw8 => k0_hw8.1
theorem k0_off11_inb : ∀ (arg8 : BitVec 32) (k0_hw8 : k0_chk8 arg8), ∀ a, (k0_off11 arg8) a + S256x128.size a ≤ S4352x128.size a := fun arg8 k0_hw8 => k0_hw8.2

def k0_mult64 : BitVec 32 :=
  let c16_i32_25 : BitVec 32 := 16#32
  let c0_i32_16 : BitVec 32 := 0#32
  let v58 : BitVec 32 := Scalar.muli c16_i32_25 c0_i32_16
  let c7_i32 : BitVec 32 := 7#32
  let v59 : BitVec 32 := Scalar.addi v58 c7_i32
  let c256_i32_592 : BitVec 32 := 256#32
  let v1600 : BitVec 32 := Scalar.muli v59 c256_i32_592
  v1600
def k0_mult65 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off12 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk9 (arg8 : BitVec 32) : Prop :=
  (256 ∣ (k0_mult65 arg8).toNat) ∧
  (∀ a, (k0_off12 arg8) a + S256x128.size a ≤ S4352x128.size a)
theorem k0_mult65_dvd : ∀ (arg8 : BitVec 32) (k0_hw9 : k0_chk9 arg8), 256 ∣ (k0_mult65 arg8).toNat := fun arg8 k0_hw9 => k0_hw9.1
theorem k0_off12_inb : ∀ (arg8 : BitVec 32) (k0_hw9 : k0_chk9 arg8), ∀ a, (k0_off12 arg8) a + S256x128.size a ≤ S4352x128.size a := fun arg8 k0_hw9 => k0_hw9.2

def k0_mult66 : BitVec 32 :=
  let c16_i32_26 : BitVec 32 := 16#32
  let c0_i32_16 : BitVec 32 := 0#32
  let v60 : BitVec 32 := Scalar.muli c16_i32_26 c0_i32_16
  let c8_i32 : BitVec 32 := 8#32
  let v61 : BitVec 32 := Scalar.addi v60 c8_i32
  let c256_i32_596 : BitVec 32 := 256#32
  let v1611 : BitVec 32 := Scalar.muli v61 c256_i32_596
  v1611
def k0_mult67 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off13 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk10 (arg8 : BitVec 32) : Prop :=
  (256 ∣ (k0_mult67 arg8).toNat) ∧
  (∀ a, (k0_off13 arg8) a + S256x128.size a ≤ S4352x128.size a)
theorem k0_mult67_dvd : ∀ (arg8 : BitVec 32) (k0_hw10 : k0_chk10 arg8), 256 ∣ (k0_mult67 arg8).toNat := fun arg8 k0_hw10 => k0_hw10.1
theorem k0_off13_inb : ∀ (arg8 : BitVec 32) (k0_hw10 : k0_chk10 arg8), ∀ a, (k0_off13 arg8) a + S256x128.size a ≤ S4352x128.size a := fun arg8 k0_hw10 => k0_hw10.2

def k0_mult68 : BitVec 32 :=
  let c16_i32_27 : BitVec 32 := 16#32
  let c0_i32_16 : BitVec 32 := 0#32
  let v62 : BitVec 32 := Scalar.muli c16_i32_27 c0_i32_16
  let c9_i32 : BitVec 32 := 9#32
  let v63 : BitVec 32 := Scalar.addi v62 c9_i32
  let c256_i32_600 : BitVec 32 := 256#32
  let v1622 : BitVec 32 := Scalar.muli v63 c256_i32_600
  v1622
def k0_mult69 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off14 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk11 (arg8 : BitVec 32) : Prop :=
  (256 ∣ (k0_mult69 arg8).toNat) ∧
  (∀ a, (k0_off14 arg8) a + S256x128.size a ≤ S4352x128.size a)
theorem k0_mult69_dvd : ∀ (arg8 : BitVec 32) (k0_hw11 : k0_chk11 arg8), 256 ∣ (k0_mult69 arg8).toNat := fun arg8 k0_hw11 => k0_hw11.1
theorem k0_off14_inb : ∀ (arg8 : BitVec 32) (k0_hw11 : k0_chk11 arg8), ∀ a, (k0_off14 arg8) a + S256x128.size a ≤ S4352x128.size a := fun arg8 k0_hw11 => k0_hw11.2

def k0_mult70 : BitVec 32 :=
  let c16_i32_28 : BitVec 32 := 16#32
  let c0_i32_16 : BitVec 32 := 0#32
  let v64 : BitVec 32 := Scalar.muli c16_i32_28 c0_i32_16
  let c10_i32 : BitVec 32 := 10#32
  let v65 : BitVec 32 := Scalar.addi v64 c10_i32
  let c256_i32_604 : BitVec 32 := 256#32
  let v1633 : BitVec 32 := Scalar.muli v65 c256_i32_604
  v1633
def k0_mult71 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off15 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk12 (arg8 : BitVec 32) : Prop :=
  (256 ∣ (k0_mult71 arg8).toNat) ∧
  (∀ a, (k0_off15 arg8) a + S256x128.size a ≤ S4352x128.size a)
theorem k0_mult71_dvd : ∀ (arg8 : BitVec 32) (k0_hw12 : k0_chk12 arg8), 256 ∣ (k0_mult71 arg8).toNat := fun arg8 k0_hw12 => k0_hw12.1
theorem k0_off15_inb : ∀ (arg8 : BitVec 32) (k0_hw12 : k0_chk12 arg8), ∀ a, (k0_off15 arg8) a + S256x128.size a ≤ S4352x128.size a := fun arg8 k0_hw12 => k0_hw12.2

def k0_mult72 : BitVec 32 :=
  let c16_i32_29 : BitVec 32 := 16#32
  let c0_i32_16 : BitVec 32 := 0#32
  let v66 : BitVec 32 := Scalar.muli c16_i32_29 c0_i32_16
  let c11_i32 : BitVec 32 := 11#32
  let v67 : BitVec 32 := Scalar.addi v66 c11_i32
  let c256_i32_608 : BitVec 32 := 256#32
  let v1644 : BitVec 32 := Scalar.muli v67 c256_i32_608
  v1644
def k0_mult73 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off16 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk13 (arg8 : BitVec 32) : Prop :=
  (256 ∣ (k0_mult73 arg8).toNat) ∧
  (∀ a, (k0_off16 arg8) a + S256x128.size a ≤ S4352x128.size a)
theorem k0_mult73_dvd : ∀ (arg8 : BitVec 32) (k0_hw13 : k0_chk13 arg8), 256 ∣ (k0_mult73 arg8).toNat := fun arg8 k0_hw13 => k0_hw13.1
theorem k0_off16_inb : ∀ (arg8 : BitVec 32) (k0_hw13 : k0_chk13 arg8), ∀ a, (k0_off16 arg8) a + S256x128.size a ≤ S4352x128.size a := fun arg8 k0_hw13 => k0_hw13.2

def k0_mult74 : BitVec 32 :=
  let c16_i32_30 : BitVec 32 := 16#32
  let c0_i32_16 : BitVec 32 := 0#32
  let v68 : BitVec 32 := Scalar.muli c16_i32_30 c0_i32_16
  let c12_i32 : BitVec 32 := 12#32
  let v69 : BitVec 32 := Scalar.addi v68 c12_i32
  let c256_i32_612 : BitVec 32 := 256#32
  let v1655 : BitVec 32 := Scalar.muli v69 c256_i32_612
  v1655
def k0_mult75 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off17 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk14 (arg8 : BitVec 32) : Prop :=
  (256 ∣ (k0_mult75 arg8).toNat) ∧
  (∀ a, (k0_off17 arg8) a + S256x128.size a ≤ S4352x128.size a)
theorem k0_mult75_dvd : ∀ (arg8 : BitVec 32) (k0_hw14 : k0_chk14 arg8), 256 ∣ (k0_mult75 arg8).toNat := fun arg8 k0_hw14 => k0_hw14.1
theorem k0_off17_inb : ∀ (arg8 : BitVec 32) (k0_hw14 : k0_chk14 arg8), ∀ a, (k0_off17 arg8) a + S256x128.size a ≤ S4352x128.size a := fun arg8 k0_hw14 => k0_hw14.2

def k0_mult76 : BitVec 32 :=
  let c16_i32_31 : BitVec 32 := 16#32
  let c0_i32_16 : BitVec 32 := 0#32
  let v70 : BitVec 32 := Scalar.muli c16_i32_31 c0_i32_16
  let c13_i32 : BitVec 32 := 13#32
  let v71 : BitVec 32 := Scalar.addi v70 c13_i32
  let c256_i32_616 : BitVec 32 := 256#32
  let v1666 : BitVec 32 := Scalar.muli v71 c256_i32_616
  v1666
def k0_mult77 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off18 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk15 (arg8 : BitVec 32) : Prop :=
  (256 ∣ (k0_mult77 arg8).toNat) ∧
  (∀ a, (k0_off18 arg8) a + S256x128.size a ≤ S4352x128.size a)
theorem k0_mult77_dvd : ∀ (arg8 : BitVec 32) (k0_hw15 : k0_chk15 arg8), 256 ∣ (k0_mult77 arg8).toNat := fun arg8 k0_hw15 => k0_hw15.1
theorem k0_off18_inb : ∀ (arg8 : BitVec 32) (k0_hw15 : k0_chk15 arg8), ∀ a, (k0_off18 arg8) a + S256x128.size a ≤ S4352x128.size a := fun arg8 k0_hw15 => k0_hw15.2

def k0_mult78 : BitVec 32 :=
  let c16_i32_32 : BitVec 32 := 16#32
  let c0_i32_16 : BitVec 32 := 0#32
  let v72 : BitVec 32 := Scalar.muli c16_i32_32 c0_i32_16
  let c14_i32 : BitVec 32 := 14#32
  let v73 : BitVec 32 := Scalar.addi v72 c14_i32
  let c256_i32_620 : BitVec 32 := 256#32
  let v1677 : BitVec 32 := Scalar.muli v73 c256_i32_620
  v1677
def k0_mult79 (arg8 : BitVec 32) : BitVec 32 :=
  let c1_i32_627 : BitVec 32 := 1#32
  let v1692 : BitVec 32 := Scalar.addi arg8 c1_i32_627
  let c256_i32_628 : BitVec 32 := 256#32
  let v1693 : BitVec 32 := Scalar.muli v1692 c256_i32_628
  v1693

def k0_off19 (arg8 : BitVec 32) : Fin 2 → Nat :=
  let c1_i32_627 : BitVec 32 := 1#32
  let v1692 : BitVec 32 := Scalar.addi arg8 c1_i32_627
  let c256_i32_628 : BitVec 32 := 256#32
  let v1693 : BitVec 32 := Scalar.muli v1692 c256_i32_628
  let v1694 : BitVec 32 := v1693
  let v1695 : Index := Scalar.indexCast v1694
  let c0_629 : Index := 0#32
  ![v1695.toNat, 0]

def k0_chk16 (arg8 : BitVec 32) : Prop :=
  (256 ∣ (k0_mult79 arg8).toNat) ∧
  (∀ a, (k0_off19 arg8) a + S256x128.size a ≤ S4352x128.size a)
theorem k0_mult79_dvd : ∀ (arg8 : BitVec 32) (k0_hw16 : k0_chk16 arg8), 256 ∣ (k0_mult79 arg8).toNat := fun arg8 k0_hw16 => k0_hw16.1
theorem k0_off19_inb : ∀ (arg8 : BitVec 32) (k0_hw16 : k0_chk16 arg8), ∀ a, (k0_off19 arg8) a + S256x128.size a ≤ S4352x128.size a := fun arg8 k0_hw16 => k0_hw16.2

def k0_mult80 : BitVec 32 :=
  let c16_i32_33 : BitVec 32 := 16#32
  let c0_i32_16 : BitVec 32 := 0#32
  let v74 : BitVec 32 := Scalar.muli c16_i32_33 c0_i32_16
  let c15_i32 : BitVec 32 := 15#32
  let v75 : BitVec 32 := Scalar.addi v74 c15_i32
  let c256_i32_624 : BitVec 32 := 256#32
  let v1688 : BitVec 32 := Scalar.muli v75 c256_i32_624
  v1688
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "dead" => some ⊥
  | _ => none
-- ==== ReferenceIdeal.lean ====
abbrev S16384x4096 : Shape := ⟨2, ![16384, 4096]⟩
abbrev S4x4096x32x128 : Shape := ⟨4, ![4, 4096, 32, 128]⟩
abbrev S4x32x4096x4096 : Shape := ⟨4, ![4, 32, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x32x4096x4095 : Shape := ⟨4, ![4, 32, 4096, 4095]⟩
abbrev S4x32x4096x1 : Shape := ⟨4, ![4, 32, 4096, 1]⟩
abbrev S4x32x128x4096 : Shape := ⟨4, ![4, 32, 128, 4096]⟩

abbrev nBuf : Space → Nat
  | .hbm => 73
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S4x4096x32x128, .f32⟩
  | .hbm, ⟨4, _⟩ => ⟨S4x4096x32x128, .f32⟩
  | .hbm, ⟨5, _⟩ => ⟨S4x4096x32x128, .f32⟩
  | .hbm, ⟨6, _⟩ => ⟨S4x32x4096x4096, .f32⟩
  | .hbm, ⟨7, _⟩ => ⟨S_, .f32⟩
  | .hbm, ⟨8, _⟩ => ⟨S4x32x4096x4096, .f32⟩
  | .hbm, ⟨9, _⟩ => ⟨S4x32x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4x32x4096x4096, .f32⟩
  | .hbm, ⟨17, _⟩ => ⟨S4x32x4096x4096, .f32⟩
  | .hbm, ⟨18, _⟩ => ⟨S_, .f32⟩
  | .hbm, ⟨19, _⟩ => ⟨S4x32x4096x4096, .f32⟩
  | .hbm, ⟨20, _⟩ => ⟨S4x32x4096x4096, .f32⟩
  | .hbm, ⟨21, _⟩ => ⟨S4x32x4096x4096, .f32⟩
  | .hbm, ⟨22, _⟩ => ⟨S4x32x4096x4096, .f32⟩
  | .hbm, ⟨23, _⟩ => ⟨S4x32x4096x4096, .i1⟩
  | .hbm, ⟨24, _⟩ => ⟨S4x32x4096x4096, .f32⟩
  | .hbm, ⟨25, _⟩ => ⟨S4x32x4096x4096, .f32⟩
  | .hbm, ⟨26, _⟩ => ⟨S4x32x4096x4096, .f32⟩
  | .hbm, ⟨27, _⟩ => ⟨S4x32x4096x4096, .f32⟩
  | .hbm, ⟨28, _⟩ => ⟨S4x32x4096x4096, .f32⟩
  | .hbm, ⟨29, _⟩ => ⟨S4x32x4096x4096, .f32⟩
  | .hbm, ⟨30, _⟩ => ⟨S4x32x4096x4096, .f32⟩
  | .hbm, ⟨31, _⟩ => ⟨S4x32x4096x4096, .f32⟩
  | .hbm, ⟨32, _⟩ => ⟨S4x32x4096x4096, .f32⟩
  | .hbm, ⟨33, _⟩ => ⟨S_, .f32⟩
  | .hbm, ⟨34, _⟩ => ⟨S_, .f32⟩
  | .hbm, ⟨35, _⟩ => ⟨S4x32x4096x4096, .i1⟩
  | .hbm, ⟨36, _⟩ => ⟨S4x32x4096x4096, .f32⟩
  | .hbm, ⟨37, _⟩ => ⟨S4x32x4096x4096, .f32⟩
  | .hbm, ⟨38, _⟩ => ⟨S_, .f32⟩
  | .hbm, ⟨39, _⟩ => ⟨S_, .f32⟩
  | .hbm, ⟨40, _⟩ => ⟨S4x32x4096x4096, .f32⟩
  | .hbm, ⟨41, _⟩ => ⟨S4x32x4096x4095, .f32⟩
  | .hbm, ⟨42, _⟩ => ⟨S4x32x4096x1, .f32⟩
  | .hbm, ⟨43, _⟩ => ⟨S_, .f32⟩
  | .hbm, ⟨44, _⟩ => ⟨S4x32x4096x1, .f32⟩
  | .hbm, ⟨45, _⟩ => ⟨S4x32x4096x4096, .f32⟩
  | .hbm, ⟨46, _⟩ => ⟨S4x32x4096x4096, .f32⟩
  | .hbm, ⟨47, _⟩ => ⟨S_, .f32⟩
  | .hbm, ⟨48, _⟩ => ⟨S4x32x4096x4096, .f32⟩
  | .hbm, ⟨49, _⟩ => ⟨S4x32x4096x4096, .f32⟩
  | .hbm, ⟨50, _⟩ => ⟨S4x32x4096x4096, .f32⟩
  | .hbm, ⟨51, _⟩ => ⟨S4x32x4096x4096, .f32⟩
  | .hbm, ⟨52, _⟩ => ⟨S4x32x4096x4096, .i1⟩
  | .hbm, ⟨53, _⟩ => ⟨S4x32x4096x4096, .f32⟩
  | .hbm, ⟨54, _⟩ => ⟨S4x32x4096x4096, .f32⟩
  | .hbm, ⟨55, _⟩ => ⟨S4x32x4096x4096, .f32⟩
  | .hbm, ⟨56, _⟩ => ⟨S4x32x4096x4096, .f32⟩
  | .hbm, ⟨57, _⟩ => ⟨S4x32x4096x4096, .f32⟩
  | .hbm, ⟨58, _⟩ => ⟨S4x32x4096x4096, .f32⟩
  | .hbm, ⟨59, _⟩ => ⟨S4x32x4096x4096, .f32⟩
  | .hbm, ⟨60, _⟩ => ⟨S4x32x4096x4096, .f32⟩
  | .hbm, ⟨61, _⟩ => ⟨S4x32x4096x4096, .f32⟩
  | .hbm, ⟨62, _⟩ => ⟨S4x32x4096x4096, .f32⟩
  | .hbm, ⟨63, _⟩ => ⟨S4x32x4096x4096, .f32⟩
  | .hbm, ⟨64, _⟩ => ⟨S_, .f32⟩
  | .hbm, ⟨65, _⟩ => ⟨S_, .f32⟩
  | .hbm, ⟨66, _⟩ => ⟨S4x32x4096x4096, .i1⟩
  | .hbm, ⟨67, _⟩ => ⟨S4x32x4096x4096, .f32⟩
  | .hbm, ⟨68, _⟩ => ⟨S4x32x4096x4096, .f32⟩
  | .hbm, ⟨69, _⟩ => ⟨S4x32x128x4096, .f32⟩
  | .hbm, ⟨70, _⟩ => ⟨S4x4096x32x128, .f32⟩
  | .hbm, ⟨71, _⟩ => ⟨S16384x4096, .f32⟩
  | .hbm, ⟨72, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_2 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]
-- ==== Kernel2.lean ====
abbrev S4x4096x4096 : Shape := ⟨3, ![4, 4096, 4096]⟩
abbrev S2x4096 : Shape := ⟨2, ![2, 4096]⟩
abbrev S1x4096x12288 : Shape := ⟨3, ![1, 4096, 12288]⟩
abbrev S16384x4096 : Shape := ⟨2, ![16384, 4096]⟩
abbrev S4096x12288 : Shape := ⟨2, ![4096, 12288]⟩
abbrev S1x4096 : Shape := ⟨2, ![1, 4096]⟩
abbrev S4096 : Shape := ⟨1, ![4096]⟩
abbrev S512x4096 : Shape := ⟨2, ![512, 4096]⟩
abbrev S4096x1024 : Shape := ⟨2, ![4096, 1024]⟩
abbrev S512x1024 : Shape := ⟨2, ![512, 1024]⟩
abbrev S2x512x4096 : Shape := ⟨3, ![2, 512, 4096]⟩
abbrev S512 : Shape := ⟨1, ![512]⟩
abbrev S512x1 : Shape := ⟨2, ![512, 1]⟩
abbrev S1x512x4096 : Shape := ⟨3, ![1, 512, 4096]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x4096, .f32⟩
  | .hbm, ⟨1, _⟩ => ⟨S2x4096, .f32⟩
  | .hbm, ⟨2, _⟩ => ⟨S1x4096x12288, .f32⟩
  | .hbm, ⟨3, _⟩ => ⟨S16384x4096, .f32⟩
  | .hbm, ⟨4, _⟩ => ⟨S4096x12288, .f32⟩
  | .hbm, ⟨5, _⟩ => ⟨S4096x12288, .bf16⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S16384x4096, .bf16⟩
  | .hbm, ⟨10, _⟩ => ⟨S16384x4096, .f32⟩
  | .hbm, ⟨11, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S2x512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 12], ![false, false]⟩

def k0_cond2 (i : grid0.Coords) : BitVec 1 :=
  let arg1 : BitVec 32 := BitVec.ofNat 32 (i 1).val
  let c11_i32 : BitVec 32 := 11#32
  let v15 : BitVec 1 := Scalar.cmpi .slt arg1 c11_i32
  let v16 : BitVec 32 := Scalar.extui v15
  let c0_i32_6 : BitVec 32 := 0#32
  let v17 : BitVec 1 := Scalar.cmpi .ne v16 c0_i32_6
  v17

def k0_cond3 (i : grid0.Coords) : BitVec 1 :=
  let arg1 : BitVec 32 := BitVec.ofNat 32 (i 1).val
  let c4_i32 : BitVec 32 := 4#32
  let v21 : BitVec 1 := Scalar.cmpi .slt arg1 c4_i32
  let v22 : BitVec 32 := Scalar.extui v21
  let c0_i32_9 : BitVec 32 := 0#32
  let v23 : BitVec 1 := Scalar.cmpi .ne v22 c0_i32_9
  v23

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_cond4 (i : grid0.Coords) : BitVec 1 :=
  let arg1 : BitVec 32 := BitVec.ofNat 32 (i 1).val
  let c4_i32_10 : BitVec 32 := 4#32
  let v24 : BitVec 1 := Scalar.cmpi .sge arg1 c4_i32_10
  let c8_i32 : BitVec 32 := 8#32
  let v25 : BitVec 1 := Scalar.cmpi .slt arg1 c8_i32
  let v26 : BitVec 1 := Scalar.andi v24 v25
  let v27 : BitVec 32 := Scalar.extui v26
  let c0_i32_11 : BitVec 32 := 0#32
  let v28 : BitVec 1 := Scalar.cmpi .ne v27 c0_i32_11
  v28

def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_cond5 (i : grid0.Coords) : BitVec 1 :=
  let arg1 : BitVec 32 := BitVec.ofNat 32 (i 1).val
  let c8_i32_12 : BitVec 32 := 8#32
  let v29 : BitVec 1 := Scalar.cmpi .sge arg1 c8_i32_12
  let v30 : BitVec 32 := Scalar.extui v29
  let c0_i32_13 : BitVec 32 := 0#32
  let v31 : BitVec 1 := Scalar.cmpi .ne v30 c0_i32_13
  v31

def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_cond6 (i : grid0.Coords) : BitVec 1 :=
  let arg1 : BitVec 32 := BitVec.ofNat 32 (i 1).val
  let c11_i32_7 : BitVec 32 := 11#32
  let v18 : BitVec 1 := Scalar.cmpi .eq arg1 c11_i32_7
  let v19 : BitVec 32 := Scalar.extui v18
  let c0_i32_8 : BitVec 32 := 0#32
  let v20 : BitVec 1 := Scalar.cmpi .ne v19 c0_i32_8
  v20

def k0_cond7 (i : grid0.Coords) : BitVec 1 :=
  let arg1 : BitVec 32 := BitVec.ofNat 32 (i 1).val
  let c4_i32 : BitVec 32 := 4#32
  let v21 : BitVec 1 := Scalar.cmpi .slt arg1 c4_i32
  let v22 : BitVec 32 := Scalar.extui v21
  let c0_i32_9 : BitVec 32 := 0#32
  let v23 : BitVec 1 := Scalar.cmpi .ne v22 c0_i32_9
  v23

def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_cond8 (i : grid0.Coords) : BitVec 1 :=
  let arg1 : BitVec 32 := BitVec.ofNat 32 (i 1).val
  let c4_i32_10 : BitVec 32 := 4#32
  let v24 : BitVec 1 := Scalar.cmpi .sge arg1 c4_i32_10
  let c8_i32 : BitVec 32 := 8#32
  let v25 : BitVec 1 := Scalar.cmpi .slt arg1 c8_i32
  let v26 : BitVec 1 := Scalar.andi v24 v25
  let v27 : BitVec 32 := Scalar.extui v26
  let c0_i32_11 : BitVec 32 := 0#32
  let v28 : BitVec 1 := Scalar.cmpi .ne v27 c0_i32_11
  v28

def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_cond9 (i : grid0.Coords) : BitVec 1 :=
  let arg1 : BitVec 32 := BitVec.ofNat 32 (i 1).val
  let c8_i32_12 : BitVec 32 := 8#32
  let v29 : BitVec 1 := Scalar.cmpi .sge arg1 c8_i32_12
  let v30 : BitVec 32 := Scalar.extui v29
  let c0_i32_13 : BitVec 32 := 0#32
  let v31 : BitVec 1 := Scalar.cmpi .ne v30 c0_i32_13
  v31

def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_off7 (i : grid0.Coords) : Fin 3 → Nat :=
  let c1_i32_19 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : BitVec 32 := Scalar.subi c1_i32_19 v9
  let v57 : Index := Scalar.indexCast v39
  let c0_27 : Index := 0#32
  let c0_28 : Index := 0#32
  ![v57.toNat, 0, 0]
def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .eq arg1 c11_i32
  let c1_i32 : BitVec 32 := 1#32
  let c0_i32 : BitVec 32 := 0#32
  let v1 : BitVec 32 := Scalar.select v0 c1_i32 c0_i32
  let v2 : BitVec 32 := Scalar.addi arg0 v1
  let c31_i32 : BitVec 32 := 31#32
  let v3 : BitVec 32 := Scalar.minsi v2 c31_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x4096x4096 : Shape := ⟨3, ![4, 4096, 4096]⟩
abbrev S2x4096 : Shape := ⟨2, ![2, 4096]⟩
abbrev S1x4096x12288 : Shape := ⟨3, ![1, 4096, 12288]⟩
abbrev S1x4096 : Shape := ⟨2, ![1, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4096x12288 : Shape := ⟨2, ![4096, 12288]⟩
abbrev S4x4096x12288 : Shape := ⟨3, ![4, 4096, 12288]⟩
abbrev S16384x3x4096 : Shape := ⟨3, ![16384, 3, 4096]⟩
abbrev S16384x1x4096 : Shape := ⟨3, ![16384, 1, 4096]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S2x4096, .f32⟩
  | .hbm, ⟨2, _⟩ => ⟨S1x4096x12288, .f32⟩
  | .hbm, ⟨3, _⟩ => ⟨S1x4096, .f32⟩
  | .hbm, ⟨4, _⟩ => ⟨S4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S4096x12288, .f32⟩
  | .hbm, ⟨22, _⟩ => ⟨S4x4096x12288, .f32⟩
  | .hbm, ⟨23, _⟩ => ⟨S16384x3x4096, .f32⟩
  | .hbm, ⟨24, _⟩ => ⟨S16384x1x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .bf16⟩
  | .hbm, ⟨30, _⟩ => ⟨S16384x1x4096, .f32⟩
  | .hbm, ⟨31, _⟩ => ⟨S16384x4096, .f32⟩
  | .hbm, ⟨32, _⟩ => ⟨S16384x1x4096, .f32⟩
  | .hbm, ⟨33, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel3.lean ====
abbrev S16384x4096 : Shape := ⟨2, ![16384, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S16384x4096 : Shape := ⟨2, ![16384, 4096]⟩
abbrev S16384x256 : Shape := ⟨2, ![16384, 256]⟩
abbrev S4096x4096 : Shape := ⟨2, ![4096, 4096]⟩
abbrev S256x4096 : Shape := ⟨2, ![256, 4096]⟩
abbrev S1024x4096 : Shape := ⟨2, ![1024, 4096]⟩
abbrev S4096x512 : Shape := ⟨2, ![4096, 512]⟩
abbrev S1024x512 : Shape := ⟨2, ![1024, 512]⟩
abbrev S1024x256 : Shape := ⟨2, ![1024, 256]⟩
abbrev S256x512 : Shape := ⟨2, ![256, 512]⟩

abbrev nBuf : Space → Nat
  | .hbm => 8
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x256, .f32⟩
  | .hbm, ⟨2, _⟩ => ⟨S4096x4096, .f32⟩
  | .hbm, ⟨3, _⟩ => ⟨S256x4096, .f32⟩
  | .hbm, ⟨4, _⟩ => ⟨S16384x4096, .f32⟩
  | .hbm, ⟨5, _⟩ => ⟨S4096x4096, .bf16⟩
  | .hbm, ⟨6, _⟩ => ⟨S256x4096, .bf16⟩
  | .hbm, ⟨7, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x256, .f32⟩
  | .local _ .vmem, ⟨7, _⟩ => ⟨S1024x256, .f32⟩
  | .local _ .vmem, ⟨8, _⟩ => ⟨S256x512, .bf16⟩
  | .local _ .vmem, ⟨9, _⟩ => ⟨S256x512, .bf16⟩
  | .local _ .vmem, ⟨10, _⟩ => ⟨S1024x512, .f32⟩
  | .local _ .vmem, ⟨11, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16384x4096 : Shape := ⟨2, ![16384, 4096]⟩
abbrev S16384x256 : Shape := ⟨2, ![16384, 256]⟩
abbrev S4096x4096 : Shape := ⟨2, ![4096, 4096]⟩
abbrev S256x4096 : Shape := ⟨2, ![256, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x256, .f32⟩
  | .hbm, ⟨2, _⟩ => ⟨S4096x4096, .f32⟩
  | .hbm, ⟨3, _⟩ => ⟨S256x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel5.lean ====
abbrev S16384x4096 : Shape := ⟨2, ![16384, 4096]⟩
abbrev S4096 : Shape := ⟨1, ![4096]⟩
abbrev S2x4096 : Shape := ⟨2, ![2, 4096]⟩
abbrev S4096x2048 : Shape := ⟨2, ![4096, 2048]⟩
abbrev S1x4096x4096 : Shape := ⟨3, ![1, 4096, 4096]⟩
abbrev S4096x4096 : Shape := ⟨2, ![4096, 4096]⟩
abbrev S4096x6144 : Shape := ⟨2, ![4096, 6144]⟩
abbrev S1x4096 : Shape := ⟨2, ![1, 4096]⟩
abbrev S16384x2048 : Shape := ⟨2, ![16384, 2048]⟩
abbrev S512x4096 : Shape := ⟨2, ![512, 4096]⟩
abbrev S4096x1024 : Shape := ⟨2, ![4096, 1024]⟩
abbrev S512x1024 : Shape := ⟨2, ![512, 1024]⟩
abbrev S2x2x512x4096 : Shape := ⟨4, ![2, 2, 512, 4096]⟩
abbrev S128x4096 : Shape := ⟨2, ![128, 4096]⟩
abbrev S128 : Shape := ⟨1, ![128]⟩
abbrev S128x1 : Shape := ⟨2, ![128, 1]⟩
abbrev S1x1x128x4096 : Shape := ⟨4, ![1, 1, 128, 4096]⟩
abbrev S1x1x512x4096 : Shape := ⟨4, ![1, 1, 512, 4096]⟩

abbrev nBuf : Space → Nat
  | .hbm => 15
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S2x4096, .f32⟩
  | .hbm, ⟨3, _⟩ => ⟨S4096x2048, .f32⟩
  | .hbm, ⟨4, _⟩ => ⟨S1x4096x4096, .f32⟩
  | .hbm, ⟨5, _⟩ => ⟨S4096x2048, .bf16⟩
  | .hbm, ⟨6, _⟩ => ⟨S4096x4096, .f32⟩
  | .hbm, ⟨7, _⟩ => ⟨S4096x4096, .bf16⟩
  | .hbm, ⟨8, _⟩ => ⟨S4096x6144, .bf16⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S1x4096, .f32⟩
  | .hbm, ⟨13, _⟩ => ⟨S16384x2048, .f32⟩
  | .hbm, ⟨14, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S2x2x512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c2_i32_6 : BitVec 32 := 2#32
  let v15 : BitVec 1 := Scalar.cmpi .slt arg1 c2_i32_6
  let v16 : BitVec 32 := Scalar.extui v15
  let c0_i32_7 : BitVec 32 := 0#32
  let v17 : BitVec 1 := Scalar.cmpi .ne v16 c0_i32_7
  v17

def k0_off1 (i : grid0.Coords) : Fin 4 → Nat :=
  let c0 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c0_12 : Index := 0#32
  let c0_13 : Index := 0#32
  ![0, v26.toNat, 0, 0]
def k0_cond3 (i : grid0.Coords) : BitVec 1 :=
  let arg1 : BitVec 32 := BitVec.ofNat 32 (i 1).val
  let c2_i32_8 : BitVec 32 := 2#32
  let v18 : BitVec 1 := Scalar.cmpi .sge arg1 c2_i32_8
  let c5_i32 : BitVec 32 := 5#32
  let v19 : BitVec 1 := Scalar.cmpi .slt arg1 c5_i32
  let v20 : BitVec 1 := Scalar.andi v18 v19
  let v21 : BitVec 32 := Scalar.extui v20
  let c0_i32_9 : BitVec 32 := 0#32
  let v22 : BitVec 1 := Scalar.cmpi .ne v21 c0_i32_9
  v22

def k0_off2 (i : grid0.Coords) : Fin 4 → Nat :=
  let c1 : Index := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c0 : Index := 0#32
  let c0_12 : Index := 0#32
  ![1, v26.toNat, 0, 0]
def k0_cond4 (i : grid0.Coords) : BitVec 1 :=
  let arg1 : BitVec 32 := BitVec.ofNat 32 (i 1).val
  let c5_i32_10 : BitVec 32 := 5#32
  let v23 : BitVec 1 := Scalar.cmpi .eq arg1 c5_i32_10
  let v24 : BitVec 32 := Scalar.extui v23
  let c0_i32_11 : BitVec 32 := 0#32
  let v25 : BitVec 1 := Scalar.cmpi .ne v24 c0_i32_11
  v25

def k0_off3 (i : grid0.Coords) : Fin 4 → Nat :=
  let c1 : Index := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c0 : Index := 0#32
  let c0_12 : Index := 0#32
  ![1, v26.toNat, 0, 0]
def k0_off4 (i : grid0.Coords) : Fin 4 → Nat :=
  let c0_23 : Index := 0#32
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v49 : Index := Scalar.indexCast v32
  let c0_24 : Index := 0#32
  let c0_25 : Index := 0#32
  ![0, v49.toNat, 0, 0]
def k0_off5 (i : grid0.Coords) : Fin 4 → Nat :=
  let c1_28 : Index := 1#32
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v58 : Index := Scalar.indexCast v32
  let c0_29 : Index := 0#32
  let c0_30 : Index := 0#32
  ![1, v58.toNat, 0, 0]
def k0_off6 (i : grid0.Coords) : Fin 4 → Nat :=
  let c0_37 : Index := 0#32
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v78 : Index := Scalar.indexCast v32
  let c128_38 : Index := 128#32
  let c0_39 : Index := 0#32
  ![0, v78.toNat, 128, 0]
def k0_off7 (i : grid0.Coords) : Fin 4 → Nat :=
  let c1_42 : Index := 1#32
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v87 : Index := Scalar.indexCast v32
  let c128_43 : Index := 128#32
  let c0_44 : Index := 0#32
  ![1, v87.toNat, 128, 0]
def k0_off8 (i : grid0.Coords) : Fin 4 → Nat :=
  let c0_51 : Index := 0#32
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v107 : Index := Scalar.indexCast v32
  let c256_52 : Index := 256#32
  let c0_53 : Index := 0#32
  ![0, v107.toNat, 256, 0]
def k0_off9 (i : grid0.Coords) : Fin 4 → Nat :=
  let c1_56 : Index := 1#32
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v116 : Index := Scalar.indexCast v32
  let c256_57 : Index := 256#32
  let c0_58 : Index := 0#32
  ![1, v116.toNat, 256, 0]
def k0_off10 (i : grid0.Coords) : Fin 4 → Nat :=
  let c0_65 : Index := 0#32
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v136 : Index := Scalar.indexCast v32
  let c384_66 : Index := 384#32
  let c0_67 : Index := 0#32
  ![0, v136.toNat, 384, 0]
def k0_off11 (i : grid0.Coords) : Fin 4 → Nat :=
  let c1_70 : Index := 1#32
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v145 : Index := Scalar.indexCast v32
  let c384_71 : Index := 384#32
  let c0_72 : Index := 0#32
  ![1, v145.toNat, 384, 0]
def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg1 c5_i32
  let c1_i32 : BitVec 32 := 1#32
  let c0_i32 : BitVec 32 := 0#32
  let v1 : BitVec 32 := Scalar.select v0 c1_i32 c0_i32
  let v2 : BitVec 32 := Scalar.addi arg0 v1
  let c31_i32 : BitVec 32 := 31#32
  let v3 : BitVec 32 := Scalar.minsi v2 c31_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x4096 : Shape := ⟨2, ![16384, 4096]⟩
abbrev S4096 : Shape := ⟨1, ![4096]⟩
abbrev S2x4096 : Shape := ⟨2, ![2, 4096]⟩
abbrev S4096x2048 : Shape := ⟨2, ![4096, 2048]⟩
abbrev S1x4096x4096 : Shape := ⟨3, ![1, 4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x2048 : Shape := ⟨2, ![16384, 2048]⟩
abbrev S4096x4096 : Shape := ⟨2, ![4096, 4096]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S2x4096, .f32⟩
  | .hbm, ⟨3, _⟩ => ⟨S4096x2048, .f32⟩
  | .hbm, ⟨4, _⟩ => ⟨S1x4096x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x2048, .f32⟩
  | .hbm, ⟨22, _⟩ => ⟨S1x4096, .f32⟩
  | .hbm, ⟨23, _⟩ => ⟨S4096, .f32⟩
  | .hbm, ⟨24, _⟩ => ⟨S16384x4096, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x4096, .f32⟩
  | .hbm, ⟨36, _⟩ => ⟨S16384x4096, .f32⟩
  | .hbm, ⟨37, _⟩ => ⟨S1x4096, .f32⟩
  | .hbm, ⟨38, _⟩ => ⟨S16384x4096, .f32⟩
  | .hbm, ⟨39, _⟩ => ⟨S16384x4096, .f32⟩
  | .hbm, ⟨40, _⟩ => ⟨S4096x4096, .f32⟩
  | .hbm, ⟨41, _⟩ => ⟨S16384x4096, .f32⟩
  | .hbm, ⟨42, _⟩ => ⟨S_, .f32⟩
  | .hbm, ⟨43, _⟩ => ⟨S16384x4096, .f32⟩
  | .hbm, ⟨44, _⟩ => ⟨S16384x4096, .f32⟩
  | .hbm, ⟨45, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel6.lean ====
abbrev S16384x4096 : Shape := ⟨2, ![16384, 4096]⟩
abbrev S4096 : Shape := ⟨1, ![4096]⟩
abbrev S4096x2048 : Shape := ⟨2, ![4096, 2048]⟩
abbrev S1x4096 : Shape := ⟨2, ![1, 4096]⟩
abbrev S16384x2048 : Shape := ⟨2, ![16384, 2048]⟩
abbrev S512x4096 : Shape := ⟨2, ![512, 4096]⟩
abbrev S4096x1024 : Shape := ⟨2, ![4096, 1024]⟩
abbrev S512x1024 : Shape := ⟨2, ![512, 1024]⟩
abbrev S2x512x4096 : Shape := ⟨3, ![2, 512, 4096]⟩
abbrev S512 : Shape := ⟨1, ![512]⟩
abbrev S512x1 : Shape := ⟨2, ![512, 1]⟩
abbrev S1x512x4096 : Shape := ⟨3, ![1, 512, 4096]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x2048, .f32⟩
  | .hbm, ⟨3, _⟩ => ⟨S4096x2048, .bf16⟩
  | .hbm, ⟨4, _⟩ => ⟨S1x4096, .f32⟩
  | .hbm, ⟨5, _⟩ => ⟨S16384x2048, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S2x512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32_6 : BitVec 32 := 1#32
  let v15 : BitVec 1 := Scalar.cmpi .slt arg1 c1_i32_6
  let v16 : BitVec 32 := Scalar.extui v15
  let c0_i32_7 : BitVec 32 := 0#32
  let v17 : BitVec 1 := Scalar.cmpi .ne v16 c0_i32_7
  v17

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v21 : Index := Scalar.indexCast v9
  let c0 : Index := 0#32
  let c0_10 : Index := 0#32
  ![v21.toNat, 0, 0]
def k0_cond3 (i : grid0.Coords) : BitVec 1 :=
  let arg1 : BitVec 32 := BitVec.ofNat 32 (i 1).val
  let c1_i32_8 : BitVec 32 := 1#32
  let v18 : BitVec 1 := Scalar.cmpi .eq arg1 c1_i32_8
  let v19 : BitVec 32 := Scalar.extui v18
  let c0_i32_9 : BitVec 32 := 0#32
  let v20 : BitVec 1 := Scalar.cmpi .ne v19 c0_i32_9
  v20

def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v21 : Index := Scalar.indexCast v9
  let c0 : Index := 0#32
  let c0_10 : Index := 0#32
  ![v21.toNat, 0, 0]
def k0_off3 (i : grid0.Coords) : Fin 3 → Nat :=
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : BitVec 32 := Scalar.subi c1_i32_15 v9
  let v45 : Index := Scalar.indexCast v28
  let c0_23 : Index := 0#32
  let c0_24 : Index := 0#32
  ![v45.toNat, 0, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg1 c1_i32
  let c1_i32_0 : BitVec 32 := 1#32
  let c0_i32 : BitVec 32 := 0#32
  let v1 : BitVec 32 := Scalar.select v0 c1_i32_0 c0_i32
  let v2 : BitVec 32 := Scalar.addi arg0 v1
  let c31_i32 : BitVec 32 := 31#32
  let v3 : BitVec 32 := Scalar.minsi v2 c31_i32
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x4096 : Shape := ⟨2, ![16384, 4096]⟩
abbrev S4096 : Shape := ⟨1, ![4096]⟩
abbrev S4096x2048 : Shape := ⟨2, ![4096, 2048]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x2048, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x2048, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel7.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S128x4096 : Shape := ⟨2, ![128, 4096]⟩
abbrev S4096 : Shape := ⟨1, ![4096]⟩
abbrev S1x4096 : Shape := ⟨2, ![1, 4096]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S1x4096, .f32⟩
  | .hbm, ⟨3, _⟩ => ⟨S128x4096, .f32⟩
  | .local _ .vmem, ⟨0, _⟩ => ⟨S128x4096, .f32⟩
  | .local _ .vmem, ⟨1, _⟩ => ⟨S1x4096, .f32⟩
  | .local _ .vmem, ⟨2, _⟩ => ⟨S128x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference8Ideal.lean ====
abbrev S128x4096 : Shape := ⟨2, ![128, 4096]⟩
abbrev S4096 : Shape := ⟨1, ![4096]⟩
abbrev S_ : Shape := ⟨0, ![]⟩
abbrev S128 : Shape := ⟨1, ![128]⟩
abbrev S128x1 : Shape := ⟨2, ![128, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S128x4096, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x4096, .f32⟩
  | .hbm, ⟨14, _⟩ => ⟨S128x4096, .f32⟩
  | .hbm, ⟨15, _⟩ => ⟨S1x4096, .f32⟩
  | .hbm, ⟨16, _⟩ => ⟨S128x4096, .f32⟩
  | .hbm, ⟨17, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S8x16x4096 : Shape := ⟨3, ![8, 16, 4096]⟩
abbrev S2x4096 : Shape := ⟨2, ![2, 4096]⟩
abbrev S1x4096x12288 : Shape := ⟨3, ![1, 4096, 12288]⟩
abbrev S128x4096 : Shape := ⟨2, ![128, 4096]⟩
abbrev S4096x12288 : Shape := ⟨2, ![4096, 12288]⟩
abbrev S1x4096 : Shape := ⟨2, ![1, 4096]⟩
abbrev S4096 : Shape := ⟨1, ![4096]⟩
abbrev S4096x1024 : Shape := ⟨2, ![4096, 1024]⟩
abbrev S128x1024 : Shape := ⟨2, ![128, 1024]⟩
abbrev S2x128x4096 : Shape := ⟨3, ![2, 128, 4096]⟩
abbrev S128 : Shape := ⟨1, ![128]⟩
abbrev S128x1 : Shape := ⟨2, ![128, 1]⟩
abbrev S1x128x4096 : Shape := ⟨3, ![1, 128, 4096]⟩

abbrev nBuf : Space → Nat
  | .hbm => 12
  | .vmem => 12
  | .smem => 0
  | _ => 0

abbrev bufTy : (tb : Table) → Fin (tcTables nBuf tb) → BufTy
  | .hbm, ⟨0, _⟩ => ⟨S8x16x4096, .f32⟩
  | .hbm, ⟨1, _⟩ => ⟨S2x4096, .f32⟩
  | .hbm, ⟨2, _⟩ => ⟨S1x4096x12288, .f32⟩
  | .hbm, ⟨3, _⟩ => ⟨S128x4096, .f32⟩
  | .hbm, ⟨4, _⟩ => ⟨S4096x12288, .f32⟩
  | .hbm, ⟨5, _⟩ => ⟨S4096x12288, .bf16⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S128x4096, .bf16⟩
  | .hbm, ⟨10, _⟩ => ⟨S128x4096, .f32⟩
  | .hbm, ⟨11, _⟩ => ⟨S128x4096, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S2x128x4096, .bf16⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 12], ![false, false]⟩

def k0_cond2 (i : grid0.Coords) : BitVec 1 :=
  let arg1 : BitVec 32 := BitVec.ofNat 32 (i 1).val
  let c11_i32 : BitVec 32 := 11#32
  let v15 : BitVec 1 := Scalar.cmpi .slt arg1 c11_i32
  let v16 : BitVec 32 := Scalar.extui v15
  let c0_i32_6 : BitVec 32 := 0#32
  let v17 : BitVec 1 := Scalar.cmpi .ne v16 c0_i32_6
  v17

def k0_cond3 (i : grid0.Coords) : BitVec 1 :=
  let arg1 : BitVec 32 := BitVec.ofNat 32 (i 1).val
  let c4_i32 : BitVec 32 := 4#32
  let v21 : BitVec 1 := Scalar.cmpi .slt arg1 c4_i32
  let v22 : BitVec 32 := Scalar.extui v21
  let c0_i32_9 : BitVec 32 := 0#32
  let v23 : BitVec 1 := Scalar.cmpi .ne v22 c0_i32_9
  v23

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_cond4 (i : grid0.Coords) : BitVec 1 :=
  let arg1 : BitVec 32 := BitVec.ofNat 32 (i 1).val
  let c4_i32_10 : BitVec 32 := 4#32
  let v24 : BitVec 1 := Scalar.cmpi .sge arg1 c4_i32_10
  let c8_i32 : BitVec 32 := 8#32
  let v25 : BitVec 1 := Scalar.cmpi .slt arg1 c8_i32
  let v26 : BitVec 1 := Scalar.andi v24 v25
  let v27 : BitVec 32 := Scalar.extui v26
  let c0_i32_11 : BitVec 32 := 0#32
  let v28 : BitVec 1 := Scalar.cmpi .ne v27 c0_i32_11
  v28

def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_cond5 (i : grid0.Coords) : BitVec 1 :=
  let arg1 : BitVec 32 := BitVec.ofNat 32 (i 1).val
  let c8_i32_12 : BitVec 32 := 8#32
  let v29 : BitVec 1 := Scalar.cmpi .sge arg1 c8_i32_12
  let v30 : BitVec 32 := Scalar.extui v29
  let c0_i32_13 : BitVec 32 := 0#32
  let v31 : BitVec 1 := Scalar.cmpi .ne v30 c0_i32_13
  v31

def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_cond6 (i : grid0.Coords) : BitVec 1 :=
  let arg1 : BitVec 32 := BitVec.ofNat 32 (i 1).val
  let c11_i32_7 : BitVec 32 := 11#32
  let v18 : BitVec 1 := Scalar.cmpi .eq arg1 c11_i32_7
  let v19 : BitVec 32 := Scalar.extui v18
  let c0_i32_8 : BitVec 32 := 0#32
  let v20 : BitVec 1 := Scalar.cmpi .ne v19 c0_i32_8
  v20

def k0_cond7 (i : grid0.Coords) : BitVec 1 :=
  let arg1 : BitVec 32 := BitVec.ofNat 32 (i 1).val
  let c4_i32 : BitVec 32 := 4#32
  let v21 : BitVec 1 := Scalar.cmpi .slt arg1 c4_i32
  let v22 : BitVec 32 := Scalar.extui v21
  let c0_i32_9 : BitVec 32 := 0#32
  let v23 : BitVec 1 := Scalar.cmpi .ne v22 c0_i32_9
  v23

def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_cond8 (i : grid0.Coords) : BitVec 1 :=
  let arg1 : BitVec 32 := BitVec.ofNat 32 (i 1).val
  let c4_i32_10 : BitVec 32 := 4#32
  let v24 : BitVec 1 := Scalar.cmpi .sge arg1 c4_i32_10
  let c8_i32 : BitVec 32 := 8#32
  let v25 : BitVec 1 := Scalar.cmpi .slt arg1 c8_i32
  let v26 : BitVec 1 := Scalar.andi v24 v25
  let v27 : BitVec 32 := Scalar.extui v26
  let c0_i32_11 : BitVec 32 := 0#32
  let v28 : BitVec 1 := Scalar.cmpi .ne v27 c0_i32_11
  v28

def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_cond9 (i : grid0.Coords) : BitVec 1 :=
  let arg1 : BitVec 32 := BitVec.ofNat 32 (i 1).val
  let c8_i32_12 : BitVec 32 := 8#32
  let v29 : BitVec 1 := Scalar.cmpi .sge arg1 c8_i32_12
  let v30 : BitVec 32 := Scalar.extui v29
  let c0_i32_13 : BitVec 32 := 0#32
  let v31 : BitVec 1 := Scalar.cmpi .ne v30 c0_i32_13
  v31

def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0 : Index := 0#32
  let c0_14 : Index := 0#32
  ![v32.toNat, 0, 0]
def k0_off7 (i : grid0.Coords) : Fin 3 → Nat :=
  let c1_i32_19 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : BitVec 32 := Scalar.subi c1_i32_19 v9
  let v57 : Index := Scalar.indexCast v39
  let c0_27 : Index := 0#32
  let c0_28 : Index := 0#32
  ![v57.toNat, 0, 0]
def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .eq arg1 c11_i32
  let c1_i32 : BitVec 32 := 1#32
  let c0_i32 : BitVec 32 := 0#32
  let v1 : BitVec 32 := Scalar.select v0 c1_i32 c0_i32
  let v2 : BitVec 32 := Scalar.addi arg0 v1
  let c0_i32_0 : BitVec 32 := 0#32
  let v3 : BitVec 32 := Scalar.minsi v2 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8x16x4096 : Shape := ⟨3, ![8, 16, 4096]⟩
abbrev S2x4096 : Shape := ⟨2, ![2, 4096]⟩
abbrev S1x4096x12288 : Shape := ⟨3, ![1, 4096, 12288]⟩
abbrev S1x4096 : Shape := ⟨2, ![1, 4096]⟩
abbrev S4096 : Shape := ⟨1, ![4096]⟩
abbrev S_ : Shape := ⟨0, ![]⟩
abbrev S8x16 : Shape := ⟨2, ![8, 16]⟩
abbrev S8x16x1 : Shape := ⟨3, ![8, 16, 1]⟩
abbrev S1x1x4096 : Shape := ⟨3, ![1, 1, 4096]⟩
abbrev S4096x12288 : Shape := ⟨2, ![4096, 12288]⟩
abbrev S8x16x12288 : Shape := ⟨3, ![8, 16, 12288]⟩
abbrev S128x3x4096 : Shape := ⟨3, ![128, 3, 4096]⟩
abbrev S128x1x4096 : Shape := ⟨3, ![128, 1, 4096]⟩
abbrev S128x4096 : Shape := ⟨2, ![128, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S2x4096, .f32⟩
  | .hbm, ⟨2, _⟩ => ⟨S1x4096x12288, .f32⟩
  | .hbm, ⟨3, _⟩ => ⟨S1x4096, .f32⟩
  | .hbm, ⟨4, _⟩ => ⟨S4096, .f32⟩
  | .hbm, ⟨5, _⟩ => ⟨S8x16x4096, .f32⟩
  | .hbm, ⟨6, _⟩ => ⟨S_, .f32⟩
  | .hbm, ⟨7, _⟩ => ⟨S8x16, .f32⟩
  | .hbm, ⟨8, _⟩ => ⟨S8x16x1, .f32⟩
  | .hbm, ⟨9, _⟩ => ⟨S_, .f32⟩
  | .hbm, ⟨10, _⟩ => ⟨S8x16x1, .f32⟩
  | .hbm, ⟨11, _⟩ => ⟨S8x16x1, .f32⟩
  | .hbm, ⟨12, _⟩ => ⟨S_, .f32⟩
  | .hbm, ⟨13, _⟩ => ⟨S8x16x1, .f32⟩
  | .hbm, ⟨14, _⟩ => ⟨S8x16x1, .f32⟩
  | .hbm, ⟨15, _⟩ => ⟨S8x16x1, .f32⟩
  | .hbm, ⟨16, _⟩ => ⟨S8x16x4096, .f32⟩
  | .hbm, ⟨17, _⟩ => ⟨S8x16x4096, .f32⟩
  | .hbm, ⟨18, _⟩ => ⟨S1x1x4096, .f32⟩
  | .hbm, ⟨19, _⟩ => ⟨S8x16x4096, .f32⟩
  | .hbm, ⟨20, _⟩ => ⟨S8x16x4096, .f32⟩
  | .hbm, ⟨21, _⟩ => ⟨S4096x12288, .f32⟩
  | .hbm, ⟨22, _⟩ => ⟨S8x16x12288, .f32⟩
  | .hbm, ⟨23, _⟩ => ⟨S128x3x4096, .f32⟩
  | .hbm, ⟨24, _⟩ => ⟨S128x1x4096, .f32⟩
  | .hbm, ⟨25, _⟩ => ⟨S128x4096, .f32⟩
  | .hbm, ⟨26, _⟩ => ⟨S_, .f32⟩
  | .hbm, ⟨27, _⟩ => ⟨S128x4096, .f32⟩
  | .hbm, ⟨28, _⟩ => ⟨S128x4096, .f32⟩
  | .hbm, ⟨29, _⟩ => ⟨S128x4096, .bf16⟩
  | .hbm, ⟨30, _⟩ => ⟨S128x1x4096, .f32⟩
  | .hbm, ⟨31, _⟩ => ⟨S128x4096, .f32⟩
  | .hbm, ⟨32, _⟩ => ⟨S128x1x4096, .f32⟩
  | .hbm, ⟨33, _⟩ => ⟨S128x4096, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel10.lean ====
abbrev S128x4096 : Shape := ⟨2, ![128, 4096]⟩
abbrev S4096 : Shape := ⟨1, ![4096]⟩
abbrev S2x4096 : Shape := ⟨2, ![2, 4096]⟩
abbrev S4096x2048 : Shape := ⟨2, ![4096, 2048]⟩
abbrev S1x4096x4096 : Shape := ⟨3, ![1, 4096, 4096]⟩
abbrev S4096x4096 : Shape := ⟨2, ![4096, 4096]⟩
abbrev S4096x6144 : Shape := ⟨2, ![4096, 6144]⟩
abbrev S1x4096 : Shape := ⟨2, ![1, 4096]⟩
abbrev S128x2048 : Shape := ⟨2, ![128, 2048]⟩
abbrev S4096x1024 : Shape := ⟨2, ![4096, 1024]⟩
abbrev S128x1024 : Shape := ⟨2, ![128, 1024]⟩
abbrev S2x2x128x4096 : Shape := ⟨4, ![2, 2, 128, 4096]⟩
abbrev S128 : Shape := ⟨1, ![128]⟩
abbrev S128x1 : Shape := ⟨2, ![128, 1]⟩
abbrev S1x1x128x4096 : Shape := ⟨4, ![1, 1, 128, 4096]⟩

abbrev nBuf : Space → Nat
  | .hbm => 15
  | .vmem => 11
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S2x4096, .f32⟩
  | .hbm, ⟨3, _⟩ => ⟨S4096x2048, .f32⟩
  | .hbm, ⟨4, _⟩ => ⟨S1x4096x4096, .f32⟩
  | .hbm, ⟨5, _⟩ => ⟨S4096x2048, .bf16⟩
  | .hbm, ⟨6, _⟩ => ⟨S4096x4096, .f32⟩
  | .hbm, ⟨7, _⟩ => ⟨S4096x4096, .bf16⟩
  | .hbm, ⟨8, _⟩ => ⟨S4096x6144, .bf16⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S1x4096, .f32⟩
  | .hbm, ⟨13, _⟩ => ⟨S128x2048, .f32⟩
  | .hbm, ⟨14, _⟩ => ⟨S128x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S4096x1024, .bf16⟩
  | .local _ .vmem, ⟨5, _⟩ => ⟨S4096x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | .local _ .vmem, ⟨10, _⟩ => ⟨S2x2x128x4096, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c2_i32_6 : BitVec 32 := 2#32
  let v15 : BitVec 1 := Scalar.cmpi .slt arg1 c2_i32_6
  let v16 : BitVec 32 := Scalar.extui v15
  let c0_i32_7 : BitVec 32 := 0#32
  let v17 : BitVec 1 := Scalar.cmpi .ne v16 c0_i32_7
  v17

def k0_off1 (i : grid0.Coords) : Fin 4 → Nat :=
  let c0 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c0_12 : Index := 0#32
  let c0_13 : Index := 0#32
  ![0, v26.toNat, 0, 0]
def k0_cond3 (i : grid0.Coords) : BitVec 1 :=
  let arg1 : BitVec 32 := BitVec.ofNat 32 (i 1).val
  let c2_i32_8 : BitVec 32 := 2#32
  let v18 : BitVec 1 := Scalar.cmpi .sge arg1 c2_i32_8
  let c5_i32 : BitVec 32 := 5#32
  let v19 : BitVec 1 := Scalar.cmpi .slt arg1 c5_i32
  let v20 : BitVec 1 := Scalar.andi v18 v19
  let v21 : BitVec 32 := Scalar.extui v20
  let c0_i32_9 : BitVec 32 := 0#32
  let v22 : BitVec 1 := Scalar.cmpi .ne v21 c0_i32_9
  v22

def k0_off2 (i : grid0.Coords) : Fin 4 → Nat :=
  let c1 : Index := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c0 : Index := 0#32
  let c0_12 : Index := 0#32
  ![1, v26.toNat, 0, 0]
def k0_cond4 (i : grid0.Coords) : BitVec 1 :=
  let arg1 : BitVec 32 := BitVec.ofNat 32 (i 1).val
  let c5_i32_10 : BitVec 32 := 5#32
  let v23 : BitVec 1 := Scalar.cmpi .eq arg1 c5_i32_10
  let v24 : BitVec 32 := Scalar.extui v23
  let c0_i32_11 : BitVec 32 := 0#32
  let v25 : BitVec 1 := Scalar.cmpi .ne v24 c0_i32_11
  v25

def k0_off3 (i : grid0.Coords) : Fin 4 → Nat :=
  let c1 : Index := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c0 : Index := 0#32
  let c0_12 : Index := 0#32
  ![1, v26.toNat, 0, 0]
def k0_off4 (i : grid0.Coords) : Fin 4 → Nat :=
  let c0_23 : Index := 0#32
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v49 : Index := Scalar.indexCast v32
  let c0_24 : Index := 0#32
  let c0_25 : Index := 0#32
  ![0, v49.toNat, 0, 0]
def k0_off5 (i : grid0.Coords) : Fin 4 → Nat :=
  let c1_28 : Index := 1#32
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v58 : Index := Scalar.indexCast v32
  let c0_29 : Index := 0#32
  let c0_30 : Index := 0#32
  ![1, v58.toNat, 0, 0]
def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg1 c5_i32
  let c1_i32 : BitVec 32 := 1#32
  let c0_i32 : BitVec 32 := 0#32
  let v1 : BitVec 32 := Scalar.select v0 c1_i32 c0_i32
  let v2 : BitVec 32 := Scalar.addi arg0 v1
  let c0_i32_0 : BitVec 32 := 0#32
  let v3 : BitVec 32 := Scalar.minsi v2 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S128x4096 : Shape := ⟨2, ![128, 4096]⟩
abbrev S4096 : Shape := ⟨1, ![4096]⟩
abbrev S2x4096 : Shape := ⟨2, ![2, 4096]⟩
abbrev S4096x2048 : Shape := ⟨2, ![4096, 2048]⟩
abbrev S1x4096x4096 : Shape := ⟨3, ![1, 4096, 4096]⟩
abbrev S_ : Shape := ⟨0, ![]⟩
abbrev S128 : Shape := ⟨1, ![128]⟩
abbrev S128x1 : Shape := ⟨2, ![128, 1]⟩
abbrev S1x4096 : Shape := ⟨2, ![1, 4096]⟩
abbrev S128x2048 : Shape := ⟨2, ![128, 2048]⟩
abbrev S4096x4096 : Shape := ⟨2, ![4096, 4096]⟩

abbrev nBuf : Space → Nat
  | .hbm => 46
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096, .f32⟩
  | .hbm, ⟨2, _⟩ => ⟨S2x4096, .f32⟩
  | .hbm, ⟨3, _⟩ => ⟨S4096x2048, .f32⟩
  | .hbm, ⟨4, _⟩ => ⟨S1x4096x4096, .f32⟩
  | .hbm, ⟨5, _⟩ => ⟨S128x4096, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x4096, .f32⟩
  | .hbm, ⟨17, _⟩ => ⟨S128x4096, .f32⟩
  | .hbm, ⟨18, _⟩ => ⟨S1x4096, .f32⟩
  | .hbm, ⟨19, _⟩ => ⟨S128x4096, .f32⟩
  | .hbm, ⟨20, _⟩ => ⟨S128x4096, .f32⟩
  | .hbm, ⟨21, _⟩ => ⟨S128x2048, .f32⟩
  | .hbm, ⟨22, _⟩ => ⟨S1x4096, .f32⟩
  | .hbm, ⟨23, _⟩ => ⟨S4096, .f32⟩
  | .hbm, ⟨24, _⟩ => ⟨S128x4096, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x1, .f32⟩
  | .hbm, ⟨35, _⟩ => ⟨S128x4096, .f32⟩
  | .hbm, ⟨36, _⟩ => ⟨S128x4096, .f32⟩
  | .hbm, ⟨37, _⟩ => ⟨S1x4096, .f32⟩
  | .hbm, ⟨38, _⟩ => ⟨S128x4096, .f32⟩
  | .hbm, ⟨39, _⟩ => ⟨S128x4096, .f32⟩
  | .hbm, ⟨40, _⟩ => ⟨S4096x4096, .f32⟩
  | .hbm, ⟨41, _⟩ => ⟨S128x4096, .f32⟩
  | .hbm, ⟨42, _⟩ => ⟨S_, .f32⟩
  | .hbm, ⟨43, _⟩ => ⟨S128x4096, .f32⟩
  | .hbm, ⟨44, _⟩ => ⟨S128x4096, .f32⟩
  | .hbm, ⟨45, _⟩ => ⟨S128x4096, .bf16⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel11.lean ====
abbrev S16384x4096 : Shape := ⟨2, ![16384, 4096]⟩
abbrev S4x4096x1024 : Shape := ⟨3, ![4, 4096, 1024]⟩
abbrev S1x257x32 : Shape := ⟨3, ![1, 257, 32]⟩
abbrev S703 : Shape := ⟨1, ![703]⟩
abbrev S_ : Shape := ⟨0, ![]⟩
abbrev S4x4672x1024 : Shape := ⟨3, ![4, 4672, 1024]⟩
abbrev S257x32 : Shape := ⟨2, ![257, 32]⟩
abbrev S703x1 : Shape := ⟨2, ![703, 1]⟩
abbrev S703x32 : Shape := ⟨2, ![703, 32]⟩
abbrev S32x703 : Shape := ⟨2, ![32, 703]⟩
abbrev S1x32x1x703 : Shape := ⟨4, ![1, 32, 1, 703]⟩
abbrev S1x32x65x703 : Shape := ⟨4, ![1, 32, 65, 703]⟩
abbrev S32x45695 : Shape := ⟨2, ![32, 45695]⟩
abbrev S32x45056 : Shape := ⟨2, ![32, 45056]⟩
abbrev S32x64x704 : Shape := ⟨3, ![32, 64, 704]⟩
abbrev S32x64x640 : Shape := ⟨3, ![32, 64, 640]⟩
abbrev S4096x512 : Shape := ⟨2, ![4096, 512]⟩
abbrev S1x4672x128 : Shape := ⟨3, ![1, 4672, 128]⟩
abbrev S4x64x640 : Shape := ⟨3, ![4, 64, 640]⟩
abbrev S256x640 : Shape := ⟨2, ![256, 640]⟩
abbrev S1x640x128 : Shape := ⟨3, ![1, 640, 128]⟩
abbrev S640x128 : Shape := ⟨2, ![640, 128]⟩
abbrev S64x512 : Shape := ⟨2, ![64, 512]⟩
abbrev S64x128 : Shape := ⟨2, ![64, 128]⟩
abbrev S256x128 : Shape := ⟨2, ![256, 128]⟩
abbrev S256 : Shape := ⟨1, ![256]⟩
abbrev S256x1 : Shape := ⟨2, ![256, 1]⟩

abbrev nBuf : Space → Nat
  | .hbm => 34
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4x4096x1024, .f32⟩
  | .hbm, ⟨2, _⟩ => ⟨S4x4096x1024, .f32⟩
  | .hbm, ⟨3, _⟩ => ⟨S1x257x32, .f32⟩
  | .hbm, ⟨4, _⟩ => ⟨S703, .i32⟩
  | .hbm, ⟨5, _⟩ => ⟨S703, .i1⟩
  | .hbm, ⟨6, _⟩ => ⟨S4x4096x1024, .bf16⟩
  | .hbm, ⟨7, _⟩ => ⟨S_, .i32⟩
  | .hbm, ⟨8, _⟩ => ⟨S_, .bf16⟩
  | .hbm, ⟨9, _⟩ => ⟨S4x4672x1024, .bf16⟩
  | .hbm, ⟨10, _⟩ => ⟨S4x4096x1024, .bf16⟩
  | .hbm, ⟨11, _⟩ => ⟨S_, .i32⟩
  | .hbm, ⟨12, _⟩ => ⟨S_, .bf16⟩
  | .hbm, ⟨13, _⟩ => ⟨S4x4672x1024, .bf16⟩
  | .hbm, ⟨14, _⟩ => ⟨S257x32, .f32⟩
  | .hbm, ⟨15, _⟩ => ⟨S_, .i32⟩
  | .hbm, ⟨16, _⟩ => ⟨S703, .i32⟩
  | .hbm, ⟨17, _⟩ => ⟨S703, .i32⟩
  | .hbm, ⟨18, _⟩ => ⟨S703, .i32⟩
  | .hbm, ⟨19, _⟩ => ⟨S703x1, .i32⟩
  | .hbm, ⟨20, _⟩ => ⟨S703x32, .f32⟩
  | .hbm, ⟨21, _⟩ => ⟨S32x703, .f32⟩
  | .hbm, ⟨22, _⟩ => ⟨S1x32x1x703, .f32⟩
  | .hbm, ⟨23, _⟩ => ⟨S1x32x65x703, .f32⟩
  | .hbm, ⟨24, _⟩ => ⟨S32x45695, .f32⟩
  | .hbm, ⟨25, _⟩ => ⟨S32x45056, .f32⟩
  | .hbm, ⟨26, _⟩ => ⟨S32x64x704, .f32⟩
  | .hbm, ⟨27, _⟩ => ⟨S32x64x640, .f32⟩
  | .hbm, ⟨28, _⟩ => ⟨S32x64x640, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .bf16⟩
  | .hbm, ⟨33, _⟩ => ⟨S16384x4096, .bf16⟩
  | .local _ .vmem, ⟨0, _⟩ => ⟨S4096x512, .bf16⟩
  | .local _ .vmem, ⟨1, _⟩ => ⟨S4096x512, .bf16⟩
  | .local _ .vmem, ⟨2, _⟩ => ⟨S1x4672x128, .bf16⟩
  | .local _ .vmem, ⟨3, _⟩ => ⟨S1x4672x128, .bf16⟩
  | .local _ .vmem, ⟨4, _⟩ => ⟨S1x4672x128, .bf16⟩
  | .local _ .vmem, ⟨5, _⟩ => ⟨S1x4672x128, .bf16⟩
  | .local _ .vmem, ⟨6, _⟩ => ⟨S4x64x640, .f32⟩
  | .local _ .vmem, ⟨7, _⟩ => ⟨S4x64x640, .f32⟩
  | .local _ .vmem, ⟨8, _⟩ => ⟨S4096x512, .bf16⟩
  | .local _ .vmem, ⟨9, _⟩ => ⟨S4096x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_c_1 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c64_i32_3 : BitVec 32 := 64#32
  let v5 : BitVec 32 := Scalar.muli arg7 c64_i32_3
  v5
def k0_off1 (k0_t1 : Fin k0_t1_loop.trips) : Fin 3 → Nat :=
  let c0_6 : Index := 0#32
  let c0_i32 : BitVec 32 := 0#32
  let c1_i32 : BitVec 32 := 1#32
  let arg7 : BitVec 32 := Scf.iv c0_i32 c1_i32 k0_t1
  let c64_i32_3 : BitVec 32 := 64#32
  let v5 : BitVec 32 := Scalar.muli arg7 c64_i32_3
  let v6 : BitVec 32 := v5
  let v10 : Index := Scalar.indexCast v6
  let c0_7 : Index := 0#32
  ![0, v10.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_3 : BitVec 32 := 64#32
  let v5 : BitVec 32 := Scalar.muli arg7 c64_i32_3
  let v6 : BitVec 32 := v5
  let v16 : Index := Scalar.indexCast v6
  let c0_10 : Index := 0#32
  ![v16.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_3 : BitVec 32 := 64#32
  let v5 : BitVec 32 := Scalar.muli arg7 c64_i32_3
  let v6 : BitVec 32 := v5
  let v45 : Index := Scalar.indexCast v6
  let c0_16 : Index := 0#32
  ![v45.toNat, 0]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_3 : BitVec 32 := 64#32
  let v5 : BitVec 32 := Scalar.muli arg7 c64_i32_3
  let v6 : BitVec 32 := v5
  let v49 : Index := Scalar.indexCast v6
  let c128 : Index := 128#32
  ![v49.toNat, 128]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_3 : BitVec 32 := 64#32
  let v5 : BitVec 32 := Scalar.muli arg7 c64_i32_3
  let v6 : BitVec 32 := v5
  let v53 : Index := Scalar.indexCast v6
  let c256 : Index := 256#32
  ![v53.toNat, 256]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_3 : BitVec 32 := 64#32
  let v5 : BitVec 32 := Scalar.muli arg7 c64_i32_3
  let v6 : BitVec 32 := v5
  let v57 : Index := Scalar.indexCast v6
  let c384 : Index := 384#32
  ![v57.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4672x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4672x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S16384x4096 : Shape := ⟨2, ![16384, 4096]⟩
abbrev S4x4096x1024 : Shape := ⟨3, ![4, 4096, 1024]⟩
abbrev S1x257x32 : Shape := ⟨3, ![1, 257, 32]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S257x32 : Shape := ⟨2, ![257, 32]⟩
abbrev S4096x4096x1 : Shape := ⟨3, ![4096, 4096, 1]⟩
abbrev S4096x4096x32 : Shape := ⟨3, ![4096, 4096, 32]⟩
abbrev S4096x4096x8x4 : Shape := ⟨4, ![4096, 4096, 8, 4]⟩
abbrev S8x4x4096x4096 : Shape := ⟨4, ![8, 4, 4096, 4096]⟩
abbrev S4x4096x8x4x128 : Shape := ⟨5, ![4, 4096, 8, 4, 128]⟩
abbrev S4x4096x8x128 : Shape := ⟨4, ![4, 4096, 8, 128]⟩
abbrev S4x8x4096x4096x4 : Shape := ⟨5, ![4, 8, 4096, 4096, 4]⟩
abbrev S4x8x4x4096x4096 : Shape := ⟨5, ![4, 8, 4, 4096, 4096]⟩
abbrev S1x8x4x4096x4096 : Shape := ⟨5, ![1, 8, 4, 4096, 4096]⟩
abbrev S4x8x4x4096 : Shape := ⟨4, ![4, 8, 4, 4096]⟩
abbrev S4x8x4x4096x1 : Shape := ⟨5, ![4, 8, 4, 4096, 1]⟩
abbrev S4x8x128x4x4096 : Shape := ⟨5, ![4, 8, 128, 4, 4096]⟩

abbrev nBuf : Space → Nat
  | .hbm => 99
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x1024, .f32⟩
  | .hbm, ⟨2, _⟩ => ⟨S4x4096x1024, .f32⟩
  | .hbm, ⟨3, _⟩ => ⟨S1x257x32, .f32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S1x4096, .i32⟩
  | .hbm, ⟨29, _⟩ => ⟨S4096x1, .i32⟩
  | .hbm, ⟨30, _⟩ => ⟨S_, .i32⟩
  | .hbm, ⟨31, _⟩ => ⟨S4096x1, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S4096x4096, .i1⟩
  | .hbm, ⟨37, _⟩ => ⟨S4096x1, .i32⟩
  | .hbm, ⟨38, _⟩ => ⟨S1x4096, .i32⟩
  | .hbm, ⟨39, _⟩ => ⟨S4096x4096, .i32⟩
  | .hbm, ⟨40, _⟩ => ⟨S4096x4096, .i32⟩
  | .hbm, ⟨41, _⟩ => ⟨S4096x4096, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S4096x4096, .i32⟩
  | .hbm, ⟨46, _⟩ => ⟨S4096x4096, .i32⟩
  | .hbm, ⟨47, _⟩ => ⟨S_, .i32⟩
  | .hbm, ⟨48, _⟩ => ⟨S4096x4096, .i32⟩
  | .hbm, ⟨49, _⟩ => ⟨S4096x4096, .i32⟩
  | .hbm, ⟨50, _⟩ => ⟨S_, .i32⟩
  | .hbm, ⟨51, _⟩ => ⟨S4096x4096, .i32⟩
  | .hbm, ⟨52, _⟩ => ⟨S4096x4096, .i32⟩
  | .hbm, ⟨53, _⟩ => ⟨S257x32, .f32⟩
  | .hbm, ⟨54, _⟩ => ⟨S_, .i32⟩
  | .hbm, ⟨55, _⟩ => ⟨S4096x4096, .i32⟩
  | .hbm, ⟨56, _⟩ => ⟨S4096x4096, .i1⟩
  | .hbm, ⟨57, _⟩ => ⟨S_, .i32⟩
  | .hbm, ⟨58, _⟩ => ⟨S4096x4096, .i32⟩
  | .hbm, ⟨59, _⟩ => ⟨S4096x4096, .i32⟩
  | .hbm, ⟨60, _⟩ => ⟨S4096x4096, .i32⟩
  | .hbm, ⟨61, _⟩ => ⟨S4096x4096x1, .i32⟩
  | .hbm, ⟨62, _⟩ => ⟨S4096x4096x32, .f32⟩
  | .hbm, ⟨63, _⟩ => ⟨S4096x4096x8x4, .f32⟩
  | .hbm, ⟨64, _⟩ => ⟨S8x4x4096x4096, .f32⟩
  | .hbm, ⟨65, _⟩ => ⟨S4x4096x8x4x128, .f32⟩
  | .hbm, ⟨66, _⟩ => ⟨S4x4096x8x128, .f32⟩
  | .hbm, ⟨67, _⟩ => ⟨S4x8x4096x4096x4, .f32⟩
  | .hbm, ⟨68, _⟩ => ⟨S4x8x4x4096x4096, .f32⟩
  | .hbm, ⟨69, _⟩ => ⟨S_, .f32⟩
  | .hbm, ⟨70, _⟩ => ⟨S4x8x4x4096x4096, .f32⟩
  | .hbm, ⟨71, _⟩ => ⟨S4x8x4x4096x4096, .f32⟩
  | .hbm, ⟨72, _⟩ => ⟨S1x8x4x4096x4096, .f32⟩
  | .hbm, ⟨73, _⟩ => ⟨S4x8x4x4096x4096, .f32⟩
  | .hbm, ⟨74, _⟩ => ⟨S4x8x4x4096x4096, .f32⟩
  | .hbm, ⟨75, _⟩ => ⟨S_, .f32⟩
  | .hbm, ⟨76, _⟩ => ⟨S_, .f32⟩
  | .hbm, ⟨77, _⟩ => ⟨S4x8x4x4096x4096, .i1⟩
  | .hbm, ⟨78, _⟩ => ⟨S4x8x4x4096x4096, .f32⟩
  | .hbm, ⟨79, _⟩ => ⟨S4x8x4x4096x4096, .f32⟩
  | .hbm, ⟨80, _⟩ => ⟨S_, .f32⟩
  | .hbm, ⟨81, _⟩ => ⟨S4x8x4x4096, .f32⟩
  | .hbm, ⟨82, _⟩ => ⟨S_, .f32⟩
  | .hbm, ⟨83, _⟩ => ⟨S4x8x4x4096, .f32⟩
  | .hbm, ⟨84, _⟩ => ⟨S4x8x4x4096, .f32⟩
  | .hbm, ⟨85, _⟩ => ⟨S4x8x4x4096x1, .f32⟩
  | .hbm, ⟨86, _⟩ => ⟨S4x8x4x4096x4096, .f32⟩
  | .hbm, ⟨87, _⟩ => ⟨S4x8x4x4096x4096, .f32⟩
  | .hbm, ⟨88, _⟩ => ⟨S4x8x4x4096x4096, .f32⟩
  | .hbm, ⟨89, _⟩ => ⟨S_, .f32⟩
  | .hbm, ⟨90, _⟩ => ⟨S4x8x4x4096, .f32⟩
  | .hbm, ⟨91, _⟩ => ⟨S4x8x4x4096x1, .f32⟩
  | .hbm, ⟨92, _⟩ => ⟨S4x8x4x4096x4096, .f32⟩
  | .hbm, ⟨93, _⟩ => ⟨S4x8x4x4096x4096, .f32⟩
  | .hbm, ⟨94, _⟩ => ⟨S4x4096x8x128, .f32⟩
  | .hbm, ⟨95, _⟩ => ⟨S4x8x128x4x4096, .f32⟩
  | .hbm, ⟨96, _⟩ => ⟨S4x4096x8x4x128, .f32⟩
  | .hbm, ⟨97, _⟩ => ⟨S16384x4096, .f32⟩
  | .hbm, ⟨98, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_c_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v20 : Ref sig .tc := ⟨.hbm, 49, rfl⟩
abbrev main_c_3 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_c_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_6 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v42 : Ref sig .tc := ⟨.hbm, 79, rfl⟩
abbrev main_cst_7 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_9 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩

abbrev nD : Nat := 1
abbrev τ : Topo := Topo.v7x

variable {F : FTy → Type} [FloatOps F]
-- ==== Proof.Band.Body.lean ====
module

public import proofs.«01_k».proof.Proof.Gen.Kernel11Ideal.Value
public import Idealize.ShloMosaic.Lib.Writes
public import Idealize.ShloMosaic.Lib.WritesUnit
public import Idealize.ShloMosaic.Lib.VecWindow
public import Idealize.ShloMosaic.Lib.WordArith.Masks
public import Idealize.ShloMosaic.Lib.Pointwise

@[expose] public section

/-!
# The band attention's body: what a point of the grid leaves in its block.
-/

set_option maxRecDepth 16384

noncomputable section

namespace Cert.Kernel11Ideal.Band

open Cert.Kernel11Ideal Cert.Kernel11Ideal.Gen
open Idealize.ShloMosaic Idealize.ShloMosaic.TcCoe Idealize.ShloMosaic.Tactic
open Idealize.SL Idealize.SL.RA Idealize.SL.BI
open Idealize.SL.Sem
open Idealize.ShloMosaic.Pipeline

variable {F : FTy → Type} [FloatOps F]

theorem lt64 (k : Fin k0_t1_loop.trips) : k.val < 64 := Nat.lt_of_lt_of_le k.isLt k0_t1_abs.2.1

theorem iv_val (k : Fin k0_t1_loop.trips) : (Scf.iv 0#32 1#32 k.val : BitVec 32) = BitVec.ofNat 32 k.val := by
  apply BitVec.eq_of_toNat_eq
  have := lt64 k
  rw [WordArith.toNat_iv_zero_one _ (by omega), BitVec.toNat_ofNat]
  omega

theorem mul_val : ∀ k : Fin 64, (Scalar.indexCast (Scalar.muli (BitVec.ofNat 32 k.val) 64#32)).toNat = 64 * k.val := by decide +kernel

theorem row_val (k : Fin k0_t1_loop.trips) : (Scalar.indexCast (Scalar.muli (Scf.iv 0#32 1#32 k.val) 64#32)).toNat = 64 * k.val := by
  rw [iv_val]; exact mul_val ⟨k.val, lt64 k⟩

theorem off1_eq (k : Fin k0_t1_loop.trips) : k0_off1 k = ![0, 64 * k.val, 0] := by
  unfold k0_off1; dsimp only; rw [row_val]
theorem off2_eq (k : Fin k0_t1_loop.trips) : k0_off2 k = ![64 * k.val, 0] := by
  unfold k0_off2; dsimp only; rw [row_val]
theorem off3_eq (k : Fin k0_t1_loop.trips) : k0_off3 k = ![64 * k.val, 0] := by
  unfold k0_off3; dsimp only; rw [row_val]
theorem off4_eq (k : Fin k0_t1_loop.trips) : k0_off4 k = ![64 * k.val, 128] := by
  unfold k0_off4; dsimp only; rw [row_val]
theorem off5_eq (k : Fin k0_t1_loop.trips) : k0_off5 k = ![64 * k.val, 256] := by
  unfold k0_off5; dsimp only; rw [row_val]
theorem off6_eq (k : Fin k0_t1_loop.trips) : k0_off6 k = ![64 * k.val, 384] := by
  unfold k0_off6; dsimp only; rw [row_val]

theorem lt_trips (y : S4096x512.Idx) : (y 0).val / 64 < k0_t1_loop.trips := by
  have h : (y 0).val < 4096 := (y 0).isLt
  have : k0_t1_loop.trips = 64 := by decide +kernel
  omega

/-- The columns' numbers. -/
def cols : IVec S256x640 32 := iota .tc S256x640 32 [1] iota_S256x640_d1_w32

/-- The window of 640 rows that begins at chunk `k`. -/
def winF (x : Vec F S1x4672x128 .bf16) (k : Fin k0_t1_loop.trips) : Vec F S1x640x128 .bf16 :=
  VecWindow.window x (k0_off1 k) S1x640x128.size (k0_off1_inb k)

/-- A chunk's rows of the queries. -/
def rowsF (x : Vec F S4096x512 .bf16) (k : Fin k0_t1_loop.trips) : Vec F S64x512 .bf16 :=
  VecWindow.window x (k0_off2 k) S64x512.size (k0_off2_inb k)

/-- A chunk's results, the four heads one under another. -/
def chunkF (x0 : Vec F S4096x512 .bf16) (x1 x2 : Vec F S1x4672x128 .bf16) (x3 : Vec F S4x64x640 .f32) (k : Fin k0_t1_loop.trips) : FVec F S256x128 .f32 :=
  k0_pay5 (k0_pay1 x3) cols 0#32 1#32 k (winF x1 k) (winF x2 k) (rowsF x0 k)

/-- The four stores of a chunk. -/
def fourL (k : Fin k0_t1_loop.trips) (X : FVec F S256x128 .f32) : List (View.Piece (Elt F) S4096x512 .bf16) :=
  [⟨Rect.unit (s := S4096x512) (k0_off6 k) S64x128.size (k0_off6_inb k), k0_pay4 X⟩,
   ⟨Rect.unit (s := S4096x512) (k0_off5 k) S64x128.size (k0_off5_inb k), k0_pay3 X⟩,
   ⟨Rect.unit (s := S4096x512) (k0_off4 k) S64x128.size (k0_off4_inb k), k0_pay2 X⟩,
   ⟨Rect.unit (s := S4096x512) (k0_off3 k) S64x128.size (k0_off3_inb k),
     truncf .bf16 (extractStridedSlice S64x128 ![0, 0] X slices_S256x128_o0_0_S64x128) bitsLt_bf16_f32⟩]

section
variable (c : Dev nD) (i : grid0.Coords) (arg2 : Memref sig .tc .vmem S4096x512 .bf16) (harg2 : arg2.IsWhole) (arg3 : Memref sig .tc .vmem S1x4672x128 .bf16) (harg3 : arg3.IsWhole) (arg4 : Memref sig .tc .vmem S1x4672x128 .bf16) (harg4 : arg4.IsWhole) (arg5 : Memref sig .tc .vmem S4x64x640 .f32) (harg5 : arg5.IsWhole) (arg6 : Memref sig .tc .vmem S4096x512 .bf16) (harg6 : arg6.IsWhole)

set_option maxHeartbeats 4000000 in
theorem trip_pieces (𝒱 : Variants) (bd : Option 𝒱.V) (v0 : Vec F S4x64x640 .f32) (v3 : IVec S256x640 32) (X2 : BufTy.Contents (Elt F) arg2.view.ty) (X3 : BufTy.Contents (Elt F) arg3.view.ty) (X4 : BufTy.Contents (Elt F) arg4.view.ty) (k : Fin k0_t1_loop.trips) :
    tripL_k0_t1 (F := F) 𝒱 c bd i arg2 harg2 arg3 harg3 arg4 harg4 arg5 harg5 arg6 harg6 v0 v3 X2 X3 X4 k
      = fourL k (k0_pay5 (k0_pay1 v0) v3 0#32 1#32 k (winF (arg3.view.read (Elt F) X3) k) (winF (arg4.view.read (Elt F) X4) k) (rowsF (arg2.view.read (Elt F) X2) k)) := by
  unfold tripL_k0_t1 trip_k0_t1
  dsimp only
  rfl

set_option maxHeartbeats 4000000 in
theorem run_pieces (x0 : Vec F S4096x512 .bf16) (x1 : Vec F S1x4672x128 .bf16) (x2 : Vec F S1x4672x128 .bf16) (x3 : Vec F S4x64x640 .f32) :
    (kernelRun0_A c i arg2 harg2 arg3 harg3 arg4 harg4 arg5 harg5 arg6 harg6 x0 x1 x2 x3).1
      = pb_k0_t1 Variants.none c none i arg2 harg2 arg3 harg3 arg4 harg4 arg5 harg5 arg6 harg6 x3 cols (harg2.unread x0) (harg3.unread x1) (harg4.unread x2)
      k0_t1_loop.trips := by
  unfold kernelRun0_A
  dsimp only
  rw [View.readAt_full, harg5.read_unread]
  rfl

end

/-- What the point leaves in its block. -/
def blockG (x0 : Vec F S4096x512 .bf16) (x1 x2 : Vec F S1x4672x128 .bf16) (x3 : Vec F S4x64x640 .f32) : Vec F S4096x512 .bf16 := fun y =>
  truncf (s := S256x128) .bf16 (chunkF x0 x1 x2 x3 ⟨(y 0).val / 64, lt_trips y⟩) bitsLt_bf16_f32
    (ix2 ⟨(y 1).val / 128 * 64 + (y 0).val % 64, by have : (y 1).val < 512 := (y 1).isLt; omega⟩ ⟨(y 1).val % 128, by omega⟩)

/-- A stored piece agrees with the block. -/
theorem piece_agrees (x0 : Vec F S4096x512 .bf16) (x1 x2 : Vec F S1x4672x128 .bf16) (x3 : Vec F S4x64x640 .f32) (k : Fin k0_t1_loop.trips)
    (g : ℕ) (hg : g < 4) (o : Fin 2 → ℕ) (inb : ∀ a, o a + S64x128.size a ≤ S4096x512.size a) (ho : o = ![64 * k.val, 128 * g])
    (P : Vec F S64x128 .bf16)
    (hP : ∀ x : S64x128.Idx, P x = truncf (s := S256x128) .bf16 (chunkF x0 x1 x2 x3 k) bitsLt_bf16_f32
      (ix2 ⟨g * 64 + (x 0).val, by have : (x 0).val < 64 := (x 0).isLt; omega⟩ (x 1)))
    (x : S64x128.Idx) : P x = blockG x0 x1 x2 x3 ((Rect.unit (s := S4096x512) o S64x128.size inb).emb x) := by
  subst ho
  have hx0 : (x 0).val < 64 := (x 0).isLt
  have hx1 : (x 1).val < 128 := (x 1).isLt
  have e0 : ((Rect.unit (s := S4096x512) ![64 * k.val, 128 * g] S64x128.size inb).emb x 0).val = 64 * k.val + (x 0).val := by
    show 64 * k.val + 1 * (x 0).val = _; omega
  have e1 : ((Rect.unit (s := S4096x512) ![64 * k.val, 128 * g] S64x128.size inb).emb x 1).val = 128 * g + (x 1).val := by
    show 128 * g + 1 * (x 1).val = _; omega
  rw [hP x]
  unfold blockG
  have ek : (⟨((Rect.unit (s := S4096x512) ![64 * k.val, 128 * g] S64x128.size inb).emb x 0).val / 64, lt_trips _⟩ : Fin k0_t1_loop.trips) = k :=
    Fin.ext (by show _ / 64 = k.val; omega)
  rw [ek]
  congr 2
  · exact Fin.ext (by show g * 64 + (x 0).val = _ / 128 * 64 + _ % 64; omega)
  · exact Fin.ext (by show (x 1).val = _ % 128; omega)

theorem four_agrees (x0 : Vec F S4096x512 .bf16) (x1 x2 : Vec F S1x4672x128 .bf16) (x3 : Vec F S4x64x640 .f32) (k : Fin k0_t1_loop.trips) :
    ∀ p ∈ fourL k (chunkF x0 x1 x2 x3 k), ∀ x : p.1.shape.Idx, p.2 x = blockG x0 x1 x2 x3 (p.1.emb x) := by
  unfold fourL
  refine List.forall_mem_cons.mpr ⟨piece_agrees x0 x1 x2 x3 k 3 (by omega) _ (k0_off6_inb k) (off6_eq k) _ (fun x => ?_), ?_⟩
  · unfold k0_pay4
    refine congrArg (truncf (s := S256x128) .bf16 (chunkF x0 x1 x2 x3 k) bitsLt_bf16_f32) (funext fun a => ?_)
    match a with
    | ⟨0, _⟩ => exact Fin.ext rfl
    | ⟨1, _⟩ => exact Fin.ext (Nat.zero_add _)
  refine List.forall_mem_cons.mpr ⟨piece_agrees x0 x1 x2 x3 k 2 (by omega) _ (k0_off5_inb k) (off5_eq k) _ (fun x => ?_), ?_⟩
  · unfold k0_pay3
    refine congrArg (truncf (s := S256x128) .bf16 (chunkF x0 x1 x2 x3 k) bitsLt_bf16_f32) (funext fun a => ?_)
    match a with
    | ⟨0, _⟩ => exact Fin.ext rfl
    | ⟨1, _⟩ => exact Fin.ext (Nat.zero_add _)
  refine List.forall_mem_cons.mpr ⟨piece_agrees x0 x1 x2 x3 k 1 (by omega) _ (k0_off4_inb k) (off4_eq k) _ (fun x => ?_), ?_⟩
  · unfold k0_pay2
    refine congrArg (truncf (s := S256x128) .bf16 (chunkF x0 x1 x2 x3 k) bitsLt_bf16_f32) (funext fun a => ?_)
    match a with
    | ⟨0, _⟩ => exact Fin.ext rfl
    | ⟨1, _⟩ => exact Fin.ext (Nat.zero_add _)
  refine List.forall_mem_cons.mpr ⟨piece_agrees x0 x1 x2 x3 k 0 (by omega) _ (k0_off3_inb k) (off3_eq k) _ (fun x => ?_), ?_⟩
  · refine congrArg (truncf (s := S256x128) .bf16 (chunkF x0 x1 x2 x3 k) bitsLt_bf16_f32) (funext fun a => ?_)
    match a with
    | ⟨0, _⟩ => exact Fin.ext (show 0 + (x 0).val = 0 * 64 + (x 0).val by omega)
    | ⟨1, _⟩ => exact Fin.ext (Nat.zero_add _)
  exact fun _ h => absurd h List.not_mem_nil

section
variable (c : Dev nD) (i : grid0.Coords) (arg2 : Memref sig .tc .vmem S4096x512 .bf16) (harg2 : arg2.IsWhole) (arg3 : Memref sig .tc .vmem S1x4672x128 .bf16) (harg3 : arg3.IsWhole) (arg4 : Memref sig .tc .vmem S1x4672x128 .bf16) (harg4 : arg4.IsWhole) (arg5 : Memref sig .tc .vmem S4x64x640 .f32) (harg5 : arg5.IsWhole) (arg6 : Memref sig .tc .vmem S4096x512 .bf16) (harg6 : arg6.IsWhole)

theorem pb_agrees (x0 : Vec F S4096x512 .bf16) (x1 x2 : Vec F S1x4672x128 .bf16) (x3 : Vec F S4x64x640 .f32) : ∀ n : ℕ, n ≤ k0_t1_loop.trips →
    ∀ p ∈ pb_k0_t1 Variants.none c none i arg2 harg2 arg3 harg3 arg4 harg4 arg5 harg5 arg6 harg6 x3 cols (harg2.unread x0) (harg3.unread x1) (harg4.unread x2) n,
      ∀ x : p.1.shape.Idx, p.2 x = blockG x0 x1 x2 x3 (p.1.emb x)
  | 0, _ => fun _ h => absurd h List.not_mem_nil
  | n + 1, hn => by
    have e := pb_k0_t1_succ (F := F) Variants.none c none i arg2 harg2 arg3 harg3 arg4 harg4 arg5 harg5 arg6 harg6 x3 cols (harg2.unread x0) (harg3.unread x1) (harg4.unread x2) ⟨n, hn⟩
    dsimp only at e
    rw [e, trip_pieces, harg2.read_unread, harg3.read_unread, harg4.read_unread]
    intro p hp
    rcases List.mem_append.mp hp with h | h
    · exact four_agrees x0 x1 x2 x3 ⟨n, hn⟩ p h
    · exact pb_agrees x0 x1 x2 x3 n (Nat.le_of_succ_le hn) p h

theorem out_eq (x0 : Vec F S4096x512 .bf16) (x1 x2 : Vec F S1x4672x128 .bf16) (x3 : Vec F S4x64x640 .f32) :
    out0_A_4 c i arg2 harg2 arg3 harg3 arg4 harg4 arg5 harg5 arg6 harg6 x0 x1 x2 x3 = blockG x0 x1 x2 x3 := by
  funext y
  unfold out0_A_4
  refine View.read_writes_apply_of_pieces _ _ (blockG x0 x1 x2 x3) _ ?_ y (cover0_A_4 c i arg2 harg2 arg3 harg3 arg4 harg4 arg5 harg5 arg6 harg6 x0 x1 x2 x3 y)
  rw [run_pieces]
  exact pb_agrees c i arg2 harg2 arg3 harg3 arg4 harg4 arg5 harg5 arg6 harg6 x0 x1 x2 x3 _ le_rfl

end

end Cert.Kernel11Ideal.Band

end
-- ==== Proof.SB.Math.lean ====
module

public import Idealize.ShloMosaic.PureOps.Ideal
public import Mathlib.Algebra.BigOperators.Intervals

@[expose] public section

/-!
# Stick-breaking attention over the extended reals: one query against a list of keys.

The keys are numbered from 0, the query stands after key `n - 1`. `lb z` and `lk z` are the logs of the shares that a key of
score `z` takes and leaves, `rest` is the log of what the keys from one on leave, `attn` is the weighted sum of the values.
-/

noncomputable section

namespace Cert.SBMath

open Idealize.ShloMosaic
open scoped BigOperators

/-- `log (1 + exp (-|z|))`. -/
def sp (z : EReal) : EReal := Ideal.log (1 + Ideal.exp (0 - max z (0 - z)))
/-- The log of the share a key of score `z` takes, -/
def lb (z : EReal) : EReal := min z 0 - sp z
/-- and of the share it leaves. -/
def lk (z : EReal) : EReal := min (0 - z) 0 - sp z

theorem one_add_exp (y : EReal) : ∃ r : EReal, 1 + Ideal.exp y = r ∧ 1 ≤ r := by
  refine ⟨_, rfl, ?_⟩
  have h : (0 : EReal) ≤ Ideal.exp y := by
    induction y with
    | bot => exact le_rfl
    | top => exact le_top
    | coe r => exact EReal.coe_nonneg.mpr (Real.exp_pos r).le
  calc (1 : EReal) = 1 + 0 := (add_zero _).symm
    _ ≤ _ := add_le_add le_rfl h

theorem log_ne_bot {y : EReal} (h : 1 ≤ y) : Ideal.log y ≠ ⊥ := by
  induction y with
  | bot => exact absurd (lt_of_lt_of_le (EReal.bot_lt_coe 1) h) (lt_irrefl _)
  | top => exact fun h => nomatch h
  | coe r =>
    have h' : (1 : ℝ) ≤ r := by exact_mod_cast h
    show (if r ≤ 0 then ⊥ else (Real.log r : EReal)) ≠ ⊥
    rw [if_neg (by linarith)]
    exact EReal.coe_ne_bot _

theorem log_one_add_exp_ne_bot (y : EReal) : Ideal.log (1 + Ideal.exp y) ≠ ⊥ := by
  obtain ⟨r, e, h⟩ := one_add_exp y
  rw [e]; exact log_ne_bot h

theorem sp_ne_bot (z : EReal) : sp z ≠ ⊥ := log_one_add_exp_ne_bot _

/-- The log of the share left is not ⊤. -/
theorem lk_ne_top (z : EReal) : lk z ≠ ⊤ := by
  unfold lk
  rw [sub_eq_add_neg]
  refine EReal.add_ne_top (fun h => ?_) (fun h => sp_ne_bot z (EReal.neg_eq_top_iff.mp h))
  have : min (0 - z) 0 ≤ 0 := min_le_right _ _
  rw [h] at this
  exact absurd this (by simp)

/-- A number that is not ⊤, in two parts: itself and what is left of it. -/
theorem split_eq {x : EReal} (h : x ≠ ⊤) : x + (x - x) = x := by
  induction x with
  | bot => rfl
  | top => exact absurd rfl h
  | coe r => rw [EReal.sub_self (EReal.coe_ne_top r) (EReal.coe_ne_bot r), add_zero]

/-- The log of the logistic function as a library writes it: `-(max (-x) 0 + log1p (exp (-|-x|)))`. -/
def lsig (x : EReal) : EReal := -(max x 0 + Ideal.log (1 + Ideal.exp (-(max x (-x)))))

theorem lsig_eq (x : EReal) : lsig x = min (-x) 0 - Ideal.log (1 + Ideal.exp (-(max x (-x)))) := by
  have h0 : max x 0 ≠ ⊥ := fun h => by
    have : (0 : EReal) ≤ max x 0 := le_max_right _ _
    rw [h] at this
    exact absurd this (by simp)
  unfold lsig
  rw [EReal.neg_add (.inl h0) (.inr (log_one_add_exp_ne_bot _))]
  congr 1
  rcases le_total x 0 with h | h
  · rw [max_eq_right h, min_eq_right (by simpa using EReal.neg_le_neg_iff.mpr h)]; simp
  · rw [max_eq_left h, min_eq_left (by simpa using EReal.neg_le_neg_iff.mpr h)]

theorem lsig_neg (z : EReal) : lsig (-z) = lb z := by
  rw [lsig_eq, neg_neg]
  unfold lb sp
  rw [zero_sub, zero_sub, max_comm]
theorem lsig_pos (z : EReal) : lsig z = lk z := by
  rw [lsig_eq]
  unfold lk sp
  rw [zero_sub, zero_sub]

/-! ### One query -/

variable (z : ℕ → EReal) (n N : ℕ)

/-- The log of what key `p` leaves: a key at or after the query leaves everything. -/
def keep (p : ℕ) : EReal := if p < n then lk (z p) else 0
/-- The log of what the keys from `a` on leave. -/
def rest (a : ℕ) : EReal := ∑ p ∈ Finset.Ico a N, keep z n p
/-- The weight of key `p`. -/
def weight (p : ℕ) : EReal := if p < n then Ideal.exp (lb (z p) + rest z n N (p + 1)) else 0
/-- The weighted sum of the values `v` of the keys from `a` on. -/
def attn (v : ℕ → EReal) (a : ℕ) : EReal := ∑ p ∈ Finset.Ico a N, weight z n N p * v p

theorem keep_ne_top (p : ℕ) : keep z n p ≠ ⊤ := by
  unfold keep
  split
  · exact lk_ne_top _
  · exact EReal.zero_ne_top

theorem sum_block (f : ℕ → EReal) {a W N : ℕ} (h : a + W ≤ N) :
    ∑ p ∈ Finset.Ico a N, f p = (∑ s : Fin W, f (a + s.val)) + ∑ p ∈ Finset.Ico (a + W) N, f p := by
  rw [← Finset.sum_Ico_consecutive f (Nat.le_add_right a W) h, Finset.sum_Ico_eq_sum_range, Nat.add_sub_cancel_left,
    Finset.sum_range]

theorem rest_block {a W : ℕ} (h : a + W ≤ N) :
    rest z n N a = (∑ s : Fin W, keep z n (a + s.val)) + rest z n N (a + W) := sum_block _ h

theorem rest_inside {a W : ℕ} (h : a + W ≤ N) (s : Fin W) :
    rest z n N (a + s.val + 1) = (∑ s' : Fin W, if s.val < s'.val then keep z n (a + s'.val) else 0) + rest z n N (a + W) := by
  unfold rest
  rw [← Finset.sum_Ico_consecutive _ (show a + s.val + 1 ≤ a + W by omega) h]
  congr 1
  rw [← Finset.sum_filter]
  refine (Finset.sum_bij (fun (s' : Fin W) _ => a + s'.val) ?_ ?_ ?_ ?_).symm
  · intro s' hs'
    have := (Finset.mem_filter.mp hs').2
    exact Finset.mem_Ico.mpr ⟨by omega, by omega⟩
  · intro x _ y _ e
    exact Fin.ext (by omega)
  · intro p hp
    have := Finset.mem_Ico.mp hp
    exact ⟨⟨p - a, by omega⟩, Finset.mem_filter.mpr ⟨Finset.mem_univ _, by show s.val < p - a; omega⟩, by show a + (p - a) = p; omega⟩
  · intro _ _; rfl

theorem attn_block (v : ℕ → EReal) {a W : ℕ} (h : a + W ≤ N) :
    attn z n N v a = attn z n N v (a + W) + ∑ s : Fin W, weight z n N (a + s.val) * v (a + s.val) := by
  unfold attn
  rw [sum_block _ h, add_comm]

/-- Keys after the query count for nothing. -/
theorem rest_after {a : ℕ} (h : n ≤ a) : rest z n N a = 0 :=
  Finset.sum_eq_zero fun p hp => if_neg (by have := (Finset.mem_Ico.mp hp).1; omega)
theorem attn_after (v : ℕ → EReal) {a : ℕ} (h : n ≤ a) : attn z n N v a = 0 :=
  Finset.sum_eq_zero fun p hp => by
    unfold weight
    rw [if_neg (by have := (Finset.mem_Ico.mp hp).1; omega), zero_mul]

/-- Where the keys from `a` on leave nothing, the older keys have no weight. -/
theorem attn_dead (v : ℕ → EReal) {b a : ℕ} (hba : b ≤ a) (haN : a ≤ N) (h : rest z n N a = ⊥) :
    attn z n N v b = attn z n N v a := by
  unfold attn
  rw [← Finset.sum_Ico_consecutive _ hba haN, Finset.sum_eq_zero, zero_add]
  intro p hp
  have hp := Finset.mem_Ico.mp hp
  have hr : rest z n N (p + 1) = ⊥ := by
    unfold rest at h ⊢
    rw [← Finset.sum_Ico_consecutive _ (show p + 1 ≤ a by omega) haN, h, EReal.add_bot]
  unfold weight
  rw [hr, EReal.add_bot]
  split
  · exact zero_mul _
  · exact zero_mul _

/-- Where the values are zero the keys add nothing. -/
theorem attn_zero (v : ℕ → EReal) {b a : ℕ} (hba : b ≤ a) (haN : a ≤ N) (h : ∀ p < a, v p = 0) :
    attn z n N v b = attn z n N v a := by
  unfold attn
  rw [← Finset.sum_Ico_consecutive _ hba haN, Finset.sum_eq_zero, zero_add]
  intro p hp
  rw [h p (Finset.mem_Ico.mp hp).2, mul_zero]

/-- Counting the keys from `t` on. -/
theorem attn_shift (v : ℕ → EReal) (t a : ℕ) :
    attn z (n + t) (N + t) v (a + t) = attn (fun p => z (p + t)) n N (fun p => v (p + t)) a := by
  have hk : ∀ p, keep z (n + t) (p + t) = keep (fun p => z (p + t)) n p := fun p => by
    unfold keep
    simp only [Nat.add_lt_add_iff_right]
  have hr : ∀ b, rest z (n + t) (N + t) (b + t) = rest (fun p => z (p + t)) n N b := fun b => by
    unfold rest
    rw [Finset.sum_Ico_add' (fun p => keep z (n + t) p) b N t |>.symm]
    exact Finset.sum_congr rfl fun p _ => hk p
  unfold attn
  rw [(Finset.sum_Ico_add' (fun p => weight z (n + t) (N + t) p * v p) a N t).symm]
  refine Finset.sum_congr rfl fun p _ => ?_
  unfold weight
  rw [show p + t + 1 = p + 1 + t by omega, hr]
  simp only [Nat.add_lt_add_iff_right]

/-- Only the scores and values of the keys in the list count. -/
theorem attn_congr {z' v v' : ℕ → EReal} (hz : ∀ p < N, z p = z' p) (hv : ∀ p < N, v p = v' p) (a : ℕ) :
    attn z n N v a = attn z' n N v' a := by
  have hr : ∀ b, rest z n N b = rest z' n N b := fun b => Finset.sum_congr rfl fun p hp => by
    unfold keep; rw [hz p (Finset.mem_Ico.mp hp).2]
  refine Finset.sum_congr rfl fun p hp => ?_
  have hp := (Finset.mem_Ico.mp hp).2
  unfold weight
  rw [hz p hp, hv p hp, hr]

/-- A constant that is a real number, not negative, comes out of a sum of products. -/
theorem sum_scale {ι : Type} (s : Finset ι) (f g : ι → EReal) (σ : ℝ) (hσ : 0 ≤ σ) :
    ∑ e ∈ s, f e * (σ : EReal) * g e = (∑ e ∈ s, f e * g e) * (σ : EReal) := by
  classical
  induction s using Finset.induction_on with
  | empty => simp
  | insert a s ha ih =>
    rw [Finset.sum_insert ha, Finset.sum_insert ha, ih, EReal.right_distrib_of_nonneg_of_ne_top (EReal.coe_nonneg.mpr hσ) (EReal.coe_ne_top σ),
      mul_right_comm]

/-- The signed comparison of two small words is the comparison of the numbers. -/
theorem slt_ofNat (a b : ℕ) (ha : a < 2 ^ 31) (hb : b < 2 ^ 31) :
    IntOp.cmpi .slt (BitVec.ofNat 32 a) (BitVec.ofNat 32 b) = BitVec.ofBool (decide (a < b)) := by
  have h : ∀ n : ℕ, n < 2 ^ 31 → (BitVec.ofNat 32 n).toInt = (n : ℤ) := fun n hn => by
    rw [BitVec.toInt_eq_toNat_cond, BitVec.toNat_ofNat, Nat.mod_eq_of_lt (by omega), if_pos (by omega)]
  show BitVec.ofBool (BitVec.slt _ _) = _
  rw [BitVec.slt, h a ha, h b hb]
  simp

end Cert.SBMath

end
-- ==== Proof.Band.Math.lean ====
module

public import proofs.«01_k».proof.Proof.SB.Math

@[expose] public section

/-!
# A softmax's weighted mean, divided after the sum or before it, over the keys that are seen.
-/

noncomputable section

namespace Cert.BandMath

open Idealize.ShloMosaic Cert.SBMath
open scoped BigOperators

theorem sum_seen {ι κ : Type} [Fintype ι] [Fintype κ] [DecidableEq κ] (A : Finset ι) (B : Finset κ) (f : ι → κ) (x : ι → EReal) (y : κ → EReal)
    (hf : ∀ a ∈ A, f a ∈ B) (hi : ∀ a ∈ A, ∀ a' ∈ A, f a = f a' → a = a') (hs : ∀ b ∈ B, ∃ a ∈ A, f a = b)
    (hxy : ∀ a ∈ A, x a = y (f a)) (hx : ∀ a, a ∉ A → x a = 0) (hy : ∀ b, b ∉ B → y b = 0) :
    ∑ a, x a = ∑ b, y b := by
  classical
  rw [← Finset.sum_subset (Finset.subset_univ A) (fun a _ h => hx a h), ← Finset.sum_subset (Finset.subset_univ B) (fun b _ h => hy b h)]
  exact Finset.sum_nbij f hf (fun a ha a' ha' h => hi a ha a' ha' h) (fun b hb => by obtain ⟨a, ha, h⟩ := hs b hb; exact ⟨a, ha, h⟩) hxy

/-- The weighted mean of the values of the keys seen, over either of two listings of the keys, the unseen ones at `⊥`. -/
theorem attn_eq {ι κ : Type} [Fintype ι] [Fintype κ] [DecidableEq κ] (A : Finset ι) (B : Finset κ) (f : ι → κ) (s u : ι → EReal) (t v : κ → EReal)
    (hf : ∀ a ∈ A, f a ∈ B) (hi : ∀ a ∈ A, ∀ a' ∈ A, f a = f a' → a = a') (hs : ∀ b ∈ B, ∃ a ∈ A, f a = b)
    (hst : ∀ a ∈ A, s a = t (f a)) (huv : ∀ a ∈ A, u a = v (f a)) (hsA : ∀ a, a ∉ A → s a = ⊥) (htB : ∀ b, b ∉ B → t b = ⊥)
    (hfin : ∀ b ∈ B, t b ≠ ⊤ ∧ t b ≠ ⊥) (hne : B.Nonempty) :
    (∑ a, Ideal.exp (s a - Finset.univ.sup s) * u a) * Ideal.div 1 (∑ a, Ideal.exp (s a - Finset.univ.sup s))
      = ∑ b, v b * Ideal.div (Ideal.exp (t b - Finset.univ.sup t)) (∑ b', Ideal.exp (t b' - Finset.univ.sup t)) := by
  classical
  have hM : Finset.univ.sup s = Finset.univ.sup t := by
    apply le_antisymm
    · refine Finset.sup_le fun a _ => ?_
      by_cases ha : a ∈ A
      · rw [hst a ha]; exact Finset.le_sup (Finset.mem_univ _)
      · rw [hsA a ha]; exact bot_le
    · refine Finset.sup_le fun b _ => ?_
      by_cases hb : b ∈ B
      · obtain ⟨a, ha, h⟩ := hs b hb
        rw [← h, ← hst a ha]; exact Finset.le_sup (Finset.mem_univ _)
      · rw [htB b hb]; exact bot_le
  obtain ⟨b0, hb0⟩ := hne
  have hMt : Finset.univ.sup t ≠ ⊤ := by
    refine ne_of_lt ((Finset.sup_lt_iff bot_lt_top).mpr fun b _ => ?_)
    by_cases hb : b ∈ B
    · exact lt_top_iff_ne_top.mpr (hfin b hb).1
    · rw [htB b hb]; exact bot_lt_top
  have hMb : Finset.univ.sup t ≠ ⊥ := fun h => (hfin b0 hb0).2 (le_bot_iff.mp (h ▸ Finset.le_sup (Finset.mem_univ b0)))
  rw [hM]
  generalize hm : Finset.univ.sup t = M at *
  have hbot : Ideal.exp (⊥ - M) = 0 := by rw [sub_eq_add_neg, EReal.bot_add]; rfl
  have hD : ∑ a, Ideal.exp (s a - M) = ∑ b, Ideal.exp (t b - M) :=
    sum_seen A B f _ _ hf hi hs (fun a ha => by rw [hst a ha]) (fun a ha => by rw [hsA a ha, hbot]) (fun b hb => by rw [htB b hb, hbot])
  have hN : ∑ a, Ideal.exp (s a - M) * u a = ∑ b, Ideal.exp (t b - M) * v b :=
    sum_seen A B f _ _ hf hi hs (fun a ha => by rw [hst a ha, huv a ha]) (fun a ha => by rw [hsA a ha, hbot, zero_mul])
      (fun b hb => by rw [htB b hb, hbot, zero_mul])
  rw [hD, hN]
  have hre : ∀ b, ∃ g : ℝ, 0 ≤ g ∧ Ideal.exp (t b - M) = (g : EReal) := fun b => by
    by_cases hb : b ∈ B
    · refine ⟨Real.exp ((t b).toReal - M.toReal), (Real.exp_pos _).le, ?_⟩
      conv_lhs => rw [← EReal.coe_toReal (hfin b hb).1 (hfin b hb).2, ← EReal.coe_toReal hMt hMb, ← EReal.coe_sub]
      rfl
    · exact ⟨0, le_rfl, by rw [htB b hb, hbot]; rfl⟩
  choose g hg0 hg using hre
  have hgpos : 0 < ∑ b, g b := by
    refine Finset.sum_pos' (fun b _ => hg0 b) ⟨b0, Finset.mem_univ _, lt_of_le_of_ne (hg0 b0) fun h => ?_⟩
    have h1 := hg b0
    rw [← h, ← EReal.coe_toReal (hfin b0 hb0).1 (hfin b0 hb0).2, ← EReal.coe_toReal hMt hMb, ← EReal.coe_sub] at h1
    have h2 : ((Real.exp ((t b0).toReal - M.toReal) : ℝ) : EReal) = ((0 : ℝ) : EReal) := h1
    exact (Real.exp_pos _).ne' (EReal.coe_injective h2)
  have hDg : ∑ b, Ideal.exp (t b - M) = ((∑ b, g b : ℝ) : EReal) := by
    rw [Finset.sum_congr rfl fun b _ => hg b]
    exact (map_sum (⟨⟨fun x : ℝ => (x : EReal), EReal.coe_zero⟩, EReal.coe_add⟩ : ℝ →+ EReal) g Finset.univ).symm
  have hdiv : ∀ x : EReal, Ideal.div x (∑ b, Ideal.exp (t b - M)) = x * (((∑ b, g b)⁻¹ : ℝ) : EReal) := fun x => by
    rw [hDg]
    unfold Ideal.div
    rw [if_neg (fun h => hgpos.ne' (EReal.coe_eq_zero.mp h)), EReal.coe_inv]
  rw [hdiv, one_mul, ← sum_scale _ _ _ _ (inv_nonneg.mpr hgpos.le)]
  exact Finset.sum_congr rfl fun b _ => by rw [hdiv, mul_comm]

/-- A largest value, as a supremum. -/
theorem fold_max_sup {n : ℕ} (s : Fin n → EReal) : Finset.fold max ⊥ s Finset.univ = Finset.univ.sup s := rfl

/-- A sum of products of finite numbers is finite. -/
theorem sum_mul_fin {ι : Type} [Fintype ι] (x y : ι → EReal) (hx : ∀ i, x i ≠ ⊤ ∧ x i ≠ ⊥) (hy : ∀ i, y i ≠ ⊤ ∧ y i ≠ ⊥) :
    ∃ r : ℝ, ∑ i, x i * y i = (r : EReal) := by
  refine ⟨∑ i, (x i).toReal * (y i).toReal, ?_⟩
  rw [Finset.sum_congr rfl fun i _ => show x i * y i = (((x i).toReal * (y i).toReal : ℝ) : EReal) by
    rw [EReal.coe_mul, EReal.coe_toReal (hx i).1 (hx i).2, EReal.coe_toReal (hy i).1 (hy i).2]]
  exact (map_sum (⟨⟨fun x : ℝ => (x : EReal), EReal.coe_zero⟩, EReal.coe_add⟩ : ℝ →+ EReal) (fun i => (x i).toReal * (y i).toReal) Finset.univ).symm

end Cert.BandMath

end
-- ==== Proof.Band.Chunk.lean ====
module

public import proofs.«01_k».proof.Proof.Band.Body
public import proofs.«01_k».proof.Proof.Band.Math
public import Idealize.ShloMosaic.Lib.Pointwise
public import Idealize.ShloMosaic.Lib.Tactic.CleanTypes

@[expose] public section

/-!
# The band attention's body: a chunk's results, read at an index.
-/

set_option maxRecDepth 16384

noncomputable section

namespace Cert.Kernel11Ideal.Band

open Cert.Kernel11Ideal Cert.Kernel11Ideal.Gen Cert.BandMath
open Idealize.ShloMosaic Idealize.ShloMosaic.TcCoe
open scoped BigOperators

section
variable {F : FTy → Type} [FloatOps F]

/-- A chunk's queries, the four heads one under another. -/
def catK (x : FVec F S64x512 .bf16) : FVec F S256x128 .bf16 :=
  concatenate S256x128 0 [⟨S64x128, extractStridedSlice S64x128 ![0, 0] (shapeCast S64x512 x shapeCasts_S64x512_S64x512) slices_S64x512_o0_0_S64x128⟩,
    ⟨S64x128, extractStridedSlice S64x128 ![0, 128] (shapeCast S64x512 x shapeCasts_S64x512_S64x512) slices_S64x512_o0_128_S64x128⟩,
    ⟨S64x128, extractStridedSlice S64x128 ![0, 256] (shapeCast S64x512 x shapeCasts_S64x512_S64x512) slices_S64x512_o0_256_S64x128⟩,
    ⟨S64x128, extractStridedSlice S64x128 ![0, 384] (shapeCast S64x512 x shapeCasts_S64x512_S64x512) slices_S64x512_o0_384_S64x128⟩]
    concatenates_S64x128_S64x128_S64x128_S64x128_S256x128_d0

/-- The first column that a chunk sees. -/
def thrK (k : ℕ) : BitVec 32 := Scalar.maxsi 64#32 (Scalar.muli (Scalar.subi 9#32 (Scf.iv 0#32 1#32 k)) 64#32)

/-- The scores. -/
def scoreK (q : FVec F S256x128 .bf16) (w : Vec F S1x640x128 .bf16) (x3 : Vec F S4x64x640 .f32) (k : ℕ) : FVec F S256x640 .f32 :=
  select (cmpi .sge cols (broadcast S256x640 (thrK k)))
    (addf (matmul dot_S256x128_S640x128_S256x640_1_1_0_0_n_n none q (shapeCast S640x128 w shapeCasts_S1x640x128_S640x128) (constant S256x640 .f32 0x00000000#32)) (k0_pay1 x3))
    (broadcast S256x640 (Scalar.ofBits .f32 0xFF800000#32))

/-- The largest scores. -/
def maxK (s : FVec F S256x640 .f32) : FVec F S256 .f32 := multiReduction .maximumf [1] S256 s 0xFF800000#32 reduces_S256x640_S256 (.inl rfl) rfl

/-- The powers. -/
def expK (s : FVec F S256x640 .f32) : FVec F S256x640 .f32 :=
  exp (subf s (broadcastTo S256x640 (shapeCast S256x1 (maxK s) shapeCasts_S256_S256x1) broadcasts_S256x1_S256x640))

/-- The weighted means. -/
def meanK (e : FVec F S256x640 .f32) (w : Vec F S1x640x128 .bf16) : FVec F S256x128 .f32 :=
  mulf (matmul dot_S256x640_S640x128_S256x128_1_0_0_1_n_n none (truncf .bf16 e bitsLt_bf16_f32) (shapeCast S640x128 w shapeCasts_S1x640x128_S640x128) (constant S256x128 .f32 0x00000000#32))
    (broadcastTo S256x128 (divf (broadcast S256x1 (Scalar.ofBits .f32 0x3F800000#32))
      (shapeCast S256x1 (multiReduction .add [1] S256 e 0x00000000#32 reduces_S256x640_S256 (.inl rfl) rfl) shapeCasts_S256_S256x1)) broadcasts_S256x1_S256x128)

theorem chunkF_eq (x0 : Vec F S4096x512 .bf16) (x1 x2 : Vec F S1x4672x128 .bf16) (x3 : Vec F S4x64x640 .f32) (k : Fin k0_t1_loop.trips) :
    chunkF x0 x1 x2 x3 k = meanK (expK (scoreK (catK (rowsF x0 k)) (winF x1 k) x3 k.val)) (winF x2 k) := rfl

end

theorem thr_le : ∀ (k : Fin 64) (j : Fin 640), IntOp.cmpi .sge (BitVec.ofNat 32 j.val) (Scalar.maxsi 64#32 (Scalar.muli (Scalar.subi 9#32 (BitVec.ofNat 32 k.val)) 64#32))
    = BitVec.ofBool (decide (max 64 ((9 - k.val) * 64) ≤ j.val)) := by decide +kernel

theorem winF_apply (x : Vec Ideal S1x4672x128 .bf16) (k : Fin k0_t1_loop.trips) (j : Fin 640) (d : Fin 128) :
    winF x k (ix3 0 j d) = x (ix3 0 ⟨64 * k.val + j.val, by have := lt64 k; omega⟩ d) := by
  unfold winF VecWindow.window
  congr 1
  have h := off1_eq k
  funext a
  match a with
  | ⟨0, _⟩ => exact Fin.ext (show k0_off1 k 0 + 1 * 0 = 0 by rw [h]; rfl)
  | ⟨1, _⟩ => exact Fin.ext (show k0_off1 k 1 + 1 * j.val = 64 * k.val + j.val by rw [h]; show 64 * k.val + 1 * j.val = _; omega)
  | ⟨2, _⟩ => exact Fin.ext (show k0_off1 k 2 + 1 * d.val = d.val by rw [h]; show 0 + 1 * d.val = _; omega)

theorem rowsF_apply (x : Vec Ideal S4096x512 .bf16) (k : Fin k0_t1_loop.trips) (q : Fin 64) (d : Fin 512) :
    rowsF x k (ix2 q d) = x (ix2 ⟨64 * k.val + q.val, by have := lt64 k; omega⟩ d) := by
  unfold rowsF VecWindow.window
  congr 1
  have h := off2_eq k
  funext a
  match a with
  | ⟨0, _⟩ => exact Fin.ext (show k0_off2 k 0 + 1 * q.val = 64 * k.val + q.val by rw [h]; show 64 * k.val + 1 * q.val = _; omega)
  | ⟨1, _⟩ => exact Fin.ext (show k0_off2 k 1 + 1 * d.val = d.val by rw [h]; show 0 + 1 * d.val = _; omega)

theorem catK_apply (x : FVec Ideal S64x512 .bf16) (r : Fin 256) (d : Fin 128) :
    (catK x (ix2 r d) : EReal) = x (ix2 ⟨r.val % 64, by omega⟩ ⟨r.val / 64 * 128 + d.val, by omega⟩) := by
  pointwise [catK]
  split_ifs <;> congr 2 <;> first | exact Fin.ext (by dsimp only; omega) | skip

theorem cols_apply (r : Fin 256) (j : Fin 640) : cols (ix2 r j) = BitVec.ofNat 32 j.val := by
  pointwise [cols]

theorem pay1_apply (x3 : Vec Ideal S4x64x640 .f32) (r : Fin 256) (j : Fin 640) :
    (k0_pay1 x3 (ix2 r j) : EReal) = x3 (ix3 ⟨r.val / 64, by omega⟩ ⟨r.val % 64, by omega⟩ j) := by
  pointwise [k0_pay1]

theorem thrK_le (k : ℕ) (hk : k < 64) (j : Fin 640) : IntOp.cmpi .sge (BitVec.ofNat 32 j.val) (thrK k) = BitVec.ofBool (decide (max 64 ((9 - k) * 64) ≤ j.val)) := by
  have e : (Scf.iv 0#32 1#32 k : BitVec 32) = BitVec.ofNat 32 k := by
    apply BitVec.eq_of_toNat_eq
    rw [WordArith.toNat_iv_zero_one _ (by omega), BitVec.toNat_ofNat]
    omega
  unfold thrK
  rw [e]
  exact thr_le ⟨k, hk⟩ j

theorem ninf : Ideal.ofBits .f32 0xFF800000#32 = (⊥ : EReal) := by
  simp [Ideal.ofBits, Ideal.ieee]

theorem scoreK_apply (q : FVec Ideal S256x128 .bf16) (w : Vec Ideal S1x640x128 .bf16) (x3 : Vec Ideal S4x64x640 .f32) (k : ℕ) (hk : k < 64) (r : Fin 256) (j : Fin 640) :
    (scoreK q w x3 k (ix2 r j) : EReal) = if max 64 ((9 - k) * 64) ≤ j.val then
      (∑ d : Fin 128, q (ix2 r d) * w (ix3 0 j d)) + x3 (ix3 ⟨r.val / 64, by omega⟩ ⟨r.val % 64, by omega⟩ j) else ⊥ := by
  have h := thrK_le k hk j
  pointwise [scoreK, pay1_apply, cols_apply, h]
  rw [ninf]

theorem maxK_apply (s : FVec Ideal S256x640 .f32) (r : Fin 256) :
    (maxK s (ix1 r) : EReal) = Finset.univ.sup fun j : Fin 640 => (s (ix2 r j) : EReal) := by
  pointwise [maxK]
  rw [ninf, fold_max_sup]

theorem expK_apply (s : FVec Ideal S256x640 .f32) (r : Fin 256) (j : Fin 640) :
    (expK s (ix2 r j) : EReal) = Ideal.exp (s (ix2 r j) - Finset.univ.sup fun j' : Fin 640 => (s (ix2 r j') : EReal)) := by
  pointwise [expK, maxK_apply]

theorem meanK_apply (e : FVec Ideal S256x640 .f32) (w : Vec Ideal S1x640x128 .bf16) (r : Fin 256) (d : Fin 128) :
    (meanK e w (ix2 r d) : EReal) = (∑ j : Fin 640, e (ix2 r j) * w (ix3 0 j d)) * Ideal.div 1 (∑ j : Fin 640, e (ix2 r j)) := by
  pointwise [meanK]

end Cert.Kernel11Ideal.Band

end
-- ==== Proof.Band.Host.lean ====
module

public import proofs.«01_k».proof.Proof.Band.Chunk
public import proofs.«01_k».proof.Proof.SB.Math
public import Idealize.ShloMosaic.Lib.Pipeline.ValueKit
public import Idealize.ShloMosaic.Lib.Pointwise
public import Idealize.ShloMosaic.Lib.Tactic.CleanTypes

@[expose] public section

/-!
# The band attention: the arrays that the launch finds.
-/

set_option maxRecDepth 16384

noncomputable section

namespace Cert.Kernel11Ideal.Band

open Cert.Kernel11Ideal Cert.Kernel11Ideal.Gen Cert.BandMath
open Idealize.ShloMosaic Idealize.ShloMosaic.TcCoe
open scoped BigOperators

variable (m : (ℓ : Loc nD τ sig) → Buf (Elt Ideal) ℓ) (c : Dev nD)

abbrev argQ : FVec Ideal S16384x4096 .f32 := m ((c.tc : Thread nD τ).loc main_arg0)
abbrev argK : FVec Ideal S4x4096x1024 .f32 := m ((c.tc : Thread nD τ).loc main_arg1)
abbrev argV : FVec Ideal S4x4096x1024 .f32 := m ((c.tc : Thread nD τ).loc main_arg2)
abbrev argR : FVec Ideal S1x257x32 .f32 := m ((c.tc : Thread nD τ).loc main_arg3)

/-- The scale. -/
abbrev scl : EReal := Ideal.ofBits .f32 0x3DB504F3#32

/-- The queries, scaled. -/
theorem V_q (R : Fin 16384) (C : Fin 4096) : (V m c main_v20 (ix2 R C) : EReal) = argQ m c (ix2 R C) * scl := by
  have e : V m c main_v20 = truncf .bf16 (mulf (argQ m c)
    (broadcastInDim S16384x4096 ![] bcast_S_S16384x4096 (constant S_ .f32 0x3DB504F3#32))) bitsLt_bf16_f32 := by
    unfold V
    after_results
    rfl
  rw [e]
  pointwise

/-- Rows of zeros in front. -/
def padF (x : FVec Ideal S4x4096x1024 .f32) : FVec Ideal S4x4672x1024 .bf16 :=
  pad S4x4672x1024 ![0, 576, 0] ![0, 0, 0] ![0, 0, 0] (truncf .bf16 x bitsLt_bf16_f32) (sitofp .bf16 (constantI S_ 32 0#32)) pads_S4x4096x1024_S4x4672x1024_000_57600_000 h_S_

theorem padF_apply (x : FVec Ideal S4x4096x1024 .f32) (b : Fin 4) (j : Fin 4672) (d : Fin 1024) (p : Fin 4096) (h : j.val = p.val + 576) :
    (padF x (ix3 b j d) : EReal) = x (ix3 b p d) := by
  pointwise [padF]
  rw [dif_pos ⟨by omega, by omega⟩]
  exact congrArg (fun z : Fin 4096 => (x (ix3 b z d) : EReal)) (Fin.ext (by show j.val - 576 = p.val; omega))

theorem V_k : V m c main_v1 = padF (argK m c) := by
  unfold V padF
  rfl
theorem V_v : V m c main_v3 = padF (argV m c) := by
  unfold V padF
  rfl

/-- The table's rows by distance. -/
def tblF (r : FVec Ideal S1x257x32 .f32) : FVec Ideal S703x32 .f32 :=
  Host.gather gather_S257x32_S703x1_S703x32_1_0_n_n_0_1_132 (shapeCast S257x32 r shapeCasts_S1x257x32_S257x32)
    (broadcastInDim S703x1 ![0] bcast_S703_S703x1_0 (select (constantI S703 1 0#1) (addi (fun i => lit0 (S703.rowMajor i)) (broadcastInDim S703 ![] bcast_S_S703 (constantI S_ 32 257#32))) (fun i => lit0 (S703.rowMajor i))))

/-- The bias. -/
def biasF (t : FVec Ideal S703x32 .f32) : FVec Ideal S32x64x640 .f32 :=
  Host.reverse [1] (extractStridedSlice S32x64x640 ![0, 0, 0] (shapeCast S32x64x704 (extractStridedSlice S32x45056 ![0, 0]
    (shapeCast S32x45695 (broadcastInDim S1x32x65x703 ![0, 1, 2, 3] bcast_S1x32x1x703_S1x32x65x703_0_1_2_3
      (shapeCast S1x32x1x703 (transpose S32x703 [1, 0] t transposes_S703x32_S32x703_1_0) shapeCasts_S32x703_S1x32x1x703))
      shapeCasts_S1x32x65x703_S32x45695) slices_S32x45695_S32x45056_0_0) shapeCasts_S32x45056_S32x64x704) slices_S32x64x704_S32x64x640_0_0_0)

theorem V_b : V m c main_v17 = biasF (tblF (argR m c)) := by
  unfold V biasF tblF
  after_results
  rfl

theorem lit_place : ∀ i : Fin 703, min (lit0 (S703.rowMajor (ix1 i))).toInt.toNat 256 = min (767 - i.val) 256 := by decide +kernel

theorem biasF_apply (t : FVec Ideal S703x32 .f32) (h : Fin 32) (q : Fin 64) (j : Fin 640) :
    (biasF t (ix3 h q j) : EReal) = t (ix2 ⟨63 - q.val + j.val, by omega⟩ h) := by
  pointwise [biasF]
  exact congrArg (fun z : Fin 703 => (t (ix2 z h) : EReal)) (Fin.ext (by
    show ((64 - (q.val + 1)) * 704 + j.val) % 703 = 63 - q.val + j.val
    omega))

theorem gather_apply {α : Type} (x : S257x32.Idx → α) (idx : IVec S703x1 32) (i : Fin 703) (h : Fin 32) :
    Host.gather gather_S257x32_S703x1_S703x32_1_0_n_n_0_1_132 x idx (ix2 i h) = x (ix2 ⟨min (idx (ix2 i 0)).toInt.toNat 256, by omega⟩ h) := by
  unfold Host.gather
  congr 1
  funext e
  match e with
  | ⟨0, _⟩ =>
    apply Fin.ext
    show min (idx _).toInt.toNat 256 + 0 = min (idx (ix2 i 0)).toInt.toNat 256
    rw [Nat.add_zero]
    congr 3
    congr 1
    funext b
    match b with
    | ⟨0, _⟩ => rfl
    | ⟨1, _⟩ => rfl
  | ⟨1, _⟩ =>
    apply Fin.ext
    show 0 + 0 + h.val = h.val
    omega

theorem tblF_apply (r : FVec Ideal S1x257x32 .f32) (i : Fin 703) (h : Fin 32) :
    (tblF r (ix2 i h) : EReal) = r (ix3 0 ⟨min (767 - i.val) 256, by omega⟩ h) := by
  have e := lit_place i
  unfold tblF
  rw [gather_apply]
  pointwise
  exact congrArg (fun z : Fin 257 => (r (ix3 0 z h) : EReal)) (Fin.ext e)

end Cert.Kernel11Ideal.Band

end
-- ==== Proof.Band.RefDef.lean ====
module

public import proofs.«01_k».proof.Proof.Gen.Reference11Ideal.Run
public import proofs.«01_k».proof.Proof.SB.Math
public import Idealize.ShloMosaic.Lib.Pointwise
public import Idealize.ShloMosaic.Lib.Tactic.CleanTypes

@[expose] public section

/-!
# The band attention's reference: its parts.
-/

set_option maxRecDepth 16384

noncomputable section

namespace Cert.Reference11Ideal.Band

open Cert.Reference11Ideal Cert.Reference11Ideal.Gen Cert.SBMath
open Idealize.ShloMosaic Idealize.ShloMosaic.TcCoe
open scoped BigOperators

variable {F : FTy → Type} [FloatOps F]

/-- The chunk that a position lies in. -/
def chunkR : IVec S4096 32 :=
  (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32)))))

/-- Which keys a query sees. -/
def maskR : IVec S4096x4096 1 :=
  (andi (cmpi .sle (broadcastInDim S4096x4096 ![0, 1] bcast_S1x4096_S4096x4096_0_1 (broadcastInDim S1x4096 ![1] bcast_S4096_S1x4096_1 chunkR)) (broadcastInDim S4096x4096 ![0, 1] bcast_S4096x1_S4096x4096_0_1 (broadcastInDim S4096x1 ![0] bcast_S4096_S4096x1_0 chunkR))) (cmpi .sge (broadcastInDim S4096x4096 ![0, 1] bcast_S1x4096_S4096x4096_0_1 (broadcastInDim S1x4096 ![1] bcast_S4096_S1x4096_1 chunkR)) (broadcastInDim S4096x4096 ![0, 1] bcast_S4096x1_S4096x4096_0_1 (subi (broadcastInDim S4096x1 ![0] bcast_S4096_S4096x1_0 chunkR) (broadcastInDim S4096x1 ![] bcast_S_S4096x1 (constantI S_ 32 8#32))))))

/-- The place in the table of a query and a key. -/
def idxR : IVec S4096x4096 32 :=
  (addi (minsi (broadcastInDim S4096x4096 ![] bcast_S_S4096x4096 (id (constantI S_ 32 128#32))) (maxsi (broadcastInDim S4096x4096 ![] bcast_S_S4096x4096 (id (constantI S_ 32 4294967168#32))) (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))) (broadcastInDim S4096x4096 ![] bcast_S_S4096x4096 (constantI S_ 32 128#32)))

def selR : IVec S4096x4096 32 :=
  (select (cmpi .slt idxR (broadcastInDim S4096x4096 ![] bcast_S_S4096x4096 (constantI S_ 32 0#32))) (addi idxR (broadcastInDim S4096x4096 ![] bcast_S_S4096x4096 (constantI S_ 32 257#32))) idxR)

/-- The bias of a query and a key. -/
def biasR (r : FVec F S1x257x32 .f32) : FVec F S8x4x4096x4096 .f32 :=
  (transpose S8x4x4096x4096 [2, 3, 0, 1] (shapeCast _ (Host.gather gather_S257x32_S4096x4096x1_S4096x4096x32_2_0_n_n_0_2_132 (shapeCast _ r shapeCasts_S1x257x32_S257x32) (broadcastInDim S4096x4096x1 ![0, 1] bcast_S4096x4096_S4096x4096x1_0_1 selR)) shapeCasts_S4096x4096x32_S4096x4096x8x4) transposes_S4096x4096x8x4_S8x4x4096x4096_2_3_0_1)

/-- The scores. -/
def scoreR (q : FVec F S16384x4096 .f32) (k : FVec F S4x4096x1024 .f32) (r : FVec F S1x257x32 .f32) : FVec F S4x8x4x4096x4096 .f32 :=
  (select (broadcastInDim S4x8x4x4096x4096 ![3, 4] bcast_S4096x4096_S4x8x4x4096x4096_3_4 maskR) (addf (mulf (transpose S4x8x4x4096x4096 [0, 1, 4, 3, 2] (Host.dotGeneral dot_S4x4096x8x128_S4x4096x8x4x128_S4x8x4096x4096x4_3_4_1_13_02_02 none (shapeCast _ k shapeCasts_S4x4096x1024_S4x4096x8x128) (shapeCast _ q shapeCasts_S16384x4096_S4x4096x8x4x128)) transposes_S4x8x4096x4096x4_S4x8x4x4096x4096_0_1_4_3_2) (broadcastInDim S4x8x4x4096x4096 ![] bcast_S_S4x8x4x4096x4096 (constant S_ .f32 0x3DB504F3#32))) (broadcastInDim S4x8x4x4096x4096 ![0, 1, 2, 3, 4] bcast_S1x8x4x4096x4096_S4x8x4x4096x4096_0_1_2_3_4 (broadcastInDim S1x8x4x4096x4096 ![1, 2, 3, 4] bcast_S8x4x4096x4096_S1x8x4x4096x4096_1_2_3_4 (biasR r)))) (broadcastInDim S4x8x4x4096x4096 ![] bcast_S_S4x8x4x4096x4096 (id (constant S_ .f32 0xFF800000#32))))

/-- The largest scores. -/
def maxR (s : FVec F S4x8x4x4096x4096 .f32) : FVec F S4x8x4x4096 .f32 :=
  (maximumf (broadcastInDim S4x8x4x4096 ![] bcast_S_S4x8x4x4096 (constant S_ .f32 0xFF800000#32)) (Host.reduce FloatOps.maximumf s (constant S_ .f32 0xFF800000#32) reducesTo_S4x8x4x4096x4096_S4x8x4x4096_d4 h_S_))

/-- The powers of the scores less the largest. -/
def expR (s : FVec F S4x8x4x4096x4096 .f32) : FVec F S4x8x4x4096x4096 .f32 :=
  (Host.exp (subf s (broadcastInDim S4x8x4x4096x4096 ![0, 1, 2, 3, 4] bcast_S4x8x4x4096x1_S4x8x4x4096x4096_0_1_2_3_4 (broadcastInDim S4x8x4x4096x1 ![0, 1, 2, 3] bcast_S4x8x4x4096_S4x8x4x4096x1_0_1_2_3 (maxR s)))))

/-- The weighted means of the values. -/
def meanR (e : FVec F S4x8x4x4096x4096 .f32) (v : FVec F S4x4096x1024 .f32) : FVec F S16384x4096 .bf16 :=
  truncf .bf16 (shapeCast _ (transpose S4x4096x8x4x128 [0, 4, 1, 3, 2] (Host.dotGeneral dot_S4x4096x8x128_S4x8x4x4096x4096_S4x8x128x4x4096_1_4_3_23_02_01 none (shapeCast _ v shapeCasts_S4x4096x1024_S4x4096x8x128) (Host.divf e (broadcastInDim S4x8x4x4096x4096 ![0, 1, 2, 3, 4] bcast_S4x8x4x4096x1_S4x8x4x4096x4096_0_1_2_3_4 (broadcastInDim S4x8x4x4096x1 ![0, 1, 2, 3] bcast_S4x8x4x4096_S4x8x4x4096x1_0_1_2_3 (Host.reduceAdd e (constant S_ .f32 0x00000000#32) reducesTo_S4x8x4x4096x4096_S4x8x4x4096_d4 h_S_))))) transposes_S4x8x128x4x4096_S4x4096x8x4x128_0_4_1_3_2) shapeCasts_S4x4096x8x4x128_S16384x4096) bitsLt_bf16_f32

/-- The results. -/
def refF (q : FVec F S16384x4096 .f32) (k v : FVec F S4x4096x1024 .f32) (r : FVec F S1x257x32 .f32) : FVec F S16384x4096 .bf16 :=
  meanR (expR (scoreR q k r)) v

set_option maxHeartbeats 4000000 in
theorem res_eq (m : (ℓ : Loc nD τ sig) → Buf (Elt F) ℓ) (c : Dev nD) : Value.res_main_v58 m c
    = refF (m ((c.tc : Thread nD τ).loc main_arg0)) (m ((c.tc : Thread nD τ).loc main_arg1)) (m ((c.tc : Thread nD τ).loc main_arg2))
        (m ((c.tc : Thread nD τ).loc main_arg3)) := by
  unfold Value.res_main_v58 refF meanR expR maxR scoreR biasR selR idxR maskR chunkR
  rfl

end Cert.Reference11Ideal.Band

end
-- ==== Proof.Band.Ref.lean ====
module

public import proofs.«01_k».proof.Proof.Band.RefDef
public import proofs.«01_k».proof.Proof.Band.Math
public import proofs.«01_k».proof.Proof.SB.Math
public import Idealize.ShloMosaic.Lib.Pointwise
public import Idealize.ShloMosaic.Lib.Tactic.CleanTypes

@[expose] public section

/-!
# The band attention's reference: read at an index.
-/

set_option maxRecDepth 16384

noncomputable section

namespace Cert.Reference11Ideal.Band

open Cert.Reference11Ideal Cert.Reference11Ideal.Gen Cert.SBMath Cert.BandMath
open Idealize.ShloMosaic Idealize.ShloMosaic.TcCoe
open scoped BigOperators

theorem chunkR_apply (p : Fin 4096) : chunkR (ix1 p) = BitVec.ofNat 32 (p.val / 64) := by
  pointwise [chunkR]
  revert p
  decide +kernel

theorem mask_word : ∀ a b : Fin 64, (IntOp.andi (IntOp.cmpi .sle (BitVec.ofNat 32 b.val) (BitVec.ofNat 32 a.val)) (IntOp.cmpi .sge (BitVec.ofNat 32 b.val) (IntOp.subi (BitVec.ofNat 32 a.val) 8#32))) =
    BitVec.ofBool (decide (b.val ≤ a.val ∧ a.val ≤ b.val + 8)) := by decide +kernel

theorem maskR_apply (i j : Fin 4096) : maskR (ix2 i j) = BitVec.ofBool (decide (j.val / 64 ≤ i.val / 64 ∧ i.val / 64 ≤ j.val / 64 + 8)) := by
  pointwise [maskR, chunkR_apply]
  exact mask_word ⟨i.val / 64, by omega⟩ ⟨j.val / 64, by omega⟩

/-- The place in the table, by the distance of the query and the key. -/
def place (t : ℕ) : Fin 257 := ⟨min (t + 64) 256, by omega⟩

def selW (w : BitVec 32) : BitVec 32 :=
  Scalar.select (IntOp.cmpi .slt (IntOp.addi (IntOp.minsi 128#32 (IntOp.maxsi 4294967168#32 w)) 128#32) 0#32)
    (IntOp.addi (IntOp.addi (IntOp.minsi 128#32 (IntOp.maxsi 4294967168#32 w)) 128#32) 257#32)
    (IntOp.addi (IntOp.minsi 128#32 (IntOp.maxsi 4294967168#32 w)) 128#32)

theorem selW_val : ∀ t : Fin 704, min (selW (BitVec.ofNat 32 t.val - 64#32)).toInt.toNat 256 = min (t.val + 64) 256 := by
  decide +kernel

theorem sub_word (i j t : ℕ) (hi : i < 4096) (hj : j < 4096) (ht : t < 704) (h : i + 64 = j + t) :
    BitVec.ofNat 32 i - BitVec.ofNat 32 j = BitVec.ofNat 32 t - 64#32 := by
  apply BitVec.eq_of_toNat_eq
  simp only [BitVec.toNat_sub, BitVec.toNat_ofNat]
  omega

theorem selR_apply (i j : Fin 4096) : selR (ix2 i j) = selW (BitVec.ofNat 32 i.val - BitVec.ofNat 32 j.val) := by
  pointwise [selR, idxR]
  rfl

theorem gather_apply {α : Type} (x : S257x32.Idx → α) (idx : IVec S4096x4096x1 32) (i j : Fin 4096) (h : Fin 32) :
    Host.gather gather_S257x32_S4096x4096x1_S4096x4096x32_2_0_n_n_0_2_132 x idx (ix3 i j h) = x (ix2 ⟨min (idx (ix3 i j 0)).toInt.toNat 256, by omega⟩ h) := by
  unfold Host.gather
  congr 1
  funext e
  match e with
  | ⟨0, _⟩ =>
    apply Fin.ext
    show min (idx _).toInt.toNat 256 + 0 = min (idx (ix3 i j 0)).toInt.toNat 256
    rw [Nat.add_zero]
    congr 3
    congr 1
    funext b
    match b with
    | ⟨0, _⟩ => rfl
    | ⟨1, _⟩ => rfl
    | ⟨2, _⟩ => rfl
  | ⟨1, _⟩ =>
    apply Fin.ext
    show 0 + 0 + h.val = h.val
    omega

set_option maxHeartbeats 4000000 in
theorem biasR_apply (r : FVec Ideal S1x257x32 .f32) (h : Fin 8) (g : Fin 4) (i j : Fin 4096) (t : ℕ) (ht : t < 704) (hij : i.val + 64 = j.val + t) :
    (biasR r (ix4 h g i j) : EReal) = r (ix3 0 (place t) ⟨h.val * 4 + g.val, by omega⟩) := by
  pointwise [biasR, gather_apply, selR_apply]
  have e : min (selW (BitVec.ofNat 32 i.val - BitVec.ofNat 32 j.val)).toInt.toNat 256 = min (t + 64) 256 :=
    (congrArg (fun z => min (selW z).toInt.toNat 256) (sub_word i.val j.val t i.isLt j.isLt ht hij)).trans (selW_val ⟨t, ht⟩)
  exact congrArg (fun z : Fin 257 => (r (ix3 0 z ⟨h.val * 4 + g.val, by omega⟩) : EReal)) (Fin.ext e)

theorem ninf : Ideal.ofBits .f32 0xFF800000#32 = (⊥ : EReal) := by
  simp [Ideal.ofBits, Ideal.ieee]

theorem reduce_max {n0 n1 n2 n3 n4 : ℕ} {u : Shape} (x : FVec Ideal ⟨5, ![n0, n1, n2, n3, n4]⟩ .f32) (v : FVec Ideal u .f32)
    (w : FVec Ideal ⟨4, ![n0, n1, n2, n3]⟩ .f32)
    (h : (⟨5, ![n0, n1, n2, n3, n4]⟩ : Shape).ReducesTo [4] ⟨4, ![n0, n1, n2, n3]⟩) (hu : 0 < u.numel) (a : Fin n0) (b : Fin n1) (c : Fin n2) (d : Fin n3)
    (hv : (v (Shape.Idx.first hu) : EReal) = ⊥) (hw : (w (ix4 a b c d) : EReal) = ⊥) :
    (maximumf w (Host.reduce FloatOps.maximumf x v h hu) (ix4 a b c d) : EReal) = Finset.univ.sup fun e : Fin n4 => (x (ix5 a b c d e) : EReal) := by
  have e : Host.reduce (FloatOps.maximumf (F := Ideal) (φ := .f32)) x v h hu (ix4 a b c d)
      = Finset.fold max (v (Shape.Idx.first hu) : EReal) (fun e : Fin n4 => (x (ix5 a b c d e) : EReal)) Finset.univ := by
    pointwise
  rw [hv, fold_max_sup] at e
  have e' : (maximumf w (Host.reduce FloatOps.maximumf x v h hu) (ix4 a b c d) : EReal)
      = max (w (ix4 a b c d) : EReal) (Host.reduce (FloatOps.maximumf (F := Ideal) (φ := .f32)) x v h hu (ix4 a b c d) : EReal) := rfl
  rw [e', hw, e]
  exact max_eq_right bot_le

theorem maxR_apply (s : FVec Ideal S4x8x4x4096x4096 .f32) (b : Fin 4) (h : Fin 8) (g : Fin 4) (i : Fin 4096) :
    (maxR s (ix4 b h g i) : EReal) = Finset.univ.sup fun e : Fin 4096 => (s (ix5 b h g i e) : EReal) := by
  unfold maxR
  exact reduce_max s _ _ _ _ b h g i ninf ninf

theorem expR_apply (s : FVec Ideal S4x8x4x4096x4096 .f32) (b : Fin 4) (h : Fin 8) (g : Fin 4) (i j : Fin 4096) :
    (expR s (ix5 b h g i j) : EReal) = Ideal.exp (s (ix5 b h g i j) - Finset.univ.sup fun e : Fin 4096 => (s (ix5 b h g i e) : EReal)) := by
  pointwise [expR, maxR_apply]

theorem scoreR_apply (q : FVec Ideal S16384x4096 .f32) (k : FVec Ideal S4x4096x1024 .f32) (r : FVec Ideal S1x257x32 .f32)
    (b : Fin 4) (h : Fin 8) (g : Fin 4) (i j : Fin 4096) :
    (scoreR q k r (ix5 b h g i j) : EReal) = if j.val / 64 ≤ i.val / 64 ∧ i.val / 64 ≤ j.val / 64 + 8 then
      (∑ x : Fin 128, k (ix3 b j ⟨h.val * 128 + x.val, by omega⟩) * q (ix2 ⟨b.val * 4096 + i.val, by omega⟩ ⟨h.val * 512 + g.val * 128 + x.val, by omega⟩))
        * Ideal.ofBits .f32 0x3DB504F3#32 + biasR r (ix4 h g i j) else ⊥ := by
  pointwise [scoreR, maskR_apply]
  rw [show (id (constant S_ .f32 4286578688#32) ix0 : Ideal .f32) = (⊥ : EReal) from ninf]

theorem meanR_apply (e : FVec Ideal S4x8x4x4096x4096 .f32) (v : FVec Ideal S4x4096x1024 .f32) (i : Fin 16384) (j : Fin 4096) :
    (meanR e v (ix2 i j) : EReal) = ∑ x : Fin 4096, v (ix3 ⟨i.val / 4096, by omega⟩ x ⟨j.val / 512 * 128 + j.val % 128, by omega⟩)
      * Ideal.div (e (ix5 ⟨i.val / 4096, by omega⟩ ⟨j.val / 512, by omega⟩ ⟨j.val / 128 % 4, by omega⟩ ⟨i.val % 4096, by omega⟩ x))
        (∑ y : Fin 4096, e (ix5 ⟨i.val / 4096, by omega⟩ ⟨j.val / 512, by omega⟩ ⟨j.val / 128 % 4, by omega⟩ ⟨i.val % 4096, by omega⟩ y)) := by
  pointwise [meanR]

end Cert.Reference11Ideal.Band

end
-- ==== Proof.Band.Value.lean ====
module

public import proofs.«01_k».proof.Proof.Band.Host
public import proofs.«01_k».proof.Proof.Band.Ref
public import Idealize.ShloMosaic.Lib.Pipeline.ValueKit.Geometry
public import Idealize.ShloMosaic.Lib.Claim

@[expose] public section

/-!
# The band attention: the launch's array is the reference's result.
-/

set_option maxRecDepth 16384

noncomputable section

namespace Cert.Reference11Ideal.Band

open Cert.Reference11Ideal Cert.Reference11Ideal.Gen
open Idealize.ShloMosaic Idealize.ShloMosaic.TcCoe
open scoped BigOperators

/-- The reference's result, at an index. -/
theorem refF_apply (q : FVec Ideal S16384x4096 .f32) (k v : FVec Ideal S4x4096x1024 .f32) (r : FVec Ideal S1x257x32 .f32)
    (b : Fin 4) (h : Fin 8) (g : Fin 4) (i : Fin 4096) (d : Fin 128) (I : Fin 16384) (J : Fin 4096)
    (hI : I.val = b.val * 4096 + i.val) (hJ : J.val = h.val * 512 + g.val * 128 + d.val) :
    (refF q k v r (ix2 I J) : EReal) = ∑ x : Fin 4096, v (ix3 b x ⟨h.val * 128 + d.val, by omega⟩)
      * Ideal.div (Ideal.exp (scoreR q k r (ix5 b h g i x) - Finset.univ.sup fun e : Fin 4096 => (scoreR q k r (ix5 b h g i e) : EReal)))
        (∑ y : Fin 4096, Ideal.exp (scoreR q k r (ix5 b h g i y) - Finset.univ.sup fun e : Fin 4096 => (scoreR q k r (ix5 b h g i e) : EReal))) := by
  have e1 : (⟨I.val / 4096, by omega⟩ : Fin 4) = b := Fin.ext (by show I.val / 4096 = b.val; omega)
  have e2 : (⟨J.val / 512, by omega⟩ : Fin 8) = h := Fin.ext (by show J.val / 512 = h.val; omega)
  have e3 : (⟨J.val / 128 % 4, by omega⟩ : Fin 4) = g := Fin.ext (by show J.val / 128 % 4 = g.val; omega)
  have e4 : (⟨I.val % 4096, by omega⟩ : Fin 4096) = i := Fin.ext (by show I.val % 4096 = i.val; omega)
  have e5 : (⟨J.val / 512 * 128 + J.val % 128, by omega⟩ : Fin 1024) = ⟨h.val * 128 + d.val, by omega⟩ :=
    Fin.ext (by show J.val / 512 * 128 + J.val % 128 = h.val * 128 + d.val; omega)
  unfold refF
  rw [meanR_apply, e1, e2, e3, e4, e5]
  simp only [expR_apply]

end Cert.Reference11Ideal.Band

namespace Cert.Kernel11Ideal.Band

open Cert.Kernel11Ideal Cert.Kernel11Ideal.Gen Cert.BandMath Cert.SBMath
open Idealize.ShloMosaic Idealize.ShloMosaic.TcCoe
open scoped BigOperators

variable (m : (ℓ : Loc nD τ sig) → Buf (Elt Ideal) ℓ) (c : Dev nD)

/-- A score of a chunk. -/
def sK (x0 : Vec Ideal S4096x512 .bf16) (x1 : Vec Ideal S1x4672x128 .bf16) (x3 : Vec Ideal S4x64x640 .f32) (n : Fin 64) (g : Fin 4) (q : Fin 64) (j : Fin 640) : EReal :=
  if max 64 ((9 - n.val) * 64) ≤ j.val then
    (∑ x : Fin 128, (x0 (ix2 ⟨64 * n.val + q.val, by omega⟩ ⟨g.val * 128 + x.val, by omega⟩) : EReal) * x1 (ix3 0 ⟨64 * n.val + j.val, by omega⟩ x))
      + x3 (ix3 g q j) else ⊥

theorem chunk_val (x0 : Vec Ideal S4096x512 .bf16) (x1 x2 : Vec Ideal S1x4672x128 .bf16) (x3 : Vec Ideal S4x64x640 .f32) (k : Fin k0_t1_loop.trips)
    (n : Fin 64) (hk : k.val = n.val) (g : Fin 4) (q : Fin 64) (d : Fin 128) :
    (chunkF x0 x1 x2 x3 k (ix2 ⟨g.val * 64 + q.val, by omega⟩ d) : EReal)
      = (∑ j : Fin 640, Ideal.exp (sK x0 x1 x3 n g q j - Finset.univ.sup (sK x0 x1 x3 n g q)) * (x2 (ix3 0 ⟨64 * n.val + j.val, by omega⟩ d) : EReal))
        * Ideal.div 1 (∑ j : Fin 640, Ideal.exp (sK x0 x1 x3 n g q j - Finset.univ.sup (sK x0 x1 x3 n g q))) := by
  have hs : ∀ j : Fin 640, (scoreK (catK (rowsF x0 k)) (winF x1 k) x3 k.val (ix2 ⟨g.val * 64 + q.val, by omega⟩ j) : EReal) = sK x0 x1 x3 n g q j := fun j => by
    have e1 : (⟨(g.val * 64 + q.val) / 64, by omega⟩ : Fin 4) = g := Fin.ext (by show (g.val * 64 + q.val) / 64 = g.val; omega)
    have e2 : (⟨(g.val * 64 + q.val) % 64, by omega⟩ : Fin 64) = q := Fin.ext (by show (g.val * 64 + q.val) % 64 = q.val; omega)
    rw [scoreK_apply _ _ _ _ (lt64 k), e1, e2]
    unfold sK
    rw [hk]
    refine congrArg (fun z : EReal => if max 64 ((9 - n.val) * 64) ≤ j.val then z + x3 (ix3 g q j) else ⊥) (Finset.sum_congr rfl fun x _ => ?_)
    rw [catK_apply, rowsF_apply, winF_apply]
    refine congrArg₂ (fun a b : EReal => a * b) (congrArg (fun z => (x0 z : EReal)) (congrArg₂ ix2 (Fin.ext ?_) (Fin.ext ?_))) (congrArg (fun z => (x1 (ix3 0 z x) : EReal)) (Fin.ext ?_))
    · show 64 * k.val + (g.val * 64 + q.val) % 64 = 64 * n.val + q.val; omega
    · show (g.val * 64 + q.val) / 64 * 128 + x.val = g.val * 128 + x.val; omega
    · show 64 * k.val + j.val = 64 * n.val + j.val; omega
  have he : ∀ j : Fin 640, (expK (scoreK (catK (rowsF x0 k)) (winF x1 k) x3 k.val) (ix2 ⟨g.val * 64 + q.val, by omega⟩ j) : EReal)
      = Ideal.exp (sK x0 x1 x3 n g q j - Finset.univ.sup (sK x0 x1 x3 n g q)) := fun j => by
    rw [expK_apply, hs j]
    exact congrArg (fun z : EReal => Ideal.exp (sK x0 x1 x3 n g q j - z)) (congrArg (Finset.sup Finset.univ) (funext hs))
  rw [chunkF_eq, meanK_apply]
  refine congrArg₂ (fun a b : EReal => a * Ideal.div 1 b) (Finset.sum_congr rfl fun j _ => ?_) (Finset.sum_congr rfl fun j _ => he j)
  rw [he j, winF_apply]
  exact congrArg (fun z : Fin 4672 => Ideal.exp (sK x0 x1 x3 n g q j - Finset.univ.sup (sK x0 x1 x3 n g q)) * (x2 (ix3 0 z d) : EReal)) (Fin.ext (by show 64 * k.val + j.val = 64 * n.val + j.val; omega))

/-! ### The blocks -/

theorem idx0 : ∀ t : Fin cfg0.N, win0_0.index t = ![(grid0.coords t 0).val, (grid0.coords t 1).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx3 : ∀ t : Fin cfg0.N, win0_3.index t = ![(grid0.coords t 1).val, 0, 0] :=
  (by decide +kernel : ∀ t : Fin grid0.N, _)
theorem idx4 : ∀ t : Fin cfg0.N, win0_4.index t = ![(grid0.coords t 0).val, (grid0.coords t 1).val] :=
  (by decide +kernel : ∀ t : Fin grid0.N, _)

variable (t : Fin cfg0.N)

/-- The batch and the head of a launch point. -/
def bt : Fin 4 := ⟨(grid0.coords t 0).val, (grid0.coords t 0).isLt⟩
def hd : Fin 8 := ⟨(grid0.coords t 1).val, (grid0.coords t 1).isLt⟩

/-- A place of a block, in the array. -/
def plc (r : Fin 4096) (e : Fin 512) : S16384x4096.Idx :=
  ix2 ⟨(bt t).val * 4096 + r.val, by omega⟩ ⟨(hd t).val * 512 + e.val, by omega⟩

theorem iblk0_apply (r : Fin 4096) (e : Fin 512) : (iblk m c 0 t (ix2 r e) : EReal) = argQ m c (plc t r e) * scl := by
  have h : (win0_0.blk t).view.emb (ix2 r e) = plc t r e := by
    unfold plc bt hd
    blk_ext [idx0]
  exact (congrArg (V m c main_v20) h).trans (V_q m c _ _)
theorem iblk1_apply (j : Fin 4672) (d : Fin 128) (p : Fin 4096) (hp : j.val = p.val + 576) :
    (iblk m c 1 t (ix3 0 j d) : EReal) = argK m c (ix3 (bt t) p ⟨(hd t).val * 128 + d.val, by omega⟩) := by
  have h : (win0_1.blk t).view.emb (ix3 0 j d) = ix3 (bt t) j ⟨(hd t).val * 128 + d.val, by omega⟩ := by
    unfold bt hd
    blk_ext [idx1]
  exact (congrArg (V m c main_v1) h).trans ((congrFun (V_k m c) _).trans (padF_apply _ _ _ _ p hp))
theorem iblk2_apply (j : Fin 4672) (d : Fin 128) (p : Fin 4096) (hp : j.val = p.val + 576) :
    (iblk m c 2 t (ix3 0 j d) : EReal) = argV m c (ix3 (bt t) p ⟨(hd t).val * 128 + d.val, by omega⟩) := by
  have h : (win0_2.blk t).view.emb (ix3 0 j d) = ix3 (bt t) j ⟨(hd t).val * 128 + d.val, by omega⟩ := by
    unfold bt hd
    blk_ext [idx2]
  exact (congrArg (V m c main_v3) h).trans ((congrFun (V_v m c) _).trans (padF_apply _ _ _ _ p hp))
theorem iblk3_apply (g : Fin 4) (q : Fin 64) (j : Fin 640) :
    (iblk m c 3 t (ix3 g q j) : EReal) = argR m c (ix3 0 ⟨min (767 - (63 - q.val + j.val)) 256, by omega⟩ ⟨(hd t).val * 4 + g.val, by omega⟩) := by
  have h : (win0_3.blk t).view.emb (ix3 g q j) = ix3 ⟨(hd t).val * 4 + g.val, by omega⟩ q j := by
    unfold hd
    blk_ext [idx3]
  exact (congrArg (V m c main_v17) h).trans ((congrFun (V_b m c) _).trans ((biasF_apply _ _ _ _).trans (tblF_apply _ _ _)))

theorem scl_real : ∃ σ : ℝ, scl = (σ : EReal) ∧ 0 ≤ σ := by
  simp only [scl, Ideal.ofBits, Ideal.ieee]
  simp [-EReal.coe_mul]

/-- A number that is neither infinity. -/
def Fin' (x : EReal) : Prop := x ≠ ⊤ ∧ x ≠ ⊥

/-- A launch point's block of results. -/
theorem block_eq (hq : ∀ i, Fin' (argQ m c i)) (hk : ∀ i, Fin' (argK m c i)) (hr : ∀ i, Fin' (argR m c i)) (r : Fin 4096) (e : Fin 512) :
    (blockG (F := Ideal) (iblk m c 0 t) (iblk m c 1 t) (iblk m c 2 t) (iblk m c 3 t) (ix2 r e) : EReal)
    = Cert.Reference11Ideal.Band.refF (F := Ideal) (argQ m c) (argK m c) (argV m c) (argR m c) (plc t r e) := by
  obtain ⟨σ, hσ, h0⟩ := scl_real
  have hn : r.val / 64 < 64 := by omega
  refine Eq.trans (chunk_val (iblk m c 0 t) (iblk m c 1 t) (iblk m c 2 t) (iblk m c 3 t) ⟨r.val / 64, lt_trips (ix2 r e)⟩ ⟨r.val / 64, hn⟩ rfl
    ⟨e.val / 128, by omega⟩ ⟨r.val % 64, by omega⟩ ⟨e.val % 128, by omega⟩) ?_
  refine Eq.trans ?_ (Cert.Reference11Ideal.Band.refF_apply (argQ m c) (argK m c) (argV m c) (argR m c) (bt t) (hd t) ⟨e.val / 128, by omega⟩ r ⟨e.val % 128, by omega⟩ _ _ rfl
    (by show (hd t).val * 512 + e.val = (hd t).val * 512 + e.val / 128 * 128 + e.val % 128; omega)).symm
  refine attn_eq (Finset.univ.filter fun j : Fin 640 => max 64 ((9 - r.val / 64) * 64) ≤ j.val)
    (Finset.univ.filter fun j : Fin 4096 => j.val / 64 ≤ r.val / 64 ∧ r.val / 64 ≤ j.val / 64 + 8)
    (fun j => ⟨64 * (r.val / 64) + j.val - 576, by omega⟩) _ _
    (fun x => Cert.Reference11Ideal.Band.scoreR (argQ m c) (argK m c) (argR m c) (ix5 (bt t) (hd t) ⟨e.val / 128, by omega⟩ r x))
    (fun x => argV m c (ix3 (bt t) x ⟨(hd t).val * 128 + e.val % 128, by omega⟩)) ?_ ?_ ?_ ?_ ?_ ?_ ?_ ?_ ?_
  · intro a ha
    have h := (Finset.mem_filter.mp ha).2
    refine Finset.mem_filter.mpr ⟨Finset.mem_univ _, ?_⟩
    dsimp only
    omega
  · intro a ha a' ha' h
    have h1 := (Finset.mem_filter.mp ha).2
    have h2 := (Finset.mem_filter.mp ha').2
    have h3 := congrArg Fin.val h
    dsimp only at h3
    exact Fin.ext (by omega)
  · intro b hb
    have h := (Finset.mem_filter.mp hb).2
    refine ⟨⟨b.val + 576 - 64 * (r.val / 64), by omega⟩, Finset.mem_filter.mpr ⟨Finset.mem_univ _, ?_⟩, Fin.ext ?_⟩
    · dsimp only; omega
    · dsimp only; omega
  · intro a ha
    have h := (Finset.mem_filter.mp ha).2
    have hs : (⟨64 * (r.val / 64) + a.val - 576, by omega⟩ : Fin 4096).val / 64 ≤ r.val / 64
        ∧ r.val / 64 ≤ (⟨64 * (r.val / 64) + a.val - 576, by omega⟩ : Fin 4096).val / 64 + 8 := by dsimp only; omega
    rw [Cert.Reference11Ideal.Band.scoreR_apply, if_pos hs]
    unfold sK
    rw [if_pos h]
    refine congrArg₂ (fun a b : EReal => a + b) ?_ ?_
    · refine Eq.trans (Finset.sum_congr rfl fun x _ => ?_) ((sum_scale Finset.univ
        (fun x : Fin 128 => (argQ m c (ix2 ⟨(bt t).val * 4096 + r.val, by omega⟩ ⟨(hd t).val * 512 + e.val / 128 * 128 + x.val, by omega⟩) : EReal))
        (fun x : Fin 128 => (argK m c (ix3 (bt t) ⟨64 * (r.val / 64) + a.val - 576, by omega⟩ ⟨(hd t).val * 128 + x.val, by omega⟩) : EReal)) σ h0).trans
          (congrArg₂ (fun a b : EReal => a * b) (Finset.sum_congr rfl fun x _ => mul_comm _ _) hσ.symm))
      rw [iblk0_apply, iblk1_apply m c t _ _ ⟨64 * (r.val / 64) + a.val - 576, by omega⟩ (by dsimp only; omega), hσ]
      refine congrArg (fun z => (argQ m c z : EReal) * (σ : EReal) * argK m c (ix3 (bt t) ⟨64 * (r.val / 64) + a.val - 576, by omega⟩ ⟨(hd t).val * 128 + x.val, by omega⟩)) ?_
      unfold plc
      refine congrArg₂ ix2 (Fin.ext ?_) (Fin.ext ?_)
      · dsimp only; omega
      · dsimp only; omega
    · rw [iblk3_apply, Cert.Reference11Ideal.Band.biasR_apply (argR m c) (hd t) _ r _ (640 + r.val % 64 - a.val) (by omega) (by dsimp only; omega)]
      unfold Cert.Reference11Ideal.Band.place
      refine congrArg (fun z : Fin 257 => (argR m c (ix3 0 z ⟨(hd t).val * 4 + e.val / 128, by omega⟩) : EReal)) (Fin.ext ?_)
      dsimp only
      omega
  · intro a ha
    have h := (Finset.mem_filter.mp ha).2
    exact iblk2_apply m c t _ _ ⟨64 * (r.val / 64) + a.val - 576, by omega⟩ (by dsimp only; omega)
  · intro a ha
    have h : ¬ max 64 ((9 - r.val / 64) * 64) ≤ a.val := fun h => ha (Finset.mem_filter.mpr ⟨Finset.mem_univ _, h⟩)
    unfold sK
    rw [if_neg h]
  · intro b hb
    rw [Cert.Reference11Ideal.Band.scoreR_apply, if_neg fun h => hb (Finset.mem_filter.mpr ⟨Finset.mem_univ _, h⟩)]
  · intro b hb
    have h := (Finset.mem_filter.mp hb).2
    rw [Cert.Reference11Ideal.Band.scoreR_apply, if_pos h,
      Cert.Reference11Ideal.Band.biasR_apply (argR m c) (hd t) _ r _ (64 + r.val - b.val) (by omega) (by omega)]
    obtain ⟨ρ, hρ⟩ := sum_mul_fin (fun x : Fin 128 => (argK m c (ix3 (bt t) b ⟨(hd t).val * 128 + x.val, by omega⟩) : EReal))
      (fun x : Fin 128 => (argQ m c (ix2 ⟨(bt t).val * 4096 + r.val, by omega⟩ ⟨(hd t).val * 512 + e.val / 128 * 128 + x.val, by omega⟩) : EReal))
      (fun x => hk _) (fun x => hq _)
    obtain ⟨hb1, hb2⟩ := hr (ix3 0 (Cert.Reference11Ideal.Band.place (64 + r.val - b.val)) ⟨(hd t).val * 4 + e.val / 128, by omega⟩)
    generalize hβ : (argR m c (ix3 0 (Cert.Reference11Ideal.Band.place (64 + r.val - b.val)) ⟨(hd t).val * 4 + e.val / 128, by omega⟩) : EReal) = β at hb1 hb2
    have key : ∀ x : EReal, x = ρ → (x * Ideal.ofBits .f32 0x3DB504F3#32 + β ≠ ⊤ ∧ x * Ideal.ofBits .f32 0x3DB504F3#32 + β ≠ ⊥) := by
      intro x hx
      rw [hx, show Ideal.ofBits .f32 0x3DB504F3#32 = (σ : EReal) from hσ, ← EReal.coe_mul]
      obtain ⟨β', rfl⟩ : ∃ y : ℝ, β = (y : EReal) := ⟨β.toReal, (EReal.coe_toReal hb1 hb2).symm⟩
      rw [← EReal.coe_add]
      exact ⟨EReal.coe_ne_top _, EReal.coe_ne_bot _⟩
    exact key _ hρ
  · exact ⟨r, Finset.mem_filter.mpr ⟨Finset.mem_univ _, le_rfl, Nat.le_add_right _ _⟩⟩

theorem final (hq : ∀ i, Fin' (argQ m c i)) (hk : ∀ i, Fin' (argK m c i)) (hr : ∀ i, Fin' (argR m c i)) :
    (dats m 0 c).arrAt 4 cfg0.N
    = Cert.Reference11Ideal.Band.refF (F := Ideal) (argQ m c) (argK m c) (argV m c) (argR m c) := by
  refine (dats m 0 c).arrAt_eq_of_covers 4 _ (by decide +kernel) fun t hf y => ?_
  blk_simp
  simp only [after0_4, outsAt0, out_eq]
  have hy : y = ix2 (n0 := 4096) (n1 := 512) (y 0) (y 1) := eq_ix2 (n0 := 4096) (n1 := 512) y
  have h : (win0_4.blk t).view.emb (ix2 (n0 := 4096) (n1 := 512) (y 0) (y 1)) = plc t (y 0) (y 1) := by
    unfold plc bt hd
    blk_ext [idx4]
  rw [hy, h]
  exact block_eq m c t hq hk hr (y 0) (y 1)

end Cert.Kernel11Ideal.Band

end
-- ==== Proof.Band.Pre.lean ====
module

public import proofs.«01_k».proof.Defs
public import proofs.«01_k».proof.Proof.Band.Value
public import Idealize.ShloMosaic.Lib.ReduceAll

@[expose] public section

/-!
# The band attention: what the precondition says of the arguments.
-/

noncomputable section

namespace Cert.Pre_finite11.Band

open Cert.Pre_finite11 Cert.Kernel11Ideal.Band
open Idealize.ShloMosaic Idealize.ShloMosaic.TcCoe

/-- The shape relations of the precondition's operations. -/
theorem facts : Facts where
  bcast_S_S16384x4096 := by decide
  reducesTo_S16384x4096_S_d0_1 := by decide
  h_S_ := by decide
  bcast_S_S4x4096x1024 := by decide
  reducesTo_S4x4096x1024_S_d0_1_2 := by decide
  bcast_S_S1x257x32 := by decide
  reducesTo_S1x257x32_S_d0_1_2 := by decide

theorem inf_word : Ideal.ofBits .f32 0x7F800000#32 = (⊤ : EReal) := by
  simp [Ideal.ofBits, Ideal.ieee]

/-- A number whose absolute value is below the infinity is none. -/
theorem fin_of_cmp (x : EReal) (h : Ideal.cmp .olt (max x (-x)) (Ideal.ofBits .f32 0x7F800000#32) = 1#1) : Fin' x := by
  rw [inf_word] at h
  have h' : max x (-x) < ⊤ := by
    by_contra hn
    simp [Ideal.cmp, hn] at h
  constructor
  · rintro rfl; simp at h'
  · rintro rfl; simp at h'

instance : Subsingleton S_.Idx := ⟨fun a b => funext fun i => i.elim0⟩

/-- The precondition makes every query, key and table entry finite. -/
theorem finite (q : FVec Ideal S16384x4096 .f32) (k v : FVec Ideal S4x4096x1024 .f32) (r : FVec Ideal S1x257x32 .f32)
    (h : (@fn facts Ideal _ q k v r) = fun _ => 1#1) : (∀ i, Fin' (q i)) ∧ (∀ i, Fin' (k i)) ∧ (∀ i, Fin' (r i)) := by
  have h0 := congrFun h ix0
  obtain ⟨h1, hr⟩ := IntOp.andi_eq_one.1 h0
  obtain ⟨hq, hk⟩ := IntOp.andi_eq_one.1 h1
  exact ⟨fun i => fin_of_cmp _ (Host.reduce_andi_all _ _ _ _ ix0 hq i), fun i => fin_of_cmp _ (Host.reduce_andi_all _ _ _ _ ix0 hk i),
    fun i => fin_of_cmp _ (Host.reduce_andi_all _ _ _ _ ix0 hr i)⟩

end Cert.Pre_finite11.Band

end
-- ==== Proof.SB.Steps.lean ====
/-
  Running a piece of the attention body: the six buffers it holds, what a piece does to them, and how pieces compose.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Tactic

@[expose] public section

set_option maxRecDepth 16384

noncomputable section

namespace Cert.KernelIdeal.SB

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

/-- Loop trips are counted in the naturals. -/
abbrev 𝒱₀ : Variants := Variants.nat

/-- The six operands of the body: three inputs, the result, and the two scratch arrays. -/
structure Mem where
  a2 : Memref sig .tc .vmem S4096x128 .bf16
  a3 : Memref sig .tc .vmem S4096x128 .f32
  a4 : Memref sig .tc .vmem S4096x128 .f32
  a5 : Memref sig .tc .vmem S4096x128 .bf16
  a6 : Memref sig .tc .vmem S4352x128 .bf16
  a7 : Memref sig .tc .vmem S4352x128 .bf16

/-- Contents of the six buffers. -/
structure St (F : FTy → Type) (c : Dev nD) (M : Mem) where
  g2 : Buf (Elt F) (M.a2.view.loc (c : Thread nD τ))
  g3 : Buf (Elt F) (M.a3.view.loc (c : Thread nD τ))
  g4 : Buf (Elt F) (M.a4.view.loc (c : Thread nD τ))
  g5 : Buf (Elt F) (M.a5.view.loc (c : Thread nD τ))
  g6 : Buf (Elt F) (M.a6.view.loc (c : Thread nD τ))
  g7 : Buf (Elt F) (M.a7.view.loc (c : Thread nD τ))

variable {c : Dev nD} {M : Mem} {bd : Option 𝒱₀.V}

/-- The six buffers held whole. -/
def res (s : St F c M) : sProp 𝕄 :=
  iprop((M.a2.view.loc (c : Thread nD τ) ↦{fullShare} s.g2) ∗ (M.a3.view.loc (c : Thread nD τ) ↦{fullShare} s.g3)
    ∗ (M.a4.view.loc (c : Thread nD τ) ↦{fullShare} s.g4) ∗ (M.a5.view.loc (c : Thread nD τ) ↦{fullShare} s.g5)
    ∗ (M.a6.view.loc (c : Thread nD τ) ↦{fullShare} s.g6) ∗ (M.a7.view.loc (c : Thread nD τ) ↦{fullShare} s.g7))

/-- `p` run on the buffers at `s` returns `r` and leaves them at `s'`. -/
def Runs (c : Dev nD) (M : Mem) (bd : Option 𝒱₀.V) {α : Type} (p : Prog (TpuEff nD τ sig (Elt F) (Λ₀ F) .tc) α) (s : St F c M) (r : α) (s' : St F c M) : Prop :=
  ∀ K : α → sProp 𝕄, iprop(res s ∗ (res s' -∗ K r))
    ⊢ wp frame (wpE (defs₀ (F := F)) 𝒱₀ (c : Thread nD τ) bd) Set.univ p K

theorem Runs.pure {α : Type} (r : α) (s : St F c M) : Runs c M bd (Pure.pure r) s r s := by
  intro K
  rw [Prog.pure_eq_ret, wp_ret]
  iintro ⟨H, Hk⟩
  imodintro
  iapply Hk
  iexact H

theorem Runs.bind {α β : Type} {p : Prog (TpuEff nD τ sig (Elt F) (Λ₀ F) .tc) α} {k : α → Prog (TpuEff nD τ sig (Elt F) (Λ₀ F) .tc) β}
    {s s' s'' : St F c M} {r : α} {r' : β} (h : Runs c M bd p s r s') (h' : Runs c M bd (k r) s' r' s'') :
    Runs c M bd (p >>= k) s r' s'' := by
  intro K
  rw [wp_bind]
  refine BIBase.Entails.trans ?_ (h _)
  iintro ⟨H, Hk⟩
  isplitl [H]
  · iexact H
  iintro H
  iapply (h' K)
  isplitl [H]
  · iexact H
  iexact Hk

/-- A proposition the program checks, which holds. -/
theorem Runs.assume {P : Prop} {d : Decidable P} (h : P) (s : St F c M) :
    Runs c M bd (Prog.lift (TpuEff.assume P d)) s ⟨h⟩ s := by
  intro K
  simp only [Prog.lift]
  iintro ⟨H, Hk⟩
  iapply (wp_assume 𝒱₀ (c : Thread nD τ) bd Set.univ h)
  rw [wp_ret]; imodintro
  iapply Hk
  iexact H

theorem Runs.load2 {r : LoadRect S4096x128} {hl : M.a2.view.LoadsAt r} (s : St F c M) :
    Runs c M bd (Prog.lift (.load M.a2 r hl)) s (M.a2.view.readAt (Elt F) r s.g2) s := by
  intro K
  simp only [Prog.lift]
  unfold res
  iintro ⟨⟨H2, H3, H4, H5, H6, H7⟩, Hk⟩
  iapply (wp_load 𝒱₀ (c : Thread nD τ) bd Set.univ (m := M.a2) (Finset.subset_univ _)) $$ H2; iintro H2
  rw [wp_ret]; imodintro
  iapply Hk
  iframe

theorem Runs.load3 {r : LoadRect S4096x128} {hl : M.a3.view.LoadsAt r} (s : St F c M) :
    Runs c M bd (Prog.lift (.load M.a3 r hl)) s (M.a3.view.readAt (Elt F) r s.g3) s := by
  intro K
  simp only [Prog.lift]
  unfold res
  iintro ⟨⟨H2, H3, H4, H5, H6, H7⟩, Hk⟩
  iapply (wp_load 𝒱₀ (c : Thread nD τ) bd Set.univ (m := M.a3) (Finset.subset_univ _)) $$ H3; iintro H3
  rw [wp_ret]; imodintro
  iapply Hk
  iframe

theorem Runs.load4 {r : LoadRect S4096x128} {hl : M.a4.view.LoadsAt r} (s : St F c M) :
    Runs c M bd (Prog.lift (.load M.a4 r hl)) s (M.a4.view.readAt (Elt F) r s.g4) s := by
  intro K
  simp only [Prog.lift]
  unfold res
  iintro ⟨⟨H2, H3, H4, H5, H6, H7⟩, Hk⟩
  iapply (wp_load 𝒱₀ (c : Thread nD τ) bd Set.univ (m := M.a4) (Finset.subset_univ _)) $$ H4; iintro H4
  rw [wp_ret]; imodintro
  iapply Hk
  iframe

theorem Runs.load5 {r : LoadRect S4096x128} {hl : M.a5.view.LoadsAt r} (s : St F c M) :
    Runs c M bd (Prog.lift (.load M.a5 r hl)) s (M.a5.view.readAt (Elt F) r s.g5) s := by
  intro K
  simp only [Prog.lift]
  unfold res
  iintro ⟨⟨H2, H3, H4, H5, H6, H7⟩, Hk⟩
  iapply (wp_load 𝒱₀ (c : Thread nD τ) bd Set.univ (m := M.a5) (Finset.subset_univ _)) $$ H5; iintro H5
  rw [wp_ret]; imodintro
  iapply Hk
  iframe

theorem Runs.load6 {r : LoadRect S4352x128} {hl : M.a6.view.LoadsAt r} (s : St F c M) :
    Runs c M bd (Prog.lift (.load M.a6 r hl)) s (M.a6.view.readAt (Elt F) r s.g6) s := by
  intro K
  simp only [Prog.lift]
  unfold res
  iintro ⟨⟨H2, H3, H4, H5, H6, H7⟩, Hk⟩
  iapply (wp_load 𝒱₀ (c : Thread nD τ) bd Set.univ (m := M.a6) (Finset.subset_univ _)) $$ H6; iintro H6
  rw [wp_ret]; imodintro
  iapply Hk
  iframe

theorem Runs.load7 {r : LoadRect S4352x128} {hl : M.a7.view.LoadsAt r} (s : St F c M) :
    Runs c M bd (Prog.lift (.load M.a7 r hl)) s (M.a7.view.readAt (Elt F) r s.g7) s := by
  intro K
  simp only [Prog.lift]
  unfold res
  iintro ⟨⟨H2, H3, H4, H5, H6, H7⟩, Hk⟩
  iapply (wp_load 𝒱₀ (c : Thread nD τ) bd Set.univ (m := M.a7) (Finset.subset_univ _)) $$ H7; iintro H7
  rw [wp_ret]; imodintro
  iapply Hk
  iframe

theorem Runs.store5 {r : Rect S4096x128} {w : r.shape.Idx → Elt F .bf16} {hx : (M.a5.access r).Stores Finset.univ}
    {hm : (Finset.univ : Finset r.shape.Idx) = Finset.univ ∨ ∀ a, r.stride a = 1} (s : St F c M) :
    Runs c M bd (Prog.lift (.store M.a5 r w Finset.univ hx hm)) s ⟨⟩
      { s with g5 := (M.a5.access r).write (Elt F) s.g5 w Finset.univ } := by
  intro K
  simp only [Prog.lift]
  unfold res
  iintro ⟨⟨H2, H3, H4, H5, H6, H7⟩, Hk⟩
  iapply (wp_store 𝒱₀ (c : Thread nD τ) bd Set.univ (m := M.a5) (r := r) (Mk := Finset.univ) (Finset.subset_univ _)) $$ H5; iintro H5
  rw [wp_ret]; imodintro
  iapply Hk
  iframe

theorem Runs.store6 {r : Rect S4352x128} {w : r.shape.Idx → Elt F .bf16} {hx : (M.a6.access r).Stores Finset.univ}
    {hm : (Finset.univ : Finset r.shape.Idx) = Finset.univ ∨ ∀ a, r.stride a = 1} (s : St F c M) :
    Runs c M bd (Prog.lift (.store M.a6 r w Finset.univ hx hm)) s ⟨⟩
      { s with g6 := (M.a6.access r).write (Elt F) s.g6 w Finset.univ } := by
  intro K
  simp only [Prog.lift]
  unfold res
  iintro ⟨⟨H2, H3, H4, H5, H6, H7⟩, Hk⟩
  iapply (wp_store 𝒱₀ (c : Thread nD τ) bd Set.univ (m := M.a6) (r := r) (Mk := Finset.univ) (Finset.subset_univ _)) $$ H6; iintro H6
  rw [wp_ret]; imodintro
  iapply Hk
  iframe

theorem Runs.store7 {r : Rect S4352x128} {w : r.shape.Idx → Elt F .bf16} {hx : (M.a7.access r).Stores Finset.univ}
    {hm : (Finset.univ : Finset r.shape.Idx) = Finset.univ ∨ ∀ a, r.stride a = 1} (s : St F c M) :
    Runs c M bd (Prog.lift (.store M.a7 r w Finset.univ hx hm)) s ⟨⟩
      { s with g7 := (M.a7.access r).write (Elt F) s.g7 w Finset.univ } := by
  intro K
  simp only [Prog.lift]
  unfold res
  iintro ⟨⟨H2, H3, H4, H5, H6, H7⟩, Hk⟩
  iapply (wp_store 𝒱₀ (c : Thread nD τ) bd Set.univ (m := M.a7) (r := r) (Mk := Finset.univ) (Finset.subset_univ _)) $$ H7; iintro H7
  rw [wp_ret]; imodintro
  iapply Hk
  iframe

end Cert.KernelIdeal.SB

end
-- ==== Proof.SB.Loop.lean ====
/-
  The attention body's arithmetic, block by block, and its loop over older blocks.
-/
module

public import Idealize.ShloMosaic.Lib.Pipeline.FrameBody
public import proofs.«01_k».proof.Proof.SB.Steps
public import Idealize.ShloMosaic.Lib.WordCmp

@[expose] public section

set_option maxRecDepth 16384

noncomputable section

namespace Cert.KernelIdeal.SB

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

/-! ### One block of keys against one block of queries -/

/-- The scores of a block of queries against a block of keys. -/
def zB (q kb : FVec F S256x128 .bf16) : FVec F S256x256 .f32 :=
  matmul dot_S256x128_S256x128_S256x256_1_1_0_0_n_n none q kb (constant S256x256 .f32 0x00000000#32)
/-- The zero and the one of the block. -/
def zero256 : FVec F S256x256 .f32 := broadcast S256x256 (Scalar.ofBits .f32 0x00000000#32)
def one256 : FVec F S256x256 .f32 := broadcast S256x256 (Scalar.ofBits .f32 0x3F800000#32)
/-- Their negation. -/
def nzB (q kb : FVec F S256x128 .bf16) : FVec F S256x256 .f32 := subf zero256 (zB q kb)
/-- `log (1 + exp (-|z|))`. -/
def spB (q kb : FVec F S256x128 .bf16) : FVec F S256x256 .f32 :=
  log (addf one256 (exp (subf zero256 (maximumf (zB q kb) (nzB q kb)))))
/-- The log of the share a key takes. -/
def lbB (q kb : FVec F S256x128 .bf16) : FVec F S256x256 .f32 := subf (minimumf (zB q kb) zero256) (spB q kb)
/-- The log of the share a key leaves. -/
def lkB (q kb : FVec F S256x128 .bf16) : FVec F S256x256 .f32 := subf (minimumf (nzB q kb) zero256) (spB q kb)
/-- The same on the diagonal block: a key at or after the query leaves everything. -/
def lkM (mask : IVec S256x256 1) (q kb : FVec F S256x128 .bf16) : FVec F S256x256 .f32 := select mask (lkB q kb) zero256

/-- The log of what the newer keys of the block leave, from the logs `lk`. -/
def aftB (tri : FVec F S512x256 .bf16) (lk : FVec F S256x256 .f32) : FVec F S256x256 .f32 :=
  matmul dot_S256x512_S512x256_S256x256_1_0_0_1_n_n none
    (concatenate S256x512 1 [⟨S256x256, truncf .bf16 lk bitsLt_bf16_f32⟩,
      ⟨S256x256, truncf .bf16 (subf lk (extf .f32 (truncf .bf16 lk bitsLt_bf16_f32) bitsLt_bf16_f32)) bitsLt_bf16_f32⟩]
      concatenates_S256x256_S256x256_S256x512_d1) tri (constant S256x256 .f32 0x00000000#32)

/-- The block's weights. -/
def wB (tri : FVec F S512x256 .bf16) (lb lk : FVec F S256x256 .f32) (c : FVec F S256x1 .f32) : FVec F S256x256 .f32 :=
  exp (addf (addf lb (aftB tri lk)) (broadcastTo S256x256 c broadcasts_S256x1_S256x256))

/-- The accumulator after a block. -/
def accB (w : FVec F S256x256 .f32) (vb : FVec F S256x128 .bf16) (acc : FVec F S256x128 .f32) : FVec F S256x128 .f32 :=
  addf acc (matmul dot_S256x256_S256x128_S256x128_1_0_0_1_n_n none (truncf .bf16 w bitsLt_bf16_f32) vb (constant S256x128 .f32 0x00000000#32))

/-- The carried log after a block. -/
def cB (lk : FVec F S256x256 .f32) (c : FVec F S256x1 .f32) : FVec F S256x1 .f32 :=
  addf c (shapeCast S256x1 (multiReduction .add [1] S256 lk 0x00000000#32 reduces_S256x256_S256 (.inl rfl) rfl) shapeCasts_S256_S256x1)

/-- The largest carried log. -/
def cmx (c : FVec F S256x1 .f32) : F .f32 :=
  extractAt ![0, 0, 0] (shapeCast S1x1x1 (multiReduction .maximumf [1, 2] S1 (shapeCast S1x256x1 c shapeCasts_S256x1_S1x256x1) 0xFF800000#32
    reduces_S1x256x1_S1 (.inl rfl) rfl) shapeCasts_S1_S1x1x1) inpos_S1x1x1_p0_0_0

/-! ### The loop -/

variable {c : Dev nD} {M : Mem} {bd : Option 𝒱₀.V}

/-- What the loop carries: the block to visit, the largest carried log, the carried logs, the accumulator. -/
abbrev Carry (F : FTy → Type) : Type := BitVec 32 × F .f32 × FVec F S256x1 .f32 × FVec F S256x128 .f32

/-- The loop's test. -/
def goOn (x : Carry F) : Prop :=
  Scalar.andi (Scalar.cmpi .sge x.1 0#32) (Scalar.cmpf .ogt x.2.1 (Named.named κ "dead" 0xC2D00000#32)) = 1#1

/-- What the three arrays a block reads hold: the queries, and the keys and values with a block of zeros in front. -/
structure Vals (F : FTy → Type) where
  q : Vec F S4096x128 .bf16
  k : Vec F S4352x128 .bf16
  v : Vec F S4352x128 .bf16

/-- The same at a state of the buffers. -/
def vals (s : St F c M) : Vals F where
  q := M.a2.view.read (Elt F) s.g2
  k := M.a6.view.read (Elt F) s.g6
  v := M.a7.view.read (Elt F) s.g7

/-- The keys and the values of block `j`. -/
def kAt (x : Vals F) (j : BitVec 32) (h : k0_chk1 j) : FVec F S256x128 .bf16 :=
  View.ld x.k (Rect.unit (s := S4352x128) (k0_off4 j) S256x128.size (k0_off4_inb j h))
def vAt (x : Vals F) (j : BitVec 32) (h : k0_chk1 j) : FVec F S256x128 .bf16 :=
  View.ld x.v (Rect.unit (s := S4352x128) (k0_off4 j) S256x128.size (k0_off4_inb j h))

/-- One trip. -/
def trip (s : Vals F) (q : FVec F S256x128 .bf16) (tri : FVec F S512x256 .bf16) (x : Carry F) (h : k0_chk1 x.1) : Carry F :=
  let kb := kAt s x.1 h
  let c' := cB (lkB q kb) x.2.2.1
  (Scalar.subi x.1 1#32, cmx c', c', accB (wB tri (lbB q kb) (lkB q kb) x.2.2.1) (vAt s x.1 h) x.2.2.2)

open Classical in
/-- At most `n` trips. -/
def loopRes (s : Vals F) (q : FVec F S256x128 .bf16) (tri : FVec F S512x256 .bf16) : ℕ → Carry F → Carry F
  | 0, x => x
  | n + 1, x => if goOn x then (if h : k0_chk1 x.1 then loopRes s q tri n (trip s q tri x h) else x) else x

/-- A call is answered by a run of the label's body at a lower bound. -/
theorem Runs.call {ℓ : (Λ₀ F).Label} {a : (Λ₀ F).Args ℓ} (v : ℕ) (hv : ∀ u ∈ bd, v < u) {s s' : St F c M} {r : (Λ₀ F).Result ℓ}
    (h : Runs c M (some v) (defs₀ (F := F) .tc ℓ a) s r s') :
    Runs c M bd (Prog.lift (.call ℓ a)) s r s' := by
  intro K
  simp only [Prog.lift]
  refine BIBase.Entails.trans ?_ (wp_call 𝒱₀ (c : Thread nD τ) bd Set.univ v hv)
  refine BIBase.Entails.trans ?_ (h _)
  iintro ⟨H, Hk⟩
  isplitl [H]
  · iexact H
  iintro H
  rw [wp_ret]; imodintro
  iapply Hk
  iexact H

theorem goOn_nonneg {x : Carry F} (h : goOn x) : 0 ≤ x.1.toInt := by
  have h1 := (IntOp.andi_eq_one.1 h).1
  have h2 : IntOp.cmpi .sge x.1 0#32 = 1#1 := h1
  rw [WordCmp.cmpi_sge_eq, BitVec.toInt_zero] at h2
  by_contra hn
  rw [decide_eq_false hn] at h2
  exact absurd h2 (by decide)

theorem chk_lt : ∀ n : Fin 15, k0_chk1 (BitVec.ofNat 32 n.val) := by decide +kernel

/-- A block index from 0 to 14 is inside the scratch arrays. -/
theorem chk_of (j : BitVec 32) (h0 : 0 ≤ j.toInt) (h1 : j.toInt < 15) : k0_chk1 j := by
  have hj : j.toNat < 15 := by
    rw [BitVec.toInt_eq_toNat_cond] at h0 h1
    have := j.isLt
    split at h0 <;> omega
  have h := chk_lt ⟨j.toNat, hj⟩
  rwa [BitVec.ofNat_toNat, BitVec.setWidth_eq] at h

theorem sub_one_toInt (j : BitVec 32) (h0 : 0 ≤ j.toInt) : (Scalar.subi j 1#32).toInt = j.toInt - 1 := by
  show (j - 1#32).toInt = _
  have := j.isLt
  rw [BitVec.toInt_eq_toNat_cond] at h0 ⊢
  rw [BitVec.toInt_eq_toNat_cond, BitVec.toNat_sub]
  split at h0 <;> simp <;> split <;> omega

/-- What a trip returns, in its order. -/
abbrev Back (F : FTy → Type) : Type := Σ' (_ : FVec F S256x128 .f32) (_ : FVec F S256x1 .f32) (_ : BitVec 32), F .f32
/-- From the loop's order to a trip's, and back. -/
def back (y : Carry F) : Back F := ⟨y.2.2.2, y.2.2.1, y.1, y.2.1⟩
def fwd (y : Back F) : Carry F := match y with | ⟨a, c, j, m⟩ => (j, m, c, a)

/-- The loop, for any of the labels: its body tests, runs a trip and calls itself. -/
theorem loop_gen (s : St F c M) (q : FVec F S256x128 .bf16) (tri : FVec F S512x256 .bf16)
    (W callW : Carry F → Prog (TpuEff nD τ sig (Elt F) (Λ₀ F) .tc) (Carry F))
    (part : Carry F → Prog (TpuEff nD τ sig (Elt F) (Λ₀ F) .tc) (Back F))
    (hgo : ∀ x, goOn x → W x = part x >>= fun y => callW (fwd y))
    (hstop : ∀ x, ¬ goOn x → W x = pure x)
    (hpart : ∀ (x : Carry F) (h : k0_chk1 x.1) (bd : Option 𝒱₀.V), Runs c M bd (part x) s
      (back (trip (vals s) q tri x h)) s)
    (hcall : ∀ x (bd : Option 𝒱₀.V) (k : ℕ), (∀ u ∈ bd, k < u) → ∀ r, Runs c M (some k) (W x) s r s → Runs c M bd (callW x) s r s) :
    ∀ n : ℕ, n ≤ 15 → ∀ x : Carry F, x.1.toInt < n → Runs c M (some n) (W x) s (loopRes (vals s) q tri n x) s := by
  intro n
  induction n with
  | zero =>
    intro _ x hx
    have hn : ¬ goOn x := fun h => by have := goOn_nonneg h; omega
    rw [hstop x hn]
    exact Runs.pure _ _
  | succ n ih =>
    intro hn x hx
    by_cases hg : goOn x
    · have h0 := goOn_nonneg hg
      have hc : k0_chk1 x.1 := chk_of x.1 h0 (by omega)
      rw [hgo x hg, loopRes, if_pos hg, dif_pos hc]
      refine Runs.bind (hpart x hc _) ?_
      refine hcall _ _ n (fun u hu => by cases hu; exact Nat.lt_succ_self n) _ (ih (by omega) _ ?_)
      show (Scalar.subi x.1 1#32).toInt < n
      rw [sub_one_toInt _ h0]; omega
    · rw [hstop x hg, loopRes, if_neg hg]
      exact Runs.pure _ _

end Cert.KernelIdeal.SB

end
-- ==== Proof.SB.Body.lean ====
module

public import proofs.«01_k».proof.Proof.SB.Loop

@[expose] public section

/-!
# The body of the launch: its sixteen loops and its whole run.
-/

set_option maxRecDepth 16384

noncomputable section

namespace Cert.KernelIdeal.SB

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]
variable {c : Dev nD} {M : Mem}

/-! ### What the body leaves -/

/-- The triangle of ones, twice over. -/
def tri0 : FVec F S512x256 .bf16 := k0_pay8 (F := F) k0_pay5 k0_pay6 k0_pay7
/-- The keys before the query, in the diagonal block. -/
def mask0 : IVec S256x256 1 := k0_pay9

/-- The parts of the arrays that block `u` reads. -/
def qAt (s : Vals F) (u : Fin 16) : FVec F S256x128 .bf16 :=
  shapeCast S256x128 (View.ld s.q (Rect.unit (s := S4096x128) (k0_off1 (BitVec.ofNat 32 u.val)) S256x128.size (k0_off1_inb u))) shapeCasts_S256x128_S256x128
def kdAt (s : Vals F) (u : Fin 16) : FVec F S256x128 .bf16 :=
  View.ld s.k (Rect.unit (s := S4352x128) (k0_off2 (BitVec.ofNat 32 u.val)) S256x128.size (k0_off2_inb u))
def vdAt (s : Vals F) (u : Fin 16) : FVec F S256x128 .bf16 :=
  View.ld s.v (Rect.unit (s := S4352x128) (k0_off2 (BitVec.ofNat 32 u.val)) S256x128.size (k0_off2_inb u))
def kpAt (s : Vals F) (u : Fin 16) : FVec F S256x128 .bf16 :=
  View.ld s.k (Rect.unit (s := S4352x128) (k0_off3 (BitVec.ofNat 32 u.val)) S256x128.size (k0_off3_inb u))
def vpAt (s : Vals F) (u : Fin 16) : FVec F S256x128 .bf16 :=
  View.ld s.v (Rect.unit (s := S4352x128) (k0_off3 (BitVec.ofNat 32 u.val)) S256x128.size (k0_off3_inb u))

/-- The weights of the diagonal block. -/
def wD (q kb : FVec F S256x128 .bf16) : FVec F S256x256 .f32 :=
  select mask0 (wB tri0 (lbB q kb) (lkM mask0 q kb) (broadcast S256x1 (Scalar.ofBits .f32 0x00000000#32))) zero256

/-- The carried logs and the accumulator after the diagonal block, -/
def cD (s : Vals F) (u : Fin 16) : FVec F S256x1 .f32 :=
  cB (lkM mask0 (qAt s u) (kdAt s u)) (broadcast S256x1 (Scalar.ofBits .f32 0x00000000#32))
def accD (s : Vals F) (u : Fin 16) : FVec F S256x128 .f32 :=
  accB (wD (qAt s u) (kdAt s u)) (vdAt s u) (broadcast S256x128 (Scalar.ofBits .f32 0x00000000#32))
/-- and after the block before it. -/
def cP (s : Vals F) (u : Fin 16) : FVec F S256x1 .f32 := cB (lkB (qAt s u) (kpAt s u)) (cD s u)
def accP (s : Vals F) (u : Fin 16) : FVec F S256x128 .f32 :=
  accB (wB tri0 (lbB (qAt s u) (kpAt s u)) (lkB (qAt s u) (kpAt s u)) (cD s u)) (vpAt s u) (accD s u)

/-- What the loop of block `u` starts from. -/
def start (s : Vals F) (u : Fin 16) : Carry F :=
  (Scalar.subi (Scalar.addi (Scalar.muli 16#32 0#32) (BitVec.ofNat 32 u.val)) 2#32, cmx (cP s u), cP s u, accP s u)

/-- The block of results. -/
def blkOut (s : Vals F) (u : Fin 16) : FVec F S256x128 .bf16 :=
  truncf .bf16 (loopRes s (qAt s u) tri0 15 (start s u)).2.2.2 bitsLt_bf16_f32

/-- The rows of block `u`. -/
abbrev rowsOf (u : Fin 16) : Rect S4096x128 :=
  Rect.unit (s := S4096x128) (k0_off1 (BitVec.ofNat 32 u.val)) S256x128.size (k0_off1_inb u)

/-- The array of results after block `u`'s store. -/
def wr (s : St F c M) (b : Buf (Elt F) (M.a5.view.loc (c : Thread nD τ))) (u : Fin 16) : Buf (Elt F) (M.a5.view.loc (c : Thread nD τ)) :=
  (M.a5.access (rowsOf u)).write (Elt F) b (blkOut (vals s) u) Finset.univ

/-- The scratch arrays once filled. -/
def filled (s : St F c M) : St F c M :=
  { s with
    g6 := (M.a6.access (Rect.unit (s := S4352x128) ![256, 0] S4096x128.size inb_S4352x128_S4096x128_256_0)).write (Elt F)
      ((M.a6.access (Rect.unit (s := S4352x128) ![0, 0] S256x128.size inb_S4352x128_S256x128_0_0)).write (Elt F) s.g6 k0_pay1 Finset.univ)
      (k0_pay3 (M.a3.view.readAt (Elt F) (Rect.unit (s := S4096x128) ![0, 0] S4096x128.size inb_S4096x128_S4096x128_0_0).toLoadRect s.g3)) Finset.univ
    g7 := (M.a7.access (Rect.unit (s := S4352x128) ![256, 0] S4096x128.size inb_S4352x128_S4096x128_256_0)).write (Elt F)
      ((M.a7.access (Rect.unit (s := S4352x128) ![0, 0] S256x128.size inb_S4352x128_S256x128_0_0)).write (Elt F) s.g7 k0_pay2 Finset.univ)
      (k0_pay4 (M.a4.view.readAt (Elt F) (Rect.unit (s := S4096x128) ![0, 0] S4096x128.size inb_S4096x128_S4096x128_0_0).toLoadRect s.g4)) Finset.univ }

/-- With `b` for the array of results. -/
def put (s : St F c M) (b : Buf (Elt F) (M.a5.view.loc (c : Thread nD τ))) : St F c M := { s with g5 := b }

/-! ### The calls -/

section Loops
variable (s : St F c M) (i : grid0.Coords) (h6 : M.a6.IsWhole) (h7 : M.a7.IsWhole) (q : FVec F S256x128 .bf16)

/-- The carried tuple, taken apart and put together. -/
def tup (x : Carry F) : Carry F := (x.1, x.2.1, x.2.2.1, x.2.2.2)

theorem call1 {j : BitVec 32} {m : F .f32} {cc : FVec F S256x1 .f32} {acc : FVec F S256x128 .f32} (b) (hj : j.toInt < 15) :
    Runs c M none (Prog.lift (.call (1 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while1 i M.a6 h6 M.a7 h7 q tri0 x.1 x.2.1 x.2.2.1 x.2.2.2)
      (fun x => Prog.lift (.call (1 : (Λ₀ F).Label) ⟨i, M.a6, h6, M.a7, h7, q, tri0, x.1, x.2.1, x.2.2.1, x.2.2.2⟩))
      (fun x => k0_part41 i M.a6 h6 M.a7 h7 q tri0 x.1 x.2.1 x.2.2.1 x.2.2.2)
      (fun _ hg => if_pos hg) (fun _ hg => if_neg hg)
      (fun _ h bd => k0_part41_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call2 {j : BitVec 32} {m : F .f32} {cc : FVec F S256x1 .f32} {acc : FVec F S256x128 .f32} (b) (hj : j.toInt < 15) :
    Runs c M none (Prog.lift (.call (2 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while2 i M.a6 h6 M.a7 h7 q tri0 x.1 x.2.1 x.2.2.1 x.2.2.2)
      (fun x => Prog.lift (.call (2 : (Λ₀ F).Label) ⟨i, M.a6, h6, M.a7, h7, q, tri0, x.1, x.2.1, x.2.2.1, x.2.2.2⟩))
      (fun x => k0_part42 i M.a6 h6 M.a7 h7 q tri0 x.1 x.2.1 x.2.2.1 x.2.2.2)
      (fun _ hg => if_pos hg) (fun _ hg => if_neg hg)
      (fun _ h bd => k0_part42_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call3 {j : BitVec 32} {m : F .f32} {cc : FVec F S256x1 .f32} {acc : FVec F S256x128 .f32} (b) (hj : j.toInt < 15) :
    Runs c M none (Prog.lift (.call (3 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while3 i M.a6 h6 M.a7 h7 q tri0 x.1 x.2.1 x.2.2.1 x.2.2.2)
      (fun x => Prog.lift (.call (3 : (Λ₀ F).Label) ⟨i, M.a6, h6, M.a7, h7, q, tri0, x.1, x.2.1, x.2.2.1, x.2.2.2⟩))
      (fun x => k0_part43 i M.a6 h6 M.a7 h7 q tri0 x.1 x.2.1 x.2.2.1 x.2.2.2)
      (fun _ hg => if_pos hg) (fun _ hg => if_neg hg)
      (fun _ h bd => k0_part43_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call4 {j : BitVec 32} {m : F .f32} {cc : FVec F S256x1 .f32} {acc : FVec F S256x128 .f32} (b) (hj : j.toInt < 15) :
    Runs c M none (Prog.lift (.call (4 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while4 i M.a6 h6 M.a7 h7 q tri0 x.1 x.2.1 x.2.2.1 x.2.2.2)
      (fun x => Prog.lift (.call (4 : (Λ₀ F).Label) ⟨i, M.a6, h6, M.a7, h7, q, tri0, x.1, x.2.1, x.2.2.1, x.2.2.2⟩))
      (fun x => k0_part44 i M.a6 h6 M.a7 h7 q tri0 x.1 x.2.1 x.2.2.1 x.2.2.2)
      (fun _ hg => if_pos hg) (fun _ hg => if_neg hg)
      (fun _ h bd => k0_part44_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call5 {j : BitVec 32} {m : F .f32} {cc : FVec F S256x1 .f32} {acc : FVec F S256x128 .f32} (b) (hj : j.toInt < 15) :
    Runs c M none (Prog.lift (.call (5 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while5 i M.a6 h6 M.a7 h7 q tri0 x.1 x.2.1 x.2.2.1 x.2.2.2)
      (fun x => Prog.lift (.call (5 : (Λ₀ F).Label) ⟨i, M.a6, h6, M.a7, h7, q, tri0, x.1, x.2.1, x.2.2.1, x.2.2.2⟩))
      (fun x => k0_part45 i M.a6 h6 M.a7 h7 q tri0 x.1 x.2.1 x.2.2.1 x.2.2.2)
      (fun _ hg => if_pos hg) (fun _ hg => if_neg hg)
      (fun _ h bd => k0_part45_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call6 {j : BitVec 32} {m : F .f32} {cc : FVec F S256x1 .f32} {acc : FVec F S256x128 .f32} (b) (hj : j.toInt < 15) :
    Runs c M none (Prog.lift (.call (6 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while6 i M.a6 h6 M.a7 h7 q tri0 x.1 x.2.1 x.2.2.1 x.2.2.2)
      (fun x => Prog.lift (.call (6 : (Λ₀ F).Label) ⟨i, M.a6, h6, M.a7, h7, q, tri0, x.1, x.2.1, x.2.2.1, x.2.2.2⟩))
      (fun x => k0_part46 i M.a6 h6 M.a7 h7 q tri0 x.1 x.2.1 x.2.2.1 x.2.2.2)
      (fun _ hg => if_pos hg) (fun _ hg => if_neg hg)
      (fun _ h bd => k0_part46_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call7 {j : BitVec 32} {m : F .f32} {cc : FVec F S256x1 .f32} {acc : FVec F S256x128 .f32} (b) (hj : j.toInt < 15) :
    Runs c M none (Prog.lift (.call (7 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while7 i M.a6 h6 M.a7 h7 q tri0 x.1 x.2.1 x.2.2.1 x.2.2.2)
      (fun x => Prog.lift (.call (7 : (Λ₀ F).Label) ⟨i, M.a6, h6, M.a7, h7, q, tri0, x.1, x.2.1, x.2.2.1, x.2.2.2⟩))
      (fun x => k0_part47 i M.a6 h6 M.a7 h7 q tri0 x.1 x.2.1 x.2.2.1 x.2.2.2)
      (fun _ hg => if_pos hg) (fun _ hg => if_neg hg)
      (fun _ h bd => k0_part47_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call8 {j : BitVec 32} {m : F .f32} {cc : FVec F S256x1 .f32} {acc : FVec F S256x128 .f32} (b) (hj : j.toInt < 15) :
    Runs c M none (Prog.lift (.call (8 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while8 i M.a6 h6 M.a7 h7 q tri0 x.1 x.2.1 x.2.2.1 x.2.2.2)
      (fun x => Prog.lift (.call (8 : (Λ₀ F).Label) ⟨i, M.a6, h6, M.a7, h7, q, tri0, x.1, x.2.1, x.2.2.1, x.2.2.2⟩))
      (fun x => k0_part48 i M.a6 h6 M.a7 h7 q tri0 x.1 x.2.1 x.2.2.1 x.2.2.2)
      (fun _ hg => if_pos hg) (fun _ hg => if_neg hg)
      (fun _ h bd => k0_part48_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call9 {j : BitVec 32} {m : F .f32} {cc : FVec F S256x1 .f32} {acc : FVec F S256x128 .f32} (b) (hj : j.toInt < 15) :
    Runs c M none (Prog.lift (.call (9 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while9 i M.a6 h6 M.a7 h7 q tri0 x.1 x.2.1 x.2.2.1 x.2.2.2)
      (fun x => Prog.lift (.call (9 : (Λ₀ F).Label) ⟨i, M.a6, h6, M.a7, h7, q, tri0, x.1, x.2.1, x.2.2.1, x.2.2.2⟩))
      (fun x => k0_part49 i M.a6 h6 M.a7 h7 q tri0 x.1 x.2.1 x.2.2.1 x.2.2.2)
      (fun _ hg => if_pos hg) (fun _ hg => if_neg hg)
      (fun _ h bd => k0_part49_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call10 {j : BitVec 32} {m : F .f32} {cc : FVec F S256x1 .f32} {acc : FVec F S256x128 .f32} (b) (hj : j.toInt < 15) :
    Runs c M none (Prog.lift (.call (10 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while10 i M.a6 h6 M.a7 h7 q tri0 x.1 x.2.1 x.2.2.1 x.2.2.2)
      (fun x => Prog.lift (.call (10 : (Λ₀ F).Label) ⟨i, M.a6, h6, M.a7, h7, q, tri0, x.1, x.2.1, x.2.2.1, x.2.2.2⟩))
      (fun x => k0_part50 i M.a6 h6 M.a7 h7 q tri0 x.1 x.2.1 x.2.2.1 x.2.2.2)
      (fun _ hg => if_pos hg) (fun _ hg => if_neg hg)
      (fun _ h bd => k0_part50_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call11 {j : BitVec 32} {m : F .f32} {cc : FVec F S256x1 .f32} {acc : FVec F S256x128 .f32} (b) (hj : j.toInt < 15) :
    Runs c M none (Prog.lift (.call (11 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while11 i M.a6 h6 M.a7 h7 q tri0 x.1 x.2.1 x.2.2.1 x.2.2.2)
      (fun x => Prog.lift (.call (11 : (Λ₀ F).Label) ⟨i, M.a6, h6, M.a7, h7, q, tri0, x.1, x.2.1, x.2.2.1, x.2.2.2⟩))
      (fun x => k0_part51 i M.a6 h6 M.a7 h7 q tri0 x.1 x.2.1 x.2.2.1 x.2.2.2)
      (fun _ hg => if_pos hg) (fun _ hg => if_neg hg)
      (fun _ h bd => k0_part51_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call12 {j : BitVec 32} {m : F .f32} {cc : FVec F S256x1 .f32} {acc : FVec F S256x128 .f32} (b) (hj : j.toInt < 15) :
    Runs c M none (Prog.lift (.call (12 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while12 i M.a6 h6 M.a7 h7 q tri0 x.1 x.2.1 x.2.2.1 x.2.2.2)
      (fun x => Prog.lift (.call (12 : (Λ₀ F).Label) ⟨i, M.a6, h6, M.a7, h7, q, tri0, x.1, x.2.1, x.2.2.1, x.2.2.2⟩))
      (fun x => k0_part52 i M.a6 h6 M.a7 h7 q tri0 x.1 x.2.1 x.2.2.1 x.2.2.2)
      (fun _ hg => if_pos hg) (fun _ hg => if_neg hg)
      (fun _ h bd => k0_part52_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call13 {j : BitVec 32} {m : F .f32} {cc : FVec F S256x1 .f32} {acc : FVec F S256x128 .f32} (b) (hj : j.toInt < 15) :
    Runs c M none (Prog.lift (.call (13 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while13 i M.a6 h6 M.a7 h7 q tri0 x.1 x.2.1 x.2.2.1 x.2.2.2)
      (fun x => Prog.lift (.call (13 : (Λ₀ F).Label) ⟨i, M.a6, h6, M.a7, h7, q, tri0, x.1, x.2.1, x.2.2.1, x.2.2.2⟩))
      (fun x => k0_part53 i M.a6 h6 M.a7 h7 q tri0 x.1 x.2.1 x.2.2.1 x.2.2.2)
      (fun _ hg => if_pos hg) (fun _ hg => if_neg hg)
      (fun _ h bd => k0_part53_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call14 {j : BitVec 32} {m : F .f32} {cc : FVec F S256x1 .f32} {acc : FVec F S256x128 .f32} (b) (hj : j.toInt < 15) :
    Runs c M none (Prog.lift (.call (14 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while14 i M.a6 h6 M.a7 h7 q tri0 x.1 x.2.1 x.2.2.1 x.2.2.2)
      (fun x => Prog.lift (.call (14 : (Λ₀ F).Label) ⟨i, M.a6, h6, M.a7, h7, q, tri0, x.1, x.2.1, x.2.2.1, x.2.2.2⟩))
      (fun x => k0_part54 i M.a6 h6 M.a7 h7 q tri0 x.1 x.2.1 x.2.2.1 x.2.2.2)
      (fun _ hg => if_pos hg) (fun _ hg => if_neg hg)
      (fun _ h bd => k0_part54_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call15 {j : BitVec 32} {m : F .f32} {cc : FVec F S256x1 .f32} {acc : FVec F S256x128 .f32} (b) (hj : j.toInt < 15) :
    Runs c M none (Prog.lift (.call (15 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while15 i M.a6 h6 M.a7 h7 q tri0 x.1 x.2.1 x.2.2.1 x.2.2.2)
      (fun x => Prog.lift (.call (15 : (Λ₀ F).Label) ⟨i, M.a6, h6, M.a7, h7, q, tri0, x.1, x.2.1, x.2.2.1, x.2.2.2⟩))
      (fun x => k0_part55 i M.a6 h6 M.a7 h7 q tri0 x.1 x.2.1 x.2.2.1 x.2.2.2)
      (fun _ hg => if_pos hg) (fun _ hg => if_neg hg)
      (fun _ h bd => k0_part55_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

theorem call16 {j : BitVec 32} {m : F .f32} {cc : FVec F S256x1 .f32} {acc : FVec F S256x128 .f32} (b) (hj : j.toInt < 15) :
    Runs c M none (Prog.lift (.call (16 : (Λ₀ F).Label) ⟨i, M.a6, h6, M.a7, h7, q, tri0, j, m, cc, acc⟩)) (put s b) (tup (loopRes (vals s) q tri0 15 (j, m, cc, acc))) (put s b) :=
  Runs.call 15 (fun _ hu => absurd hu (Option.not_mem_none _))
    (loop_gen (put s b) q tri0 (fun x => cc0_while16 i M.a6 h6 M.a7 h7 q tri0 x.1 x.2.1 x.2.2.1 x.2.2.2)
      (fun x => Prog.lift (.call (16 : (Λ₀ F).Label) ⟨i, M.a6, h6, M.a7, h7, q, tri0, x.1, x.2.1, x.2.2.1, x.2.2.2⟩))
      (fun x => k0_part56 i M.a6 h6 M.a7 h7 q tri0 x.1 x.2.1 x.2.2.1 x.2.2.2)
      (fun _ hg => if_pos hg) (fun _ hg => if_neg hg)
      (fun _ h bd => k0_part56_eq_skeleton (F := F) ▸ Runs.bind (Runs.assume h _) (Runs.bind (Runs.load6 _) (Runs.bind (Runs.load7 _) (Runs.pure _ _))))
      (fun _ _ k hk _ h => Runs.call k hk h) 15 (le_refl _) (j, m, cc, acc) hj)

end Loops

/-- A block's store. -/
theorem store_block (s : St F c M) (b) (u : Fin 16) {w : FVec F S256x128 .bf16} {hx : (M.a5.access (rowsOf u)).Stores Finset.univ}
    {hm : (Finset.univ : Finset (rowsOf u).shape.Idx) = Finset.univ ∨ ∀ a, (rowsOf u).stride a = 1} (hw : w = blkOut (vals s) u) :
    Runs c M none (Prog.lift (.store M.a5 (rowsOf u) w Finset.univ hx hm)) (put s b) ⟨⟩ (put s (wr s b u)) := by
  subst hw; exact Runs.store5 _

theorem run1 (s : St F c M) (i : grid0.Coords) (h2) (h3) (h4) (h5) (h6) (h7) :
    Runs c M none (k0_part1 i M.a2 h2 M.a3 h3 M.a4 h4 M.a5 h5 M.a6 h6 M.a7 h7) s ⟨k0_pay5, k0_pay6, k0_pay7⟩ (put (filled s) s.g5) := by
  rw [k0_part1_eq_skeleton]
  exact Runs.bind (Runs.load6 _) (Runs.bind (Runs.store6 _) (Runs.bind (Runs.load7 _) (Runs.bind (Runs.store7 _) (Runs.bind (Runs.load3 _)
    (Runs.bind (Runs.load6 _) (Runs.bind (Runs.store6 _) (Runs.bind (Runs.load4 _) (Runs.bind (Runs.load7 _) (Runs.bind (Runs.store7 _) (Runs.pure _ _))))))))))

set_option maxHeartbeats 0 in
/-- The whole body: fill the scratch arrays, then store the sixteen blocks. -/
theorem run_body (s : St F c M) (i : grid0.Coords) (h2) (h3) (h4) (h5) (h6) (h7) :
    Runs c M none (k0_part40 i M.a2 h2 M.a3 h3 M.a4 h4 M.a5 h5 M.a6 h6 M.a7 h7) s ⟨⟩
      (put (filled s) (([0, 1, 2, 3, 4, 5, 6, 7, 8, 9, 10, 11, 12, 13, 14, 15] : List (Fin 16)).foldl (wr (filled s)) s.g5)) := by
  rw [k0_part40_eq_skeleton]
  refine Runs.bind (run1 s i h2 h3 h4 h5 h6 h7) ?_
  generalize hs : filled s = t
  dsimp only
  rw [k0_part2_eq_skeleton]
  apply Runs.bind
  · exact Runs.pure _ _
  dsimp only
  rw [k0_part3_eq_skeleton]
  apply Runs.bind
  · exact Runs.bind (Runs.load2 _) (Runs.bind (Runs.load6 _) (Runs.bind (Runs.load7 _) (Runs.pure _ _)))
  dsimp only
  rw [k0_part4_eq_skeleton]
  apply Runs.bind
  · exact Runs.bind (Runs.load6 _) (Runs.bind (Runs.load7 _) (Runs.pure _ _))
  dsimp only
  rw [k0_part5_eq_skeleton]
  apply Runs.bind
  · exact Runs.bind (Runs.load2 _) (Runs.bind (Runs.load6 _) (Runs.bind (Runs.load7 _) (Runs.pure _ _)))
  dsimp only
  rw [k0_part6_eq_skeleton]
  apply Runs.bind
  · exact Runs.bind (Runs.load6 _) (Runs.bind (Runs.load7 _) (Runs.pure _ _))
  dsimp only
  rw [k0_part7_eq_skeleton]
  apply Runs.bind
  · exact Runs.bind (Runs.load2 _) (Runs.bind (Runs.load6 _) (Runs.bind (Runs.load7 _) (Runs.pure _ _)))
  dsimp only
  rw [k0_part8_eq_skeleton]
  apply Runs.bind
  · exact Runs.bind (Runs.load6 _) (Runs.bind (Runs.load7 _) (Runs.pure _ _))
  dsimp only
  rw [k0_part9_eq_skeleton]
  apply Runs.bind
  · exact Runs.bind (Runs.load2 _) (Runs.bind (Runs.load6 _) (Runs.bind (Runs.load7 _) (Runs.pure _ _)))
  dsimp only
  rw [k0_part10_eq_skeleton]
  apply Runs.bind
  · exact Runs.bind (Runs.load6 _) (Runs.bind (Runs.load7 _) (Runs.pure _ _))
  dsimp only
  rw [k0_part11_eq_skeleton]
  apply Runs.bind
  · exact Runs.bind (Runs.load2 _) (Runs.bind (Runs.load6 _) (Runs.bind (Runs.load7 _) (Runs.pure _ _)))
  dsimp only
  rw [k0_part12_eq_skeleton]
  apply Runs.bind
  · exact Runs.bind (Runs.load6 _) (Runs.bind (Runs.load7 _) (Runs.pure _ _))
  dsimp only
  rw [k0_part13_eq_skeleton]
  apply Runs.bind
  · exact Runs.bind (Runs.load2 _) (Runs.bind (Runs.load6 _) (Runs.bind (Runs.load7 _) (Runs.pure _ _)))
  dsimp only
  rw [k0_part14_eq_skeleton]
  apply Runs.bind
  · exact Runs.bind (Runs.load6 _) (Runs.bind (Runs.load7 _) (Runs.pure _ _))
  dsimp only
  rw [k0_part15_eq_skeleton]
  apply Runs.bind
  · exact Runs.bind (Runs.load2 _) (Runs.bind (Runs.load6 _) (Runs.bind (Runs.load7 _) (Runs.pure _ _)))
  dsimp only
  rw [k0_part16_eq_skeleton]
  apply Runs.bind
  · exact Runs.bind (Runs.load6 _) (Runs.bind (Runs.load7 _) (Runs.pure _ _))
  dsimp only
  rw [k0_part17_eq_skeleton]
  apply Runs.bind
  · exact Runs.bind (Runs.load2 _) (Runs.bind (Runs.load6 _) (Runs.bind (Runs.load7 _) (Runs.pure _ _)))
  dsimp only
  rw [k0_part18_eq_skeleton]
  apply Runs.bind
  · exact Runs.bind (Runs.load6 _) (Runs.bind (Runs.load7 _) (Runs.pure _ _))
  dsimp only
  rw [k0_part19_eq_skeleton]
  apply Runs.bind
  · exact Runs.bind (Runs.load2 _) (Runs.bind (Runs.load6 _) (Runs.pure _ _))
  dsimp only
  rw [k0_part20_eq_skeleton]
  apply Runs.bind
  · exact Runs.bind (Runs.load7 _) (Runs.bind (Runs.load6 _) (Runs.pure _ _))
  dsimp only
  rw [k0_part21_eq_skeleton]
  apply Runs.bind
  · exact Runs.bind (Runs.load7 _) (Runs.bind (Runs.load2 _) (Runs.pure _ _))
  dsimp only
  rw [k0_part22_eq_skeleton]
  apply Runs.bind
  · exact Runs.bind (Runs.load6 _) (Runs.bind (Runs.load7 _) (Runs.pure _ _))
  dsimp only
  rw [k0_part23_eq_skeleton]
  apply Runs.bind
  · exact Runs.bind (Runs.load6 _) (Runs.bind (Runs.load7 _) (Runs.bind (Runs.load2 _) (Runs.pure _ _)))
  dsimp only
  rw [k0_part24_eq_skeleton]
  apply Runs.bind
  · exact Runs.bind (Runs.load6 _) (Runs.bind (Runs.load7 _) (Runs.pure _ _))
  dsimp only
  rw [k0_part25_eq_skeleton]
  apply Runs.bind
  · exact Runs.bind (Runs.load6 _) (Runs.bind (Runs.load7 _) (Runs.bind (Runs.load2 _) (Runs.pure _ _)))
  dsimp only
  rw [k0_part26_eq_skeleton]
  apply Runs.bind
  · exact Runs.bind (Runs.load6 _) (Runs.bind (Runs.load7 _) (Runs.pure _ _))
  dsimp only
  rw [k0_part27_eq_skeleton]
  apply Runs.bind
  · exact Runs.bind (Runs.load6 _) (Runs.bind (Runs.load7 _) (Runs.bind (Runs.load2 _) (Runs.pure _ _)))
  dsimp only
  rw [k0_part28_eq_skeleton]
  apply Runs.bind
  · exact Runs.bind (Runs.load6 _) (Runs.bind (Runs.load7 _) (Runs.pure _ _))
  dsimp only
  rw [k0_part29_eq_skeleton]
  apply Runs.bind
  · exact Runs.bind (Runs.load6 _) (Runs.bind (Runs.load7 _) (Runs.pure _ _))
  dsimp only
  rw [k0_part30_eq_skeleton]
  apply Runs.bind
  · exact Runs.bind (Runs.load2 _) (Runs.bind (Runs.load6 _) (Runs.bind (Runs.load7 _) (Runs.pure _ _)))
  dsimp only
  rw [k0_part31_eq_skeleton]
  apply Runs.bind
  · exact Runs.bind (Runs.load6 _) (Runs.bind (Runs.load7 _) (Runs.pure _ _))
  dsimp only
  rw [k0_part32_eq_skeleton]
  apply Runs.bind
  · exact Runs.bind (Runs.load2 _) (Runs.bind (Runs.load6 _) (Runs.bind (Runs.load7 _) (Runs.pure _ _)))
  dsimp only
  rw [k0_part33_eq_skeleton]
  apply Runs.bind
  · exact Runs.bind (Runs.load6 _) (Runs.bind (Runs.load7 _) (Runs.pure _ _))
  dsimp only
  rw [k0_part34_eq_skeleton]
  apply Runs.bind
  · exact Runs.bind (Runs.load2 _) (Runs.bind (Runs.load6 _) (Runs.bind (Runs.load7 _) (Runs.pure _ _)))
  dsimp only
  rw [k0_part35_eq_skeleton]
  apply Runs.bind
  · exact Runs.bind (Runs.load6 _) (Runs.bind (Runs.load7 _) (Runs.pure _ _))
  dsimp only
  rw [k0_part36_eq_skeleton]
  apply Runs.bind
  · unfold k0_part36_skel; dsimp only
    apply Runs.bind (call1 t i h6 h7 _ _ (by decide))
    dsimp only [tup]
    apply Runs.bind (Runs.load5 _)
    apply Runs.bind (store_block t _ 0 rfl)
    apply Runs.bind (call2 t i h6 h7 _ _ (by decide))
    dsimp only [tup]
    apply Runs.bind (Runs.load5 _)
    apply Runs.bind (store_block t _ 1 rfl)
    apply Runs.bind (call3 t i h6 h7 _ _ (by decide))
    dsimp only [tup]
    apply Runs.bind (Runs.load5 _)
    apply Runs.bind (store_block t _ 2 rfl)
    exact Runs.pure _ _
  dsimp only
  rw [k0_part37_eq_skeleton]
  apply Runs.bind
  · unfold k0_part37_skel; dsimp only
    apply Runs.bind (call4 t i h6 h7 _ _ (by decide))
    dsimp only [tup]
    apply Runs.bind (Runs.load5 _)
    apply Runs.bind (store_block t _ 3 rfl)
    apply Runs.bind (call5 t i h6 h7 _ _ (by decide))
    dsimp only [tup]
    apply Runs.bind (Runs.load5 _)
    apply Runs.bind (store_block t _ 4 rfl)
    apply Runs.bind (call6 t i h6 h7 _ _ (by decide))
    dsimp only [tup]
    apply Runs.bind (Runs.load5 _)
    apply Runs.bind (store_block t _ 5 rfl)
    apply Runs.bind (call7 t i h6 h7 _ _ (by decide))
    dsimp only [tup]
    apply Runs.bind (Runs.load5 _)
    apply Runs.bind (store_block t _ 6 rfl)
    exact Runs.pure _ _
  dsimp only
  rw [k0_part38_eq_skeleton]
  apply Runs.bind
  · unfold k0_part38_skel; dsimp only
    apply Runs.bind (call8 t i h6 h7 _ _ (by decide))
    dsimp only [tup]
    apply Runs.bind (Runs.load5 _)
    apply Runs.bind (store_block t _ 7 rfl)
    apply Runs.bind (call9 t i h6 h7 _ _ (by decide))
    dsimp only [tup]
    apply Runs.bind (Runs.load5 _)
    apply Runs.bind (store_block t _ 8 rfl)
    apply Runs.bind (call10 t i h6 h7 _ _ (by decide))
    dsimp only [tup]
    apply Runs.bind (Runs.load5 _)
    apply Runs.bind (store_block t _ 9 rfl)
    apply Runs.bind (call11 t i h6 h7 _ _ (by decide))
    dsimp only [tup]
    apply Runs.bind (Runs.load5 _)
    exact Runs.pure _ _
  rw [k0_part39_eq_skeleton]
  apply Runs.bind
  · unfold k0_part39_skel; dsimp only
    apply Runs.bind (store_block t _ 10 rfl)
    apply Runs.bind (call12 t i h6 h7 _ _ (by decide))
    dsimp only [tup]
    apply Runs.bind (Runs.load5 _)
    apply Runs.bind (store_block t _ 11 rfl)
    apply Runs.bind (call13 t i h6 h7 _ _ (by decide))
    dsimp only [tup]
    apply Runs.bind (Runs.load5 _)
    apply Runs.bind (store_block t _ 12 rfl)
    apply Runs.bind (call14 t i h6 h7 _ _ (by decide))
    dsimp only [tup]
    apply Runs.bind (Runs.load5 _)
    apply Runs.bind (store_block t _ 13 rfl)
    apply Runs.bind (call15 t i h6 h7 _ _ (by decide))
    dsimp only [tup]
    exact Runs.pure _ _
  dsimp only
  apply Runs.bind (Runs.load5 _)
  apply Runs.bind (store_block t _ 14 rfl)
  apply Runs.bind (call16 t i h6 h7 _ _ (by decide))
  dsimp only [tup]
  apply Runs.bind (Runs.load5 _)
  apply Runs.bind (store_block t _ 15 rfl)
  exact Runs.pure _ _

/-- The launch's body. -/
theorem run_kernel (s : St F c M) (i : grid0.Coords) (h2) (h3) (h4) (h5) (h6) (h7) :
    Runs c M none (cc0__sb_prompt_kernel_skel i M.a2 h2 M.a3 h3 M.a4 h4 M.a5 h5 M.a6 h6 M.a7 h7) s ⟨⟩
      (put (filled s) (([0, 1, 2, 3, 4, 5, 6, 7, 8, 9, 10, 11, 12, 13, 14, 15] : List (Fin 16)).foldl (wr (filled s)) s.g5)) := by
  unfold cc0__sb_prompt_kernel_skel
  exact Runs.bind (run_body s i h2 h3 h4 h5 h6 h7) (Runs.pure _ _)

end Cert.KernelIdeal.SB

end
-- ==== Proof.SB.Run.lean ====
module

public import proofs.«01_k».proof.Proof.SB.Body
public import proofs.«01_k».proof.Proof.Gen.KernelIdeal.Points
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.WritesUnit
public import Idealize.ShloMosaic.Lib.VecWindow
public import Idealize.ShloMosaic.Lib.Pointwise.Index

@[expose] public section

/-!
# The launch: what the body leaves in the block of results, and the run of the whole program.
-/

set_option maxRecDepth 16384

noncomputable section

namespace Cert.KernelIdeal.SB

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

/-! ### The arrays as values -/

/-- The keys, and the values, with a block of zeros in front. -/
def padK (x : Vec F S4096x128 .f32) : Vec F S4352x128 .bf16 := fun y =>
  if h : (y 0).val < 256 then k0_pay1 (F := F) (ix2 ⟨(y 0).val, h⟩ (y 1))
  else k0_pay3 x (ix2 ⟨(y 0).val - 256, by have : (y 0).val < 4352 := (y 0).isLt; omega⟩ (y 1))
def padV (x : Vec F S4096x128 .f32) : Vec F S4352x128 .bf16 := fun y =>
  if h : (y 0).val < 256 then k0_pay2 (F := F) (ix2 ⟨(y 0).val, h⟩ (y 1))
  else k0_pay4 x (ix2 ⟨(y 0).val - 256, by have : (y 0).val < 4352 := (y 0).isLt; omega⟩ (y 1))

/-- The block a row is in, and its place there. -/
def blkOf (y : S4096x128.Idx) : Fin 16 := ⟨(y 0).val / 256, by have : (y 0).val < 4096 := (y 0).isLt; omega⟩
def locOf (y : S4096x128.Idx) : S256x128.Idx := ix2 ⟨(y 0).val % 256, Nat.mod_lt _ (by decide)⟩ (y 1)

/-- The results. -/
def outV (x : Vals F) : Vec F S4096x128 .bf16 := fun y => blkOut x (blkOf y) (locOf y)

variable {c : Dev nD} {M : Mem}

theorem k0_off1_eq : ∀ u : Fin 16, k0_off1 (BitVec.ofNat 32 u.val) = ![256 * u.val, 0] := by decide +kernel

theorem read_wr (s : St F c M) (b) (u : Fin 16) (y : S4096x128.Idx) :
    M.a5.view.read (Elt F) (wr s b u) y = if blkOf y = u then blkOut (vals s) u (locOf y) else M.a5.view.read (Elt F) b y := by
  by_cases h : blkOf y = u
  · rw [if_pos h]
    subst h
    exact View.read_writes_cons_rows_of_mem M.a5.view b (k0_off1_inb (blkOf y)) _ [] y (locOf y) (k0_off1_eq _)
      (by show (y 0).val = 256 * ((y 0).val / 256) + (y 0).val % 256; omega) rfl
  · rw [if_neg h]
    refine View.read_writes_cons_rows_of_not_mem M.a5.view b (W := 256) (k0_off1_inb u) _ [] y (k0_off1_eq _) rfl ?_
    have : (y 0).val / 256 ≠ u.val := fun e => h (Fin.ext e)
    omega

theorem read_fold (s : St F c M) (y : S4096x128.Idx) : ∀ (us : List (Fin 16)) (b),
    (blkOf y ∈ us ∨ M.a5.view.read (Elt F) b y = outV (vals s) y) → M.a5.view.read (Elt F) (us.foldl (wr s) b) y = outV (vals s) y
  | [], _, h => h.resolve_left List.not_mem_nil
  | v :: us, b, h => by
    refine read_fold s y us _ ?_
    rw [read_wr]
    by_cases hv : blkOf y = v
    · right; rw [if_pos hv, ← hv]; rfl
    · rw [if_neg hv]
      exact h.imp (fun h => (List.mem_cons.mp h).resolve_left hv) id

/-- The body leaves the results in the block. -/
theorem read_out (s : St F c M) (b) :
    M.a5.view.read (Elt F) (([0, 1, 2, 3, 4, 5, 6, 7, 8, 9, 10, 11, 12, 13, 14, 15] : List (Fin 16)).foldl (wr s) b) = outV (vals s) :=
  funext fun y => read_fold s y _ b (.inl ((by decide : ∀ u : Fin 16, u ∈ ([0, 1, 2, 3, 4, 5, 6, 7, 8, 9, 10, 11, 12, 13, 14, 15] : List (Fin 16))) _))

/-- A scratch array after its two stores, an index at a time. -/
theorem read_two {k : Kind} {sp : Space} (v : View sig k sp S4352x128 .bf16) (f : v.ty.Contents (Elt F)) (p : Vec F S256x128 .bf16) (q : Vec F S4096x128 .bf16)
    (y : S4352x128.Idx) :
    v.read (Elt F) (v.writes (Elt F) f [⟨Rect.unit (s := S4352x128) ![256, 0] S4096x128.size inb_S4352x128_S4096x128_256_0, q⟩,
      ⟨Rect.unit (s := S4352x128) ![0, 0] S256x128.size inb_S4352x128_S256x128_0_0, p⟩]) y
    = if h : (y 0).val < 256 then p (ix2 ⟨(y 0).val, h⟩ (y 1))
      else q (ix2 ⟨(y 0).val - 256, by have : (y 0).val < 4352 := (y 0).isLt; omega⟩ (y 1)) := by
  by_cases h : (y 0).val < 256
  · rw [dif_pos h]
    refine (View.read_writes_cons_rows_of_not_mem v f (o := 256) (W := 4096) inb_S4352x128_S4096x128_256_0 q _ y rfl rfl (.inl h)).trans ?_
    exact View.read_writes_cons_rows_of_mem v f (o := 0) inb_S4352x128_S256x128_0_0 p [] y
        (ix2 ⟨(y 0).val, h⟩ (y 1)) rfl (Nat.zero_add _).symm rfl
  · rw [dif_neg h]
    have h' : 256 ≤ (y 0).val := Nat.le_of_not_lt h
    exact View.read_writes_cons_rows_of_mem v f (o := 256) inb_S4352x128_S4096x128_256_0 q _ y
        (ix2 ⟨(y 0).val - 256, by have : (y 0).val < 4352 := (y 0).isLt; omega⟩ (y 1)) rfl (Nat.add_sub_of_le h').symm rfl

/-- The scratch arrays, once filled. -/
theorem read_filled6 (s : St F c M) : M.a6.view.read (Elt F) (filled s).g6 = padK (M.a3.view.read (Elt F) s.g3) :=
by
  have e : (filled s).g6 = M.a6.view.writes (Elt F) s.g6 [⟨Rect.unit (s := S4352x128) ![256, 0] S4096x128.size inb_S4352x128_S4096x128_256_0,
      k0_pay3 (M.a3.view.readAt (Elt F) (Rect.unit (s := S4096x128) ![0, 0] S4096x128.size inb_S4096x128_S4096x128_0_0).toLoadRect s.g3)⟩,
      ⟨Rect.unit (s := S4352x128) ![0, 0] S256x128.size inb_S4352x128_S256x128_0_0, k0_pay1⟩] := by
    unfold filled
    rw [View.writes_cons, View.writes_cons, View.writes_nil]
  rw [e]
  funext y
  rw [read_two, View.readAt_full M.a3.view s.g3 inb_S4096x128_S4096x128_0_0]
  rfl
theorem read_filled7 (s : St F c M) : M.a7.view.read (Elt F) (filled s).g7 = padV (M.a4.view.read (Elt F) s.g4) :=
by
  have e : (filled s).g7 = M.a7.view.writes (Elt F) s.g7 [⟨Rect.unit (s := S4352x128) ![256, 0] S4096x128.size inb_S4352x128_S4096x128_256_0,
      k0_pay4 (M.a4.view.readAt (Elt F) (Rect.unit (s := S4096x128) ![0, 0] S4096x128.size inb_S4096x128_S4096x128_0_0).toLoadRect s.g4)⟩,
      ⟨Rect.unit (s := S4352x128) ![0, 0] S256x128.size inb_S4352x128_S256x128_0_0, k0_pay2⟩] := by
    unfold filled
    rw [View.writes_cons, View.writes_cons, View.writes_nil]
  rw [e]
  funext y
  rw [read_two, View.readAt_full M.a4.view s.g4 inb_S4096x128_S4096x128_0_0]
  rfl
theorem vals_filled (s : St F c M) :
    vals (filled s) = ⟨M.a2.view.read (Elt F) s.g2, padK (M.a3.view.read (Elt F) s.g3), padV (M.a4.view.read (Elt F) s.g4)⟩ := by
  rw [← read_filled6, ← read_filled7]
  rfl

/-- What the block of results is, from the three blocks read. -/
def out (q : Vec F S4096x128 .bf16) (k v : Vec F S4096x128 .f32) : Vec F S4096x128 .bf16 := outV ⟨q, padK k, padV v⟩

/-! ### The region's entry -/

variable (m : (ℓ : Loc nD τ sig) → Buf (Elt F) ℓ) (ρ : Dev nD → PrngReg)

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) (cfgs (F := F)) 0 defs₀ 𝒱₀ m (main (F := F)) (V m) :=
  Pipeline.hmain_prefix cfgs 0 defs₀ 𝒱₀ m main hostOps0 hostOps0_sub hostOps0_fresh main_chain

theorem V_arg (c : Dev nD) (b : Ref sig .tc) (h0 : b ≠ main_cst) (h1 : b ≠ main_v0) (h2 : b ≠ main_v1) (h3 : b ≠ main_v2) :
    V m c b = m ((c : Thread nD τ).loc b) :=
  StableHlo.after_of_forall_not_mem (b := Proc.devRef .tc b) _ _ (List.forall_iff_forall_mem.mp
    ⟨fun hm => StableHlo.devRef_ne_of_ne h0 (Finset.mem_singleton.mp hm), fun hm => StableHlo.devRef_ne_of_ne h1 (Finset.mem_singleton.mp hm),
      fun hm => StableHlo.devRef_ne_of_ne h2 (Finset.mem_singleton.mp hm), fun hm => StableHlo.devRef_ne_of_ne h3 (Finset.mem_singleton.mp hm)⟩)

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (iblk m c 0 t) (iblk m c 1 t) (iblk m c 2 t)
  Φ _ := Pipeline.ΦA spec0 c
  q _ := fullShare
  owed _ := 0

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => rfl) t d).trans rfl

/-! ### The body at a point of the grid -/

/-- Ownership of a whole buffer, spelt out. -/
theorem owns_whole {sp : Space} {sh : Shape} {e : EltTy} (a : Memref sig .tc sp sh e) (h : a.IsWhole) (c : Dev nD) (X : sh.Idx → Elt F e) :
    (owns (c : Thread nD τ) a fullShare X : sProp 𝕄) = iprop(∃ f, ⌜a.view.read (Elt F) f = X⌝ ∗ (a.view.loc (c : Thread nD τ) ↦{fullShare} f)) := by
  unfold owns; rw [h.set_eq_univ]

/-- The body on any six whole buffers. -/
theorem sound_kernel (c : Dev nD) (M : Mem) (i : grid0.Coords) (h2 : M.a2.IsWhole) (h3 : M.a3.IsWhole) (h4 : M.a4.IsWhole) (h5 : M.a5.IsWhole)
    (h6 : M.a6.IsWhole) (h7 : M.a7.IsWhole) (X2 : Vec F S4096x128 .bf16) (X3 X4 : Vec F S4096x128 .f32) (K : PUnit → sProp 𝕄) :
    iprop(owns (c : Thread nD τ) M.a2 fullShare X2 ∗ owns (c : Thread nD τ) M.a3 fullShare X3 ∗ owns (c : Thread nD τ) M.a4 fullShare X4
      ∗ (∃ d, owns (c : Thread nD τ) M.a5 fullShare d)
      ∗ (∃ f, M.a6.view.loc (c : Thread nD τ) ↦{fullShare} f) ∗ (∃ f, M.a7.view.loc (c : Thread nD τ) ↦{fullShare} f)
      ∗ (owns (c : Thread nD τ) M.a2 fullShare X2 ∗ owns (c : Thread nD τ) M.a3 fullShare X3 ∗ owns (c : Thread nD τ) M.a4 fullShare X4
        ∗ owns (c : Thread nD τ) M.a5 fullShare (out X2 X3 X4)
        ∗ (∃ f, M.a6.view.loc (c : Thread nD τ) ↦{fullShare} f) ∗ (∃ f, M.a7.view.loc (c : Thread nD τ) ↦{fullShare} f) -∗ K ⟨⟩))
    ⊢ wp frame (wpE (defs₀ (F := F)) 𝒱₀ (c : Thread nD τ) none) Set.univ
      (cc0__sb_prompt_kernel i M.a2 h2 M.a3 h3 M.a4 h4 M.a5 h5 M.a6 h6 M.a7 h7) K := by
  simp only [owns_whole M.a2 h2 c, owns_whole M.a3 h3 c, owns_whole M.a4 h4 c, owns_whole M.a5 h5 c]
  iintro ⟨⟨%f2, %e2, H2⟩, ⟨%f3, %e3, H3⟩, ⟨%f4, %e4, H4⟩, ⟨%d5, %f5, %e5, H5⟩, ⟨%f6, H6⟩, ⟨%f7, H7⟩, Hk⟩
  rw [cc0__sb_prompt_kernel_eq_skeleton]
  iapply (run_kernel ⟨f2, f3, f4, f5, f6, f7⟩ i h2 h3 h4 h5 h6 h7 K)
  unfold res
  isplitl [H2 H3 H4 H5 H6 H7]
  · isplitl [H2]; · iexact H2
    isplitl [H3]; · iexact H3
    isplitl [H4]; · iexact H4
    isplitl [H5]; · iexact H5
    isplitl [H6]; · iexact H6
    iexact H7
  iintro ⟨H2, H3, H4, H5, H6, H7⟩
  iapply Hk
  isplitl [H2]; · iexists _; isplitr [H2]; · ipureintro; exact e2
                  iexact H2
  isplitl [H3]; · iexists _; isplitr [H3]; · ipureintro; exact e3
                  iexact H3
  isplitl [H4]; · iexists _; isplitr [H4]; · ipureintro; exact e4
                  iexact H4
  isplitl [H5]
  · iexists _
    isplitr [H5]
    · ipureintro
      exact (read_out (filled ⟨f2, f3, f4, f5, f6, f7⟩) f5).trans (by rw [vals_filled]; simp only [e2, e3, e4]; rfl)
    iexact H5
  isplitl [H6]; · iexists _; iexact H6
  iexists _; iexact H7

theorem sound_body (c : Dev nD) (t : Fin (cfg0 (F := F)).N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ wp frame (wpE (defs₀ (F := F)) 𝒱₀ (c : Thread nD τ) none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t))) := by
  simp only [before_0, before_1, before_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    show (dats m 0 c).after 0 t = iblk m c 0 t from rfl, show (dats m 0 c).after 1 t = iblk m c 1 t from rfl,
    show (dats m 0 c).after 2 t = iblk m c 2 t from rfl,
    show (dats m 0 c).after 3 t = out (iblk m c 0 t) (iblk m c 1 t) (iblk m c 2 t) from rfl]
  unfold Pipeline.ΦA
  rw [scopedRest0_eq c]
  iintro ⟨⟨⟨H6, H7⟩, Hr⟩, Ho, ⟨%d0, H2⟩, ⟨%d1, H3⟩, ⟨%d2, H4⟩, ⟨%d3, H5⟩⟩
  iapply (sound_kernel c ⟨st0_0 t, st0_1 t, st0_2 t, st0_3 t, Memref.whole cc0_scratch0, Memref.whole cc0_scratch1⟩ (grid0.coords t)
    (stage_whole0 0 _) (stage_whole0 1 _) (stage_whole0 2 _) (stage_whole0 3 _) (Memref.isWhole_whole _) (Memref.isWhole_whole _)
    (iblk m c 0 t) (iblk m c 1 t) (iblk m c 2 t) _)
  isplitl [H2]; · iexact H2
  isplitl [H3]; · iexact H3
  isplitl [H4]; · iexact H4
  isplitl [H5]; · iexists _; iexact H5
  isplitl [H6]; · iexact H6
  isplitl [H7]; · iexact H7
  iintro ⟨H2, H3, H4, H5, H6, H7⟩
  isplitl [H6 H7 Hr]
  · isplitl [H6 H7]
    · isplitl [H6]; · iexact H6
      iexact H7
    iexact Hr
  isplitl [Ho]; · iexact Ho
  isplitl [H2]; · iexact H2
  isplitl [H3]; · iexact H3
  isplitl [H4]; · iexact H4
  iexact H5

theorem defs₀_row (t : Fin (cfg0 (F := F)).N) :
    (defs₀ (F := F)) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run -/

theorem run_main : θ_run (defs (F := F)) (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := fun _ _ => rfl) (hΦ := fun _ _ => rfl)

/-- The run: the arguments end as they were, the result is what the launch's blocks make it, every counter is zero. -/
theorem run : θ_run (defs (F := F)) (onTc (τ := τ) (main (F := F))) ⟨m, fun _ => 0, ρ⟩ (fun r => (∀ c : Dev nD,
      r.2.mem ((c.tc : Thread nD τ).loc main_v3) = (dats m 0 c).arrAt 3 (Fin.last (cfg0 (F := F)).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun _ ⟨h, hz⟩ => ⟨fun c => ⟨(h c).1 3,
      ((h c).2 main_arg0 (Pipeline.mem_restRefs_of main_arg0 rfl (fun w => by fin_cases w <;> exact fun h => by cases h))).trans
        (V_arg m c main_arg0 (by decide) (by decide) (by decide) (by decide)),
      ((h c).1 1).trans (((dats m 0 c).arrAt_in 1 rfl _).trans (V_arg m c main_arg1 (by decide) (by decide) (by decide) (by decide))),
      ((h c).1 2).trans (((dats m 0 c).arrAt_in 2 rfl _).trans (V_arg m c main_arg2 (by decide) (by decide) (by decide) (by decide)))⟩, hz⟩) (run_main m ρ)

end Cert.KernelIdeal.SB

end
-- ==== Proof.SB.Block.lean ====
module

public import proofs.«01_k».proof.Proof.SB.Body
public import proofs.«01_k».proof.Proof.SB.Math
public import Idealize.ShloMosaic.Lib.Pointwise

@[expose] public section

/-!
# The arithmetic of one block, an element at a time.
-/

set_option maxRecDepth 16384

noncomputable section

namespace Cert.KernelIdeal.SB

open Cert.KernelIdeal Cert.KernelIdeal.Gen Cert.SBMath
open Idealize.ShloMosaic
open scoped BigOperators

theorem zB_apply (q kb : FVec Ideal S256x128 .bf16) (r s : Fin 256) :
    zB q kb (ix2 r s) = ∑ e : Fin 128, (q (ix2 r e) * kb (ix2 s e) : EReal) := by
  pointwise [zB]

theorem spB_apply (q kb : FVec Ideal S256x128 .bf16) (r s : Fin 256) :
    spB q kb (ix2 r s) = sp (zB q kb (ix2 r s)) := by
  pointwise [spB, nzB, zero256, one256, sp]

theorem lbB_apply (q kb : FVec Ideal S256x128 .bf16) (r s : Fin 256) :
    lbB q kb (ix2 r s) = lb (zB q kb (ix2 r s)) := by
  pointwise [lbB, zero256, spB_apply, lb]

theorem lkB_apply (q kb : FVec Ideal S256x128 .bf16) (r s : Fin 256) :
    lkB q kb (ix2 r s) = lk (zB q kb (ix2 r s)) := by
  pointwise [lkB, nzB, zero256, spB_apply, lk]

theorem mask0_apply (r s : Fin 256) : mask0 (ix2 r s) = BitVec.ofBool (decide (s.val < r.val)) := by
  pointwise [mask0, k0_pay9]
  exact slt_ofNat s.val r.val (by omega) (by omega)

/-- The row of the triangle, counted within its copy. -/
theorem row_word : ∀ r : Fin 512, Scalar.select
    (IntOp.andi
      (IntOp.xori
        (IntOp.cmpi .slt (IntOp.remsi .vector (BitVec.ofNat 32 r.val) (Scalar.select (Scalar.cmpi .eq 256#32 0#32) 1#32 256#32)) 0#32)
        (Scalar.cmpi .slt (Scalar.select (Scalar.cmpi .eq 256#32 0#32) 1#32 256#32) 0#32))
      (IntOp.cmpi .ne (IntOp.remsi .vector (BitVec.ofNat 32 r.val) (Scalar.select (Scalar.cmpi .eq 256#32 0#32) 1#32 256#32)) 0#32))
    (IntOp.addi (IntOp.remsi .vector (BitVec.ofNat 32 r.val) (Scalar.select (Scalar.cmpi .eq 256#32 0#32) 1#32 256#32))
      (Scalar.select (Scalar.cmpi .eq 256#32 0#32) 1#32 256#32))
    (IntOp.remsi .vector (BitVec.ofNat 32 r.val) (Scalar.select (Scalar.cmpi .eq 256#32 0#32) 1#32 256#32))
    = BitVec.ofNat 32 (r.val % 256) := by decide +kernel

theorem tri0_apply (r : Fin 512) (s : Fin 256) : (tri0 (F := Ideal) (ix2 r s) : EReal) = if s.val < r.val % 256 then 1 else 0 := by
  pointwise [tri0, k0_pay8, k0_pay5, k0_pay6, k0_pay7]
  rw [row_word]
  have h : IntOp.cmpi .sgt (BitVec.ofNat 32 (r.val % 256)) (BitVec.ofNat 32 s.val) = BitVec.ofBool (decide (s.val < r.val % 256)) :=
    slt_ofNat s.val (r.val % 256) (by omega) (by omega)
  rw [h]
  by_cases hs : s.val < r.val % 256
  · rw [if_pos hs, decide_eq_true hs]; rfl
  · rw [if_neg hs, decide_eq_false hs]; rfl

theorem aftB_apply (x : FVec Ideal S256x256 .f32) (hx : ∀ r s, (x (ix2 r s) : EReal) ≠ ⊤) (r s : Fin 256) :
    (aftB tri0 x (ix2 r s) : EReal) = ∑ s' : Fin 256, if s.val < s'.val then (x (ix2 r s') : EReal) else 0 := by
  pointwise [aftB]
  rw [← Finset.sum_add_distrib]
  refine Finset.sum_congr rfl fun s' _ => ?_
  rw [tri0_apply, tri0_apply, Nat.mod_eq_of_lt s'.isLt, show (256 + s'.val) % 256 = s'.val by omega]
  split
  · rw [mul_one, mul_one]; exact split_eq (hx r s')
  · rw [mul_zero, mul_zero, add_zero]

theorem cB_apply (x : FVec Ideal S256x256 .f32) (c : FVec Ideal S256x1 .f32) (r : Fin 256) :
    (cB x c (ix2 r 0) : EReal) = c (ix2 r 0) + ∑ s : Fin 256, (x (ix2 r s) : EReal) := by
  pointwise [cB]

theorem wB_apply (l x : FVec Ideal S256x256 .f32) (c : FVec Ideal S256x1 .f32) (r s : Fin 256) :
    (wB tri0 l x c (ix2 r s) : EReal) = Ideal.exp ((l (ix2 r s) : EReal) + aftB tri0 x (ix2 r s) + c (ix2 r 0)) := by
  pointwise [wB]

theorem accB_apply (w : FVec Ideal S256x256 .f32) (vb : FVec Ideal S256x128 .bf16) (acc : FVec Ideal S256x128 .f32) (r : Fin 256) (d : Fin 128) :
    (accB w vb acc (ix2 r d) : EReal) = acc (ix2 r d) + ∑ s : Fin 256, ((w (ix2 r s) : EReal) * vb (ix2 s d) : EReal) := by
  pointwise [accB]

theorem cmx_le (c : FVec Ideal S256x1 .f32) (r : Fin 256) : (c (ix2 r 0) : EReal) ≤ cmx c := by
  pointwise [cmx]
  rw [Finset.le_fold_max]
  exact .inr ⟨(r, 0), Finset.mem_univ _, le_rfl⟩

end Cert.KernelIdeal.SB

end
-- ==== Proof.SB.Rows.lean ====
module

public import proofs.«01_k».proof.Proof.SB.Block
public import proofs.«01_k».proof.Proof.SB.Run

@[expose] public section

/-!
# What a block of results holds: the attention of each of its queries over all older keys.
-/

set_option maxRecDepth 16384

noncomputable section

namespace Cert.KernelIdeal.SB

open Cert.KernelIdeal Cert.KernelIdeal.Gen Cert.SBMath
open Idealize.ShloMosaic
open scoped BigOperators

/-! ### The parts of the arrays -/

theorem k0_off2_eq : ∀ u : Fin 16, k0_off2 (BitVec.ofNat 32 u.val) = ![256 * (u.val + 1), 0] := by decide +kernel
theorem k0_off3_eq : ∀ u : Fin 16, k0_off3 (BitVec.ofNat 32 u.val) = ![256 * u.val, 0] := by decide +kernel
theorem k0_off4_eq : ∀ u : Fin 15, k0_off4 (BitVec.ofNat 32 u.val) = ![256 * (u.val + 1), 0] := by decide +kernel

theorem ld_rows {n : ℕ} {α : Type} (x : (⟨2, ![n, 128]⟩ : Shape).Idx → α) (off : Fin 2 → ℕ) (o : ℕ) (ho : off = ![o, 0])
    (inb : ∀ a : Fin 2, off a + S256x128.size a ≤ (⟨2, ![n, 128]⟩ : Shape).size a) (s : Fin 256) (e : Fin 128) (h : o + s.val < n) :
    x ((Rect.unit (s := (⟨2, ![n, 128]⟩ : Shape)) off S256x128.size inb).idx (ix2 s e)) = x (ix2 ⟨o + s.val, h⟩ e) := by
  subst ho
  congr 1
  funext a
  apply Fin.ext
  match a with
  | ⟨0, _⟩ => show o + 1 * s.val = o + s.val; omega
  | ⟨1, _⟩ => show 0 + 1 * e.val = e.val; omega

variable (x : Vals Ideal) (u : Fin 16)

theorem qAt_apply (r : Fin 256) (e : Fin 128) : qAt x u (ix2 r e) = x.q (ix2 ⟨256 * u.val + r.val, by omega⟩ e) := by
  unfold qAt
  pointwise
  have h0 : k0_off1 (BitVec.ofNat 32 u.val) 0 = 256 * u.val := by rw [k0_off1_eq]; rfl
  have h1 : k0_off1 (BitVec.ofNat 32 u.val) 1 = 0 := by rw [k0_off1_eq]; rfl
  simp only [h0, h1, Nat.zero_add]
theorem kdAt_apply (s : Fin 256) (e : Fin 128) : kdAt x u (ix2 s e) = x.k (ix2 ⟨256 * (u.val + 1) + s.val, by omega⟩ e) :=
  ld_rows x.k _ _ (k0_off2_eq u) _ s e _
theorem vdAt_apply (s : Fin 256) (e : Fin 128) : vdAt x u (ix2 s e) = x.v (ix2 ⟨256 * (u.val + 1) + s.val, by omega⟩ e) :=
  ld_rows x.v _ _ (k0_off2_eq u) _ s e _
theorem kpAt_apply (s : Fin 256) (e : Fin 128) : kpAt x u (ix2 s e) = x.k (ix2 ⟨256 * u.val + s.val, by omega⟩ e) :=
  ld_rows x.k _ _ (k0_off3_eq u) _ s e _
theorem vpAt_apply (s : Fin 256) (e : Fin 128) : vpAt x u (ix2 s e) = x.v (ix2 ⟨256 * u.val + s.val, by omega⟩ e) :=
  ld_rows x.v _ _ (k0_off3_eq u) _ s e _

/-! ### One query -/

/-- The score of the key in row `p` of the padded keys, for the query in row `r` of block `u`. -/
def zf (r : Fin 256) (p : ℕ) : EReal :=
  if h : p < 4352 then ∑ e : Fin 128, (x.q (ix2 ⟨256 * u.val + r.val, by omega⟩ e) * x.k (ix2 ⟨p, h⟩ e) : EReal) else 0
/-- Component `d` of the value in row `p`. -/
def vf (d : Fin 128) (p : ℕ) : EReal := if h : p < 4352 then x.v (ix2 ⟨p, h⟩ d) else 0
/-- The query's own row among the padded keys. -/
def nq (r : Fin 256) : ℕ := 256 * (u.val + 1) + r.val

/-- `kb` and `vb` are the 256 keys and values from row `B` on. -/
def IsK (B : ℕ) (kb : FVec Ideal S256x128 .bf16) : Prop :=
  ∀ (s : Fin 256) (e : Fin 128) (h : B + s.val < 4352), kb (ix2 s e) = x.k (ix2 ⟨B + s.val, h⟩ e)
def IsV (B : ℕ) (vb : FVec Ideal S256x128 .bf16) : Prop :=
  ∀ (s : Fin 256) (e : Fin 128) (h : B + s.val < 4352), vb (ix2 s e) = x.v (ix2 ⟨B + s.val, h⟩ e)

/-- The carried logs and the accumulator, once the keys from row `B` on have been seen. -/
structure Good (B : ℕ) (c : FVec Ideal S256x1 .f32) (acc : FVec Ideal S256x128 .f32) : Prop where
  c_eq : ∀ r, (c (ix2 r 0) : EReal) = rest (zf x u r) (nq u r) 4352 B
  acc_eq : ∀ r d, (acc (ix2 r d) : EReal) = attn (zf x u r) (nq u r) 4352 (vf x d) B

variable {x u}

theorem zB_eq {B : ℕ} (hB : B + 256 ≤ 4352) {kb : FVec Ideal S256x128 .bf16} (hk : IsK x B kb) (r s : Fin 256) :
    zB (qAt x u) kb (ix2 r s) = zf x u r (B + s.val) := by
  rw [zB_apply, zf, dif_pos (show B + s.val < 4352 by omega)]
  exact Finset.sum_congr rfl fun e _ => by rw [qAt_apply, hk s e (by omega)]

/-- A block, from its logs `L` and weights `W`. -/
theorem good_step {B : ℕ} (hB : B + 256 ≤ 4352) {vb : FVec Ideal S256x128 .bf16} (hv : IsV x B vb)
    {c : FVec Ideal S256x1 .f32} {acc : FVec Ideal S256x128 .f32} (hg : Good x u (B + 256) c acc) (L W : FVec Ideal S256x256 .f32)
    (hL : ∀ r s : Fin 256, (L (ix2 r s) : EReal) = keep (zf x u r) (nq u r) (B + s.val))
    (hW : ∀ r s : Fin 256, (W (ix2 r s) : EReal) = weight (zf x u r) (nq u r) 4352 (B + s.val)) :
    Good x u B (cB L c) (accB W vb acc) where
  c_eq r := by
    rw [cB_apply, hg.c_eq, rest_block _ _ _ hB, add_comm]
    congr 1
    exact Finset.sum_congr rfl fun s _ => hL r s
  acc_eq r d := by
    rw [accB_apply, hg.acc_eq, attn_block _ _ _ _ hB]
    congr 1
    refine Finset.sum_congr rfl fun s _ => ?_
    rw [hW r s, hv s d (by omega), vf, dif_pos (show B + s.val < 4352 by omega)]

/-- A weight, before the mask. -/
theorem wB_eq {B : ℕ} (hB : B + 256 ≤ 4352) {kb : FVec Ideal S256x128 .bf16} (hk : IsK x B kb)
    {c : FVec Ideal S256x1 .f32} {acc : FVec Ideal S256x128 .f32} (hg : Good x u (B + 256) c acc) (L : FVec Ideal S256x256 .f32)
    (hL : ∀ r s : Fin 256, (L (ix2 r s) : EReal) = keep (zf x u r) (nq u r) (B + s.val)) (r s : Fin 256) :
    (wB tri0 (lbB (qAt x u) kb) L c (ix2 r s) : EReal)
      = Ideal.exp (lb (zf x u r (B + s.val)) + rest (zf x u r) (nq u r) 4352 (B + s.val + 1)) := by
  rw [wB_apply, aftB_apply L (fun r s => by rw [hL]; exact keep_ne_top _ _ _), lbB_apply, zB_eq hB hk, hg.c_eq,
    rest_inside _ _ _ hB s, add_assoc]
  congr 3
  exact Finset.sum_congr rfl fun s' _ => by rw [hL]

/-- A block of keys all before the queries. -/
theorem good_old {B : ℕ} (hB : B + 256 ≤ 256 * (u.val + 1)) {kb vb : FVec Ideal S256x128 .bf16} (hk : IsK x B kb) (hv : IsV x B vb)
    {c : FVec Ideal S256x1 .f32} {acc : FVec Ideal S256x128 .f32} (hg : Good x u (B + 256) c acc) :
    Good x u B (cB (lkB (qAt x u) kb) c) (accB (wB tri0 (lbB (qAt x u) kb) (lkB (qAt x u) kb) c) vb acc) := by
  have hu := u.isLt
  have hB' : B + 256 ≤ 4352 := by omega
  have hlt : ∀ r s : Fin 256, B + s.val < nq u r := fun r s => by unfold nq; omega
  have hL : ∀ r s : Fin 256, (lkB (qAt x u) kb (ix2 r s) : EReal) = keep (zf x u r) (nq u r) (B + s.val) := fun r s => by
    rw [lkB_apply, zB_eq hB' hk, keep, if_pos (hlt r s)]
  exact good_step hB' hv hg _ _ hL fun r s => by rw [wB_eq hB' hk hg _ hL, weight, if_pos (hlt r s)]

theorem good_zero : Good x u (256 * (u.val + 1) + 256) (broadcast S256x1 (Scalar.ofBits (F := Ideal) .f32 0x00000000#32))
    (broadcast S256x128 (Scalar.ofBits (F := Ideal) .f32 0x00000000#32)) where
  c_eq r := by
    rw [rest_after _ _ _ (by unfold nq; omega)]
    exact Ideal.ofBits_zero_f32
  acc_eq r d := by
    rw [attn_after _ _ _ _ (by unfold nq; omega)]
    exact Ideal.ofBits_zero_f32

theorem sel_mask (a b : FVec Ideal S256x256 .f32) (r s : Fin 256) :
    (select mask0 a b (ix2 r s) : EReal) = if s.val < r.val then a (ix2 r s) else b (ix2 r s) := by
  pointwise [mask0_apply]

theorem zero256_apply (r s : Fin 256) : (zero256 (F := Ideal) (ix2 r s) : EReal) = 0 := Ideal.ofBits_zero_f32

/-- The diagonal block. -/
theorem good_diag : Good x u (256 * (u.val + 1)) (cD x u) (accD x u) := by
  have hu := u.isLt
  have hB : 256 * (u.val + 1) + 256 ≤ 4352 := by omega
  have hk : IsK x (256 * (u.val + 1)) (kdAt x u) := fun s e _ => kdAt_apply x u s e
  have hv : IsV x (256 * (u.val + 1)) (vdAt x u) := fun s e _ => vdAt_apply x u s e
  have hlt : ∀ r s : Fin 256, (256 * (u.val + 1) + s.val < nq u r) = (s.val < r.val) := fun r s => by
    unfold nq; exact propext (Nat.add_lt_add_iff_left)
  have hL : ∀ r s : Fin 256, (lkM mask0 (qAt x u) (kdAt x u) (ix2 r s) : EReal)
      = keep (zf x u r) (nq u r) (256 * (u.val + 1) + s.val) := fun r s => by
    rw [lkM, sel_mask, lkB_apply, zB_eq hB hk, keep, zero256_apply]
    simp only [hlt]
  exact good_step hB hv good_zero _ _ hL fun r s => by
    rw [wD, sel_mask, wB_eq hB hk good_zero _ hL, weight, zero256_apply]
    simp only [hlt]

/-- The block before it. -/
theorem good_prev : Good x u (256 * u.val) (cP x u) (accP x u) :=
  good_old (B := 256 * u.val) (by omega) (fun s e _ => kpAt_apply x u s e) (fun s e _ => vpAt_apply x u s e) good_diag

/-! ### The loop -/

theorem chk_eq {j : BitVec 32} (h0 : 0 ≤ j.toInt) (h1 : j.toInt < 15) : ∃ n : Fin 15, j = BitVec.ofNat 32 n.val ∧ j.toInt = n.val := by
  have e : j.toInt = j.toNat := by
    rw [BitVec.toInt_eq_toNat_cond] at h0 h1 ⊢
    have := j.isLt
    split at h0 <;> simp_all <;> omega
  exact ⟨⟨j.toNat, by omega⟩, by simp, e⟩

/-- What the loop leaves is the sum over all keys but the zeros in front. -/
theorem loop_eq (hz : ∀ d p, p < 256 → vf x d p = 0) : ∀ (n : ℕ), n ≤ 15 → ∀ (y : Carry Ideal) (A : ℕ), y.1.toInt < n →
    (A : ℤ) = 256 * (y.1.toInt + 2) → A ≤ 256 * (u.val + 1) → y.2.1 = cmx y.2.2.1 → Good x u A y.2.2.1 y.2.2.2 → ∀ r d,
    ((loopRes x (qAt x u) tri0 n y).2.2.2 (ix2 r d) : EReal) = attn (zf x u r) (nq u r) 4352 (vf x d) 256 := by
  have hu := u.isLt
  have stop : ∀ (y : Carry Ideal) (A : ℕ), (A : ℤ) = 256 * (y.1.toInt + 2) → A ≤ 256 * (u.val + 1) → y.1.toInt < 0 →
      Good x u A y.2.2.1 y.2.2.2 → ∀ r d, (y.2.2.2 (ix2 r d) : EReal) = attn (zf x u r) (nq u r) 4352 (vf x d) 256 := by
    intro y A hA hAu hy hg r d
    rw [hg.acc_eq]
    exact attn_zero _ _ _ _ (by omega) (by omega) fun p hp => hz d p hp
  intro n
  induction n with
  | zero => exact fun _ y A hn hA hAu _ hg r d => stop y A hA hAu (by omega) hg r d
  | succ n ih =>
    intro hn15 y A hn hA hAu hm hg r d
    by_cases hgo : goOn y
    · have h0 := goOn_nonneg hgo
      have hc : k0_chk1 y.1 := chk_of y.1 h0 (by omega)
      rw [loopRes, if_pos hgo, dif_pos hc]
      obtain ⟨j, hj, hji⟩ := chk_eq h0 (show y.1.toInt < 15 by omega)
      have hoff : k0_off4 y.1 = ![256 * (j.val + 1), 0] := by rw [hj]; exact k0_off4_eq j
      have hAj : A = 256 * (j.val + 1) + 256 := by omega
      subst hAj
      refine ih (by omega) _ (256 * (j.val + 1)) ?_ ?_ (by omega) rfl
        (good_old (by omega) (fun s e _ => ld_rows x.k _ _ hoff _ s e _) (fun s e _ => ld_rows x.v _ _ hoff _ s e _) hg) r d
      · show (Scalar.subi y.1 1#32).toInt < n
        rw [sub_one_toInt _ h0]; omega
      · show _ = 256 * ((Scalar.subi y.1 1#32).toInt + 2)
        rw [sub_one_toInt _ h0]; push_cast; omega
    · rw [loopRes, if_neg hgo]
      rcases lt_or_ge y.1.toInt 0 with hy | hy
      · exact stop y A hA hAu hy hg r d
      · have hb : (y.2.1 : EReal) = ⊥ := by
          by_contra hne
          refine hgo (IntOp.andi_eq_one.2 ⟨?_, ?_⟩)
          · show IntOp.cmpi .sge y.1 0#32 = 1#1
            rw [WordCmp.cmpi_sge_eq, BitVec.toInt_zero, decide_eq_true hy]; rfl
          · show Ideal.cmp .ogt (y.2.1 : EReal) ⊥ = 1#1
            unfold Ideal.cmp
            rw [show decide (⊥ < (y.2.1 : EReal)) = true from decide_eq_true (bot_lt_iff_ne_bot.mpr hne)]; rfl
        have hr : rest (zf x u r) (nq u r) 4352 A = ⊥ := by
          rw [← hg.c_eq r, ← le_bot_iff, ← hb, hm]
          exact cmx_le _ r
        rw [hg.acc_eq]
        exact (attn_dead _ _ _ _ (by omega) (by omega) hr).symm

/-- A block of results. -/
theorem blkOut_eq (hz : ∀ d p, p < 256 → vf x d p = 0) (r : Fin 256) (d : Fin 128) :
    (blkOut x u (ix2 r d) : EReal) = attn (zf x u r) (nq u r) 4352 (vf x d) 256 := by
  have h : ∀ u : Fin 16, (Scalar.subi (Scalar.addi (Scalar.muli 16#32 0#32) (BitVec.ofNat 32 u.val)) 2#32).toInt = (u.val : ℤ) - 2 := by
    decide +kernel
  have hu := u.isLt
  exact loop_eq hz 15 le_rfl (start x u) (256 * u.val) (by rw [show (start x u).1.toInt = _ from h u]; omega)
    (by rw [show (start x u).1.toInt = _ from h u]; push_cast; ring) (by omega) rfl good_prev r d

/-! ### A launch point's results -/

/-- The score of key `p` for the query in row `R`. -/
def zq (q : FVec Ideal S4096x128 .bf16) (k : FVec Ideal S4096x128 .f32) (R : Fin 4096) (p : ℕ) : EReal :=
  if h : p < 4096 then ∑ e : Fin 128, (q (ix2 R e) * k (ix2 ⟨p, h⟩ e) : EReal) else 0
/-- Component `d` of value `p`. -/
def vq (v : FVec Ideal S4096x128 .f32) (d : Fin 128) (p : ℕ) : EReal := if h : p < 4096 then v (ix2 ⟨p, h⟩ d) else 0

theorem padK_low (k : FVec Ideal S4096x128 .f32) (p : ℕ) (h : p < 4096) (e : Fin 128) :
    (padK (F := Ideal) k (ix2 ⟨p + 256, by omega⟩ e) : EReal) = k (ix2 ⟨p, h⟩ e) := by
  refine (dif_neg (show ¬ p + 256 < 256 by omega)).trans ?_
  pointwise [k0_pay3]
  simp only [Nat.add_sub_cancel]
theorem padV_low (v : FVec Ideal S4096x128 .f32) (p : ℕ) (h : p < 4096) (e : Fin 128) :
    (padV (F := Ideal) v (ix2 ⟨p + 256, by omega⟩ e) : EReal) = v (ix2 ⟨p, h⟩ e) := by
  refine (dif_neg (show ¬ p + 256 < 256 by omega)).trans ?_
  pointwise [k0_pay4]
  simp only [Nat.add_sub_cancel]
theorem padV_zero (v : FVec Ideal S4096x128 .f32) (p : Fin 4352) (h : p.val < 256) (e : Fin 128) :
    (padV (F := Ideal) v (ix2 p e) : EReal) = 0 := by
  refine (dif_pos (show p.val < 256 from h)).trans ?_
  pointwise [k0_pay2]

/-- The results of a launch point: the attention of each query over the keys before it. -/
theorem out_apply (q : FVec Ideal S4096x128 .bf16) (k v : FVec Ideal S4096x128 .f32) (R : Fin 4096) (d : Fin 128) :
    (out (F := Ideal) q k v (ix2 R d) : EReal) = attn (zq q k R) R.val 4096 (vq v d) 0 := by
  unfold out outV
  have hR := R.isLt
  have hz : ∀ (d : Fin 128) p, p < 256 → vf ⟨q, padK k, padV v⟩ d p = 0 := fun d p hp => by
    unfold vf
    rw [dif_pos (by omega)]
    exact padV_zero v _ hp d
  refine (blkOut_eq hz ⟨R.val % 256, Nat.mod_lt _ (by decide)⟩ d).trans ?_
  have hn : nq (blkOf (ix2 R d)) ⟨R.val % 256, Nat.mod_lt _ (by decide)⟩ = R.val + 256 := by
    show 256 * (R.val / 256 + 1) + R.val % 256 = _
    omega
  rw [hn]
  refine (attn_shift _ R.val 4096 _ 256 0).trans (?_ : attn _ _ _ _ _ = attn _ _ _ _ _)
  refine attn_congr _ _ _ (fun p hp => ?_) (fun p hp => ?_) 0
  · unfold zf zq
    rw [dif_pos (show p + 256 < 4352 by omega), dif_pos hp]
    refine Finset.sum_congr rfl fun e _ => ?_
    refine congrArg₂ (fun a b : EReal => a * b) (congrArg (fun i => (q (ix2 i e) : EReal)) ?_) (padK_low k p hp e)
    exact Fin.ext (show 256 * (R.val / 256) + R.val % 256 = R.val by omega)
  · unfold vf vq
    rw [dif_pos (show p + 256 < 4352 by omega), dif_pos hp]
    exact padV_low v p hp d

end Cert.KernelIdeal.SB

end
-- ==== Proof.SB.Ref.lean ====
module

public import proofs.«01_k».proof.Proof.Gen.ReferenceIdeal.Run
public import proofs.«01_k».proof.Proof.SB.Math
public import Idealize.ShloMosaic.Lib.Pointwise
public import Idealize.ShloMosaic.Lib.Tactic.CleanTypes

@[expose] public section

/-!
# The reference's result: each query's attention.
-/

set_option maxRecDepth 16384

noncomputable section

namespace Cert.ReferenceIdeal.SB

open Cert.ReferenceIdeal Cert.ReferenceIdeal.Gen Cert.SBMath
open Idealize.ShloMosaic Idealize.ShloMosaic.TcCoe
open scoped BigOperators

variable {F : FTy → Type} [FloatOps F]

abbrev A4 (F : FTy → Type) := FVec F S4x32x4096x4096 .f32

/-- The log of a sigmoid, as the program writes it: `-(log (exp (-x) + exp 0))`. -/
def lsR (x : A4 F) : A4 F :=
  let o : A4 F := broadcastInDim S4x32x4096x4096 ![] bcast_S_S4x32x4096x4096 (constant S_ .f32 0x00000000#32)
  let n := Host.negf x
  let d := subf n o
  Host.negf (select (cmpf .une d d) (addf n o) (addf (maximumf n o) (Host.log1p (Host.exp (Host.negf (Host.absf d))))))

/-- The scores. -/
def zR (q k : FVec F S16384x4096 .f32) : A4 F :=
  mulf (Host.dotGeneral dot_S4x4096x32x128_S4x4096x32x128_S4x32x4096x4096_3_3_1_1_02_02 none
      (shapeCast _ q shapeCasts_S16384x4096_S4x4096x32x128) (shapeCast _ k shapeCasts_S16384x4096_S4x4096x32x128))
    (broadcastInDim S4x32x4096x4096 ![] bcast_S_S4x32x4096x4096 (constant S_ .f32 0x3DB504F3#32))

/-- Which keys a query sees. -/
def mR : IVec S4x32x4096x4096 1 :=
  broadcastInDim S4x32x4096x4096 ![2, 3] bcast_S4096x4096_S4x32x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- What a query does not see is zero. -/
def seenR (x : A4 F) : A4 F :=
  select mR x (broadcastInDim S4x32x4096x4096 ![] bcast_S_S4x32x4096x4096 (constant S_ .f32 0x00000000#32))

/-- The sums of the entries from each position on. -/
def fromR (x : A4 F) : A4 F :=
  Host.reduceWindowAdd ![1, 1, 1, 4096] ![1, 1, 1, 1] ![0, 0, 0, 0] ![0, 0, 0, 4095] x
    (broadcastInDim S_ ![] bcast_S_S_ (constant S_ .f32 0x00000000#32))
    reduceWindows_S4x32x4096x4096_S4x32x4096x4096_w1s1p0_0_w1s1p0_0_w1s1p0_0_w4096s1p0_4095 h_S_

/-- The entries one place to the right, and a zero. -/
def nextR (x : A4 F) : A4 F :=
  concatenate S4x32x4096x4096 3 [⟨S4x32x4096x4095, extractStridedSlice S4x32x4096x4095 ![0, 0, 0, 1] x slices_S4x32x4096x4096_S4x32x4096x4095_0_0_0_1⟩,
    ⟨S4x32x4096x1, broadcastInDim S4x32x4096x1 ![] bcast_S_S4x32x4096x1 (constant S_ .f32 0x00000000#32)⟩]
    concatenates_S4x32x4096x4095_S4x32x4096x1_S4x32x4096x4096_d3

/-- The weights, of the scores. -/
def wR (z : A4 F) : A4 F := seenR (Host.exp (addf (lsR z) (nextR (fromR (seenR (lsR (Host.negf z)))))))

/-- The results. -/
def refF (q k v : FVec F S16384x4096 .f32) : FVec F S16384x4096 .bf16 :=
  truncf .bf16 (shapeCast _ (transpose S4x4096x32x128 [0, 3, 1, 2]
    (Host.dotGeneral dot_S4x4096x32x128_S4x32x4096x4096_S4x32x128x4096_1_3_3_2_02_01 none
      (shapeCast _ v shapeCasts_S16384x4096_S4x4096x32x128) (wR (zR q k))) transposes_S4x32x128x4096_S4x4096x32x128_0_3_1_2)
      shapeCasts_S4x4096x32x128_S16384x4096) bitsLt_bf16_f32

theorem res_eq (m : (ℓ : Loc nD τ sig) → Buf (Elt F) ℓ) (c : Dev nD) : Value.res_main_v27 m c
    = refF (m ((c.tc : Thread nD τ).loc main_arg0)) (m ((c.tc : Thread nD τ).loc main_arg1)) (m ((c.tc : Thread nD τ).loc main_arg2)) := by
  unfold Value.res_main_v27 refF wR seenR nextR fromR lsR zR mR
  rfl

/-! ### Read at an index -/

theorem lsR_apply (x : A4 Ideal) (b : Fin 4) (h : Fin 32) (i j : Fin 4096) :
    (lsR x (ix4 b h i j) : EReal) = lsig (-(x (ix4 b h i j))) := by
  pointwise [lsR]
  rw [if_neg (not_not_intro rfl)]
  rfl

theorem mR_apply (b : Fin 4) (h : Fin 32) (i j : Fin 4096) : mR (ix4 b h i j) = BitVec.ofBool (decide (j.val < i.val)) := by
  pointwise [mR]
  exact slt_ofNat j.val i.val (by omega) (by omega)

theorem seenR_apply (x : A4 Ideal) (b : Fin 4) (h : Fin 32) (i j : Fin 4096) :
    (seenR x (ix4 b h i j) : EReal) = if j.val < i.val then x (ix4 b h i j) else 0 := by
  pointwise [seenR, mR_apply]

/-- The row of `x` at `b`, `h`, `i`, as a sequence. -/
def rowR (x : A4 Ideal) (b : Fin 4) (h : Fin 32) (i : Fin 4096) (p : ℕ) : EReal :=
  if hp : p < 4096 then x (ix4 b h i ⟨p, hp⟩) else 0

theorem rowR_val (x : A4 Ideal) (b : Fin 4) (h : Fin 32) (i j : Fin 4096) : rowR x b h i j.val = x (ix4 b h i j) := dif_pos j.isLt

theorem nextR_apply (x : A4 Ideal) (b : Fin 4) (h : Fin 32) (i j : Fin 4096) :
    (nextR x (ix4 b h i j) : EReal) = rowR x b h i (j.val + 1) := by
  unfold rowR
  pointwise [nextR]
  by_cases hj : j.val < 4095
  · rw [dif_pos hj, dif_pos (show j.val + 1 < 4096 by omega)]
    simp only [Nat.add_comm]
  · rw [dif_neg hj, dif_neg (show ¬ j.val + 1 < 4096 by omega)]

theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

/-- A windowed sum, as a sum over the window's places. -/
theorem window_sum {s t u : Shape} (window strides lo hi : Fin s.rank → ℕ) (x : FVec Ideal s .f32) (init : FVec Ideal u .f32)
    (h : s.ReduceWindows window strides lo hi t) (hu : 0 < u.numel) (j : t.Idx) :
    (Host.reduceWindowAdd window strides lo hi x init h hu j : EReal) = (init (Shape.Idx.first hu) : EReal)
      + ∑ w : (⟨s.rank, window⟩ : Shape).Idx, (if hin : ∀ a, lo a ≤ (j (a.cast h.1.symm)).val * strides a + (w a).val
          ∧ (j (a.cast h.1.symm)).val * strides a + (w a).val - lo a < s.size a
        then (x (fun a => ⟨(j (a.cast h.1.symm)).val * strides a + (w a).val - lo a, (hin a).2⟩) : EReal) else init (Shape.Idx.first hu)) := by
  refine (foldl_sum _ _ _).trans ?_
  rw [← Fin.sum_univ_def]
  congr 1
  refine (Finset.sum_congr rfl fun n _ => ?_).trans (Equiv.sum_comp (Shape.rowMajor ⟨s.rank, window⟩).symm (fun w : (⟨s.rank, window⟩ : Shape).Idx =>
    if hin : ∀ a, lo a ≤ (j (a.cast h.1.symm)).val * strides a + (w a).val
          ∧ (j (a.cast h.1.symm)).val * strides a + (w a).val - lo a < s.size a
        then (x (fun a => ⟨(j (a.cast h.1.symm)).val * strides a + (w a).val - lo a, (hin a).2⟩) : EReal) else init (Shape.Idx.first hu)))
  by_cases hin : ∀ a, lo a ≤ (j (a.cast h.1.symm)).val * strides a + ((Shape.rowMajor ⟨s.rank, window⟩).symm n a).val
      ∧ (j (a.cast h.1.symm)).val * strides a + ((Shape.rowMajor ⟨s.rank, window⟩).symm n a).val - lo a < s.size a
  · refine (dif_pos hin).trans ?_
    rw [dif_pos hin]
  · refine (dif_neg hin).trans ?_
    rw [dif_neg hin]

theorem fromR_apply (x : A4 Ideal) (b : Fin 4) (h : Fin 32) (i j : Fin 4096) :
    (fromR x (ix4 b h i j) : EReal) = ∑ p ∈ Finset.Ico j.val 4096, rowR x b h i p := by
  have hj := j.isLt
  have e : (fromR x (ix4 b h i j) : EReal) = ∑ w : Fin 4096, rowR x b h i (j.val + w.val) := by
    unfold fromR
    rw [window_sum]
    have e0 : (broadcastInDim S_ ![] bcast_S_S_ (constant (F := Ideal) S_ .f32 0x00000000#32) (Shape.Idx.first h_S_) : EReal) = 0 :=
      Ideal.ofBits_zero_f32
    rw [e0, zero_add]
    refine (sum_idx4 (n0 := 1) (n1 := 1) (n2 := 1) (n3 := 4096) _).trans ?_
    simp only [Fin.sum_univ_one, Fin.isValue]
    refine Finset.sum_congr rfl fun w _ => ?_
    unfold rowR
    by_cases hw : j.val + w.val < 4096
    · rw [dif_pos hw, dif_pos]
      · congr 1
        funext a
        apply Fin.ext
        match a with
        | ⟨0, _⟩ => show b.val * 1 + 0 - 0 = b.val; omega
        | ⟨1, _⟩ => show h.val * 1 + 0 - 0 = h.val; omega
        | ⟨2, _⟩ => show i.val * 1 + 0 - 0 = i.val; omega
        | ⟨3, _⟩ => show j.val * 1 + w.val - 0 = j.val + w.val; omega
      · intro a
        match a with
        | ⟨0, _⟩ => show 0 ≤ b.val * 1 + 0 ∧ b.val * 1 + 0 - 0 < 4; omega
        | ⟨1, _⟩ => show 0 ≤ h.val * 1 + 0 ∧ h.val * 1 + 0 - 0 < 32; omega
        | ⟨2, _⟩ => show 0 ≤ i.val * 1 + 0 ∧ i.val * 1 + 0 - 0 < 4096; omega
        | ⟨3, _⟩ => show 0 ≤ j.val * 1 + w.val ∧ j.val * 1 + w.val - 0 < 4096; omega
    · rw [dif_neg hw, dif_neg]
      intro hin
      have : j.val * 1 + w.val - 0 < 4096 := (hin 3).2
      omega
  rw [e, ← Finset.sum_range (fun w => rowR x b h i (j.val + w)), Finset.sum_Ico_eq_sum_range]
  refine (Finset.sum_subset (Finset.range_mono (by omega)) fun w hw hn => ?_).symm
  rw [rowR, dif_neg]
  rw [Finset.mem_range] at hw hn
  omega

/-- A weight. -/
theorem wR_apply (z : A4 Ideal) (b : Fin 4) (h : Fin 32) (i j : Fin 4096) :
    (wR z (ix4 b h i j) : EReal) = weight (rowR z b h i) i.val 4096 j.val := by
  have hk : ∀ p, rowR (seenR (lsR (Host.negf z))) b h i p = if p < 4096 then keep (rowR z b h i) i.val p else 0 := fun p => by
    by_cases hp : p < 4096
    · rw [if_pos hp, rowR, dif_pos hp, seenR_apply, lsR_apply, keep, rowR, dif_pos hp, ← lsig_pos]
      pointwise
      rw [neg_neg]
    · rw [if_neg hp, rowR, dif_neg hp]
  have hr : rowR (fromR (seenR (lsR (Host.negf z)))) b h i (j.val + 1) = rest (rowR z b h i) i.val 4096 (j.val + 1) := by
    by_cases hj : j.val + 1 < 4096
    · rw [rowR, dif_pos hj, fromR_apply]
      exact Finset.sum_congr rfl fun p hp => by rw [hk, if_pos (Finset.mem_Ico.mp hp).2]
    · rw [rowR, dif_neg hj, rest, Finset.Ico_eq_empty_of_le (by omega), Finset.sum_empty]
  unfold wR
  rw [seenR_apply, weight, rowR_val, ← lsig_neg, ← hr, ← lsR_apply, ← nextR_apply]
  pointwise

/-- The scores. -/
theorem zR_apply (q k : FVec Ideal S16384x4096 .f32) (b : Fin 4) (h : Fin 32) (i j : Fin 4096) :
    (zR q k (ix4 b h i j) : EReal) = (∑ e : Fin 128, (q (ix2 ⟨b.val * 4096 + i.val, by omega⟩ ⟨h.val * 128 + e.val, by omega⟩)
      * k (ix2 ⟨b.val * 4096 + j.val, by omega⟩ ⟨h.val * 128 + e.val, by omega⟩) : EReal)) * Ideal.ofBits .f32 0x3DB504F3#32 := by
  pointwise [zR]

/-- Component `d` of the values of batch `b`, head `h`, as a sequence. -/
def vR (v : FVec Ideal S16384x4096 .f32) (b : Fin 4) (h : Fin 32) (d : Fin 128) (p : ℕ) : EReal :=
  if hp : p < 4096 then v (ix2 ⟨b.val * 4096 + p, by omega⟩ ⟨h.val * 128 + d.val, by omega⟩) else 0

/-- A result: the attention of query `i` of batch `b`, head `h`. -/
theorem refF_apply (q k v : FVec Ideal S16384x4096 .f32) (b : Fin 4) (h : Fin 32) (i : Fin 4096) (d : Fin 128) :
    (refF q k v (ix2 ⟨b.val * 4096 + i.val, by omega⟩ ⟨h.val * 128 + d.val, by omega⟩) : EReal)
      = attn (rowR (zR q k) b h i) i.val 4096 (vR v b h d) 0 := by
  pointwise [refF]
  unfold attn
  rw [← Finset.range_eq_Ico, Finset.sum_range]
  refine Finset.sum_congr rfl fun p _ => ?_
  rw [wR_apply, mul_comm, vR, dif_pos p.isLt]

end Cert.ReferenceIdeal.SB

end
-- ==== Proof.SB.Value.lean ====
module

public import proofs.«01_k».proof.Proof.SB.Rows
public import proofs.«01_k».proof.Proof.SB.Ref
public import Idealize.ShloMosaic.Lib.Pipeline.ValueKit.Geometry
public import Idealize.ShloMosaic.Lib.Claim

@[expose] public section

/-!
# The launch's array is the reference's result.
-/

set_option maxRecDepth 16384

noncomputable section

namespace Cert.KernelIdeal.SB

open Cert.KernelIdeal Cert.KernelIdeal.Gen Cert.SBMath
open Idealize.ShloMosaic Idealize.ShloMosaic.TcCoe
open scoped BigOperators

variable (m : (ℓ : Loc nD τ sig) → Buf (Elt Ideal) ℓ) (c : Dev nD)

abbrev argQ : FVec Ideal S16384x4096 .f32 := m ((c.tc : Thread nD τ).loc main_arg0)
abbrev argK : FVec Ideal S16384x4096 .f32 := m ((c.tc : Thread nD τ).loc main_arg1)
abbrev argV : FVec Ideal S16384x4096 .f32 := m ((c.tc : Thread nD τ).loc main_arg2)

/-- The scale. -/
abbrev scl : EReal := Ideal.ofBits .f32 0x3DB504F3#32

theorem scl_real : ∃ σ : ℝ, scl = (σ : EReal) ∧ 0 ≤ σ := by
  simp only [scl, Ideal.ofBits, Ideal.ieee]
  simp [-EReal.coe_mul]

/-- The queries, scaled. -/
theorem V_q (R : Fin 16384) (C : Fin 4096) : (V m c main_v2 (ix2 R C) : EReal) = argQ m c (ix2 R C) * scl := by
  have e : V m c main_v2 = truncf .bf16 (mulf (argQ m c)
    (broadcastInDim S16384x4096 ![] bcast_S_S16384x4096 (constant S_ .f32 0x3DB504F3#32))) bitsLt_bf16_f32 := by
    unfold V
    after_results
  rw [e]
  pointwise

/-! ### The blocks -/

theorem idx0 : ∀ t : Fin (cfg0 (F := Ideal)).N, win0_0.index t = ![(grid0.coords t 0).val, (grid0.coords t 1).val] :=
  (by decide +kernel : ∀ t : Fin grid0.N, _)
theorem idx1 : ∀ t : Fin (cfg0 (F := Ideal)).N, win0_1.index t = ![(grid0.coords t 0).val, (grid0.coords t 1).val] :=
  (by decide +kernel : ∀ t : Fin grid0.N, _)
theorem idx2 : ∀ t : Fin (cfg0 (F := Ideal)).N, win0_2.index t = ![(grid0.coords t 0).val, (grid0.coords t 1).val] :=
  (by decide +kernel : ∀ t : Fin grid0.N, _)
theorem idx3 : ∀ t : Fin (cfg0 (F := Ideal)).N, win0_3.index t = ![(grid0.coords t 0).val, (grid0.coords t 1).val] :=
  (by decide +kernel : ∀ t : Fin grid0.N, _)

variable (t : Fin (cfg0 (F := Ideal)).N)

/-- The batch and the head of a launch point. -/
def bt : Fin 4 := ⟨(grid0.coords t 0).val, (grid0.coords t 0).isLt⟩
def hd : Fin 32 := ⟨(grid0.coords t 1).val, (grid0.coords t 1).isLt⟩

/-- A place of a block, in the array. -/
def plc (r : Fin 4096) (e : Fin 128) : S16384x4096.Idx :=
  ix2 ⟨(bt t).val * 4096 + r.val, by omega⟩ ⟨(hd t).val * 128 + e.val, by omega⟩

theorem iblk0_apply (r : Fin 4096) (e : Fin 128) : (iblk m c 0 t (ix2 r e) : EReal) = argQ m c (plc t r e) * scl := by
  have h : (win0_0.blk t).view.emb (ix2 r e) = plc t r e := by
    unfold plc bt hd
    blk_ext [idx0]
  exact (congrArg (V m c main_v2) h).trans (V_q m c _ _)
theorem iblk1_apply (r : Fin 4096) (e : Fin 128) : (iblk m c 1 t (ix2 r e) : EReal) = argK m c (plc t r e) := by
  have h : (win0_1.blk t).view.emb (ix2 r e) = plc t r e := by
    unfold plc bt hd
    blk_ext [idx1]
  exact (congrArg (V m c main_arg1) h).trans (congrFun (V_arg m c main_arg1 (by decide) (by decide) (by decide) (by decide)) _)
theorem iblk2_apply (r : Fin 4096) (e : Fin 128) : (iblk m c 2 t (ix2 r e) : EReal) = argV m c (plc t r e) := by
  have h : (win0_2.blk t).view.emb (ix2 r e) = plc t r e := by
    unfold plc bt hd
    blk_ext [idx2]
  exact (congrArg (V m c main_arg2) h).trans (congrFun (V_arg m c main_arg2 (by decide) (by decide) (by decide) (by decide)) _)

/-- A launch point's block of results. -/
theorem block_eq (r : Fin 4096) (d : Fin 128) : (out (F := Ideal) (iblk m c 0 t) (iblk m c 1 t) (iblk m c 2 t) (ix2 r d) : EReal)
    = Cert.ReferenceIdeal.SB.refF (F := Ideal) (argQ m c) (argK m c) (argV m c) (plc t r d) := by
  obtain ⟨σ, hσ, h0⟩ := scl_real
  refine (out_apply _ _ _ r d).trans (Eq.trans ?_ (Cert.ReferenceIdeal.SB.refF_apply (argQ m c) (argK m c) (argV m c) (bt t) (hd t) r d).symm)
  refine attn_congr _ _ _ (fun p hp => ?_) (fun p hp => ?_) 0
  · rw [zq, dif_pos hp, Cert.ReferenceIdeal.SB.rowR, dif_pos hp, Cert.ReferenceIdeal.SB.zR_apply]
    refine Eq.trans (Finset.sum_congr rfl fun e _ => ?_) ((sum_scale Finset.univ (fun e => (argQ m c (plc t r e) : EReal))
      (fun e => (argK m c (plc t ⟨p, hp⟩ e) : EReal)) σ h0).trans (congrArg₂ (fun a b : EReal => a * b) rfl hσ.symm))
    rw [iblk0_apply, iblk1_apply, hσ]
  · rw [vq, dif_pos hp, Cert.ReferenceIdeal.SB.vR, dif_pos hp]
    exact iblk2_apply m c t ⟨p, hp⟩ d

theorem final : (dats m 0 c).arrAt 3 (cfg0 (F := Ideal)).N
    = Cert.ReferenceIdeal.SB.refF (F := Ideal) (argQ m c) (argK m c) (argV m c) := by
  refine (dats m 0 c).arrAt_eq_of_covers 3 _ (by decide +kernel) fun t hf y => ?_
  blk_simp
  have hy : y = ix2 (n0 := 4096) (n1 := 128) (y 0) (y 1) := eq_ix2 (n0 := 4096) (n1 := 128) y
  have h : (win0_3.blk t).view.emb (ix2 (n0 := 4096) (n1 := 128) (y 0) (y 1)) = plc t (y 0) (y 1) := by
    unfold plc bt hd
    blk_ext [idx3]
  rw [hy, h]
  exact block_eq m c t (y 0) (y 1)

end Cert.KernelIdeal.SB

end
-- ==== Proof.Proj.Residual.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

/-!
# The output projection added to the residual stream

Every point of the launch multiplies a tile of rows by a tile of columns, over the whole contracted
axis, and adds the tile of the residual; so each place of the array is the reference's sum.
-/

set_option maxRecDepth 16384

noncomputable section

namespace Cert.Reference3Ideal.Residual

open Cert.Reference3Ideal Cert.Reference3Ideal.Gen
open Idealize.ShloMosaic Idealize.ShloMosaic.TcCoe
open scoped BigOperators

/-- What the reference leaves, from its arguments. -/
def refF (o : FVec Ideal S16384x4096 .bf16) (w : FVec Ideal S1x4096x4096 .f32) (h : FVec Ideal S16384x4096 .f32) :
    FVec Ideal S16384x4096 .f32 :=
  addf h (Host.dotGeneral dot_S16384x4096_S4096x4096_S16384x4096_1_0_0_1_n_n none
    (extf .f32 o bitsLt_bf16_f32) (shapeCast _ w shapeCasts_S1x4096x4096_S4096x4096))

theorem refF_apply (o : FVec Ideal S16384x4096 .bf16) (w : FVec Ideal S1x4096x4096 .f32) (h : FVec Ideal S16384x4096 .f32)
    (r : Fin 16384) (d : Fin 4096) :
    (refF o w h (ix2 r d) : EReal) = h (ix2 r d) + ∑ k : Fin 4096, (o (ix2 r k) * w (ix3 0 k d) : EReal) := by
  pointwise [refF]

end Cert.Reference3Ideal.Residual

namespace Cert.Kernel3Ideal.Residual

open Cert.Kernel3Ideal Cert.Kernel3Ideal.Gen Cert.Reference3Ideal.Residual
open Idealize.ShloMosaic Idealize.ShloMosaic.TcCoe
open scoped BigOperators

variable (m : (ℓ : Loc nD τ sig) → Buf (Elt Ideal) ℓ) (c : Dev nD)

abbrev argO : FVec Ideal S16384x4096 .bf16 := m ((c.tc : Thread nD τ).loc main_arg0)
abbrev argW : FVec Ideal S1x4096x4096 .f32 := m ((c.tc : Thread nD τ).loc main_arg1)
abbrev argH : FVec Ideal S16384x4096 .f32 := m ((c.tc : Thread nD τ).loc main_arg2)

/-- The weights, as the launch finds them. -/
theorem V_w (k : Fin 4096) (d : Fin 4096) : (V m c main_v1 (ix2 k d) : EReal) = argW m c (ix3 0 k d) := by
  have e : V m c main_v1 = truncf .bf16 (shapeCast S4096x4096 (argW m c) shapeCasts_S1x4096x4096_S4096x4096) bitsLt_bf16_f32 := by
    unfold V
    after_results
    rfl
  rw [e]
  pointwise

theorem pay_apply (x0 : FVec Ideal S1024x4096 .bf16) (x1 : FVec Ideal S4096x1024 .bf16) (x2 : FVec Ideal S1024x1024 .f32)
    (r d : Fin 1024) : (k0_pay1 (F := Ideal) x0 x1 x2 (ix2 r d) : EReal)
      = (∑ k : Fin 4096, (x0 (ix2 r k) * x1 (ix2 k d) : EReal)) + x2 (ix2 r d) := by
  pointwise [k0_pay1]

theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)
theorem idx3 : ∀ t : Fin cfg0.N, win0_3.index t = ![(grid0.coords t 0).val, (grid0.coords t 1).val] :=
  (by decide +kernel : ∀ t : Fin grid0.N, _)

variable (t : Fin cfg0.N)

/-- The tile of rows and the tile of columns of a point. -/
def rt : Fin 16 := ⟨(grid0.coords t 0).val, (grid0.coords t 0).isLt⟩
def ct : Fin 4 := ⟨(grid0.coords t 1).val, (grid0.coords t 1).isLt⟩
/-- A row and a column of a tile, in the array. -/
def row (r : Fin 1024) : Fin 16384 := ⟨(rt t).val * 1024 + r.val, by omega⟩
def col (d : Fin 1024) : Fin 4096 := ⟨(ct t).val * 1024 + d.val, by omega⟩

theorem iblk0_apply (r : Fin 1024) (k : Fin 4096) : (iblk m c 0 t (ix2 r k) : EReal) = argO m c (ix2 (row t r) k) := by
  have h : (win0_0.blk t).view.emb (ix2 r k) = ix2 (row t r) k := by
    unfold row rt
    blk_ext [idx0]
  exact (congrArg (V m c main_arg0) h).trans (congrFun (V_main_arg0 m c) _)
theorem iblk1_apply (k : Fin 4096) (d : Fin 1024) : (iblk m c 1 t (ix2 k d) : EReal) = argW m c (ix3 0 k (col t d)) := by
  have h : (win0_1.blk t).view.emb (ix2 k d) = ix2 k (col t d) := by
    unfold col ct
    blk_ext [idx1]
  exact (congrArg (V m c main_v1) h).trans (V_w m c _ _)
theorem iblk2_apply (r d : Fin 1024) : (iblk m c 2 t (ix2 r d) : EReal) = argH m c (ix2 (row t r) (col t d)) := by
  have h : (win0_2.blk t).view.emb (ix2 r d) = ix2 (row t r) (col t d) := by
    unfold row rt col ct
    blk_ext [idx2]
  exact (congrArg (V m c main_arg2) h).trans (congrFun (V_main_arg2 m c) _)

/-- A point's tile of results. -/
theorem block_eq (r d : Fin 1024) : (k0_pay1 (F := Ideal) (iblk m c 0 t) (iblk m c 1 t) (iblk m c 2 t) (ix2 r d) : EReal)
    = refF (argO m c) (argW m c) (argH m c) (ix2 (row t r) (col t d)) := by
  refine (pay_apply _ _ _ r d).trans (Eq.trans ?_ (refF_apply _ _ _ _ _).symm)
  rw [iblk2_apply, add_comm]
  refine congrArg₂ (fun a b : EReal => a + b) rfl (Finset.sum_congr rfl fun k _ => ?_)
  rw [iblk0_apply, iblk1_apply]

theorem final : (dats m 0 c).arrAt 3 cfg0.N = refF (argO m c) (argW m c) (argH m c) := by
  refine (dats m 0 c).arrAt_eq_of_covers 3 _ (by decide +kernel) fun t hf y => ?_
  blk_simp
  rw [after0_3]
  frame_out
  have hy : y = ix2 (n0 := 1024) (n1 := 1024) (y 0) (y 1) := eq_ix2 (n0 := 1024) (n1 := 1024) y
  have h : (win0_3.blk t).view.emb (ix2 (n0 := 1024) (n1 := 1024) (y 0) (y 1)) = ix2 (row t (y 0)) (col t (y 1)) := by
    unfold row rt col ct
    blk_ext [idx3]
  rw [hy, h]
  exact block_eq m c t (y 0) (y 1)

end Cert.Kernel3Ideal.Residual

end
-- ==== Proof.Proj.Gated.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

/-!
# The per-layer embedding: a gated projection added to the residual stream

Every point of the launch takes two products over their whole contracted axes, one of them through the
logistic function, multiplies them, and adds the tile of the residual.
-/

set_option maxRecDepth 16384

noncomputable section

namespace Cert.Reference4Ideal.Gated

open Cert.Reference4Ideal Cert.Reference4Ideal.Gen
open Idealize.ShloMosaic Idealize.ShloMosaic.TcCoe
open scoped BigOperators

/-- The logistic function. -/
def logi (x : EReal) : EReal := Ideal.div 1 (1 + Ideal.exp (-x))

/-- What the reference leaves, from its arguments. -/
def refF (n : FVec Ideal S16384x4096 .bf16) (p : FVec Ideal S16384x256 .f32) (w : FVec Ideal S4096x4096 .f32)
    (u : FVec Ideal S256x4096 .f32) (h : FVec Ideal S16384x4096 .f32) : FVec Ideal S16384x4096 .f32 :=
  addf h (mulf (Host.divf (broadcastInDim S16384x4096 ![] bcast_S_S16384x4096 (constant S_ .f32 0x3F800000#32))
    (addf (broadcastInDim S16384x4096 ![] bcast_S_S16384x4096 (constant S_ .f32 0x3F800000#32))
      (Host.exp (Host.negf (Host.dotGeneral dot_S16384x4096_S4096x4096_S16384x4096_1_0_0_1_n_n none
        (extf .f32 n bitsLt_bf16_f32) w)))))
    (Host.dotGeneral dot_S16384x256_S256x4096_S16384x4096_1_0_0_1_n_n none p u))

theorem refF_apply (n : FVec Ideal S16384x4096 .bf16) (p : FVec Ideal S16384x256 .f32) (w : FVec Ideal S4096x4096 .f32)
    (u : FVec Ideal S256x4096 .f32) (h : FVec Ideal S16384x4096 .f32) (r : Fin 16384) (d : Fin 4096) :
    (refF n p w u h (ix2 r d) : EReal) = h (ix2 r d)
      + logi (∑ k : Fin 4096, (n (ix2 r k) * w (ix2 k d) : EReal)) * ∑ k : Fin 256, (p (ix2 r k) * u (ix2 k d) : EReal) := by
  pointwise [refF, logi]

end Cert.Reference4Ideal.Gated

namespace Cert.Kernel4Ideal.Gated

open Cert.Kernel4Ideal Cert.Kernel4Ideal.Gen Cert.Reference4Ideal.Gated
open Idealize.ShloMosaic Idealize.ShloMosaic.TcCoe
open scoped BigOperators

variable (m : (ℓ : Loc nD τ sig) → Buf (Elt Ideal) ℓ) (c : Dev nD)

abbrev argN : FVec Ideal S16384x4096 .bf16 := m ((c.tc : Thread nD τ).loc main_arg0)
abbrev argP : FVec Ideal S16384x256 .f32 := m ((c.tc : Thread nD τ).loc main_arg1)
abbrev argW : FVec Ideal S4096x4096 .f32 := m ((c.tc : Thread nD τ).loc main_arg2)
abbrev argU : FVec Ideal S256x4096 .f32 := m ((c.tc : Thread nD τ).loc main_arg3)
abbrev argH : FVec Ideal S16384x4096 .f32 := m ((c.tc : Thread nD τ).loc main_arg4)

/-- The two weights, as the launch finds them. -/
theorem V_w (k d : Fin 4096) : (V m c main_v0 (ix2 k d) : EReal) = argW m c (ix2 k d) := by
  have e : V m c main_v0 = truncf .bf16 (argW m c) bitsLt_bf16_f32 := by
    unfold V
    after_results
  rw [e]
  pointwise
theorem V_u (k : Fin 256) (d : Fin 4096) : (V m c main_v1 (ix2 k d) : EReal) = argU m c (ix2 k d) := by
  have e : V m c main_v1 = truncf .bf16 (argU m c) bitsLt_bf16_f32 := by
    unfold V
    after_results
  rw [e]
  pointwise

theorem pay_apply (x0 : FVec Ideal S1024x4096 .bf16) (x1 : FVec Ideal S4096x512 .bf16) (x3 : FVec Ideal S1024x256 .f32)
    (x4 : FVec Ideal S256x512 .bf16) (x2 : FVec Ideal S1024x512 .f32) (r : Fin 1024) (d : Fin 512) :
    (k0_pay1 (F := Ideal) x0 x1 x3 x4 x2 (ix2 r d) : EReal)
      = logi (∑ k : Fin 4096, (x0 (ix2 r k) * x1 (ix2 k d) : EReal)) * (∑ k : Fin 256, (x3 (ix2 r k) * x4 (ix2 k d) : EReal))
        + x2 (ix2 r d) := by
  pointwise [k0_pay1]
  rw [logi, sub_eq_add_neg, zero_add]

theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)
theorem idx3 : ∀ t : Fin cfg0.N, win0_3.index t = ![(grid0.coords t 0).val, 0] :=
  (by decide +kernel : ∀ t : Fin grid0.N, _)
theorem idx4 : ∀ t : Fin cfg0.N, win0_4.index t = ![0, (grid0.coords t 1).val] :=
  (by decide +kernel : ∀ t : Fin grid0.N, _)
theorem idx5 : ∀ t : Fin cfg0.N, win0_5.index t = ![(grid0.coords t 0).val, (grid0.coords t 1).val] :=
  (by decide +kernel : ∀ t : Fin grid0.N, _)

variable (t : Fin cfg0.N)

/-- The tile of rows and the tile of columns of a point. -/
def rt : Fin 16 := ⟨(grid0.coords t 0).val, (grid0.coords t 0).isLt⟩
def ct : Fin 8 := ⟨(grid0.coords t 1).val, (grid0.coords t 1).isLt⟩
/-- A row and a column of a tile, in the array. -/
def row (r : Fin 1024) : Fin 16384 := ⟨(rt t).val * 1024 + r.val, by omega⟩
def col (d : Fin 512) : Fin 4096 := ⟨(ct t).val * 512 + d.val, by omega⟩

theorem iblk0_apply (r : Fin 1024) (k : Fin 4096) : (iblk m c 0 t (ix2 r k) : EReal) = argN m c (ix2 (row t r) k) := by
  have h : (win0_0.blk t).view.emb (ix2 r k) = ix2 (row t r) k := by
    unfold row rt
    blk_ext [idx0]
  exact (congrArg (V m c main_arg0) h).trans (congrFun (V_main_arg0 m c) _)
theorem iblk1_apply (k : Fin 4096) (d : Fin 512) : (iblk m c 1 t (ix2 k d) : EReal) = argW m c (ix2 k (col t d)) := by
  have h : (win0_1.blk t).view.emb (ix2 k d) = ix2 k (col t d) := by
    unfold col ct
    blk_ext [idx1]
  exact (congrArg (V m c main_v0) h).trans (V_w m c _ _)
theorem iblk2_apply (r : Fin 1024) (d : Fin 512) : (iblk m c 2 t (ix2 r d) : EReal) = argH m c (ix2 (row t r) (col t d)) := by
  have h : (win0_2.blk t).view.emb (ix2 r d) = ix2 (row t r) (col t d) := by
    unfold row rt col ct
    blk_ext [idx2]
  exact (congrArg (V m c main_arg4) h).trans (congrFun (V_main_arg4 m c) _)
theorem iblk3_apply (r : Fin 1024) (k : Fin 256) : (iblk m c 3 t (ix2 r k) : EReal) = argP m c (ix2 (row t r) k) := by
  have h : (win0_3.blk t).view.emb (ix2 r k) = ix2 (row t r) k := by
    unfold row rt
    blk_ext [idx3]
  exact (congrArg (V m c main_arg1) h).trans (congrFun (V_main_arg1 m c) _)
theorem iblk4_apply (k : Fin 256) (d : Fin 512) : (iblk m c 4 t (ix2 k d) : EReal) = argU m c (ix2 k (col t d)) := by
  have h : (win0_4.blk t).view.emb (ix2 k d) = ix2 k (col t d) := by
    unfold col ct
    blk_ext [idx4]
  exact (congrArg (V m c main_v1) h).trans (V_u m c _ _)

/-- A point's tile of results. -/
theorem block_eq (r : Fin 1024) (d : Fin 512) :
    (k0_pay1 (F := Ideal) (iblk m c 0 t) (iblk m c 1 t) (iblk m c 3 t) (iblk m c 4 t) (iblk m c 2 t) (ix2 r d) : EReal)
    = refF (argN m c) (argP m c) (argW m c) (argU m c) (argH m c) (ix2 (row t r) (col t d)) := by
  refine (pay_apply _ _ _ _ _ r d).trans (Eq.trans ?_ (refF_apply _ _ _ _ _ _ _).symm)
  rw [iblk2_apply, add_comm]
  refine congrArg₂ (fun a b : EReal => a + b) rfl (congrArg₂ (fun a b : EReal => logi a * b)
    (Finset.sum_congr rfl fun k _ => ?_) (Finset.sum_congr rfl fun k _ => ?_))
  · rw [iblk0_apply, iblk1_apply]
  · rw [iblk3_apply, iblk4_apply]

theorem final : (dats m 0 c).arrAt 5 cfg0.N = refF (argN m c) (argP m c) (argW m c) (argU m c) (argH m c) := by
  refine (dats m 0 c).arrAt_eq_of_covers 5 _ (by decide +kernel) fun t hf y => ?_
  blk_simp
  rw [after0_5]
  frame_out
  have hy : y = ix2 (n0 := 1024) (n1 := 512) (y 0) (y 1) := eq_ix2 (n0 := 1024) (n1 := 512) y
  have h : (win0_5.blk t).view.emb (ix2 (n0 := 1024) (n1 := 512) (y 0) (y 1)) = ix2 (row t (y 0)) (col t (y 1)) := by
    unfold row rt col ct
    blk_ext [idx5]
  rw [hy, h]
  exact block_eq m c t (y 0) (y 1)

end Cert.Kernel4Ideal.Gated

end
-- ==== Proof.Proj.Norm.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

/-!
# The last norm

Every point of the launch divides a tile of rows by their root mean squares and scales the columns.
-/

set_option maxRecDepth 16384

noncomputable section

namespace Cert.Reference7Ideal.Norm

open Cert.Reference7Ideal Cert.Reference7Ideal.Gen
open Idealize.ShloMosaic Idealize.ShloMosaic.TcCoe
open scoped BigOperators

/-- The factor that a row is multiplied by: one over its root mean square, from the sum of its squares. -/
def rms (s : EReal) : EReal :=
  Ideal.rsqrt (Ideal.div s (Ideal.ofBits .f32 0x45800000#32) + Ideal.ofBits .f32 0x358637BD#32)

/-- What the reference leaves, from its arguments. -/
def refF (x : FVec Ideal S16384x4096 .f32) (g : FVec Ideal S4096 .f32) : FVec Ideal S16384x4096 .f32 :=
  mulf (mulf x (broadcastInDim S16384x4096 ![0, 1] bcast_S16384x1_S16384x4096_0_1 (Host.rsqrt (addf (Host.divf
    (broadcastInDim S16384x1 ![0] bcast_S16384_S16384x1_0 (Host.reduceAdd (mulf x x) (constant S_ .f32 0x00000000#32)
      reducesTo_S16384x4096_S16384_d1 h_S_)) (broadcastInDim S16384x1 ![] bcast_S_S16384x1 (constant S_ .f32 0x45800000#32)))
    (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 g))

theorem refF_apply (x : FVec Ideal S16384x4096 .f32) (g : FVec Ideal S4096 .f32) (r : Fin 16384) (d : Fin 4096) :
    (refF x g (ix2 r d) : EReal)
      = x (ix2 r d) * rms (∑ k : Fin 4096, (x (ix2 r k) * x (ix2 r k) : EReal)) * g (ix1 d) := by
  pointwise [refF, rms]

end Cert.Reference7Ideal.Norm

namespace Cert.Kernel7Ideal.Norm

open Cert.Kernel7Ideal Cert.Kernel7Ideal.Gen Cert.Reference7Ideal.Norm
open Idealize.ShloMosaic Idealize.ShloMosaic.TcCoe
open scoped BigOperators

variable (m : (ℓ : Loc nD τ sig) → Buf (Elt Ideal) ℓ) (c : Dev nD)

abbrev argX : FVec Ideal S16384x4096 .f32 := m ((c.tc : Thread nD τ).loc main_arg0)
abbrev argG : FVec Ideal S4096 .f32 := m ((c.tc : Thread nD τ).loc main_arg1)

/-- The columns' factors, as the launch finds them. -/
theorem V_g (d : Fin 4096) : (V m c main_v0 (ix2 0 d) : EReal) = argG m c (ix1 d) := by
  have e : V m c main_v0 = shapeCast S1x4096 (argG m c) shapeCasts_S4096_S1x4096 := by
    unfold V
    after_results
    rfl
  rw [e]
  pointwise

theorem pay_apply (x : FVec Ideal S512x4096 .f32) (g : FVec Ideal S1x4096 .f32) (r : Fin 512) (d : Fin 4096) :
    (k0_pay1 (F := Ideal) x g (ix2 r d) : EReal)
      = x (ix2 r d) * rms (∑ k : Fin 4096, (x (ix2 r k) * x (ix2 r k) : EReal)) * g (ix2 0 d) := by
  pointwise [k0_pay1, rms]

theorem idx0 : ∀ t : Fin cfg0.N, win0_0.index t = ![(grid0.coords t 0).val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![(grid0.coords t 0).val, 0] :=
  (by decide +kernel : ∀ t : Fin grid0.N, _)

variable (t : Fin cfg0.N)

/-- The tile of rows of a point, and a row of it in the array. -/
def rt : Fin 32 := ⟨(grid0.coords t 0).val, (grid0.coords t 0).isLt⟩
def row (r : Fin 512) : Fin 16384 := ⟨(rt t).val * 512 + r.val, by omega⟩

theorem iblk0_apply (r : Fin 512) (k : Fin 4096) : (iblk m c 0 t (ix2 r k) : EReal) = argX m c (ix2 (row t r) k) := by
  have h : (win0_0.blk t).view.emb (ix2 r k) = ix2 (row t r) k := by
    unfold row rt
    blk_ext [idx0]
  exact (congrArg (V m c main_arg0) h).trans (congrFun (V_main_arg0 m c) _)
theorem iblk1_apply (d : Fin 4096) : (iblk m c 1 t (ix2 0 d) : EReal) = argG m c (ix1 d) := by
  have h : (win0_1.blk t).view.emb (ix2 0 d) = ix2 0 d := by
    blk_ext [idx1]
  exact (congrArg (V m c main_v0) h).trans (V_g m c _)

/-- A point's tile of results. -/
theorem block_eq (r : Fin 512) (d : Fin 4096) : (k0_pay1 (F := Ideal) (iblk m c 0 t) (iblk m c 1 t) (ix2 r d) : EReal)
    = refF (argX m c) (argG m c) (ix2 (row t r) d) := by
  refine (pay_apply _ _ r d).trans (Eq.trans ?_ (refF_apply _ _ _ _).symm)
  rw [iblk1_apply, iblk0_apply]
  refine congrArg (fun s : EReal => _ * rms s * _) (Finset.sum_congr rfl fun k _ => ?_)
  rw [iblk0_apply]

theorem final : (dats m 0 c).arrAt 2 cfg0.N = refF (argX m c) (argG m c) := by
  refine (dats m 0 c).arrAt_eq_of_covers 2 _ (by decide +kernel) fun t hf y => ?_
  blk_simp
  rw [after0_2]
  frame_out
  have hy : y = ix2 (n0 := 512) (n1 := 4096) (y 0) (y 1) := eq_ix2 (n0 := 512) (n1 := 4096) y
  have h : (win0_2.blk t).view.emb (ix2 (n0 := 512) (n1 := 4096) (y 0) (y 1)) = ix2 (row t (y 0)) (y 1) := by
    unfold row rt
    blk_ext [idx2]
  rw [hy, h]
  exact block_eq m c t (y 0) (y 1)

end Cert.Kernel7Ideal.Norm

end
-- ==== Proof.Proj.NormSample.lean ====
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

/-!
# The last norm, of the sample

Every point of the launch divides a tile of rows by their root mean squares and scales the columns.
-/

set_option maxRecDepth 16384

noncomputable section

namespace Cert.Reference8Ideal.Norm

open Cert.Reference8Ideal Cert.Reference8Ideal.Gen
open Idealize.ShloMosaic Idealize.ShloMosaic.TcCoe
open scoped BigOperators

/-- The factor that a row is multiplied by: one over its root mean square, from the sum of its squares. -/
def rms (s : EReal) : EReal :=
  Ideal.rsqrt (Ideal.div s (Ideal.ofBits .f32 0x45800000#32) + Ideal.ofBits .f32 0x358637BD#32)

/-- What the reference leaves, from its arguments. -/
def refF (x : FVec Ideal S128x4096 .f32) (g : FVec Ideal S4096 .f32) : FVec Ideal S128x4096 .f32 :=
  mulf (mulf x (broadcastInDim S128x4096 ![0, 1] bcast_S128x1_S128x4096_0_1 (Host.rsqrt (addf (Host.divf
    (broadcastInDim S128x1 ![0] bcast_S128_S128x1_0 (Host.reduceAdd (mulf x x) (constant S_ .f32 0x00000000#32)
      reducesTo_S128x4096_S128_d1 h_S_)) (broadcastInDim S128x1 ![] bcast_S_S128x1 (constant S_ .f32 0x45800000#32)))
    (broadcastInDim S128x1 ![] bcast_S_S128x1 (constant S_ .f32 0x358637BD#32))))))
    (broadcastInDim S128x4096 ![0, 1] bcast_S1x4096_S128x4096_0_1 (broadcastInDim S1x4096 ![1] bcast_S4096_S1x4096_1 g))

theorem refF_apply (x : FVec Ideal S128x4096 .f32) (g : FVec Ideal S4096 .f32) (r : Fin 128) (d : Fin 4096) :
    (refF x g (ix2 r d) : EReal)
      = x (ix2 r d) * rms (∑ k : Fin 4096, (x (ix2 r k) * x (ix2 r k) : EReal)) * g (ix1 d) := by
  pointwise [refF, rms]

end Cert.Reference8Ideal.Norm

namespace Cert.Kernel8Ideal.Norm

open Cert.Kernel8Ideal Cert.Kernel8Ideal.Gen Cert.Reference8Ideal.Norm
open Idealize.ShloMosaic Idealize.ShloMosaic.TcCoe
open scoped BigOperators

variable (m : (ℓ : Loc nD τ sig) → Buf (Elt Ideal) ℓ) (c : Dev nD)

abbrev argX : FVec Ideal S128x4096 .f32 := m ((c.tc : Thread nD τ).loc main_arg0)
abbrev argG : FVec Ideal S4096 .f32 := m ((c.tc : Thread nD τ).loc main_arg1)

/-- The columns' factors, as the launch finds them. -/
theorem V_g (d : Fin 4096) : (V m c main_v0 (ix2 0 d) : EReal) = argG m c (ix1 d) := by
  have e : V m c main_v0 = shapeCast S1x4096 (argG m c) shapeCasts_S4096_S1x4096 := by
    unfold V
    after_results
    rfl
  rw [e]
  pointwise

theorem pay_apply (x : FVec Ideal S128x4096 .f32) (g : FVec Ideal S1x4096 .f32) (r : Fin 128) (d : Fin 4096) :
    (k0_pay1 (F := Ideal) x g (ix2 r d) : EReal)
      = x (ix2 r d) * rms (∑ k : Fin 4096, (x (ix2 r k) * x (ix2 r k) : EReal)) * g (ix2 0 d) := by
  pointwise [k0_pay1, rms]

theorem idx0 : ∀ t : Fin cfg0.N, win0_0.index t = ![(grid0.coords t 0).val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![(grid0.coords t 0).val, 0] :=
  (by decide +kernel : ∀ t : Fin grid0.N, _)

variable (t : Fin cfg0.N)

/-- The tile of rows of a point, and a row of it in the array. -/
def rt : Fin 1 := ⟨(grid0.coords t 0).val, (grid0.coords t 0).isLt⟩
def row (r : Fin 128) : Fin 128 := ⟨(rt t).val * 128 + r.val, by omega⟩

theorem iblk0_apply (r : Fin 128) (k : Fin 4096) : (iblk m c 0 t (ix2 r k) : EReal) = argX m c (ix2 (row t r) k) := by
  have h : (win0_0.blk t).view.emb (ix2 r k) = ix2 (row t r) k := by
    unfold row rt
    blk_ext [idx0]
  exact (congrArg (V m c main_arg0) h).trans (congrFun (V_main_arg0 m c) _)
theorem iblk1_apply (d : Fin 4096) : (iblk m c 1 t (ix2 0 d) : EReal) = argG m c (ix1 d) := by
  have h : (win0_1.blk t).view.emb (ix2 0 d) = ix2 0 d := by
    blk_ext [idx1]
  exact (congrArg (V m c main_v0) h).trans (V_g m c _)

/-- A point's tile of results. -/
theorem block_eq (r : Fin 128) (d : Fin 4096) : (k0_pay1 (F := Ideal) (iblk m c 0 t) (iblk m c 1 t) (ix2 r d) : EReal)
    = refF (argX m c) (argG m c) (ix2 (row t r) d) := by
  refine (pay_apply _ _ r d).trans (Eq.trans ?_ (refF_apply _ _ _ _).symm)
  rw [iblk1_apply, iblk0_apply]
  refine congrArg (fun s : EReal => _ * rms s * _) (Finset.sum_congr rfl fun k _ => ?_)
  rw [iblk0_apply]

theorem final : (dats m 0 c).arrAt 2 cfg0.N = refF (argX m c) (argG m c) := by
  refine (dats m 0 c).arrAt_eq_of_covers 2 _ (by decide +kernel) fun t hf y => ?_
  blk_simp
  rw [after0_2]
  frame_out
  have hy : y = ix2 (n0 := 128) (n1 := 4096) (y 0) (y 1) := eq_ix2 (n0 := 128) (n1 := 4096) y
  have h : (win0_2.blk t).view.emb (ix2 (n0 := 128) (n1 := 4096) (y 0) (y 1)) = ix2 (row t (y 0)) (y 1) := by
    unfold row rt
    blk_ext [idx2]
  rw [hy, h]
  exact block_eq m c t (y 0) (y 1)

end Cert.Kernel8Ideal.Norm

end
-- ==== Proof.Qkv.Body.lean ====
module

public import proofs.«01_k».proof.Proof.Gen.Kernel2Ideal.Points
public import proofs.«01_k».proof.Proof.Gen.Kernel2Ideal.Launch
public import proofs.«01_k».proof.Proof.Gen.Kernel2Ideal.Skeleton
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.Writes
public import Idealize.ShloMosaic.Lib.WritesUnit
public import Idealize.ShloMosaic.Lib.VecWindow
public import Idealize.ShloMosaic.Lib.Pointwise.Index

@[expose] public section

/-!
# The projection onto queries, keys and values: its body at a point of the grid.
-/

set_option maxRecDepth 16384

noncomputable section

namespace Cert.Kernel2Ideal.Qkv

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-- The condition of the first point. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem cond1_iff : ∀ t : Fin grid0.N, cond1 (grid0.coords t) = 1#1 ↔ t.val = 0 := by decide +kernel
theorem cond2_iff : ∀ t : Fin grid0.N, k0_cond2 (grid0.coords t) = 1#1 ↔ t.val % 12 < 11 := by decide +kernel
theorem cond3_iff : ∀ t : Fin grid0.N, k0_cond3 (grid0.coords t) = 1#1 ↔ t.val % 12 < 4 := by decide +kernel
theorem cond4_iff : ∀ t : Fin grid0.N, k0_cond4 (grid0.coords t) = 1#1 ↔ 4 ≤ t.val % 12 ∧ t.val % 12 < 8 := by decide +kernel
theorem cond5_iff : ∀ t : Fin grid0.N, k0_cond5 (grid0.coords t) = 1#1 ↔ 8 ≤ t.val % 12 := by decide +kernel
theorem cond6_iff : ∀ t : Fin grid0.N, k0_cond6 (grid0.coords t) = 1#1 ↔ t.val % 12 = 11 := by decide +kernel
theorem cond7_iff : ∀ t : Fin grid0.N, k0_cond7 (grid0.coords t) = 1#1 ↔ t.val % 12 < 4 := by decide +kernel
theorem cond8_iff : ∀ t : Fin grid0.N, k0_cond8 (grid0.coords t) = 1#1 ↔ 4 ≤ t.val % 12 ∧ t.val % 12 < 8 := by decide +kernel
theorem cond9_iff : ∀ t : Fin grid0.N, k0_cond9 (grid0.coords t) = 1#1 ↔ 8 ≤ t.val % 12 := by decide +kernel
theorem off1_eq : ∀ t : Fin grid0.N, k0_off1 (grid0.coords t) = ![t.val / 12 % 2, 0, 0] := by decide +kernel
theorem off2_eq : ∀ t : Fin grid0.N, k0_off2 (grid0.coords t) = ![t.val / 12 % 2, 0, 0] := by decide +kernel
theorem off3_eq : ∀ t : Fin grid0.N, k0_off3 (grid0.coords t) = ![t.val / 12 % 2, 0, 0] := by decide +kernel
theorem off6_eq : ∀ t : Fin grid0.N, k0_off6 (grid0.coords t) = ![t.val / 12 % 2, 0, 0] := by decide +kernel
theorem off7_eq : ∀ t : Fin grid0.N, k0_off7 (grid0.coords t) = ![(t.val / 12 + 1) % 2, 0, 0] := by decide +kernel

section
variable (c : Dev nD) (i : grid0.Coords)
  (a2 : Memref sig .tc .vmem S512x4096 .f32) (h2 : a2.IsWhole) (a3 : Memref sig .tc .vmem S1x4096 .f32) (h3 : a3.IsWhole)
  (a4 : Memref sig .tc .vmem S4096x1024 .bf16) (h4 : a4.IsWhole) (a5 : Memref sig .tc .vmem S512x1024 .bf16) (h5 : a5.IsWhole)
  (a6 : Memref sig .tc .vmem S512x1024 .f32) (h6 : a6.IsWhole) (a7 : Memref sig .tc .vmem S512x1024 .f32) (h7 : a7.IsWhole)
  (a8 : Memref sig .tc .vmem S2x512x4096 .bf16) (h8 : a8.IsWhole)

/-- A slot of the scratch array holds `X`. -/
def Slot (o : Fin 3 → ℕ) (X : Vec F S1x512x4096 .bf16) (f : Buf (Elt F) (a8.view.loc (c : Thread nD τ))) : Prop :=
  ∀ h : ∀ a, o a + S1x512x4096.size a ≤ S2x512x4096.size a,
    a8.view.readAt (Elt F) (Rect.unit (s := S2x512x4096) o S1x512x4096.size h).toLoadRect f = X

/-- A store over a whole buffer leaves what is stored. -/
theorem read_full {sp : Space} {s : Shape} {e : EltTy} (v : View sig .tc sp s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w := View.read_writes_full v f inb w []

theorem Slot.congr {o o' : Fin 3 → ℕ} (h : o = o') {X : Vec F S1x512x4096 .bf16} {f} (hs : Slot c a8 o X f) : Slot c a8 o' X f := h ▸ hs

/-- A slot just stored holds what was stored. -/
theorem slot_writes (o : Fin 3 → ℕ) (X : Vec F S1x512x4096 .bf16) (f : Buf (Elt F) (a8.view.loc (c : Thread nD τ)))
    (inb : ∀ a, o a + S1x512x4096.size a ≤ S2x512x4096.size a) :
    Slot c a8 o X (a8.view.writes (Elt F) f [⟨Rect.unit (s := S2x512x4096) o S1x512x4096.size inb, X⟩]) := fun h =>
  funext fun x => View.read_writes_cons_emb _ _ (Rect.unit (s := S2x512x4096) o S1x512x4096.size inb) X [] x

/-- At a point of the queries' columns. -/
theorem body_q (hc1 : ¬ cond1 i = 1#1) (hc2 : k0_cond2 i = 1#1) (hc3 : k0_cond3 i = 1#1) (hc4 : ¬ k0_cond4 i = 1#1) (hc5 : ¬ k0_cond5 i = 1#1) (hc6 : ¬ k0_cond6 i = 1#1)
    (X4 : Vec F S4096x1024 .bf16) (X8 : Vec F S1x512x4096 .bf16) (f8) (hs : Slot c a8 (k0_off1 i) X8 f8) (K : PUnit → sProp 𝕄) :
    iprop(owns (c : Thread nD τ) a4 fullShare X4 ∗ (∃ d, owns (c : Thread nD τ) a5 fullShare d) ∗ (a8.view.loc (c : Thread nD τ) ↦{fullShare} f8)
      ∗ (owns (c : Thread nD τ) a4 fullShare X4 ∗ owns (c : Thread nD τ) a5 fullShare (k0_pay2 X8 X4) ∗ (a8.view.loc (c : Thread nD τ) ↦{fullShare} f8) -∗ K ⟨⟩))
    ⊢ wp frame (wpE (defs₀ (F := F)) Variants.none (c : Thread nD τ) none) Set.univ
      (cc0__qkv_kernel i a2 h2 a3 h3 a4 h4 a5 h5 a6 h6 a7 h7 a8 h8) K := by
  rw [cc0__qkv_kernel_eq_skeleton]
  unfold cc0__qkv_kernel_skel
  unfold cond1 at hc1
  dsimp only
  simp only [dif_neg hc1, dif_pos hc2, dif_pos hc3, dif_neg hc4, dif_neg hc5, dif_neg hc6]
  unfold owns
  iintro ⟨⟨%f4, %e4, H4⟩, ⟨%d5, %f5, -, H5⟩, H8, Hk⟩
  subst e4
  sl_exec
  sl_step
  iapply Hk
  isplitl [H4]
  · iexists f4; isplitr; · ipureintro; rfl
    iexact H4
  isplitl [H5]
  · iexists _; isplitr
    swap; · iexact H5
    ipureintro
    exact (read_full _ _ _ _).trans (congrArg₂ k0_pay2 (hs _) (View.readAt_full _ _ _))
  iexact H8

/-- At a point of the keys' columns. -/
theorem body_k (hc1 : ¬ cond1 i = 1#1) (hc2 : k0_cond2 i = 1#1) (hc3 : ¬ k0_cond3 i = 1#1) (hc4 : k0_cond4 i = 1#1) (hc5 : ¬ k0_cond5 i = 1#1) (hc6 : ¬ k0_cond6 i = 1#1)
    (X4 : Vec F S4096x1024 .bf16) (X8 : Vec F S1x512x4096 .bf16) (f8) (hs : Slot c a8 (k0_off2 i) X8 f8) (K : PUnit → sProp 𝕄) :
    iprop(owns (c : Thread nD τ) a4 fullShare X4 ∗ (∃ d, owns (c : Thread nD τ) a6 fullShare d) ∗ (a8.view.loc (c : Thread nD τ) ↦{fullShare} f8)
      ∗ (owns (c : Thread nD τ) a4 fullShare X4 ∗ owns (c : Thread nD τ) a6 fullShare (k0_pay3 X8 X4) ∗ (a8.view.loc (c : Thread nD τ) ↦{fullShare} f8) -∗ K ⟨⟩))
    ⊢ wp frame (wpE (defs₀ (F := F)) Variants.none (c : Thread nD τ) none) Set.univ
      (cc0__qkv_kernel i a2 h2 a3 h3 a4 h4 a5 h5 a6 h6 a7 h7 a8 h8) K := by
  rw [cc0__qkv_kernel_eq_skeleton]
  unfold cc0__qkv_kernel_skel
  unfold cond1 at hc1
  dsimp only
  simp only [dif_neg hc1, dif_pos hc2, dif_neg hc3, dif_pos hc4, dif_neg hc5, dif_neg hc6]
  unfold owns
  iintro ⟨⟨%f4, %e4, H4⟩, ⟨%d6, %f6, -, H6⟩, H8, Hk⟩
  subst e4
  sl_exec
  sl_step
  iapply Hk
  isplitl [H4]
  · iexists f4; isplitr; · ipureintro; rfl
    iexact H4
  isplitl [H6]
  · iexists _; isplitr
    swap; · iexact H6
    ipureintro
    exact (read_full _ _ _ _).trans (congrArg₂ k0_pay3 (hs _) (View.readAt_full _ _ _))
  iexact H8

/-- At a point of the values' columns but the last. -/
theorem body_v (hc1 : ¬ cond1 i = 1#1) (hc2 : k0_cond2 i = 1#1) (hc3 : ¬ k0_cond3 i = 1#1) (hc4 : ¬ k0_cond4 i = 1#1) (hc5 : k0_cond5 i = 1#1) (hc6 : ¬ k0_cond6 i = 1#1)
    (X4 : Vec F S4096x1024 .bf16) (X8 : Vec F S1x512x4096 .bf16) (f8) (hs : Slot c a8 (k0_off3 i) X8 f8) (K : PUnit → sProp 𝕄) :
    iprop(owns (c : Thread nD τ) a4 fullShare X4 ∗ (∃ d, owns (c : Thread nD τ) a7 fullShare d) ∗ (a8.view.loc (c : Thread nD τ) ↦{fullShare} f8)
      ∗ (owns (c : Thread nD τ) a4 fullShare X4 ∗ owns (c : Thread nD τ) a7 fullShare (k0_pay4 X8 X4) ∗ (a8.view.loc (c : Thread nD τ) ↦{fullShare} f8) -∗ K ⟨⟩))
    ⊢ wp frame (wpE (defs₀ (F := F)) Variants.none (c : Thread nD τ) none) Set.univ
      (cc0__qkv_kernel i a2 h2 a3 h3 a4 h4 a5 h5 a6 h6 a7 h7 a8 h8) K := by
  rw [cc0__qkv_kernel_eq_skeleton]
  unfold cc0__qkv_kernel_skel
  unfold cond1 at hc1
  dsimp only
  simp only [dif_neg hc1, dif_pos hc2, dif_neg hc3, dif_neg hc4, dif_pos hc5, dif_neg hc6]
  unfold owns
  iintro ⟨⟨%f4, %e4, H4⟩, ⟨%d7, %f7, -, H7⟩, H8, Hk⟩
  subst e4
  sl_exec
  sl_step
  iapply Hk
  isplitl [H4]
  · iexists f4; isplitr; · ipureintro; rfl
    iexact H4
  isplitl [H7]
  · iexists _; isplitr
    swap; · iexact H7
    ipureintro
    exact (read_full _ _ _ _).trans (congrArg₂ k0_pay4 (hs _) (View.readAt_full _ _ _))
  iexact H8

/-- At the last column: the next rows are prepared. -/
theorem body_last (hc1 : ¬ cond1 i = 1#1) (hc2 : ¬ k0_cond2 i = 1#1) (hc6 : k0_cond6 i = 1#1) (hc7 : ¬ k0_cond7 i = 1#1) (hc8 : ¬ k0_cond8 i = 1#1) (hc9 : k0_cond9 i = 1#1)
    (X2 : Vec F S512x4096 .f32) (X3 : Vec F S1x4096 .f32) (X4 : Vec F S4096x1024 .bf16) (X8 : Vec F S1x512x4096 .bf16) (f8) (hs : Slot c a8 (k0_off6 i) X8 f8) (K : PUnit → sProp 𝕄) :
    iprop(owns (c : Thread nD τ) a2 fullShare X2 ∗ owns (c : Thread nD τ) a3 fullShare X3 ∗ owns (c : Thread nD τ) a4 fullShare X4 ∗ (∃ d, owns (c : Thread nD τ) a7 fullShare d) ∗ (a8.view.loc (c : Thread nD τ) ↦{fullShare} f8)
      ∗ (owns (c : Thread nD τ) a2 fullShare X2 ∗ owns (c : Thread nD τ) a3 fullShare X3 ∗ owns (c : Thread nD τ) a4 fullShare X4 ∗ owns (c : Thread nD τ) a7 fullShare (k0_pay7 X8 X4) ∗ (∃ f, ⌜Slot c a8 (k0_off7 i) (k0_pay8 X2 X3) f⌝ ∗ (a8.view.loc (c : Thread nD τ) ↦{fullShare} f)) -∗ K ⟨⟩))
    ⊢ wp frame (wpE (defs₀ (F := F)) Variants.none (c : Thread nD τ) none) Set.univ
      (cc0__qkv_kernel i a2 h2 a3 h3 a4 h4 a5 h5 a6 h6 a7 h7 a8 h8) K := by
  rw [cc0__qkv_kernel_eq_skeleton]
  unfold cc0__qkv_kernel_skel
  unfold cond1 at hc1
  dsimp only
  simp only [dif_neg hc1, dif_neg hc2, dif_pos hc6, dif_neg hc7, dif_neg hc8, dif_pos hc9]
  unfold owns
  iintro ⟨⟨%f2, %e2, H2⟩, ⟨%f3, %e3, H3⟩, ⟨%f4, %e4, H4⟩, ⟨%d7, %f7, -, H7⟩, H8, Hk⟩
  subst e2 e3 e4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    exact (read_full _ _ _ _).trans (congrArg₂ k0_pay7 (hs _) (View.readAt_full _ _ _))
  iexists _; isplitr
  swap; · iexact H8
  ipureintro
  rw [← View.readAt_full a2.view f2 inb_S512x4096_S512x4096_0_0, ← View.readAt_full a3.view f3 inb_S1x4096_S1x4096_0_0]
  exact slot_writes _ _ _ _ _ _

/-- At the first point. -/
theorem body_first (hc1 : cond1 i = 1#1) (hc2 : k0_cond2 i = 1#1) (hc3 : k0_cond3 i = 1#1) (hc4 : ¬ k0_cond4 i = 1#1) (hc5 : ¬ k0_cond5 i = 1#1) (hc6 : ¬ k0_cond6 i = 1#1)
    (X2 : Vec F S512x4096 .f32) (X3 : Vec F S1x4096 .f32) (X4 : Vec F S4096x1024 .bf16) (f8) (ho : k0_off1 i = ![0, 0, 0]) (K : PUnit → sProp 𝕄) :
    iprop(owns (c : Thread nD τ) a2 fullShare X2 ∗ owns (c : Thread nD τ) a3 fullShare X3 ∗ owns (c : Thread nD τ) a4 fullShare X4 ∗ (∃ d, owns (c : Thread nD τ) a5 fullShare d) ∗ (a8.view.loc (c : Thread nD τ) ↦{fullShare} f8)
      ∗ (owns (c : Thread nD τ) a2 fullShare X2 ∗ owns (c : Thread nD τ) a3 fullShare X3 ∗ owns (c : Thread nD τ) a4 fullShare X4 ∗ owns (c : Thread nD τ) a5 fullShare (k0_pay2 (k0_pay1 X2 X3) X4) ∗ (∃ f, ⌜Slot c a8 ![0, 0, 0] (k0_pay1 X2 X3) f⌝ ∗ (a8.view.loc (c : Thread nD τ) ↦{fullShare} f)) -∗ K ⟨⟩))
    ⊢ wp frame (wpE (defs₀ (F := F)) Variants.none (c : Thread nD τ) none) Set.univ
      (cc0__qkv_kernel i a2 h2 a3 h3 a4 h4 a5 h5 a6 h6 a7 h7 a8 h8) K := by
  rw [cc0__qkv_kernel_eq_skeleton]
  unfold cc0__qkv_kernel_skel
  unfold cond1 at hc1
  dsimp only
  simp only [dif_pos hc1, dif_pos hc2, dif_pos hc3, dif_neg hc4, dif_neg hc5, dif_neg hc6]
  unfold owns
  iintro ⟨⟨%f2, %e2, H2⟩, ⟨%f3, %e3, H3⟩, ⟨%f4, %e4, H4⟩, ⟨%d5, %f5, -, H5⟩, H8, Hk⟩
  subst e2 e3 e4
  letI : ClosedOff (k0_off1 i) := ⟨![0, 0, 0], ho⟩
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_full _ _ _ _).trans (congrArg₂ k0_pay2 ?_ (View.readAt_full _ _ _))
    unfold body_first.sl.v33 View.readCov
    rw [← View.readAt_full a2.view f2 inb_S512x4096_S512x4096_0_0, ← View.readAt_full a3.view f3 inb_S1x4096_S1x4096_0_0]
    exact (slot_writes c a8 _ _ _ _).congr c a8 ho.symm _
  iexists _; isplitr
  swap; · iexact H8
  ipureintro
  rw [← View.readAt_full a2.view f2 inb_S512x4096_S512x4096_0_0, ← View.readAt_full a3.view f3 inb_S1x4096_S1x4096_0_0]
  exact slot_writes _ _ _ _ _ _

end

end Cert.Kernel2Ideal.Qkv

end
-- ==== Proof.Qkv.Run.lean ====
module

public import proofs.«01_k».proof.Proof.Qkv.Body
public import proofs.«01_k».proof.Proof.Gen.Kernel2Ideal.Points
public import proofs.«01_k».proof.Proof.Gen.Kernel2Ideal.Launch
public import proofs.«01_k».proof.Proof.Gen.Kernel2Ideal.Skeleton
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.Writes
public import Idealize.ShloMosaic.Lib.WritesUnit
public import Idealize.ShloMosaic.Lib.VecWindow
public import Idealize.ShloMosaic.Lib.Pointwise.Index

@[expose] public section

/-!
# The projection onto queries, keys and values: the run of the whole program.
-/

set_option maxRecDepth 16384

noncomputable section

namespace Cert.Kernel2Ideal.Qkv

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The region's entry -/

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

theorem V_arg (c : Dev nD) (b : Ref sig .tc) (h0 : b ≠ main_v0) (h1 : b ≠ main_v1) (h2 : b ≠ main_v2) (h3 : b ≠ main_v3) (h4 : b ≠ main_v4)
    (h5 : b ≠ main_v5) : V m c b = m ((c : Thread nD τ).loc b) :=
  StableHlo.after_of_forall_not_mem (b := Proc.devRef .tc b) _ _ (List.forall_iff_forall_mem.mp
    ⟨fun hm => StableHlo.devRef_ne_of_ne h0 (Finset.mem_singleton.mp hm), fun hm => StableHlo.devRef_ne_of_ne h1 (Finset.mem_singleton.mp hm),
      fun hm => StableHlo.devRef_ne_of_ne h2 (Finset.mem_singleton.mp hm), fun hm => StableHlo.devRef_ne_of_ne h3 (Finset.mem_singleton.mp hm),
      fun hm => StableHlo.devRef_ne_of_ne h4 (Finset.mem_singleton.mp hm), fun hm => StableHlo.devRef_ne_of_ne h5 (Finset.mem_singleton.mp hm)⟩)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of a number. -/
def pt (n : ℕ) : Fin cfg0.N := ⟨n % 384, Nat.lt_of_lt_of_eq (Nat.mod_lt _ (by decide)) N_0.symm⟩

theorem lt_N (t : Fin cfg0.N) : t.val < 384 := Nat.lt_of_lt_of_eq t.isLt N_0

theorem pt_eq {n : ℕ} (t : Fin cfg0.N) (h : n = t.val) : pt n = t := Fin.ext (by show n % 384 = t.val; rw [h, Nat.mod_eq_of_lt (lt_N t)])

/-- The rows of tile `k`, normalised: prepared at the last column of the tile before (the first tile's at its own first column). -/
def nrm (c : Dev nD) (k : ℕ) : Vec F S1x512x4096 .bf16 := k0_pay1 (iblk m c 0 (pt (12 * k - 1))) (iblk m c 1 (pt (12 * k - 1)))

/-- What the three results' blocks hold at a point. -/
def outQ (c : Dev nD) (n : ℕ) : Vec F S512x1024 .bf16 := k0_pay2 (nrm m c (n / 12)) (iblk m c 2 (pt (12 * (n / 12) + min (n % 12) 3)))
def outK (c : Dev nD) (n : ℕ) : Vec F S512x1024 .f32 := k0_pay3 (nrm m c (n / 12)) (iblk m c 2 (pt (12 * (n / 12) + min (n % 12) 7)))
def outV (c : Dev nD) (n : ℕ) : Vec F S512x1024 .f32 := k0_pay4 (nrm m c (n / 12)) (iblk m c 2 (pt n))

/-- The scratch array. -/
abbrev scr : Memref sig .tc .vmem S2x512x4096 .bf16 := Memref.whole cc0_scratch0

/-- Before point `n` (past the first): a slot of the scratch array holds the rows of the tile. -/
def inv (c : Dev nD) (n : ℕ) : sProp 𝕄 :=
  iprop((∃ f, ⌜0 < n → Slot c scr ![n / 12 % 2, 0, 0] (nrm m c (n / 12)) f⌝ ∗ (scr.view.loc (c : Thread nD τ) ↦{fullShare} f)) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outQ m c t.val
    | ⟨4, _⟩ => outK m c t.val
    | ⟨5, _⟩ => outV m c t.val
  Φ n := inv m c n.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outQ m c t.val := by dsimp only [dats]
theorem after_4 (c : Dev nD) (t : Fin cfg0.N) : (dats m 0 c).after 4 t = outK m c t.val := by dsimp only [dats]
theorem after_5 (c : Dev nD) (t : Fin cfg0.N) : (dats m 0 c).after 5 t = outV m c t.val := by dsimp only [dats]
theorem phi_castSucc (c : Dev nD) (t : Fin cfg0.N) : (dats m 0 c).Φ t.castSucc = inv m c t.val := by dsimp only [dats]; rfl
theorem phi_succ (c : Dev nD) (t : Fin cfg0.N) : (dats m 0 c).Φ t.succ = inv m c (t.val + 1) := by dsimp only [dats]; rfl

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ### The results' blocks where the body leaves them alone -/

theorem idle_3 : ∀ t : Fin cfg0.N, cfg0.idle 3 (cfg0.grid.coords t) = decide (4 ≤ t.val % 12) :=
  (by decide +kernel : ∀ t : Fin grid0.N, idle0 3 (grid0.coords t) = decide (4 ≤ t.val % 12))
theorem idle_4 : ∀ t : Fin cfg0.N, cfg0.idle 4 (cfg0.grid.coords t) = !decide (4 ≤ t.val % 12 ∧ t.val % 12 < 8) :=
  (by decide +kernel : ∀ t : Fin grid0.N, idle0 4 (grid0.coords t) = !decide (4 ≤ t.val % 12 ∧ t.val % 12 < 8))
theorem idle_5 : ∀ t : Fin cfg0.N, cfg0.idle 5 (cfg0.grid.coords t) = decide (t.val % 12 < 8) :=
  (by decide +kernel : ∀ t : Fin grid0.N, idle0 5 (grid0.coords t) = decide (t.val % 12 < 8))
theorem flush_3 : ∀ t : Fin cfg0.N, (cfg0.win 3).flush t = decide (t.val % 12 < 3 ∨ t.val % 12 = 11) :=
  (by decide +kernel : ∀ t : Fin grid0.N, win0_3.flush t = decide (t.val % 12 < 3 ∨ t.val % 12 = 11))
theorem flush_4 : ∀ t : Fin cfg0.N, (cfg0.win 4).flush t = decide ((4 ≤ t.val % 12 ∧ t.val % 12 < 7) ∨ t.val % 12 = 11) :=
  (by decide +kernel : ∀ t : Fin grid0.N, win0_4.flush t = decide ((4 ≤ t.val % 12 ∧ t.val % 12 < 7) ∨ t.val % 12 = 11))
theorem flush_5 : ∀ t : Fin cfg0.N, (cfg0.win 5).flush t = decide (8 ≤ t.val % 12) :=
  (by decide +kernel : ∀ t : Fin grid0.N, win0_5.flush t = decide (8 ≤ t.val % 12))

/-- Past its last column, a block of queries is as that column left it. -/
theorem before_3 (c : Dev nD) (d) : ∀ n (h : n < cfg0.N), 4 ≤ n % 12 → (dats m 0 c).before 3 ⟨n, h⟩ d = outQ m c n := by
  intro n
  induction n with
  | zero => intro _ h0; exact absurd h0 (by decide)
  | succ n ih =>
    intro h h4
    rw [(dats m 0 c).before_of_pos 3 ⟨n + 1, h⟩ (Nat.succ_ne_zero n) ((cfg0.win 3).fetch_out rfl _)]
    have hn : n < cfg0.N := Nat.lt_of_succ_lt h
    have e : (⟨(⟨n + 1, h⟩ : Fin cfg0.N).val - 1, Nat.lt_of_le_of_lt (Nat.sub_le _ _) h⟩ : Fin cfg0.N) = ⟨n, hn⟩ := rfl
    rw [e, flush_3, if_neg (by rw [decide_eq_true_eq]; dsimp only; omega)]
    unfold Dat.left
    have eo : outQ m c (n + 1) = outQ m c n := by
      unfold outQ
      rw [show (n + 1) / 12 = n / 12 by omega, show min ((n + 1) % 12) 3 = min (n % 12) 3 by omega]
    rw [idle_3, eo]
    by_cases h5 : 4 ≤ n % 12
    · rw [decide_eq_true (by exact h5)]; exact ih hn h5
    · rw [decide_eq_false (by exact h5)]
      unfold Dat.kept
      rw [after_3]
      exact Window.fill_cut _ _ _

theorem before_4 (c : Dev nD) (d) : ∀ n (h : n < cfg0.N), 8 ≤ n % 12 → (dats m 0 c).before 4 ⟨n, h⟩ d = outK m c n := by
  intro n
  induction n with
  | zero => intro _ h0; exact absurd h0 (by decide)
  | succ n ih =>
    intro h h4
    rw [(dats m 0 c).before_of_pos 4 ⟨n + 1, h⟩ (Nat.succ_ne_zero n) ((cfg0.win 4).fetch_out rfl _)]
    have hn : n < cfg0.N := Nat.lt_of_succ_lt h
    have e : (⟨(⟨n + 1, h⟩ : Fin cfg0.N).val - 1, Nat.lt_of_le_of_lt (Nat.sub_le _ _) h⟩ : Fin cfg0.N) = ⟨n, hn⟩ := rfl
    rw [e, flush_4, if_neg (by rw [decide_eq_true_eq]; dsimp only; omega)]
    unfold Dat.left
    have eo : outK m c (n + 1) = outK m c n := by
      unfold outK
      rw [show (n + 1) / 12 = n / 12 by omega, show min ((n + 1) % 12) 7 = min (n % 12) 7 by omega]
    rw [idle_4, eo]
    by_cases h5 : 8 ≤ n % 12
    · rw [decide_eq_false (by dsimp only; omega)]; exact ih hn h5
    · rw [decide_eq_true (by dsimp only; omega)]
      rw [Bool.not_true]
      dsimp only
      unfold Dat.kept
      rw [after_4]
      exact Window.fill_cut _ _ _

/-- What a window's buffer is left with, where the body writes it, -/
theorem leave_3 (c : Dev nD) (t : Fin cfg0.N) (h : t.val % 12 < 4) :
    owns (c : Thread nD τ) (st0_3 t) fullShare (outQ m c t.val) ⊢ ((dats m 0 c).leavesExact 3 t : sProp 𝕄) := by
  unfold Dat.leavesExact
  rw [idle_3, decide_eq_false (by omega), after_3]
theorem leave_4 (c : Dev nD) (t : Fin cfg0.N) (h : 4 ≤ t.val % 12 ∧ t.val % 12 < 8) :
    owns (c : Thread nD τ) (st0_4 t) fullShare (outK m c t.val) ⊢ ((dats m 0 c).leavesExact 4 t : sProp 𝕄) := by
  unfold Dat.leavesExact
  rw [idle_4, decide_eq_true h, Bool.not_true, after_4]
theorem leave_5 (c : Dev nD) (t : Fin cfg0.N) (h : 8 ≤ t.val % 12) :
    owns (c : Thread nD τ) (st0_5 t) fullShare (outV m c t.val) ⊢ ((dats m 0 c).leavesExact 5 t : sProp 𝕄) := by
  unfold Dat.leavesExact
  rw [idle_5, decide_eq_false (by omega), after_5]

/-- and where it does not. -/
theorem keep_3 (c : Dev nD) (t : Fin cfg0.N) (h : 4 ≤ t.val % 12) :
    iprop(∃ d, owns (c : Thread nD τ) (st0_3 t) fullShare ((dats m 0 c).before 3 t d)) ⊢ ((dats m 0 c).leavesExact 3 t : sProp 𝕄) := by
  unfold Dat.leavesExact
  rw [idle_3, decide_eq_true h, flush_3]
  by_cases h' : t.val % 12 = 11
  · rw [decide_eq_true (.inr h'), after_3]
    iintro ⟨%d, H⟩
    rw [show (dats m 0 c).before 3 t d = outQ m c t.val from before_3 m c d t.val t.isLt h]
    iexact H
  · rw [decide_eq_false (by omega)]
theorem keep_4 (c : Dev nD) (t : Fin cfg0.N) (h : ¬ (4 ≤ t.val % 12 ∧ t.val % 12 < 8)) :
    iprop(∃ d, owns (c : Thread nD τ) (st0_4 t) fullShare ((dats m 0 c).before 4 t d)) ⊢ ((dats m 0 c).leavesExact 4 t : sProp 𝕄) := by
  unfold Dat.leavesExact
  rw [idle_4, decide_eq_false h, Bool.not_false, flush_4]
  by_cases h' : t.val % 12 = 11
  · rw [decide_eq_true (.inr h'), after_4]
    iintro ⟨%d, H⟩
    rw [show (dats m 0 c).before 4 t d = outK m c t.val from before_4 m c d t.val t.isLt (by omega)]
    iexact H
  · rw [decide_eq_false (by omega)]
theorem keep_5 (c : Dev nD) (t : Fin cfg0.N) (h : t.val % 12 < 8) :
    iprop(∃ d, owns (c : Thread nD τ) (st0_5 t) fullShare ((dats m 0 c).before 5 t d)) ⊢ ((dats m 0 c).leavesExact 5 t : sProp 𝕄) := by
  unfold Dat.leavesExact
  rw [idle_5, decide_eq_true h, flush_5, decide_eq_false (by omega)]

/-! ### The body at a point of the grid -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t ∗ (dats m 0 c).leavesExact 4 t ∗ (dats m 0 c).leavesExact 5 t)

/-- At the queries' columns. -/
theorem at_q (c : Dev nD) (t : Fin cfg0.N) (h0 : t.val ≠ 0) (h : t.val % 12 < 4) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3, H4, H5⟩
  have hs' := (hs (by omega)).congr c scr (off1_eq t).symm
  iapply (body_q c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) ((cond2_iff t).mpr (by omega)) ((cond3_iff t).mpr (by omega)) (mt (cond4_iff t).mp (by omega)) (mt (cond5_iff t).mp (by omega)) (mt (cond6_iff t).mp (by omega))
    (iblk m c 2 t) (nrm m c (t.val / 12)) f hs' _)
  isplitl [H2]; · iexact H2
  isplitl [H3]
  · icases H3 with ⟨%d, H3⟩; iexists _; iexact H3
  isplitl [Hf]; · iexact Hf
  iintro ⟨H2, H3, Hf⟩
  isplitl [Hf Hr]
  · isplitl [Hf]
    · iexists _; isplitr
      swap; · iexact Hf
      ipureintro; intro _
      rw [show (t.val + 1) / 12 = t.val / 12 by omega]
      exact hs (by omega)
    iexact Hr
  isplitl [Ho]; · iexact Ho
  isplitl [H0]; · iexact H0
  isplitl [H1]; · iexact H1
  isplitl [H2]; · iexact H2
  isplitl [H3]
  · iapply (leave_3 m c t (by omega))
    rw [show outQ m c t.val = k0_pay2 (nrm m c (t.val / 12)) (iblk m c 2 t) from by
      unfold outQ
      rw [pt_eq t (by omega)]]
    iexact H3
  isplitl [H4]
  · iapply (keep_4 m c t (by omega))
    iexact H4
  iapply (keep_5 m c t (by omega))
  iexact H5

/-- At the keys' columns. -/
theorem at_k (c : Dev nD) (t : Fin cfg0.N) (h : 4 ≤ t.val % 12 ∧ t.val % 12 < 8) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3, H4, H5⟩
  have hs' := (hs (by omega)).congr c scr (off2_eq t).symm
  iapply (body_k c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) ((cond2_iff t).mpr (by omega)) (mt (cond3_iff t).mp (by omega)) ((cond4_iff t).mpr (by omega)) (mt (cond5_iff t).mp (by omega)) (mt (cond6_iff t).mp (by omega))
    (iblk m c 2 t) (nrm m c (t.val / 12)) f hs' _)
  isplitl [H2]; · iexact H2
  isplitl [H4]
  · icases H4 with ⟨%d, H4⟩; iexists _; iexact H4
  isplitl [Hf]; · iexact Hf
  iintro ⟨H2, H4, Hf⟩
  isplitl [Hf Hr]
  · isplitl [Hf]
    · iexists _; isplitr
      swap; · iexact Hf
      ipureintro; intro _
      rw [show (t.val + 1) / 12 = t.val / 12 by omega]
      exact hs (by omega)
    iexact Hr
  isplitl [Ho]; · iexact Ho
  isplitl [H0]; · iexact H0
  isplitl [H1]; · iexact H1
  isplitl [H2]; · iexact H2
  isplitl [H3]
  · iapply (keep_3 m c t (by omega))
    iexact H3
  isplitl [H4]
  · iapply (leave_4 m c t (by omega))
    rw [show outK m c t.val = k0_pay3 (nrm m c (t.val / 12)) (iblk m c 2 t) from by
      unfold outK
      rw [pt_eq t (by omega)]]
    iexact H4
  iapply (keep_5 m c t (by omega))
  iexact H5

/-- At the values' columns but the last. -/
theorem at_v (c : Dev nD) (t : Fin cfg0.N) (h : 8 ≤ t.val % 12) (h' : t.val % 12 ≠ 11) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3, H4, H5⟩
  have hs' := (hs (by omega)).congr c scr (off3_eq t).symm
  iapply (body_v c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) ((cond2_iff t).mpr (by omega)) (mt (cond3_iff t).mp (by omega)) (mt (cond4_iff t).mp (by omega)) ((cond5_iff t).mpr (by omega)) (mt (cond6_iff t).mp (by omega))
    (iblk m c 2 t) (nrm m c (t.val / 12)) f hs' _)
  isplitl [H2]; · iexact H2
  isplitl [H5]
  · icases H5 with ⟨%d, H5⟩; iexists _; iexact H5
  isplitl [Hf]; · iexact Hf
  iintro ⟨H2, H5, Hf⟩
  isplitl [Hf Hr]
  · isplitl [Hf]
    · iexists _; isplitr
      swap; · iexact Hf
      ipureintro; intro _
      rw [show (t.val + 1) / 12 = t.val / 12 by omega]
      exact hs (by omega)
    iexact Hr
  isplitl [Ho]; · iexact Ho
  isplitl [H0]; · iexact H0
  isplitl [H1]; · iexact H1
  isplitl [H2]; · iexact H2
  isplitl [H3]
  · iapply (keep_3 m c t (by omega))
    iexact H3
  isplitl [H4]
  · iapply (keep_4 m c t (by omega))
    iexact H4
  iapply (leave_5 m c t (by omega))
  rw [show outV m c t.val = k0_pay4 (nrm m c (t.val / 12)) (iblk m c 2 t) from by
    unfold outV
    rw [pt_eq t (by omega)]]
  iexact H5

/-- At the last column. -/
theorem at_last (c : Dev nD) (t : Fin cfg0.N) (h : t.val % 12 = 11) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3, H4, H5⟩
  have hs' := (hs (by omega)).congr c scr (off6_eq t).symm
  iapply (body_last c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) (mt (cond2_iff t).mp (by omega)) ((cond6_iff t).mpr (by omega)) (mt (cond7_iff t).mp (by omega)) (mt (cond8_iff t).mp (by omega)) ((cond9_iff t).mpr (by omega))
    (iblk m c 0 t) (iblk m c 1 t) (iblk m c 2 t) (nrm m c (t.val / 12)) f hs' _)
  isplitl [H0]; · iexact H0
  isplitl [H1]; · iexact H1
  isplitl [H2]; · iexact H2
  isplitl [H5]
  · icases H5 with ⟨%d, H5⟩; iexists _; iexact H5
  isplitl [Hf]; · iexact Hf
  iintro ⟨H0, H1, H2, H5, ⟨%g, %hg, Hf⟩⟩
  isplitl [Hf Hr]
  · isplitl [Hf]
    · iexists _; isplitr
      swap; · iexact Hf
      ipureintro; intro _
      rw [show (t.val + 1) / 12 = t.val / 12 + 1 by omega]
      unfold nrm
      rw [pt_eq t (by omega)]
      exact hg.congr c scr (off7_eq t)
    iexact Hr
  isplitl [Ho]; · iexact Ho
  isplitl [H0]; · iexact H0
  isplitl [H1]; · iexact H1
  isplitl [H2]; · iexact H2
  isplitl [H3]
  · iapply (keep_3 m c t (by omega))
    iexact H3
  isplitl [H4]
  · iapply (keep_4 m c t (by omega))
    iexact H4
  iapply (leave_5 m c t (by omega))
  rw [show outV m c t.val = k0_pay7 (nrm m c (t.val / 12)) (iblk m c 2 t) from by
    unfold outV
    rw [pt_eq t (by omega)]
    rfl]
  iexact H5

/-- At the first point. -/
theorem at_first (c : Dev nD) (t : Fin cfg0.N) (h0 : t.val = 0) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3, H4, H5⟩
  iapply (body_first c (grid0.coords t) _ (stage_whole0 0 _) _ (stage_whole0 1 _) _ (stage_whole0 2 _) _ (stage_whole0 3 _) _ (stage_whole0 4 _) _ (stage_whole0 5 _) scr (Memref.isWhole_whole _) ((cond1_iff t).mpr (by omega)) ((cond2_iff t).mpr (by omega)) ((cond3_iff t).mpr (by omega)) (mt (cond4_iff t).mp (by omega)) (mt (cond5_iff t).mp (by omega)) (mt (cond6_iff t).mp (by omega))
    (iblk m c 0 t) (iblk m c 1 t) (iblk m c 2 t) f (by rw [off1_eq t, h0]) _)
  isplitl [H0]; · iexact H0
  isplitl [H1]; · iexact H1
  isplitl [H2]; · iexact H2
  isplitl [H3]
  · icases H3 with ⟨%d, H3⟩; iexists _; iexact H3
  isplitl [Hf]; · iexact Hf
  iintro ⟨H0, H1, H2, H3, ⟨%g, %hg, Hf⟩⟩
  isplitl [Hf Hr]
  · isplitl [Hf]
    · iexists _; isplitr
      swap; · iexact Hf
      ipureintro; intro _
      rw [h0]
      unfold nrm
      rw [pt_eq t (by rw [h0])]
      exact hg
    iexact Hr
  isplitl [Ho]; · iexact Ho
  isplitl [H0]; · iexact H0
  isplitl [H1]; · iexact H1
  isplitl [H2]; · iexact H2
  isplitl [H3]
  · iapply (leave_3 m c t (by omega))
    rw [show outQ m c t.val = k0_pay2 (k0_pay1 (iblk m c 0 t) (iblk m c 1 t)) (iblk m c 2 t) from by
      unfold outQ
      rw [pt_eq t (by omega)]
      unfold nrm
      rw [pt_eq t (by rw [h0])]]
    iexact H3
  isplitl [H4]
  · iapply (keep_4 m c t (by omega))
    iexact H4
  iapply (keep_5 m c t (by omega))
  iexact H5

theorem sound_body (c : Dev nD) (t : Fin cfg0.N) :
    pre m c t ⊢ wp frame (wpE (defs₀ (F := F)) Variants.none (c : Thread nD τ) none) Set.univ (bodyAt0 t) (fun _ => post m c t) := by
  by_cases h0 : t.val = 0
  · exact at_first m c t h0
  by_cases h1 : t.val % 12 < 4
  · exact at_q m c t h0 h1
  by_cases h2 : t.val % 12 < 8
  · exact at_k m c t ⟨by omega, h2⟩
  by_cases h3 : t.val % 12 = 11
  · exact at_last m c t h3
  exact at_v m c t (by omega) h3

theorem defs₀_row (t : Fin cfg0.N) :
    (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

theorem phi_in (c : Dev nD) : Pipeline.ΦA spec0 c ⊢ ((dats m 0 c).Φ 0 : sProp 𝕄) := by
  rw [show (dats m 0 c).Φ 0 = inv m c 0 from by dsimp only [dats]; rfl]
  unfold Pipeline.ΦA inv
  rw [scopedRest0_eq c]
  iintro ⟨⟨%f, H⟩, Hr⟩
  isplitl [H]
  · iexists f; isplitr
    · ipureintro; intro h; exact absurd h (Nat.lt_irrefl 0)
    iexact H
  iexact Hr

theorem phi_out (c : Dev nD) : (dats m 0 c).Φ (Fin.last cfg0.N) ⊢ (Pipeline.ΦA spec0 c : sProp 𝕄) := by
  rw [show (dats m 0 c).Φ (Fin.last cfg0.N) = inv m c cfg0.N from by dsimp only [dats]; rfl]
  unfold Pipeline.ΦA inv
  rw [scopedRest0_eq c]
  iintro ⟨⟨%f, -, H⟩, Hr⟩
  isplitl [H]
  · iexists f; iexact H
  iexact Hr

set_option backward.isDefEq.respectTransparency.types false in
theorem run_main : θ_run (defs (F := F)) (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hin := phi_in m) (hout := phi_out m)

/-- The run: the arguments end as they were, the results are what the launch's blocks make them, every counter is zero. -/
theorem run : θ_run (defs (F := F)) (onTc (τ := τ) (main (F := F))) ⟨m, fun _ => 0, ρ⟩ (fun r => (∀ c : Dev nD,
      (r.2.mem ((c.tc : Thread nD τ).loc main_v6_0) = (dats m 0 c).arrAt 3 (Fin.last cfg0.N)
      ∧ r.2.mem ((c.tc : Thread nD τ).loc main_v6_1) = (dats m 0 c).arrAt 4 (Fin.last cfg0.N)
      ∧ r.2.mem ((c.tc : Thread nD τ).loc main_v6_2) = (dats m 0 c).arrAt 5 (Fin.last cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun _ ⟨h, hz⟩ => ⟨fun c => ⟨⟨(h c).1 3, (h c).1 4, (h c).1 5⟩,
      ((h c).2 main_arg0 (Pipeline.mem_restRefs_of main_arg0 (by decide) (by decide))).trans
        (V_arg m c main_arg0 (by decide) (by decide) (by decide) (by decide) (by decide) (by decide)),
      ((h c).2 main_arg1 (Pipeline.mem_restRefs_of main_arg1 (by decide) (by decide))).trans
        (V_arg m c main_arg1 (by decide) (by decide) (by decide) (by decide) (by decide) (by decide)),
      ((h c).2 main_arg2 (Pipeline.mem_restRefs_of main_arg2 (by decide) (by decide))).trans
        (V_arg m c main_arg2 (by decide) (by decide) (by decide) (by decide) (by decide) (by decide))⟩, hz⟩) (run_main m ρ)

end Cert.Kernel2Ideal.Qkv

end
-- ==== Proof.Qkv.Value.lean ====
module

public import proofs.«01_k».proof.Proof.Qkv.Run
public import proofs.«01_k».proof.Proof.Gen.Reference2Ideal.Run
public import Idealize.ShloMosaic.Lib.Pipeline.ValueKit
public import Idealize.ShloMosaic.Lib.Pointwise

@[expose] public section

/-!
# The projection onto queries, keys and values: what the three results hold

A tile of rows is normalised into the scratch array, and every point of the launch multiplies it by a
tile of columns; so each place of a result is the reference's sum.
-/

set_option maxRecDepth 16384

noncomputable section

namespace Cert.Reference2Ideal.Qkv

open Cert.Reference2Ideal Cert.Reference2Ideal.Gen
open Idealize.ShloMosaic Idealize.ShloMosaic.TcCoe
open scoped BigOperators

/-- The factor that a row is multiplied by: one over its root mean square, from the sum of its squares. -/
def rms (s : EReal) : EReal :=
  Ideal.rsqrt (Ideal.div s (Ideal.ofBits .f32 0x45800000#32) + Ideal.ofBits .f32 0x358637BD#32)

variable (x : FVec Ideal S4x4096x4096 .f32) (g : FVec Ideal S2x4096 .f32) (w : FVec Ideal S1x4096x12288 .f32)

/-- The sequence and the place in it of a row. -/
def hi (r : Fin 16384) : Fin 4 := ⟨r.val / 4096, by omega⟩
def lo (r : Fin 16384) : Fin 4096 := ⟨r.val % 4096, by omega⟩
/-- A column of one of the three parts, among all. -/
def part (p : Fin 3) (d : Fin 4096) : Fin 12288 := ⟨p.val * 4096 + d.val, by omega⟩

/-- A row, normalised. -/
def rowN (r : Fin 16384) (k : Fin 4096) : EReal :=
  x (ix3 (hi r) (lo r) k) * rms (∑ j : Fin 4096, (x (ix3 (hi r) (lo r) j) * x (ix3 (hi r) (lo r) j) : EReal)) * g (ix2 0 k)

/-- One place of the projection. -/
def proj (r : Fin 16384) (d : Fin 12288) : EReal := ∑ k : Fin 4096, rowN x g r k * (w (ix3 0 k d) : EReal)

/-- The whole projection, as the reference computes it. -/
def prodF : FVec Ideal S4x4096x12288 .f32 :=
  Host.dotGeneral dot_S4x4096x4096_S4096x12288_S4x4096x12288_2_0_01_1_n_n none (mulf (mulf x (broadcastInDim S4x4096x4096 ![0, 1, 2]
    bcast_S4x4096x1_S4x4096x4096_0_1_2 (Host.rsqrt (addf (Host.divf (broadcastInDim S4x4096x1 ![0, 1] bcast_S4x4096_S4x4096x1_0_1
      (Host.reduceAdd (mulf x x) (constant S_ .f32 0x00000000#32) reducesTo_S4x4096x4096_S4x4096_d2 h_S_))
      (broadcastInDim S4x4096x1 ![] bcast_S_S4x4096x1 (constant S_ .f32 0x45800000#32)))
      (broadcastInDim S4x4096x1 ![] bcast_S_S4x4096x1 (constant S_ .f32 0x358637BD#32))))))
    (broadcastInDim S4x4096x4096 ![0, 1, 2] bcast_S1x1x4096_S4x4096x4096_0_1_2 (broadcastInDim S1x1x4096 ![2] bcast_S4096_S1x1x4096_2
      (shapeCast _ (extractStridedSlice S1x4096 ![0, 0] g slices_S2x4096_S1x4096_0_0) shapeCasts_S1x4096_S4096))))
    (shapeCast _ w shapeCasts_S1x4096x12288_S4096x12288)

theorem prodF_apply (b : Fin 4) (s : Fin 4096) (d : Fin 12288) : (prodF x g w (ix3 b s d) : EReal)
    = ∑ k : Fin 4096, (x (ix3 b s k) * rms (∑ j : Fin 4096, (x (ix3 b s j) * x (ix3 b s j) : EReal)) * g (ix2 0 k)) * (w (ix3 0 k d) : EReal) := by
  pointwise [prodF, rms]

/-- A third of an array of all the columns. -/
def cut0 (P : FVec Ideal S4x4096x12288 .f32) : FVec Ideal S16384x4096 .f32 :=
  shapeCast _ (extractStridedSlice S16384x1x4096 ![0, 0, 0] (shapeCast _ P shapeCasts_S4x4096x12288_S16384x3x4096)
    slices_S16384x3x4096_S16384x1x4096_0_0_0) shapeCasts_S16384x1x4096_S16384x4096
def cut1 (P : FVec Ideal S4x4096x12288 .f32) : FVec Ideal S16384x4096 .f32 :=
  shapeCast _ (extractStridedSlice S16384x1x4096 ![0, 1, 0] (shapeCast _ P shapeCasts_S4x4096x12288_S16384x3x4096)
    slices_S16384x3x4096_S16384x1x4096_0_1_0) shapeCasts_S16384x1x4096_S16384x4096
def cut2 (P : FVec Ideal S4x4096x12288 .f32) : FVec Ideal S16384x4096 .f32 :=
  shapeCast _ (extractStridedSlice S16384x1x4096 ![0, 2, 0] (shapeCast _ P shapeCasts_S4x4096x12288_S16384x3x4096)
    slices_S16384x3x4096_S16384x1x4096_0_2_0) shapeCasts_S16384x1x4096_S16384x4096

theorem cut0_apply (P : FVec Ideal S4x4096x12288 .f32) (r : Fin 16384) (d : Fin 4096) :
    (cut0 P (ix2 r d) : EReal) = P (ix3 (hi r) (lo r) (part 0 d)) := by
  pointwise [cut0, hi, lo, part]
theorem cut1_apply (P : FVec Ideal S4x4096x12288 .f32) (r : Fin 16384) (d : Fin 4096) :
    (cut1 P (ix2 r d) : EReal) = P (ix3 (hi r) (lo r) (part 1 d)) := by
  pointwise [cut1, hi, lo, part]
theorem cut2_apply (P : FVec Ideal S4x4096x12288 .f32) (r : Fin 16384) (d : Fin 4096) :
    (cut2 P (ix2 r d) : EReal) = P (ix3 (hi r) (lo r) (part 2 d)) := by
  pointwise [cut2, hi, lo, part]

/-- What the reference leaves, from its arguments. -/
def refQ : FVec Ideal S16384x4096 .bf16 :=
  truncf .bf16 (mulf (cut0 (prodF x g w)) (broadcastInDim S16384x4096 ![] bcast_S_S16384x4096 (constant S_ .f32 0x3DB504F3#32))) bitsLt_bf16_f32
def refK : FVec Ideal S16384x4096 .f32 := cut1 (prodF x g w)
def refV : FVec Ideal S16384x4096 .f32 := cut2 (prodF x g w)

theorem refQ_apply (r : Fin 16384) (d : Fin 4096) :
    (refQ x g w (ix2 r d) : EReal) = proj x g w r (part 0 d) * Ideal.ofBits .f32 0x3DB504F3#32 := by
  have h : (refQ x g w (ix2 r d) : EReal) = cut0 (prodF x g w) (ix2 r d) * Ideal.ofBits .f32 0x3DB504F3#32 := by
    pointwise [refQ]
  rw [h, cut0_apply, prodF_apply]
  rfl
theorem refK_apply (r : Fin 16384) (d : Fin 4096) : (refK x g w (ix2 r d) : EReal) = proj x g w r (part 1 d) := by
  unfold refK
  rw [cut1_apply, prodF_apply]
  rfl
theorem refV_apply (r : Fin 16384) (d : Fin 4096) : (refV x g w (ix2 r d) : EReal) = proj x g w r (part 2 d) := by
  unfold refV
  rw [cut2_apply, prodF_apply]
  rfl

end Cert.Reference2Ideal.Qkv

namespace Cert.Kernel2Ideal.Qkv

open Cert.Kernel2Ideal Cert.Kernel2Ideal.Gen Cert.Reference2Ideal.Qkv
open Idealize.ShloMosaic Idealize.ShloMosaic.TcCoe
open scoped BigOperators

variable (m : (ℓ : Loc nD τ sig) → Buf (Elt Ideal) ℓ) (c : Dev nD)

abbrev argX : FVec Ideal S4x4096x4096 .f32 := m ((c.tc : Thread nD τ).loc main_arg0)
abbrev argG : FVec Ideal S2x4096 .f32 := m ((c.tc : Thread nD τ).loc main_arg1)
abbrev argW : FVec Ideal S1x4096x12288 .f32 := m ((c.tc : Thread nD τ).loc main_arg2)

/-- The arrays that the launch finds. -/
theorem V_x (r : Fin 16384) (k : Fin 4096) : (V m c main_v0 (ix2 r k) : EReal) = argX m c (ix3 (hi r) (lo r) k) := by
  have e : V m c main_v0 = shapeCast S16384x4096 (argX m c) shapeCasts_S4x4096x4096_S16384x4096 := by
    unfold V
    after_results
    rfl
  rw [e]
  pointwise [hi, lo]
theorem V_g (d : Fin 4096) : (V m c main_v5 (ix2 0 d) : EReal) = argG m c (ix2 0 d) := by
  have e : V m c main_v5 = shapeCast S1x4096 (shapeCast S4096 (extractStridedSlice S1x4096 ![0, 0] (argG m c)
      slices_S2x4096_S1x4096_0_0) shapeCasts_S1x4096_S4096) shapeCasts_S4096_S1x4096 := by
    unfold V
    after_results
    rfl
  rw [e]
  pointwise
theorem V_w (k : Fin 4096) (d : Fin 12288) : (V m c main_v2 (ix2 k d) : EReal) = argW m c (ix3 0 k d) := by
  have e : V m c main_v2 = truncf .bf16 (shapeCast S4096x12288 (argW m c) shapeCasts_S1x4096x12288_S4096x12288) bitsLt_bf16_f32 := by
    unfold V
    after_results
    rfl
  rw [e]
  pointwise

theorem pay1_apply (x : FVec Ideal S512x4096 .f32) (g : FVec Ideal S1x4096 .f32) (r : Fin 512) (d : Fin 4096) :
    (k0_pay1 (F := Ideal) x g (ix3 0 r d) : EReal)
      = x (ix2 r d) * rms (∑ k : Fin 4096, (x (ix2 r k) * x (ix2 r k) : EReal)) * g (ix2 0 d) := by
  pointwise [k0_pay1, rms]
theorem pay2_apply (x : FVec Ideal S1x512x4096 .bf16) (w : FVec Ideal S4096x1024 .bf16) (r : Fin 512) (d : Fin 1024) :
    (k0_pay2 (F := Ideal) x w (ix2 r d) : EReal)
      = (∑ k : Fin 4096, (x (ix3 0 r k) * w (ix2 k d) : EReal)) * Ideal.ofBits .f32 0x3DB504F3#32 := by
  pointwise [k0_pay2]
theorem pay3_apply (x : FVec Ideal S1x512x4096 .bf16) (w : FVec Ideal S4096x1024 .bf16) (r : Fin 512) (d : Fin 1024) :
    (k0_pay3 (F := Ideal) x w (ix2 r d) : EReal) = ∑ k : Fin 4096, (x (ix3 0 r k) * w (ix2 k d) : EReal) := by
  pointwise [k0_pay3]
theorem pay4_apply (x : FVec Ideal S1x512x4096 .bf16) (w : FVec Ideal S4096x1024 .bf16) (r : Fin 512) (d : Fin 1024) :
    (k0_pay4 (F := Ideal) x w (ix2 r d) : EReal) = ∑ k : Fin 4096, (x (ix3 0 r k) * w (ix2 k d) : EReal) := by
  pointwise [k0_pay4]

/-- The point that prepares the rows of a point's tile. -/
abbrev prep (t : Fin cfg0.N) : Fin cfg0.N := pt (12 * (t.val / 12) - 1)

theorem idx0 : ∀ t : Fin cfg0.N, win0_0.index (prep t) = ![t.val / 12, 0] :=
  (by decide +kernel : ∀ t : Fin grid0.N, win0_0.index (⟨(12 * (t.val / 12) - 1) % 384, _⟩ : Fin grid0.N) = _)
theorem idx1 : ∀ t : Fin cfg0.N, win0_1.index t = ![0, 0] :=
  (by decide +kernel : ∀ t : Fin grid0.N, _)
theorem idx2 : ∀ t : Fin cfg0.N, win0_2.index t = ![0, t.val % 12] :=
  (by decide +kernel : ∀ t : Fin grid0.N, _)
theorem idx3 : ∀ t : Fin cfg0.N, win0_3.index t = ![t.val / 12, min (t.val % 12) 3] :=
  (by decide +kernel : ∀ t : Fin grid0.N, _)
theorem idx4 : ∀ t : Fin cfg0.N, win0_4.index t = ![t.val / 12, min (t.val % 12 - 4) 3] :=
  (by decide +kernel : ∀ t : Fin grid0.N, _)
theorem idx5 : ∀ t : Fin cfg0.N, win0_5.index t = ![t.val / 12, t.val % 12 - 8] :=
  (by decide +kernel : ∀ t : Fin grid0.N, _)

variable (t : Fin cfg0.N)

/-- A row of a point's tile, in the array. -/
def row (r : Fin 512) : Fin 16384 := ⟨t.val / 12 * 512 + r.val, by have := lt_N t; omega⟩
/-- A column of a point's tile of weights. -/
def col (d : Fin 1024) : Fin 12288 := ⟨t.val % 12 * 1024 + d.val, by omega⟩

theorem iblk0_apply (r : Fin 512) (k : Fin 4096) :
    (iblk m c 0 (prep t) (ix2 r k) : EReal) = argX m c (ix3 (hi (row t r)) (lo (row t r)) k) := by
  have h : (win0_0.blk (prep t)).view.emb (ix2 r k) = ix2 (row t r) k := by
    unfold row
    blk_ext [idx0]
  exact (congrArg (V m c main_v0) h).trans (V_x m c _ _)
theorem iblk1_apply (d : Fin 4096) : (iblk m c 1 t (ix2 0 d) : EReal) = argG m c (ix2 0 d) := by
  have h : (win0_1.blk t).view.emb (ix2 0 d) = ix2 0 d := by
    blk_ext [idx1]
  exact (congrArg (V m c main_v5) h).trans (V_g m c _)
theorem iblk2_apply (k : Fin 4096) (d : Fin 1024) : (iblk m c 2 t (ix2 k d) : EReal) = argW m c (ix3 0 k (col t d)) := by
  have h : (win0_2.blk t).view.emb (ix2 k d) = ix2 k (col t d) := by
    unfold col
    blk_ext [idx2]
  exact (congrArg (V m c main_v2) h).trans (V_w m c _ _)

/-- The normalised rows of a point's tile. -/
theorem nrm_apply (r : Fin 512) (k : Fin 4096) :
    (nrm m c (t.val / 12) (ix3 0 r k) : EReal) = rowN (argX m c) (argG m c) (row t r) k := by
  refine (pay1_apply _ _ r k).trans ?_
  rw [iblk1_apply, iblk0_apply]
  refine congrArg (fun s : EReal => _ * rms s * _) (Finset.sum_congr rfl fun k _ => ?_)
  rw [iblk0_apply]

/-- A point's tile of products. -/
theorem sum_eq (u : Fin cfg0.N) (r : Fin 512) (d : Fin 1024) :
    (∑ k : Fin 4096, (nrm m c (t.val / 12) (ix3 0 r k) * iblk m c 2 u (ix2 k d) : EReal))
      = proj (argX m c) (argG m c) (argW m c) (row t r) (col u d) := by
  refine Finset.sum_congr rfl fun k _ => ?_
  rw [nrm_apply, iblk2_apply]

/-- A column of a point's tile of a result. -/
def colQ (d : Fin 1024) : Fin 4096 := ⟨min (t.val % 12) 3 * 1024 + d.val, by omega⟩
def colK (d : Fin 1024) : Fin 4096 := ⟨min (t.val % 12 - 4) 3 * 1024 + d.val, by omega⟩
def colV (d : Fin 1024) : Fin 4096 := ⟨(t.val % 12 - 8) * 1024 + d.val, by omega⟩

theorem blockQ (r : Fin 512) (d : Fin 1024) : (outQ m c t.val (ix2 r d) : EReal)
    = refQ (argX m c) (argG m c) (argW m c) (ix2 (row t r) (colQ t d)) := by
  refine (pay2_apply _ _ r d).trans (Eq.trans ?_ (refQ_apply _ _ _ _ _).symm)
  rw [sum_eq]
  have e : col (pt (12 * (t.val / 12) + min (t.val % 12) 3)) d = part 0 (colQ t d) := Fin.ext (by
    have := lt_N t
    simp only [col, part, colQ, pt]
    have h : (12 * (t.val / 12) + min (t.val % 12) 3) % 384 % 12 = min (t.val % 12) 3 := by omega
    rw [h]
    simp)
  rw [e]
theorem blockK (h4 : 4 ≤ t.val % 12) (r : Fin 512) (d : Fin 1024) : (outK m c t.val (ix2 r d) : EReal)
    = refK (argX m c) (argG m c) (argW m c) (ix2 (row t r) (colK t d)) := by
  refine (pay3_apply _ _ r d).trans (Eq.trans ?_ (refK_apply _ _ _ _ _).symm)
  rw [sum_eq]
  have e : col (pt (12 * (t.val / 12) + min (t.val % 12) 7)) d = part 1 (colK t d) := Fin.ext (by
    have := lt_N t
    simp only [col, part, colK, pt]
    have h : (12 * (t.val / 12) + min (t.val % 12) 7) % 384 % 12 = min (t.val % 12 - 4) 3 + 4 := by omega
    rw [h]
    show _ = 1 * 4096 + _
    omega)
  rw [e]
theorem blockV (h8 : 8 ≤ t.val % 12) (r : Fin 512) (d : Fin 1024) : (outV m c t.val (ix2 r d) : EReal)
    = refV (argX m c) (argG m c) (argW m c) (ix2 (row t r) (colV t d)) := by
  refine (pay4_apply _ _ r d).trans (Eq.trans ?_ (refV_apply _ _ _ _ _).symm)
  rw [sum_eq, pt_eq t rfl]
  have e : col t d = part 2 (colV t d) := Fin.ext (by
    show t.val % 12 * 1024 + d.val = 2 * 4096 + ((t.val % 12 - 8) * 1024 + d.val)
    omega)
  rw [e]

theorem finalQ : (dats m 0 c).arrAt 3 cfg0.N = refQ (argX m c) (argG m c) (argW m c) := by
  refine (dats m 0 c).arrAt_eq_of_covers 3 _ (by decide +kernel) fun t hf y => ?_
  blk_simp
  rw [after_3]
  have hy : y = ix2 (n0 := 512) (n1 := 1024) (y 0) (y 1) := eq_ix2 (n0 := 512) (n1 := 1024) y
  have h : (win0_3.blk t).view.emb (ix2 (n0 := 512) (n1 := 1024) (y 0) (y 1)) = ix2 (row t (y 0)) (colQ t (y 1)) := by
    unfold row colQ
    blk_ext [idx3]
  rw [hy, h]
  exact blockQ m c t (y 0) (y 1)
theorem finalK : (dats m 0 c).arrAt 4 cfg0.N = refK (argX m c) (argG m c) (argW m c) := by
  refine (dats m 0 c).arrAt_eq_of_covers 4 _ (by decide +kernel) fun t hf y => ?_
  have h4 : 4 ≤ t.val % 12 := by
    have := (flush_4 t).symm.trans hf
    simp only [decide_eq_true_eq] at this
    omega
  blk_simp
  rw [after_4]
  have hy : y = ix2 (n0 := 512) (n1 := 1024) (y 0) (y 1) := eq_ix2 (n0 := 512) (n1 := 1024) y
  have h : (win0_4.blk t).view.emb (ix2 (n0 := 512) (n1 := 1024) (y 0) (y 1)) = ix2 (row t (y 0)) (colK t (y 1)) := by
    unfold row colK
    blk_ext [idx4]
  rw [hy, h]
  exact blockK m c t h4 (y 0) (y 1)
theorem finalV : (dats m 0 c).arrAt 5 cfg0.N = refV (argX m c) (argG m c) (argW m c) := by
  refine (dats m 0 c).arrAt_eq_of_covers 5 _ (by decide +kernel) fun t hf y => ?_
  have h8 : 8 ≤ t.val % 12 := by
    have := (flush_5 t).symm.trans hf
    simpa only [decide_eq_true_eq] using this
  blk_simp
  rw [after_5]
  have hy : y = ix2 (n0 := 512) (n1 := 1024) (y 0) (y 1) := eq_ix2 (n0 := 512) (n1 := 1024) y
  have h : (win0_5.blk t).view.emb (ix2 (n0 := 512) (n1 := 1024) (y 0) (y 1)) = ix2 (row t (y 0)) (colV t (y 1)) := by
    unfold row colV
    blk_ext [idx5]
  rw [hy, h]
  exact blockV m c t h8 (y 0) (y 1)

end Cert.Kernel2Ideal.Qkv

end
-- ==== Proof.Kvq.Body.lean ====
module

public import proofs.«01_k».proof.Proof.Gen.Kernel5Ideal.Points
public import proofs.«01_k».proof.Proof.Gen.Kernel5Ideal.Launch
public import proofs.«01_k».proof.Proof.Gen.Kernel5Ideal.Skeleton
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.Writes
public import Idealize.ShloMosaic.Lib.WritesUnit
public import Idealize.ShloMosaic.Lib.VecWindow
public import Idealize.ShloMosaic.Lib.Pointwise.Index

@[expose] public section

/-!
# The projection onto the shared keys and values and the second layer's queries: its body at a point of the grid.
-/

set_option maxRecDepth 16384

noncomputable section

namespace Cert.Kernel5Ideal.Kvq

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-- The condition of the first point. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem cond1_iff : ∀ t : Fin grid0.N, cond1 (grid0.coords t) = 1#1 ↔ t.val = 0 := by decide +kernel
theorem cond2_iff : ∀ t : Fin grid0.N, k0_cond2 (grid0.coords t) = 1#1 ↔ t.val % 6 < 2 := by decide +kernel
theorem cond3_iff : ∀ t : Fin grid0.N, k0_cond3 (grid0.coords t) = 1#1 ↔ 2 ≤ t.val % 6 ∧ t.val % 6 < 5 := by decide +kernel
theorem cond4_iff : ∀ t : Fin grid0.N, k0_cond4 (grid0.coords t) = 1#1 ↔ t.val % 6 = 5 := by decide +kernel
theorem off1_eq : ∀ t : Fin grid0.N, k0_off1 (grid0.coords t) = ![0, t.val / 6 % 2, 0, 0] := by decide +kernel
theorem off2_eq : ∀ t : Fin grid0.N, k0_off2 (grid0.coords t) = ![1, t.val / 6 % 2, 0, 0] := by decide +kernel
theorem off3_eq : ∀ t : Fin grid0.N, k0_off3 (grid0.coords t) = ![1, t.val / 6 % 2, 0, 0] := by decide +kernel
theorem off4_eq : ∀ t : Fin grid0.N, k0_off4 (grid0.coords t) = ![0, (t.val / 6 + 1) % 2, 0, 0] := by decide +kernel
theorem off5_eq : ∀ t : Fin grid0.N, k0_off5 (grid0.coords t) = ![1, (t.val / 6 + 1) % 2, 0, 0] := by decide +kernel
theorem off6_eq : ∀ t : Fin grid0.N, k0_off6 (grid0.coords t) = ![0, (t.val / 6 + 1) % 2, 128, 0] := by decide +kernel
theorem off7_eq : ∀ t : Fin grid0.N, k0_off7 (grid0.coords t) = ![1, (t.val / 6 + 1) % 2, 128, 0] := by decide +kernel
theorem off8_eq : ∀ t : Fin grid0.N, k0_off8 (grid0.coords t) = ![0, (t.val / 6 + 1) % 2, 256, 0] := by decide +kernel
theorem off9_eq : ∀ t : Fin grid0.N, k0_off9 (grid0.coords t) = ![1, (t.val / 6 + 1) % 2, 256, 0] := by decide +kernel
theorem off10_eq : ∀ t : Fin grid0.N, k0_off10 (grid0.coords t) = ![0, (t.val / 6 + 1) % 2, 384, 0] := by decide +kernel
theorem off11_eq : ∀ t : Fin grid0.N, k0_off11 (grid0.coords t) = ![1, (t.val / 6 + 1) % 2, 384, 0] := by decide +kernel

/-- Rows `128 q …` of a tile. -/
def rowsAt (q : Fin 4) (X : Vec F S512x4096 .f32) : Vec F S128x4096 .f32 :=
  fun y => X (ix2 ⟨128 * q.val + (y 0).val, by have := (y 0).isLt; have : (y 0).val < 128 := this; omega⟩ (y 1))

/-- A tile's rows, normalised in four pieces of 128 rows. -/
def normed (X : Vec F S512x4096 .f32) (g : Vec F S1x4096 .f32) : Vec F S1x1x512x4096 .bf16 :=
  fun y => k0_pay8 (rowsAt ⟨(y 2).val / 128, by have : (y 2).val < 512 := (y 2).isLt; omega⟩ X) g
    (ix4 0 0 ⟨(y 2).val % 128, Nat.mod_lt _ (by decide)⟩ (y 3))

/-- Both normalised tiles, as an array of the scratch array's shape. -/
def both (X : Vec F S512x4096 .f32) (g g' : Vec F S1x4096 .f32) : Vec F S2x2x512x4096 .bf16 :=
  fun y => if (y 0).val = 0 then normed X g (ix4 0 0 (y 2) (y 3)) else normed X g' (ix4 0 0 (y 2) (y 3))

section
variable (c : Dev nD) (i : grid0.Coords)
  (a2 : Memref sig .tc .vmem S512x4096 .f32) (h2 : a2.IsWhole) (a3 : Memref sig .tc .vmem S1x4096 .f32) (h3 : a3.IsWhole)
  (a4 : Memref sig .tc .vmem S1x4096 .f32) (h4 : a4.IsWhole) (a5 : Memref sig .tc .vmem S4096x1024 .bf16) (h5 : a5.IsWhole)
  (a6 : Memref sig .tc .vmem S512x1024 .f32) (h6 : a6.IsWhole) (a7 : Memref sig .tc .vmem S512x1024 .bf16) (h7 : a7.IsWhole)
  (a8 : Memref sig .tc .vmem S2x2x512x4096 .bf16) (h8 : a8.IsWhole)

/-- A slot of the scratch array holds `X`. -/
def Slot (o : Fin 4 → ℕ) (X : Vec F S1x1x512x4096 .bf16) (f : Buf (Elt F) (a8.view.loc (c : Thread nD τ))) : Prop :=
  ∀ h : ∀ a, o a + S1x1x512x4096.size a ≤ S2x2x512x4096.size a,
    a8.view.readAt (Elt F) (Rect.unit (s := S2x2x512x4096) o S1x1x512x4096.size h).toLoadRect f = X

/-- A store over a whole buffer leaves what is stored. -/
theorem read_full {sp : Space} {s : Shape} {e : EltTy} (v : View sig .tc sp s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w := View.read_writes_full v f inb w []

theorem Slot.congr {o o' : Fin 4 → ℕ} (h : o = o') {X : Vec F S1x1x512x4096 .bf16} {f} (hs : Slot c a8 o X f) : Slot c a8 o' X f := h ▸ hs

/-- The loaded rows of a tile are its rows. -/
theorem readAt_rows (f : a2.view.ty.Contents (Elt F)) (q : Fin 4) {o : ℕ} (ho : o = 128 * q.val) (inb : ∀ a, (![o, 0] : Fin 2 → ℕ) a + S128x4096.size a ≤ S512x4096.size a) :
    a2.view.readAt (Elt F) (Rect.unit (s := S512x4096) ![o, 0] S128x4096.size inb).toLoadRect f = rowsAt q (a2.view.read (Elt F) f) := by
  subst ho
  funext y
  rw [View.readAt_apply]
  refine congrArg (a2.view.read (Elt F) f) (funext fun a => ?_)
  match a with
  | ⟨0, _⟩ => exact Fin.ext (show 128 * q.val + 1 * (y 0).val = 128 * q.val + (y 0).val by omega)
  | ⟨1, _⟩ => exact Fin.ext (show 0 + 1 * (y 1).val = (y 1).val by omega)

/-- A stored piece agrees with the normalised tiles. -/
theorem piece_agrees (X : Vec F S512x4096 .f32) (g g' h : Vec F S1x4096 .f32) (b s : ℕ) (q : Fin 4) (o : Fin 4 → ℕ)
    (inb : ∀ a, o a + S1x1x128x4096.size a ≤ S2x2x512x4096.size a) (ho : o = ![b, s, 128 * q.val, 0]) (hh : h = if b = 0 then g else g')
    (P : Vec F S1x1x128x4096 .bf16) (hP : P = k0_pay8 (rowsAt q X) h)
    (x : (Rect.unit (s := S2x2x512x4096) o S1x1x128x4096.size inb).shape.Idx) :
    P x = both X g g' ((Rect.unit (s := S2x2x512x4096) o S1x1x128x4096.size inb).emb x) := by
  subst ho hP
  have x0 : (x 0).val = 0 := by have : (x 0).val < 1 := (x 0).isLt; omega
  have x1 : (x 1).val = 0 := by have : (x 1).val < 1 := (x 1).isLt; omega
  have x2 : (x 2).val < 128 := (x 2).isLt
  have e0 : ((Rect.unit (s := S2x2x512x4096) ![b, s, 128 * q.val, 0] S1x1x128x4096.size inb).emb x 0).val = b := by
    show b + 1 * (x 0).val = b; omega
  have e2 : ((Rect.unit (s := S2x2x512x4096) ![b, s, 128 * q.val, 0] S1x1x128x4096.size inb).emb x 2).val = 128 * q.val + (x 2).val := by
    show 128 * q.val + 1 * (x 2).val = _; omega
  have e3 : ((Rect.unit (s := S2x2x512x4096) ![b, s, 128 * q.val, 0] S1x1x128x4096.size inb).emb x 3).val = (x 3).val := by
    show 0 + 1 * (x 3).val = _; omega
  have key : ∀ k : Vec F S1x4096 .f32, normed X k (ix4 0 0 ((Rect.unit (s := S2x2x512x4096) ![b, s, 128 * q.val, 0] S1x1x128x4096.size inb).emb x 2)
      ((Rect.unit (s := S2x2x512x4096) ![b, s, 128 * q.val, 0] S1x1x128x4096.size inb).emb x 3)) = k0_pay8 (rowsAt q X) k x := by
    intro k
    unfold normed
    refine congrArg₂ (fun (q : Fin 4) (z : S1x1x128x4096.Idx) => k0_pay8 (rowsAt q X) k z) (Fin.ext ?_) (funext fun a => ?_)
    · show ((Rect.unit (s := S2x2x512x4096) ![b, s, 128 * q.val, 0] S1x1x128x4096.size inb).emb x 2).val / 128 = q.val
      omega
    · match a with
      | ⟨0, _⟩ => exact Fin.ext x0.symm
      | ⟨1, _⟩ => exact Fin.ext x1.symm
      | ⟨2, _⟩ => exact Fin.ext (by
          show ((Rect.unit (s := S2x2x512x4096) ![b, s, 128 * q.val, 0] S1x1x128x4096.size inb).emb x 2).val % 128 = (x 2).val
          omega)
      | ⟨3, _⟩ => exact Fin.ext e3
  unfold both
  rw [e0, hh]
  split
  · exact (key g).symm
  · exact (key g').symm

/-- A place of a piece. -/
theorem mem_piece (b s q : ℕ) (o : Fin 4 → ℕ) (inb : ∀ a, o a + S1x1x128x4096.size a ≤ S2x2x512x4096.size a) (ho : o = ![b, s, 128 * q, 0])
    (y : S2x2x512x4096.Idx) (h0 : (y 0).val = b) (h1 : (y 1).val = s) (h2 : (y 2).val / 128 = q) :
    y ∈ (Rect.unit (s := S2x2x512x4096) o S1x1x128x4096.size inb).set := by
  subst ho
  have y3 : (y 3).val < 4096 := (y 3).isLt
  refine (LoadRect.mem_set _).mpr fun a => ?_
  match a with
  | ⟨0, _⟩ => exact ⟨0, Nat.zero_lt_one, h0⟩
  | ⟨1, _⟩ => exact ⟨0, Nat.zero_lt_one, h1⟩
  | ⟨2, _⟩ => exact ⟨(y 2).val % 128, Nat.mod_lt _ (by decide), show (y 2).val = 128 * q + 1 * ((y 2).val % 128) by omega⟩
  | ⟨3, _⟩ => exact ⟨(y 3).val, y3, show (y 3).val = 0 + 1 * (y 3).val by omega⟩

/-- Eight stores of 128 rows make both normalised tiles. -/
theorem slots_of_pieces (X : Vec F S512x4096 .f32) (g g' : Vec F S1x4096 .f32) (s : ℕ) (f : Buf (Elt F) (a8.view.loc (c : Thread nD τ)))
    (o4 o5 o6 o7 o8 o9 o10 o11 : Fin 4 → ℕ)
    (i4 : ∀ a, o4 a + S1x1x128x4096.size a ≤ S2x2x512x4096.size a) (i5 : ∀ a, o5 a + S1x1x128x4096.size a ≤ S2x2x512x4096.size a)
    (i6 : ∀ a, o6 a + S1x1x128x4096.size a ≤ S2x2x512x4096.size a) (i7 : ∀ a, o7 a + S1x1x128x4096.size a ≤ S2x2x512x4096.size a)
    (i8 : ∀ a, o8 a + S1x1x128x4096.size a ≤ S2x2x512x4096.size a) (i9 : ∀ a, o9 a + S1x1x128x4096.size a ≤ S2x2x512x4096.size a)
    (i10 : ∀ a, o10 a + S1x1x128x4096.size a ≤ S2x2x512x4096.size a) (i11 : ∀ a, o11 a + S1x1x128x4096.size a ≤ S2x2x512x4096.size a)
    (h4 : o4 = ![0, s, 0, 0]) (h5 : o5 = ![1, s, 0, 0]) (h6 : o6 = ![0, s, 128, 0]) (h7 : o7 = ![1, s, 128, 0])
    (h8 : o8 = ![0, s, 256, 0]) (h9 : o9 = ![1, s, 256, 0]) (h10 : o10 = ![0, s, 384, 0]) (h11 : o11 = ![1, s, 384, 0])
    (P4 P5 P6 P7 P8 P9 P10 P11 : Vec F S1x1x128x4096 .bf16)
    (p4 : P4 = k0_pay8 (rowsAt 0 X) g) (p5 : P5 = k0_pay8 (rowsAt 0 X) g') (p6 : P6 = k0_pay8 (rowsAt 1 X) g) (p7 : P7 = k0_pay8 (rowsAt 1 X) g')
    (p8 : P8 = k0_pay8 (rowsAt 2 X) g) (p9 : P9 = k0_pay8 (rowsAt 2 X) g') (p10 : P10 = k0_pay8 (rowsAt 3 X) g) (p11 : P11 = k0_pay8 (rowsAt 3 X) g') :
    Slot c a8 ![0, s, 0, 0] (normed X g) (a8.view.writes (Elt F) f
      [⟨Rect.unit (s := S2x2x512x4096) o11 S1x1x128x4096.size i11, P11⟩, ⟨Rect.unit (s := S2x2x512x4096) o10 S1x1x128x4096.size i10, P10⟩,
       ⟨Rect.unit (s := S2x2x512x4096) o9 S1x1x128x4096.size i9, P9⟩, ⟨Rect.unit (s := S2x2x512x4096) o8 S1x1x128x4096.size i8, P8⟩,
       ⟨Rect.unit (s := S2x2x512x4096) o7 S1x1x128x4096.size i7, P7⟩, ⟨Rect.unit (s := S2x2x512x4096) o6 S1x1x128x4096.size i6, P6⟩,
       ⟨Rect.unit (s := S2x2x512x4096) o5 S1x1x128x4096.size i5, P5⟩, ⟨Rect.unit (s := S2x2x512x4096) o4 S1x1x128x4096.size i4, P4⟩])
    ∧ Slot c a8 ![1, s, 0, 0] (normed X g') (a8.view.writes (Elt F) f
      [⟨Rect.unit (s := S2x2x512x4096) o11 S1x1x128x4096.size i11, P11⟩, ⟨Rect.unit (s := S2x2x512x4096) o10 S1x1x128x4096.size i10, P10⟩,
       ⟨Rect.unit (s := S2x2x512x4096) o9 S1x1x128x4096.size i9, P9⟩, ⟨Rect.unit (s := S2x2x512x4096) o8 S1x1x128x4096.size i8, P8⟩,
       ⟨Rect.unit (s := S2x2x512x4096) o7 S1x1x128x4096.size i7, P7⟩, ⟨Rect.unit (s := S2x2x512x4096) o6 S1x1x128x4096.size i6, P6⟩,
       ⟨Rect.unit (s := S2x2x512x4096) o5 S1x1x128x4096.size i5, P5⟩, ⟨Rect.unit (s := S2x2x512x4096) o4 S1x1x128x4096.size i4, P4⟩]) := by
  have hG : ∀ p ∈ ([⟨Rect.unit (s := S2x2x512x4096) o11 S1x1x128x4096.size i11, P11⟩, ⟨Rect.unit (s := S2x2x512x4096) o10 S1x1x128x4096.size i10, P10⟩,
       ⟨Rect.unit (s := S2x2x512x4096) o9 S1x1x128x4096.size i9, P9⟩, ⟨Rect.unit (s := S2x2x512x4096) o8 S1x1x128x4096.size i8, P8⟩,
       ⟨Rect.unit (s := S2x2x512x4096) o7 S1x1x128x4096.size i7, P7⟩, ⟨Rect.unit (s := S2x2x512x4096) o6 S1x1x128x4096.size i6, P6⟩,
       ⟨Rect.unit (s := S2x2x512x4096) o5 S1x1x128x4096.size i5, P5⟩, ⟨Rect.unit (s := S2x2x512x4096) o4 S1x1x128x4096.size i4, P4⟩] : List (View.Piece (Elt F) S2x2x512x4096 .bf16)),
      ∀ x : p.1.shape.Idx, p.2 x = both X g g' (p.1.emb x) := by
    refine List.forall_mem_cons.mpr ⟨piece_agrees X g g' g' 1 s 3 o11 i11 h11 rfl P11 p11, ?_⟩
    refine List.forall_mem_cons.mpr ⟨piece_agrees X g g' g 0 s 3 o10 i10 h10 rfl P10 p10, ?_⟩
    refine List.forall_mem_cons.mpr ⟨piece_agrees X g g' g' 1 s 2 o9 i9 h9 rfl P9 p9, ?_⟩
    refine List.forall_mem_cons.mpr ⟨piece_agrees X g g' g 0 s 2 o8 i8 h8 rfl P8 p8, ?_⟩
    refine List.forall_mem_cons.mpr ⟨piece_agrees X g g' g' 1 s 1 o7 i7 h7 rfl P7 p7, ?_⟩
    refine List.forall_mem_cons.mpr ⟨piece_agrees X g g' g 0 s 1 o6 i6 h6 rfl P6 p6, ?_⟩
    refine List.forall_mem_cons.mpr ⟨piece_agrees X g g' g' 1 s 0 o5 i5 h5 rfl P5 p5, ?_⟩
    refine List.forall_mem_cons.mpr ⟨piece_agrees X g g' g 0 s 0 o4 i4 h4 rfl P4 p4, ?_⟩
    exact fun _ h => absurd h List.not_mem_nil
  have hr : ∀ y : S2x2x512x4096.Idx, (y 1).val = s → a8.view.read (Elt F) (a8.view.writes (Elt F) f
      [⟨Rect.unit (s := S2x2x512x4096) o11 S1x1x128x4096.size i11, P11⟩, ⟨Rect.unit (s := S2x2x512x4096) o10 S1x1x128x4096.size i10, P10⟩,
       ⟨Rect.unit (s := S2x2x512x4096) o9 S1x1x128x4096.size i9, P9⟩, ⟨Rect.unit (s := S2x2x512x4096) o8 S1x1x128x4096.size i8, P8⟩,
       ⟨Rect.unit (s := S2x2x512x4096) o7 S1x1x128x4096.size i7, P7⟩, ⟨Rect.unit (s := S2x2x512x4096) o6 S1x1x128x4096.size i6, P6⟩,
       ⟨Rect.unit (s := S2x2x512x4096) o5 S1x1x128x4096.size i5, P5⟩, ⟨Rect.unit (s := S2x2x512x4096) o4 S1x1x128x4096.size i4, P4⟩]) y = both X g g' y := by
    intro y hy
    refine View.read_writes_apply_of_pieces a8.view f (both X g g') _ hG y ?_
    have y0 : (y 0).val < 2 := (y 0).isLt
    have y2 : (y 2).val < 512 := (y 2).isLt
    rcases (by omega : (y 0).val = 0 ∨ (y 0).val = 1) with e0 | e0 <;>
      rcases (by omega : (y 2).val / 128 = 0 ∨ (y 2).val / 128 = 1 ∨ (y 2).val / 128 = 2 ∨ (y 2).val / 128 = 3) with e2 | e2 | e2 | e2
    · exact ⟨_, .tail _ (.tail _ (.tail _ (.tail _ (.tail _ (.tail _ (.tail _ (.head _))))))), mem_piece 0 s 0 o4 i4 h4 y e0 hy e2⟩
    · exact ⟨_, .tail _ (.tail _ (.tail _ (.tail _ (.tail _ (.head _))))), mem_piece 0 s 1 o6 i6 h6 y e0 hy e2⟩
    · exact ⟨_, .tail _ (.tail _ (.tail _ (.head _))), mem_piece 0 s 2 o8 i8 h8 y e0 hy e2⟩
    · exact ⟨_, .tail _ (.head _), mem_piece 0 s 3 o10 i10 h10 y e0 hy e2⟩
    · exact ⟨_, .tail _ (.tail _ (.tail _ (.tail _ (.tail _ (.tail _ (.head _)))))), mem_piece 1 s 0 o5 i5 h5 y e0 hy e2⟩
    · exact ⟨_, .tail _ (.tail _ (.tail _ (.tail _ (.head _)))), mem_piece 1 s 1 o7 i7 h7 y e0 hy e2⟩
    · exact ⟨_, .tail _ (.tail _ (.head _)), mem_piece 1 s 2 o9 i9 h9 y e0 hy e2⟩
    · exact ⟨_, .head _, mem_piece 1 s 3 o11 i11 h11 y e0 hy e2⟩
  have ex : ∀ (b : ℕ) (h : ∀ a, (![b, s, 0, 0] : Fin 4 → ℕ) a + S1x1x512x4096.size a ≤ S2x2x512x4096.size a) (k : Vec F S1x4096 .f32)
      (_ : k = if b = 0 then g else g') (x : S1x1x512x4096.Idx),
      both X g g' ((Rect.unit (s := S2x2x512x4096) ![b, s, 0, 0] S1x1x512x4096.size h).emb x) = normed X k x := by
    intro b h k hk x
    have x0 : (x 0).val = 0 := by have : (x 0).val < 1 := (x 0).isLt; omega
    have x1 : (x 1).val = 0 := by have : (x 1).val < 1 := (x 1).isLt; omega
    have e0 : ((Rect.unit (s := S2x2x512x4096) ![b, s, 0, 0] S1x1x512x4096.size h).emb x 0).val = b := by
      show b + 1 * (x 0).val = b; omega
    have ez : (ix4 0 0 ((Rect.unit (s := S2x2x512x4096) ![b, s, 0, 0] S1x1x512x4096.size h).emb x 2)
        ((Rect.unit (s := S2x2x512x4096) ![b, s, 0, 0] S1x1x512x4096.size h).emb x 3) : S1x1x512x4096.Idx) = x := funext fun a => by
      match a with
      | ⟨0, _⟩ => exact Fin.ext x0.symm
      | ⟨1, _⟩ => exact Fin.ext x1.symm
      | ⟨2, _⟩ => exact Fin.ext (show 0 + 1 * (x 2).val = (x 2).val by omega)
      | ⟨3, _⟩ => exact Fin.ext (show 0 + 1 * (x 3).val = (x 3).val by omega)
    unfold both
    rw [ez, e0, hk]
    split <;> rfl
  have e1 : ∀ (b : ℕ) (h : ∀ a, (![b, s, 0, 0] : Fin 4 → ℕ) a + S1x1x512x4096.size a ≤ S2x2x512x4096.size a) (x : S1x1x512x4096.Idx),
      ((Rect.unit (s := S2x2x512x4096) ![b, s, 0, 0] S1x1x512x4096.size h).emb x 1).val = s := by
    intro b h x
    have x1 : (x 1).val < 1 := (x 1).isLt
    show s + 1 * (x 1).val = s
    omega
  exact ⟨fun h => funext fun x => (hr _ (e1 0 h x)).trans (ex 0 h g rfl x), fun h => funext fun x => (hr _ (e1 1 h x)).trans (ex 1 h g' rfl x)⟩

/-- At a point of the keys' and values' columns. -/
theorem body_kv (hc1 : ¬ cond1 i = 1#1) (hc2 : k0_cond2 i = 1#1) (hc3 : ¬ k0_cond3 i = 1#1) (hc4 : ¬ k0_cond4 i = 1#1)
    (X5 : Vec F S4096x1024 .bf16) (X8 : Vec F S1x1x512x4096 .bf16) (f8) (hs : Slot c a8 (k0_off1 i) X8 f8) (K : PUnit → sProp 𝕄) :
    iprop(owns (c : Thread nD τ) a5 fullShare X5 ∗ (∃ d, owns (c : Thread nD τ) a6 fullShare d) ∗ (a8.view.loc (c : Thread nD τ) ↦{fullShare} f8)
      ∗ (owns (c : Thread nD τ) a5 fullShare X5 ∗ owns (c : Thread nD τ) a6 fullShare (k0_pay2 X8 X5) ∗ (a8.view.loc (c : Thread nD τ) ↦{fullShare} f8) -∗ K ⟨⟩))
    ⊢ wp frame (wpE (defs₀ (F := F)) Variants.none (c : Thread nD τ) none) Set.univ
      (cc0__kvq_kernel i a2 h2 a3 h3 a4 h4 a5 h5 a6 h6 a7 h7 a8 h8) K := by
  rw [cc0__kvq_kernel_eq_skeleton]
  unfold cc0__kvq_kernel_skel
  unfold cond1 at hc1
  dsimp only
  simp only [dif_neg hc1, dif_pos hc2, dif_neg hc3, dif_neg hc4]
  unfold owns
  iintro ⟨⟨%f5, %e5, H5⟩, ⟨%d6, %f6, -, H6⟩, H8, Hk⟩
  subst e5
  sl_exec
  sl_step
  iapply Hk
  isplitl [H5]
  · iexists f5; isplitr; · ipureintro; rfl
    iexact H5
  isplitl [H6]
  · iexists _; isplitr
    swap; · iexact H6
    ipureintro
    exact (read_full _ _ _ _).trans (congrArg₂ k0_pay2 (hs _) (View.readAt_full _ _ _))
  iexact H8

/-- At a point of the queries' columns but the last. -/
theorem body_q (hc1 : ¬ cond1 i = 1#1) (hc2 : ¬ k0_cond2 i = 1#1) (hc3 : k0_cond3 i = 1#1) (hc4 : ¬ k0_cond4 i = 1#1)
    (X5 : Vec F S4096x1024 .bf16) (X8 : Vec F S1x1x512x4096 .bf16) (f8) (hs : Slot c a8 (k0_off2 i) X8 f8) (K : PUnit → sProp 𝕄) :
    iprop(owns (c : Thread nD τ) a5 fullShare X5 ∗ (∃ d, owns (c : Thread nD τ) a7 fullShare d) ∗ (a8.view.loc (c : Thread nD τ) ↦{fullShare} f8)
      ∗ (owns (c : Thread nD τ) a5 fullShare X5 ∗ owns (c : Thread nD τ) a7 fullShare (k0_pay3 X8 X5) ∗ (a8.view.loc (c : Thread nD τ) ↦{fullShare} f8) -∗ K ⟨⟩))
    ⊢ wp frame (wpE (defs₀ (F := F)) Variants.none (c : Thread nD τ) none) Set.univ
      (cc0__kvq_kernel i a2 h2 a3 h3 a4 h4 a5 h5 a6 h6 a7 h7 a8 h8) K := by
  rw [cc0__kvq_kernel_eq_skeleton]
  unfold cc0__kvq_kernel_skel
  unfold cond1 at hc1
  dsimp only
  simp only [dif_neg hc1, dif_neg hc2, dif_pos hc3, dif_neg hc4]
  unfold owns
  iintro ⟨⟨%f5, %e5, H5⟩, ⟨%d7, %f7, -, H7⟩, H8, Hk⟩
  subst e5
  sl_exec
  sl_step
  iapply Hk
  isplitl [H5]
  · iexists f5; isplitr; · ipureintro; rfl
    iexact H5
  isplitl [H7]
  · iexists _; isplitr
    swap; · iexact H7
    ipureintro
    exact (read_full _ _ _ _).trans (congrArg₂ k0_pay3 (hs _) (View.readAt_full _ _ _))
  iexact H8

theorem body_last (hc1 : ¬ cond1 i = 1#1) (hc2 : ¬ k0_cond2 i = 1#1) (hc3 : ¬ k0_cond3 i = 1#1) (hc4 : k0_cond4 i = 1#1) (s : ℕ) (hsl : s < 2)
    (o4 : k0_off4 i = ![0, s, 0, 0]) (o5 : k0_off5 i = ![1, s, 0, 0]) (o6 : k0_off6 i = ![0, s, 128, 0]) (o7 : k0_off7 i = ![1, s, 128, 0])
    (o8 : k0_off8 i = ![0, s, 256, 0]) (o9 : k0_off9 i = ![1, s, 256, 0]) (o10 : k0_off10 i = ![0, s, 384, 0]) (o11 : k0_off11 i = ![1, s, 384, 0])
    (X2 : Vec F S512x4096 .f32) (X3 X4 : Vec F S1x4096 .f32) (X5 : Vec F S4096x1024 .bf16) (X8 : Vec F S1x1x512x4096 .bf16) (f8) (hs : Slot c a8 (k0_off3 i) X8 f8) (K : PUnit → sProp 𝕄) :
    iprop(owns (c : Thread nD τ) a2 fullShare X2 ∗ owns (c : Thread nD τ) a3 fullShare X3 ∗ owns (c : Thread nD τ) a4 fullShare X4
      ∗ owns (c : Thread nD τ) a5 fullShare X5 ∗ (∃ d, owns (c : Thread nD τ) a7 fullShare d) ∗ (a8.view.loc (c : Thread nD τ) ↦{fullShare} f8)
      ∗ (owns (c : Thread nD τ) a2 fullShare X2 ∗ owns (c : Thread nD τ) a3 fullShare X3 ∗ owns (c : Thread nD τ) a4 fullShare X4
        ∗ owns (c : Thread nD τ) a5 fullShare X5 ∗ owns (c : Thread nD τ) a7 fullShare (k0_pay3 X8 X5)
        ∗ (∃ f, ⌜Slot c a8 ![0, s, 0, 0] (normed X2 X3) f ∧ Slot c a8 ![1, s, 0, 0] (normed X2 X4) f⌝ ∗ (a8.view.loc (c : Thread nD τ) ↦{fullShare} f)) -∗ K ⟨⟩))
    ⊢ wp frame (wpE (defs₀ (F := F)) Variants.none (c : Thread nD τ) none) Set.univ
      (cc0__kvq_kernel i a2 h2 a3 h3 a4 h4 a5 h5 a6 h6 a7 h7 a8 h8) K := by
  rw [cc0__kvq_kernel_eq_skeleton]
  unfold cc0__kvq_kernel_skel
  unfold cond1 at hc1
  dsimp only
  simp only [dif_neg hc1, dif_neg hc2, dif_neg hc3, dif_pos hc4]
  simp only [k0_part4_eq_skeleton, k0_part5_eq_skeleton, k0_part6_eq_skeleton]
  unfold owns
  iintro ⟨⟨%f2, %e2, H2⟩, ⟨%f3, %e3, H3⟩, ⟨%f4, %e4, H4⟩, ⟨%f5, %e5, H5⟩, ⟨%d7, %f7, -, H7⟩, H8, Hk⟩
  subst e2 e3 e4 e5
  letI : ClosedOff (k0_off4 i) := ⟨_, o4⟩
  letI : ClosedOff (k0_off5 i) := ⟨_, o5⟩
  letI : ClosedOff (k0_off6 i) := ⟨_, o6⟩
  letI : ClosedOff (k0_off7 i) := ⟨_, o7⟩
  letI : ClosedOff (k0_off8 i) := ⟨_, o8⟩
  letI : ClosedOff (k0_off9 i) := ⟨_, o9⟩
  letI : ClosedOff (k0_off10 i) := ⟨_, o10⟩
  letI : ClosedOff (k0_off11 i) := ⟨_, o11⟩
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    exact (read_full _ _ _ _).trans (congrArg₂ k0_pay3 (hs _) (View.readAt_full _ _ _))
  iexists _; isplitr
  swap; · iexact H8
  ipureintro
  refine slots_of_pieces c a8 _ _ _ s f8 _ _ _ _ _ _ _ _ _ _ _ _ _ _ _ _ o4 o5 o6 o7 o8 o9 o10 o11 _ _ _ _ _ _ _ _ ?_ ?_ ?_ ?_ ?_ ?_ ?_ ?_
  · exact congrArg₂ k0_pay8 (readAt_rows a2 f2 0 rfl _) (View.readAt_full _ _ _)
  · exact congrArg₂ k0_pay8 (readAt_rows a2 f2 0 rfl _) (View.readAt_full _ _ _)
  · exact congrArg₂ k0_pay8 (readAt_rows a2 f2 1 rfl _) (View.readAt_full _ _ _)
  · exact congrArg₂ k0_pay8 (readAt_rows a2 f2 1 rfl _) (View.readAt_full _ _ _)
  · exact congrArg₂ k0_pay8 (readAt_rows a2 f2 2 rfl _) (View.readAt_full _ _ _)
  · exact congrArg₂ k0_pay8 (readAt_rows a2 f2 2 rfl _) (View.readAt_full _ _ _)
  · exact congrArg₂ k0_pay8 (readAt_rows a2 f2 3 rfl _) (View.readAt_full _ _ _)
  · exact congrArg₂ k0_pay8 (readAt_rows a2 f2 3 rfl _) (View.readAt_full _ _ _)

theorem body_first (hc1 : cond1 i = 1#1) (hc2 : k0_cond2 i = 1#1) (hc3 : ¬ k0_cond3 i = 1#1) (hc4 : ¬ k0_cond4 i = 1#1) (ho : k0_off1 i = ![0, 0, 0, 0])
    (X2 : Vec F S512x4096 .f32) (X3 X4 : Vec F S1x4096 .f32) (X5 : Vec F S4096x1024 .bf16) (f8) (K : PUnit → sProp 𝕄) :
    iprop(owns (c : Thread nD τ) a2 fullShare X2 ∗ owns (c : Thread nD τ) a3 fullShare X3 ∗ owns (c : Thread nD τ) a4 fullShare X4
      ∗ owns (c : Thread nD τ) a5 fullShare X5 ∗ (∃ d, owns (c : Thread nD τ) a6 fullShare d) ∗ (a8.view.loc (c : Thread nD τ) ↦{fullShare} f8)
      ∗ (owns (c : Thread nD τ) a2 fullShare X2 ∗ owns (c : Thread nD τ) a3 fullShare X3 ∗ owns (c : Thread nD τ) a4 fullShare X4
        ∗ owns (c : Thread nD τ) a5 fullShare X5 ∗ owns (c : Thread nD τ) a6 fullShare (k0_pay2 (normed X2 X3) X5)
        ∗ (∃ f, ⌜Slot c a8 ![0, 0, 0, 0] (normed X2 X3) f ∧ Slot c a8 ![1, 0, 0, 0] (normed X2 X4) f⌝ ∗ (a8.view.loc (c : Thread nD τ) ↦{fullShare} f)) -∗ K ⟨⟩))
    ⊢ wp frame (wpE (defs₀ (F := F)) Variants.none (c : Thread nD τ) none) Set.univ
      (cc0__kvq_kernel i a2 h2 a3 h3 a4 h4 a5 h5 a6 h6 a7 h7 a8 h8) K := by
  rw [cc0__kvq_kernel_eq_skeleton]
  unfold cc0__kvq_kernel_skel
  unfold cond1 at hc1
  dsimp only
  simp only [dif_pos hc1, dif_pos hc2, dif_neg hc3, dif_neg hc4]
  simp only [k0_part1_eq_skeleton, k0_part2_eq_skeleton, k0_part3_eq_skeleton]
  unfold owns
  iintro ⟨⟨%f2, %e2, H2⟩, ⟨%f3, %e3, H3⟩, ⟨%f4, %e4, H4⟩, ⟨%f5, %e5, H5⟩, ⟨%d6, %f6, -, H6⟩, H8, Hk⟩
  subst e2 e3 e4 e5
  letI : ClosedOff (k0_off1 i) := ⟨_, ho⟩
  sl_exec
  sl_step
  have key := fun f => slots_of_pieces c a8 (a2.view.read (Elt F) f2) (a3.view.read (Elt F) f3) (a4.view.read (Elt F) f4) 0 f _ _ _ _ _ _ _ _
    inb_S2x2x512x4096_S1x1x128x4096_0_0_0_0 inb_S2x2x512x4096_S1x1x128x4096_1_0_0_0
    inb_S2x2x512x4096_S1x1x128x4096_0_0_128_0 inb_S2x2x512x4096_S1x1x128x4096_1_0_128_0
    inb_S2x2x512x4096_S1x1x128x4096_0_0_256_0 inb_S2x2x512x4096_S1x1x128x4096_1_0_256_0
    inb_S2x2x512x4096_S1x1x128x4096_0_0_384_0 inb_S2x2x512x4096_S1x1x128x4096_1_0_384_0
    rfl rfl rfl rfl rfl rfl rfl rfl _ _ _ _ _ _ _ _
    (congrArg₂ k0_pay8 (readAt_rows a2 f2 0 rfl inb_S512x4096_S128x4096_0_0) (View.readAt_full a3.view f3 inb_S1x4096_S1x4096_0_0))
    (congrArg₂ k0_pay8 (readAt_rows a2 f2 0 rfl inb_S512x4096_S128x4096_0_0) (View.readAt_full a4.view f4 inb_S1x4096_S1x4096_0_0))
    (congrArg₂ k0_pay8 (readAt_rows a2 f2 1 rfl inb_S512x4096_S128x4096_128_0) (View.readAt_full a3.view f3 inb_S1x4096_S1x4096_0_0))
    (congrArg₂ k0_pay8 (readAt_rows a2 f2 1 rfl inb_S512x4096_S128x4096_128_0) (View.readAt_full a4.view f4 inb_S1x4096_S1x4096_0_0))
    (congrArg₂ k0_pay8 (readAt_rows a2 f2 2 rfl inb_S512x4096_S128x4096_256_0) (View.readAt_full a3.view f3 inb_S1x4096_S1x4096_0_0))
    (congrArg₂ k0_pay8 (readAt_rows a2 f2 2 rfl inb_S512x4096_S128x4096_256_0) (View.readAt_full a4.view f4 inb_S1x4096_S1x4096_0_0))
    (congrArg₂ k0_pay8 (readAt_rows a2 f2 3 rfl inb_S512x4096_S128x4096_384_0) (View.readAt_full a3.view f3 inb_S1x4096_S1x4096_0_0))
    (congrArg₂ k0_pay8 (readAt_rows a2 f2 3 rfl inb_S512x4096_S128x4096_384_0) (View.readAt_full a4.view f4 inb_S1x4096_S1x4096_0_0))
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_full _ _ _ _).trans (congrArg₂ k0_pay2 ?_ (View.readAt_full _ _ _))
    unfold body_first.sl.v27 View.readCov
    exact (key _).1.congr c a8 ho.symm _
  iexists _; isplitr
  swap; · iexact H8
  ipureintro
  exact key f8

end

end Cert.Kernel5Ideal.Kvq

end
-- ==== Proof.Kvq.Run.lean ====
module

public import proofs.«01_k».proof.Proof.Kvq.Body
public import proofs.«01_k».proof.Proof.Gen.Kernel5Ideal.Points
public import proofs.«01_k».proof.Proof.Gen.Kernel5Ideal.Launch
public import proofs.«01_k».proof.Proof.Gen.Kernel5Ideal.Skeleton
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.Writes
public import Idealize.ShloMosaic.Lib.WritesUnit
public import Idealize.ShloMosaic.Lib.VecWindow
public import Idealize.ShloMosaic.Lib.Pointwise.Index

@[expose] public section

/-!
# The projection onto the shared keys and values and the second layer's queries: the run of the whole program.
-/

set_option maxRecDepth 16384

noncomputable section

namespace Cert.Kernel5Ideal.Kvq

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The region's entry -/

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

theorem V_arg (c : Dev nD) (b : Ref sig .tc) (h0 : b ≠ main_v0) (h1 : b ≠ main_v1) (h2 : b ≠ main_v2) (h3 : b ≠ main_v3) (h4 : b ≠ main_v4)
    (h5 : b ≠ main_v5) (h6 : b ≠ main_v6) (h7 : b ≠ main_v7) : V m c b = m ((c : Thread nD τ).loc b) :=
  StableHlo.after_of_forall_not_mem (b := Proc.devRef .tc b) _ _ (List.forall_iff_forall_mem.mp
    ⟨fun hm => StableHlo.devRef_ne_of_ne h0 (Finset.mem_singleton.mp hm), fun hm => StableHlo.devRef_ne_of_ne h1 (Finset.mem_singleton.mp hm),
      fun hm => StableHlo.devRef_ne_of_ne h2 (Finset.mem_singleton.mp hm), fun hm => StableHlo.devRef_ne_of_ne h3 (Finset.mem_singleton.mp hm),
      fun hm => StableHlo.devRef_ne_of_ne h4 (Finset.mem_singleton.mp hm), fun hm => StableHlo.devRef_ne_of_ne h5 (Finset.mem_singleton.mp hm),
      fun hm => StableHlo.devRef_ne_of_ne h6 (Finset.mem_singleton.mp hm), fun hm => StableHlo.devRef_ne_of_ne h7 (Finset.mem_singleton.mp hm)⟩)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of a number. -/
def pt (n : ℕ) : Fin cfg0.N := ⟨n % 192, Nat.lt_of_lt_of_eq (Nat.mod_lt _ (by decide)) N_0.symm⟩

theorem lt_N (t : Fin cfg0.N) : t.val < 192 := Nat.lt_of_lt_of_eq t.isLt N_0

theorem pt_eq {n : ℕ} (t : Fin cfg0.N) (h : n = t.val) : pt n = t := Fin.ext (by show n % 192 = t.val; rw [h, Nat.mod_eq_of_lt (lt_N t)])

/-- The rows of tile `k`, normalised with each gain: prepared at the last column of the tile before (the first tile's at its own first column). -/
def nrmK (c : Dev nD) (k : ℕ) : Vec F S1x1x512x4096 .bf16 := normed (iblk m c 0 (pt (6 * k - 1))) (iblk m c 1 (pt (6 * k - 1)))
def nrmQ (c : Dev nD) (k : ℕ) : Vec F S1x1x512x4096 .bf16 := normed (iblk m c 0 (pt (6 * k - 1))) (iblk m c 2 (pt (6 * k - 1)))

/-- What the two results' blocks hold at a point. -/
def outKV (c : Dev nD) (n : ℕ) : Vec F S512x1024 .f32 := k0_pay2 (nrmK m c (n / 6)) (iblk m c 3 (pt (6 * (n / 6) + min (n % 6) 1)))
def outQ (c : Dev nD) (n : ℕ) : Vec F S512x1024 .bf16 := k0_pay3 (nrmQ m c (n / 6)) (iblk m c 3 (pt n))

/-- The scratch array. -/
abbrev scr : Memref sig .tc .vmem S2x2x512x4096 .bf16 := Memref.whole cc0_scratch0

/-- Before point `n` (past the first): a slot of the scratch array holds the rows of the tile, normalised with each gain. -/
def inv (c : Dev nD) (n : ℕ) : sProp 𝕄 :=
  iprop((∃ f, ⌜0 < n → Slot c scr ![0, n / 6 % 2, 0, 0] (nrmK m c (n / 6)) f ∧ Slot c scr ![1, n / 6 % 2, 0, 0] (nrmQ m c (n / 6)) f⌝
    ∗ (scr.view.loc (c : Thread nD τ) ↦{fullShare} f)) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outKV m c t.val
    | ⟨5, _⟩ => outQ m c t.val
  Φ n := inv m c n.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outKV m c t.val := by dsimp only [dats]
theorem after_5 (c : Dev nD) (t : Fin cfg0.N) : (dats m 0 c).after 5 t = outQ m c t.val := by dsimp only [dats]
theorem phi_castSucc (c : Dev nD) (t : Fin cfg0.N) : (dats m 0 c).Φ t.castSucc = inv m c t.val := by dsimp only [dats]; rfl
theorem phi_succ (c : Dev nD) (t : Fin cfg0.N) : (dats m 0 c).Φ t.succ = inv m c (t.val + 1) := by dsimp only [dats]; rfl

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ### The results' blocks where the body leaves them alone -/

theorem idle_4 : ∀ t : Fin cfg0.N, cfg0.idle 4 (cfg0.grid.coords t) = decide (2 ≤ t.val % 6) :=
  (by decide +kernel : ∀ t : Fin grid0.N, idle0 4 (grid0.coords t) = decide (2 ≤ t.val % 6))
theorem idle_5 : ∀ t : Fin cfg0.N, cfg0.idle 5 (cfg0.grid.coords t) = decide (t.val % 6 < 2) :=
  (by decide +kernel : ∀ t : Fin grid0.N, idle0 5 (grid0.coords t) = decide (t.val % 6 < 2))
theorem flush_4 : ∀ t : Fin cfg0.N, (cfg0.win 4).flush t = decide (t.val % 6 < 1 ∨ t.val % 6 = 5) :=
  (by decide +kernel : ∀ t : Fin grid0.N, win0_4.flush t = decide (t.val % 6 < 1 ∨ t.val % 6 = 5))
theorem flush_5 : ∀ t : Fin cfg0.N, (cfg0.win 5).flush t = decide (2 ≤ t.val % 6) :=
  (by decide +kernel : ∀ t : Fin grid0.N, win0_5.flush t = decide (2 ≤ t.val % 6))

/-- Past its last column, a block of keys and values is as that column left it. -/
theorem before_4 (c : Dev nD) (d) : ∀ n (h : n < cfg0.N), 2 ≤ n % 6 → (dats m 0 c).before 4 ⟨n, h⟩ d = outKV m c n := by
  intro n
  induction n with
  | zero => intro _ h0; exact absurd h0 (by decide)
  | succ n ih =>
    intro h h4
    rw [(dats m 0 c).before_of_pos 4 ⟨n + 1, h⟩ (Nat.succ_ne_zero n) ((cfg0.win 4).fetch_out rfl _)]
    have hn : n < cfg0.N := Nat.lt_of_succ_lt h
    have e : (⟨(⟨n + 1, h⟩ : Fin cfg0.N).val - 1, Nat.lt_of_le_of_lt (Nat.sub_le _ _) h⟩ : Fin cfg0.N) = ⟨n, hn⟩ := rfl
    rw [e, flush_4, if_neg (by rw [decide_eq_true_eq]; dsimp only; omega)]
    unfold Dat.left
    have eo : outKV m c (n + 1) = outKV m c n := by
      unfold outKV
      rw [show (n + 1) / 6 = n / 6 by omega, show min ((n + 1) % 6) 1 = min (n % 6) 1 by omega]
    rw [idle_4, eo]
    by_cases h5 : 2 ≤ n % 6
    · rw [decide_eq_true (by exact h5)]; exact ih hn h5
    · rw [decide_eq_false (by exact h5)]
      unfold Dat.kept
      rw [after_4]
      exact Window.fill_cut _ _ _

/-- What a window's buffer is left with, where the body writes it, -/
theorem leave_4 (c : Dev nD) (t : Fin cfg0.N) (h : t.val % 6 < 2) :
    owns (c : Thread nD τ) (st0_4 t) fullShare (outKV m c t.val) ⊢ ((dats m 0 c).leavesExact 4 t : sProp 𝕄) := by
  unfold Dat.leavesExact
  rw [idle_4, decide_eq_false (by omega), after_4]
theorem leave_5 (c : Dev nD) (t : Fin cfg0.N) (h : 2 ≤ t.val % 6) :
    owns (c : Thread nD τ) (st0_5 t) fullShare (outQ m c t.val) ⊢ ((dats m 0 c).leavesExact 5 t : sProp 𝕄) := by
  unfold Dat.leavesExact
  rw [idle_5, decide_eq_false (by omega), after_5]

/-- and where it does not. -/
theorem keep_4 (c : Dev nD) (t : Fin cfg0.N) (h : 2 ≤ t.val % 6) :
    iprop(∃ d, owns (c : Thread nD τ) (st0_4 t) fullShare ((dats m 0 c).before 4 t d)) ⊢ ((dats m 0 c).leavesExact 4 t : sProp 𝕄) := by
  unfold Dat.leavesExact
  rw [idle_4, decide_eq_true h, flush_4]
  by_cases h' : t.val % 6 = 5
  · rw [decide_eq_true (.inr h'), after_4]
    iintro ⟨%d, H⟩
    rw [show (dats m 0 c).before 4 t d = outKV m c t.val from before_4 m c d t.val t.isLt h]
    iexact H
  · rw [decide_eq_false (by omega)]
theorem keep_5 (c : Dev nD) (t : Fin cfg0.N) (h : t.val % 6 < 2) :
    iprop(∃ d, owns (c : Thread nD τ) (st0_5 t) fullShare ((dats m 0 c).before 5 t d)) ⊢ ((dats m 0 c).leavesExact 5 t : sProp 𝕄) := by
  unfold Dat.leavesExact
  rw [idle_5, decide_eq_true h, flush_5, decide_eq_false (by omega)]

/-! ### The body at a point of the grid -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t ∗ (dats m 0 c).leavesExact 5 t)

/-- At the keys' and values' columns. -/
theorem at_kv (c : Dev nD) (t : Fin cfg0.N) (h0 : t.val ≠ 0) (h : t.val % 6 < 2) :
    pre m c t ⊢ wp frame (wpE (defs₀ (F := F)) Variants.none (c : Thread nD τ) none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, phi_castSucc, phi_succ]
  unfold inv
  iintro ⟨⟨⟨%f, %hs, Hf⟩, Hr⟩, Ho, ⟨%d0, H0⟩, ⟨%d1, H1⟩, ⟨%d2, H2⟩, ⟨%d3, H3⟩, H4, H5⟩
  iapply (body_kv c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) ((cond2_iff t).mpr (by omega)) (mt (cond3_iff t).mp (by omega)) (mt (cond4_iff t).mp (by omega))
    (iblk m c 3 t) (nrmK m c (t.val / 6)) f ((hs (by omega)).1.congr c scr (off1_eq t).symm) _)
  isplitl [H3]; · iexact H3
  isplitl [H4]
  · icases H4 with ⟨%d, H4⟩; iexists _; iexact H4
  isplitl [Hf]; · iexact Hf
  iintro ⟨H3, H4, Hf⟩
  isplitl [Hf Hr]
  · isplitl [Hf]
    · iexists _; isplitr
      swap; · iexact Hf
      ipureintro; intro _
      rw [show (t.val + 1) / 6 = t.val / 6 by omega]
      exact hs (by omega)
    iexact Hr
  isplitl [Ho]; · iexact Ho
  isplitl [H0]; · iexact H0
  isplitl [H1]; · iexact H1
  isplitl [H2]; · iexact H2
  isplitl [H3]; · iexact H3
  isplitl [H4]
  · iapply (leave_4 m c t (by omega))
    rw [show outKV m c t.val = k0_pay2 (nrmK m c (t.val / 6)) (iblk m c 3 t) from by
      unfold outKV
      rw [pt_eq t (by omega)]]
    iexact H4
  iapply (keep_5 m c t (by omega))
  iexact H5

/-- At the queries' columns but the last. -/
theorem at_q (c : Dev nD) (t : Fin cfg0.N) (h : 2 ≤ t.val % 6) (h' : t.val % 6 ≠ 5) :
    pre m c t ⊢ wp frame (wpE (defs₀ (F := F)) Variants.none (c : Thread nD τ) none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, phi_castSucc, phi_succ]
  unfold inv
  iintro ⟨⟨⟨%f, %hs, Hf⟩, Hr⟩, Ho, ⟨%d0, H0⟩, ⟨%d1, H1⟩, ⟨%d2, H2⟩, ⟨%d3, H3⟩, H4, H5⟩
  iapply (body_q c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) (mt (cond2_iff t).mp (by omega)) ((cond3_iff t).mpr (by omega)) (mt (cond4_iff t).mp (by omega))
    (iblk m c 3 t) (nrmQ m c (t.val / 6)) f ((hs (by omega)).2.congr c scr (off2_eq t).symm) _)
  isplitl [H3]; · iexact H3
  isplitl [H5]
  · icases H5 with ⟨%d, H5⟩; iexists _; iexact H5
  isplitl [Hf]; · iexact Hf
  iintro ⟨H3, H5, Hf⟩
  isplitl [Hf Hr]
  · isplitl [Hf]
    · iexists _; isplitr
      swap; · iexact Hf
      ipureintro; intro _
      rw [show (t.val + 1) / 6 = t.val / 6 by omega]
      exact hs (by omega)
    iexact Hr
  isplitl [Ho]; · iexact Ho
  isplitl [H0]; · iexact H0
  isplitl [H1]; · iexact H1
  isplitl [H2]; · iexact H2
  isplitl [H3]; · iexact H3
  isplitl [H4]
  · iapply (keep_4 m c t (by omega))
    iexact H4
  iapply (leave_5 m c t (by omega))
  rw [show outQ m c t.val = k0_pay3 (nrmQ m c (t.val / 6)) (iblk m c 3 t) from by
    unfold outQ
    rw [pt_eq t (rfl)]]
  iexact H5

/-- At the last column. -/
theorem at_last (c : Dev nD) (t : Fin cfg0.N) (h : t.val % 6 = 5) :
    pre m c t ⊢ wp frame (wpE (defs₀ (F := F)) Variants.none (c : Thread nD τ) none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, phi_castSucc, phi_succ]
  unfold inv
  iintro ⟨⟨⟨%f, %hs, Hf⟩, Hr⟩, Ho, ⟨%d0, H0⟩, ⟨%d1, H1⟩, ⟨%d2, H2⟩, ⟨%d3, H3⟩, H4, H5⟩
  iapply (body_last c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) (mt (cond2_iff t).mp (by omega)) (mt (cond3_iff t).mp (by omega)) ((cond4_iff t).mpr (by omega)) _ (Nat.mod_lt (t.val / 6 + 1) (by decide))
    (off4_eq t) (off5_eq t) (off6_eq t) (off7_eq t) (off8_eq t) (off9_eq t) (off10_eq t) (off11_eq t)
    (iblk m c 0 t) (iblk m c 1 t) (iblk m c 2 t) (iblk m c 3 t) (nrmQ m c (t.val / 6)) f ((hs (by omega)).2.congr c scr (off3_eq t).symm) _)
  isplitl [H0]; · iexact H0
  isplitl [H1]; · iexact H1
  isplitl [H2]; · iexact H2
  isplitl [H3]; · iexact H3
  isplitl [H5]
  · icases H5 with ⟨%d, H5⟩; iexists _; iexact H5
  isplitl [Hf]; · iexact Hf
  iintro ⟨H0, H1, H2, H3, H5, ⟨%g, %hg, Hf⟩⟩
  isplitl [Hf Hr]
  · isplitl [Hf]
    · iexists _; isplitr
      swap; · iexact Hf
      ipureintro; intro _
      rw [show (t.val + 1) / 6 = t.val / 6 + 1 by omega]
      unfold nrmK nrmQ
      rw [pt_eq t (by omega)]
      exact hg
    iexact Hr
  isplitl [Ho]; · iexact Ho
  isplitl [H0]; · iexact H0
  isplitl [H1]; · iexact H1
  isplitl [H2]; · iexact H2
  isplitl [H3]; · iexact H3
  isplitl [H4]
  · iapply (keep_4 m c t (by omega))
    iexact H4
  iapply (leave_5 m c t (by omega))
  rw [show outQ m c t.val = k0_pay3 (nrmQ m c (t.val / 6)) (iblk m c 3 t) from by
    unfold outQ
    rw [pt_eq t (rfl)]]
  iexact H5

/-- At the first point. -/
theorem at_first (c : Dev nD) (t : Fin cfg0.N) (h0 : t.val = 0) :
    pre m c t ⊢ wp frame (wpE (defs₀ (F := F)) Variants.none (c : Thread nD τ) none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, phi_castSucc, phi_succ]
  unfold inv
  iintro ⟨⟨⟨%f, %hs, Hf⟩, Hr⟩, Ho, ⟨%d0, H0⟩, ⟨%d1, H1⟩, ⟨%d2, H2⟩, ⟨%d3, H3⟩, H4, H5⟩
  iapply (body_first c (grid0.coords t) _ (stage_whole0 0 _) _ (stage_whole0 1 _) _ (stage_whole0 2 _) _ (stage_whole0 3 _) _ (stage_whole0 4 _) _ (stage_whole0 5 _) scr (Memref.isWhole_whole _) ((cond1_iff t).mpr (by omega)) ((cond2_iff t).mpr (by omega)) (mt (cond3_iff t).mp (by omega)) (mt (cond4_iff t).mp (by omega)) (by rw [off1_eq t, h0])
    (iblk m c 0 t) (iblk m c 1 t) (iblk m c 2 t) (iblk m c 3 t) f _)
  isplitl [H0]; · iexact H0
  isplitl [H1]; · iexact H1
  isplitl [H2]; · iexact H2
  isplitl [H3]; · iexact H3
  isplitl [H4]
  · icases H4 with ⟨%d, H4⟩; iexists _; iexact H4
  isplitl [Hf]; · iexact Hf
  iintro ⟨H0, H1, H2, H3, H4, ⟨%g, %hg, Hf⟩⟩
  isplitl [Hf Hr]
  · isplitl [Hf]
    · iexists _; isplitr
      swap; · iexact Hf
      ipureintro; intro _
      rw [h0]
      unfold nrmK nrmQ
      rw [pt_eq t (by rw [h0])]
      exact hg
    iexact Hr
  isplitl [Ho]; · iexact Ho
  isplitl [H0]; · iexact H0
  isplitl [H1]; · iexact H1
  isplitl [H2]; · iexact H2
  isplitl [H3]; · iexact H3
  isplitl [H4]
  · iapply (leave_4 m c t (by omega))
    rw [show outKV m c t.val = k0_pay2 (normed (iblk m c 0 t) (iblk m c 1 t)) (iblk m c 3 t) from by
      unfold outKV
      rw [pt_eq t (by omega)]
      unfold nrmK
      rw [pt_eq t (by rw [h0])]]
    iexact H4
  iapply (keep_5 m c t (by omega))
  iexact H5

theorem sound_body (c : Dev nD) (t : Fin cfg0.N) :
    pre m c t ⊢ wp frame (wpE (defs₀ (F := F)) Variants.none (c : Thread nD τ) none) Set.univ (bodyAt0 t) (fun _ => post m c t) := by
  by_cases h0 : t.val = 0
  · exact at_first m c t h0
  by_cases h1 : t.val % 6 < 2
  · exact at_kv m c t h0 h1
  by_cases h3 : t.val % 6 = 5
  · exact at_last m c t h3
  exact at_q m c t (by omega) h3

theorem defs₀_row (t : Fin cfg0.N) :
    (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

theorem phi_in (c : Dev nD) : Pipeline.ΦA spec0 c ⊢ ((dats m 0 c).Φ 0 : sProp 𝕄) := by
  rw [show (dats m 0 c).Φ 0 = inv m c 0 from by dsimp only [dats]; rfl]
  unfold Pipeline.ΦA inv
  rw [scopedRest0_eq c]
  iintro ⟨⟨%f, H⟩, Hr⟩
  isplitl [H]
  · iexists f; isplitr
    · ipureintro; intro h; exact absurd h (Nat.lt_irrefl 0)
    iexact H
  iexact Hr

theorem phi_out (c : Dev nD) : (dats m 0 c).Φ (Fin.last cfg0.N) ⊢ (Pipeline.ΦA spec0 c : sProp 𝕄) := by
  rw [show (dats m 0 c).Φ (Fin.last cfg0.N) = inv m c cfg0.N from by dsimp only [dats]; rfl]
  unfold Pipeline.ΦA inv
  rw [scopedRest0_eq c]
  iintro ⟨⟨%f, -, H⟩, Hr⟩
  isplitl [H]
  · iexists f; iexact H
  iexact Hr

set_option backward.isDefEq.respectTransparency.types false in
theorem run_main : θ_run (defs (F := F)) (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hin := phi_in m) (hout := phi_out m)

/-- The run: the arguments end as they were, the results are what the launch's blocks make them, every counter is zero. -/
theorem run : θ_run (defs (F := F)) (onTc (τ := τ) (main (F := F))) ⟨m, fun _ => 0, ρ⟩ (fun r => (∀ c : Dev nD,
      (r.2.mem ((c.tc : Thread nD τ).loc main_v8_0) = (dats m 0 c).arrAt 4 (Fin.last cfg0.N)
      ∧ r.2.mem ((c.tc : Thread nD τ).loc main_v8_1) = (dats m 0 c).arrAt 5 (Fin.last cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun _ ⟨h, hz⟩ => ⟨fun c => ⟨⟨(h c).1 4, (h c).1 5⟩,
      ((h c).1 0).trans (((dats m 0 c).arrAt_in 0 (by rfl) _).trans ((A_eq m c 0).trans (V_arg m c main_arg0 (by decide) (by decide) (by decide) (by decide) (by decide) (by decide) (by decide) (by decide)))),
      ((h c).2 main_arg1 (Pipeline.mem_restRefs_of main_arg1 (by decide) (by decide))).trans
        (V_arg m c main_arg1 (by decide) (by decide) (by decide) (by decide) (by decide) (by decide) (by decide) (by decide)),
      ((h c).2 main_arg2 (Pipeline.mem_restRefs_of main_arg2 (by decide) (by decide))).trans
        (V_arg m c main_arg2 (by decide) (by decide) (by decide) (by decide) (by decide) (by decide) (by decide) (by decide)),
      ((h c).2 main_arg3 (Pipeline.mem_restRefs_of main_arg3 (by decide) (by decide))).trans
        (V_arg m c main_arg3 (by decide) (by decide) (by decide) (by decide) (by decide) (by decide) (by decide) (by decide)),
      ((h c).2 main_arg4 (Pipeline.mem_restRefs_of main_arg4 (by decide) (by decide))).trans
        (V_arg m c main_arg4 (by decide) (by decide) (by decide) (by decide) (by decide) (by decide) (by decide) (by decide))⟩, hz⟩) (run_main m ρ)

end Cert.Kernel5Ideal.Kvq

end
-- ==== Proof.Kvq.Value.lean ====
module

public import proofs.«01_k».proof.Proof.Kvq.Run
public import proofs.«01_k».proof.Proof.Gen.Reference5Ideal.Run
public import Idealize.ShloMosaic.Lib.Pipeline.Value
public import Idealize.ShloMosaic.Lib.Pipeline.ValueKit
public import Idealize.ShloMosaic.Lib.Pointwise

@[expose] public section

/-!
# The projection onto the shared keys and values and the second layer's queries: what the two results hold

A tile of rows is normalised with each gain into the scratch array, and every point of the launch multiplies one of
the two by a tile of columns; so each place of a result is the reference's sum.
-/

set_option maxRecDepth 16384

noncomputable section

namespace Cert.Reference5Ideal.Kvq

open Cert.Reference5Ideal Cert.Reference5Ideal.Gen
open Idealize.ShloMosaic Idealize.ShloMosaic.TcCoe
open scoped BigOperators

/-- The factor that a row is multiplied by: one over its root mean square, from the sum of its squares. -/
def rms (s : EReal) : EReal :=
  Ideal.rsqrt (Ideal.div s (Ideal.ofBits .f32 0x45800000#32) + Ideal.ofBits .f32 0x358637BD#32)

variable (x : FVec Ideal S16384x4096 .f32) (g : FVec Ideal S4096 .f32) (g' : FVec Ideal S2x4096 .f32)
  (w : FVec Ideal S4096x2048 .f32) (w' : FVec Ideal S1x4096x4096 .f32)

/-- A row, normalised with a gain. -/
def rowN (u : Fin 4096 → EReal) (r : Fin 16384) (k : Fin 4096) : EReal :=
  x (ix2 r k) * rms (∑ j : Fin 4096, (x (ix2 r j) * x (ix2 r j) : EReal)) * u k

/-- The rows, normalised with a gain, as the reference computes them. -/
def rowsF (u : FVec Ideal S4096 .f32) : FVec Ideal S16384x4096 .f32 :=
  mulf (mulf x (broadcastInDim S16384x4096 ![0, 1]
    bcast_S16384x1_S16384x4096_0_1 (Host.rsqrt (addf (Host.divf (broadcastInDim S16384x1 ![0] bcast_S16384_S16384x1_0
      (Host.reduceAdd (mulf x x) (constant S_ .f32 0x00000000#32) reducesTo_S16384x4096_S16384_d1 h_S_))
      (broadcastInDim S16384x1 ![] bcast_S_S16384x1 (constant S_ .f32 0x45800000#32)))
      (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 u))

theorem rowsF_apply (u : FVec Ideal S4096 .f32) (r : Fin 16384) (k : Fin 4096) :
    (rowsF x u (ix2 r k) : EReal) = rowN x (fun k => u (ix1 k)) r k := by
  pointwise [rowsF, rowN, rms]

/-- The second layer's gain. -/
def gain1 : FVec Ideal S4096 .f32 := shapeCast _ (extractStridedSlice S1x4096 ![1, 0] g' slices_S2x4096_S1x4096_1_0) shapeCasts_S1x4096_S4096

theorem gain1_apply (k : Fin 4096) : (gain1 g' (ix1 k) : EReal) = g' (ix2 1 k) := by
  pointwise [gain1]

/-- What the reference leaves, from its arguments. -/
def refKV : FVec Ideal S16384x2048 .f32 :=
  Host.dotGeneral dot_S16384x4096_S4096x2048_S16384x2048_1_0_0_1_n_n none (rowsF x g) w
def refQ : FVec Ideal S16384x4096 .bf16 :=
  truncf .bf16 (mulf (Host.dotGeneral dot_S16384x4096_S4096x4096_S16384x4096_1_0_0_1_n_n none (rowsF x (gain1 g'))
    (shapeCast _ w' shapeCasts_S1x4096x4096_S4096x4096)) (broadcastInDim S16384x4096 ![] bcast_S_S16384x4096 (constant S_ .f32 0x3DB504F3#32))) bitsLt_bf16_f32

theorem refKV_apply (r : Fin 16384) (d : Fin 2048) :
    (refKV x g w (ix2 r d) : EReal) = ∑ k : Fin 4096, rowN x (fun k => g (ix1 k)) r k * (w (ix2 k d) : EReal) := by
  have h : (refKV x g w (ix2 r d) : EReal) = ∑ k : Fin 4096, (rowsF x g (ix2 r k) : EReal) * (w (ix2 k d) : EReal) := by
    pointwise [refKV]
  rw [h]
  exact Finset.sum_congr rfl fun k _ => congrArg (· * (w (ix2 k d) : EReal)) (rowsF_apply x g r k)
theorem refQ_apply (r : Fin 16384) (d : Fin 4096) :
    (refQ x g' w' (ix2 r d) : EReal)
      = (∑ k : Fin 4096, rowN x (fun k => g' (ix2 1 k)) r k * (w' (ix3 0 k d) : EReal)) * Ideal.ofBits .f32 0x3DB504F3#32 := by
  have h : (refQ x g' w' (ix2 r d) : EReal)
      = (∑ k : Fin 4096, (rowsF x (gain1 g') (ix2 r k) : EReal) * (w' (ix3 0 k d) : EReal)) * Ideal.ofBits .f32 0x3DB504F3#32 := by
    pointwise [refQ]
  rw [h]
  refine congrArg (· * Ideal.ofBits .f32 0x3DB504F3#32) (Finset.sum_congr rfl fun k _ => congrArg (· * (w' (ix3 0 k d) : EReal)) ?_)
  rw [rowsF_apply]
  exact congrArg (x (ix2 r k) * rms (∑ j : Fin 4096, (x (ix2 r j) * x (ix2 r j) : EReal)) * ·) (gain1_apply g' k)

end Cert.Reference5Ideal.Kvq

namespace Cert.Kernel5Ideal.Kvq

open Cert.Kernel5Ideal Cert.Kernel5Ideal.Gen Cert.Reference5Ideal.Kvq
open Idealize.ShloMosaic Idealize.ShloMosaic.TcCoe
open scoped BigOperators

variable (m : (ℓ : Loc nD τ sig) → Buf (Elt Ideal) ℓ) (c : Dev nD)

abbrev argX : FVec Ideal S16384x4096 .f32 := m ((c.tc : Thread nD τ).loc main_arg0)
abbrev argG : FVec Ideal S4096 .f32 := m ((c.tc : Thread nD τ).loc main_arg1)
abbrev argG' : FVec Ideal S2x4096 .f32 := m ((c.tc : Thread nD τ).loc main_arg2)
abbrev argW : FVec Ideal S4096x2048 .f32 := m ((c.tc : Thread nD τ).loc main_arg3)
abbrev argW' : FVec Ideal S1x4096x4096 .f32 := m ((c.tc : Thread nD τ).loc main_arg4)

/-- The arrays that the launch finds. -/
theorem V_g (d : Fin 4096) : (V m c main_v6 (ix2 0 d) : EReal) = argG m c (ix1 d) := by
  have e : V m c main_v6 = shapeCast S1x4096 (argG m c) shapeCasts_S4096_S1x4096 := by
    unfold V
    after_results
    rfl
  rw [e]
  pointwise
theorem V_g' (d : Fin 4096) : (V m c main_v7 (ix2 0 d) : EReal) = argG' m c (ix2 1 d) := by
  have e : V m c main_v7 = shapeCast S1x4096 (shapeCast S4096 (extractStridedSlice S1x4096 ![1, 0] (argG' m c)
      slices_S2x4096_S1x4096_1_0) shapeCasts_S1x4096_S4096) shapeCasts_S4096_S1x4096 := by
    unfold V
    after_results
    rfl
  rw [e]
  pointwise
theorem V_w : V m c main_v3 = concatenate S4096x6144 1 [⟨S4096x2048, truncf .bf16 (argW m c) bitsLt_bf16_f32⟩,
    ⟨S4096x4096, truncf .bf16 (shapeCast S4096x4096 (argW' m c) shapeCasts_S1x4096x4096_S4096x4096) bitsLt_bf16_f32⟩]
    concatenates_S4096x2048_S4096x4096_S4096x6144_d1 := by
  unfold V
  after_results
  rfl
theorem V_wl (k : Fin 4096) (d : Fin 6144) (d' : Fin 2048) (hd : d.val = d'.val) : (V m c main_v3 (ix2 k d) : EReal) = argW m c (ix2 k d') := by
  rw [V_w, concatenate_pair_apply_left (t := S4096x6144) (s₁ := S4096x2048) (s₂ := S4096x4096) 1 _ _ _ (ix2 k d) rfl (ix2 k d') (fun b => by
    match b with
    | ⟨0, _⟩ => rfl
    | ⟨1, _⟩ => exact hd.symm)]
  pointwise
theorem V_wr (k : Fin 4096) (d : Fin 6144) (d' : Fin 4096) (hd : d'.val + 2048 = d.val) : (V m c main_v3 (ix2 k d) : EReal) = argW' m c (ix3 0 k d') := by
  rw [V_w, concatenate_pair_apply_right (t := S4096x6144) (s₁ := S4096x2048) (s₂ := S4096x4096) 1 _ _ _ (ix2 k d) rfl rfl (ix2 k d') (fun b hb => by
    match b with
    | ⟨0, _⟩ => rfl
    | ⟨1, _⟩ => exact absurd rfl hb) hd]
  pointwise

theorem pay8_apply (x : FVec Ideal S128x4096 .f32) (g : FVec Ideal S1x4096 .f32) (r : Fin 128) (d : Fin 4096) :
    (k0_pay8 (F := Ideal) x g (ix4 0 0 r d) : EReal)
      = x (ix2 r d) * rms (∑ k : Fin 4096, (x (ix2 r k) * x (ix2 r k) : EReal)) * g (ix2 0 d) := by
  pointwise [k0_pay8, k0_pay7, rms]
theorem pay2_apply (x : FVec Ideal S1x1x512x4096 .bf16) (w : FVec Ideal S4096x1024 .bf16) (r : Fin 512) (d : Fin 1024) :
    (k0_pay2 (F := Ideal) x w (ix2 r d) : EReal) = ∑ k : Fin 4096, (x (ix4 0 0 r k) * w (ix2 k d) : EReal) := by
  pointwise [k0_pay2]
theorem pay3_apply (x : FVec Ideal S1x1x512x4096 .bf16) (w : FVec Ideal S4096x1024 .bf16) (r : Fin 512) (d : Fin 1024) :
    (k0_pay3 (F := Ideal) x w (ix2 r d) : EReal)
      = (∑ k : Fin 4096, (x (ix4 0 0 r k) * w (ix2 k d) : EReal)) * Ideal.ofBits .f32 0x3DB504F3#32 := by
  pointwise [k0_pay3]

theorem rowsAt_apply (X : FVec Ideal S512x4096 .f32) (r : Fin 512) (k : Fin 4096) :
    (rowsAt (F := Ideal) ⟨r.val / 128, by omega⟩ X (ix2 ⟨r.val % 128, Nat.mod_lt _ (by decide)⟩ k) : EReal) = X (ix2 r k) := by
  refine congrArg X (congrArg₂ ix2 (Fin.ext ?_) rfl)
  show 128 * (r.val / 128) + r.val % 128 = r.val
  omega
theorem normed_apply (X : FVec Ideal S512x4096 .f32) (g : FVec Ideal S1x4096 .f32) (r : Fin 512) (k : Fin 4096) :
    (normed (F := Ideal) X g (ix4 0 0 r k) : EReal)
      = X (ix2 r k) * rms (∑ j : Fin 4096, (X (ix2 r j) * X (ix2 r j) : EReal)) * g (ix2 0 k) := by
  refine (pay8_apply (rowsAt (F := Ideal) ⟨r.val / 128, by omega⟩ X) g ⟨r.val % 128, Nat.mod_lt _ (by decide)⟩ k).trans ?_
  rw [rowsAt_apply]
  refine congrArg (fun s : EReal => _ * rms s * _) (Finset.sum_congr rfl fun k _ => ?_)
  rw [rowsAt_apply]

/-- The point that prepares the rows of a point's tile. -/
abbrev prep (t : Fin cfg0.N) : Fin cfg0.N := pt (6 * (t.val / 6) - 1)

theorem idx0 : ∀ t : Fin cfg0.N, win0_0.index (prep t) = ![t.val / 6, 0] :=
  (by decide +kernel : ∀ t : Fin grid0.N, win0_0.index (⟨(6 * (t.val / 6) - 1) % 192, _⟩ : Fin grid0.N) = _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, t.val % 6] :=
  (by decide +kernel : ∀ t : Fin grid0.N, _)
theorem idx4 : ∀ t : Fin cfg0.N, win0_4.index t = ![t.val / 6, min (t.val % 6) 1] :=
  (by decide +kernel : ∀ t : Fin grid0.N, _)
theorem idx5 : ∀ t : Fin cfg0.N, win0_5.index t = ![t.val / 6, t.val % 6 - 2] :=
  (by decide +kernel : ∀ t : Fin grid0.N, _)

variable (t : Fin cfg0.N)

/-- A row of a point's tile, in the array. -/
def row (r : Fin 512) : Fin 16384 := ⟨t.val / 6 * 512 + r.val, by have := lt_N t; omega⟩
/-- A column of a point's tile of weights. -/
def col (d : Fin 1024) : Fin 6144 := ⟨t.val % 6 * 1024 + d.val, by omega⟩

theorem iblk0_apply (r : Fin 512) (k : Fin 4096) : (iblk m c 0 (prep t) (ix2 r k) : EReal) = argX m c (ix2 (row t r) k) := by
  have h : (win0_0.blk (prep t)).view.emb (ix2 r k) = ix2 (row t r) k := by
    unfold row
    blk_ext [idx0]
  exact (congrArg (V m c main_arg0) h).trans
    (congrFun (V_arg m c main_arg0 (by decide) (by decide) (by decide) (by decide) (by decide) (by decide) (by decide) (by decide)) _)
theorem iblk1_apply (d : Fin 4096) : (iblk m c 1 t (ix2 0 d) : EReal) = argG m c (ix1 d) := by
  have h : (win0_1.blk t).view.emb (ix2 0 d) = ix2 0 d := by
    blk_ext [idx1]
  exact (congrArg (V m c main_v6) h).trans (V_g m c _)
theorem iblk2_apply (d : Fin 4096) : (iblk m c 2 t (ix2 0 d) : EReal) = argG' m c (ix2 1 d) := by
  have h : (win0_2.blk t).view.emb (ix2 0 d) = ix2 0 d := by
    blk_ext [idx2]
  exact (congrArg (V m c main_v7) h).trans (V_g' m c _)
theorem iblk3_eq (k : Fin 4096) (d : Fin 1024) : (iblk m c 3 t (ix2 k d) : EReal) = V m c main_v3 (ix2 k (col t d)) := by
  have h : (win0_3.blk t).view.emb (ix2 k d) = ix2 k (col t d) := by
    unfold col
    blk_ext [idx3]
  exact congrArg (V m c main_v3) h

/-- The normalised rows of a point's tile. -/
theorem nrmK_apply (r : Fin 512) (k : Fin 4096) :
    (nrmK m c (t.val / 6) (ix4 0 0 r k) : EReal) = rowN (argX m c) (fun k => argG m c (ix1 k)) (row t r) k := by
  refine (normed_apply _ _ r k).trans ?_
  rw [iblk1_apply, iblk0_apply]
  refine congrArg (fun s : EReal => _ * rms s * _) (Finset.sum_congr rfl fun k _ => ?_)
  rw [iblk0_apply]
theorem nrmQ_apply (r : Fin 512) (k : Fin 4096) :
    (nrmQ m c (t.val / 6) (ix4 0 0 r k) : EReal) = rowN (argX m c) (fun k => argG' m c (ix2 1 k)) (row t r) k := by
  refine (normed_apply _ _ r k).trans ?_
  rw [iblk2_apply, iblk0_apply]
  refine congrArg (fun s : EReal => _ * rms s * _) (Finset.sum_congr rfl fun k _ => ?_)
  rw [iblk0_apply]

/-- A column of a point's tile of a result. -/
def colKV (d : Fin 1024) : Fin 2048 := ⟨min (t.val % 6) 1 * 1024 + d.val, by omega⟩
def colQ (d : Fin 1024) : Fin 4096 := ⟨(t.val % 6 - 2) * 1024 + d.val, by omega⟩

theorem blockKV (r : Fin 512) (d : Fin 1024) : (outKV m c t.val (ix2 r d) : EReal)
    = refKV (argX m c) (argG m c) (argW m c) (ix2 (row t r) (colKV t d)) := by
  refine (pay2_apply _ _ r d).trans (Eq.trans ?_ (refKV_apply _ _ _ _ _).symm)
  refine Finset.sum_congr rfl fun k _ => ?_
  rw [nrmK_apply, iblk3_eq, V_wl m c k _ (colKV t d) (by
    have := lt_N t
    have h : (6 * (t.val / 6) + min (t.val % 6) 1) % 192 % 6 = min (t.val % 6) 1 := by omega
    simp only [col, colKV, pt]
    rw [h])]
theorem blockQ (h2 : 2 ≤ t.val % 6) (r : Fin 512) (d : Fin 1024) : (outQ m c t.val (ix2 r d) : EReal)
    = refQ (argX m c) (argG' m c) (argW' m c) (ix2 (row t r) (colQ t d)) := by
  refine (pay3_apply _ _ r d).trans (Eq.trans ?_ (refQ_apply _ _ _ _ _).symm)
  refine congrArg (· * Ideal.ofBits .f32 0x3DB504F3#32) (Finset.sum_congr rfl fun k _ => ?_)
  rw [nrmQ_apply, pt_eq t rfl, iblk3_eq, V_wr m c k _ (colQ t d) (by
    show (t.val % 6 - 2) * 1024 + d.val + 2048 = t.val % 6 * 1024 + d.val
    omega)]

theorem finalKV : (dats m 0 c).arrAt 4 cfg0.N = refKV (argX m c) (argG m c) (argW m c) := by
  refine (dats m 0 c).arrAt_eq_of_covers 4 _ (by decide +kernel) fun t hf y => ?_
  blk_simp
  rw [after_4]
  have hy : y = ix2 (n0 := 512) (n1 := 1024) (y 0) (y 1) := eq_ix2 (n0 := 512) (n1 := 1024) y
  have h : (win0_4.blk t).view.emb (ix2 (n0 := 512) (n1 := 1024) (y 0) (y 1)) = ix2 (row t (y 0)) (colKV t (y 1)) := by
    unfold row colKV
    blk_ext [idx4]
  rw [hy, h]
  exact blockKV m c t (y 0) (y 1)
theorem finalQ : (dats m 0 c).arrAt 5 cfg0.N = refQ (argX m c) (argG' m c) (argW' m c) := by
  refine (dats m 0 c).arrAt_eq_of_covers 5 _ (by decide +kernel) fun t hf y => ?_
  have h2 : 2 ≤ t.val % 6 := by
    have := (flush_5 t).symm.trans hf
    simpa only [decide_eq_true_eq] using this
  blk_simp
  rw [after_5]
  have hy : y = ix2 (n0 := 512) (n1 := 1024) (y 0) (y 1) := eq_ix2 (n0 := 512) (n1 := 1024) y
  have h : (win0_5.blk t).view.emb (ix2 (n0 := 512) (n1 := 1024) (y 0) (y 1)) = ix2 (row t (y 0)) (colQ t (y 1)) := by
    unfold row colQ
    blk_ext [idx5]
  rw [hy, h]
  exact blockQ m c t h2 (y 0) (y 1)

end Cert.Kernel5Ideal.Kvq

end
-- ==== Proof.Peer.Body.lean ====
module

public import proofs.«01_k».proof.Proof.Gen.Kernel6Ideal.Points
public import proofs.«01_k».proof.Proof.Gen.Kernel6Ideal.Launch
public import proofs.«01_k».proof.Proof.Gen.Kernel6Ideal.Skeleton
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.Writes
public import Idealize.ShloMosaic.Lib.WritesUnit
public import Idealize.ShloMosaic.Lib.VecWindow
public import Idealize.ShloMosaic.Lib.Pointwise.Index

@[expose] public section

/-!
# The projection onto the experts' queries: its body at a point of the grid.
-/

set_option maxRecDepth 16384

noncomputable section

namespace Cert.Kernel6Ideal.Peer

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-- The condition of the first point. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem cond1_iff : ∀ t : Fin grid0.N, cond1 (grid0.coords t) = 1#1 ↔ t.val = 0 := by decide +kernel
theorem cond2_iff : ∀ t : Fin grid0.N, k0_cond2 (grid0.coords t) = 1#1 ↔ t.val % 2 = 0 := by decide +kernel
theorem cond3_iff : ∀ t : Fin grid0.N, k0_cond3 (grid0.coords t) = 1#1 ↔ t.val % 2 = 1 := by decide +kernel
theorem off1_eq : ∀ t : Fin grid0.N, k0_off1 (grid0.coords t) = ![t.val / 2 % 2, 0, 0] := by decide +kernel
theorem off2_eq : ∀ t : Fin grid0.N, k0_off2 (grid0.coords t) = ![t.val / 2 % 2, 0, 0] := by decide +kernel
theorem off3_eq : ∀ t : Fin grid0.N, k0_off3 (grid0.coords t) = ![(t.val / 2 + 1) % 2, 0, 0] := by decide +kernel

section
variable (c : Dev nD) (i : grid0.Coords)
  (a2 : Memref sig .tc .vmem S512x4096 .f32) (h2 : a2.IsWhole) (a3 : Memref sig .tc .vmem S1x4096 .f32) (h3 : a3.IsWhole)
  (a4 : Memref sig .tc .vmem S4096x1024 .bf16) (h4 : a4.IsWhole) (a5 : Memref sig .tc .vmem S512x1024 .f32) (h5 : a5.IsWhole)
  (a6 : Memref sig .tc .vmem S2x512x4096 .bf16) (h6 : a6.IsWhole)

/-- A slot of the scratch array holds `X`. -/
def Slot (o : Fin 3 → ℕ) (X : Vec F S1x512x4096 .bf16) (f : Buf (Elt F) (a6.view.loc (c : Thread nD τ))) : Prop :=
  ∀ h : ∀ a, o a + S1x512x4096.size a ≤ S2x512x4096.size a,
    a6.view.readAt (Elt F) (Rect.unit (s := S2x512x4096) o S1x512x4096.size h).toLoadRect f = X

/-- A store over a whole buffer leaves what is stored. -/
theorem read_full {sp : Space} {s : Shape} {e : EltTy} (v : View sig .tc sp s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w := View.read_writes_full v f inb w []

theorem Slot.congr {o o' : Fin 3 → ℕ} (h : o = o') {X : Vec F S1x512x4096 .bf16} {f} (hs : Slot c a6 o X f) : Slot c a6 o' X f := h ▸ hs

/-- A slot just stored holds what was stored. -/
theorem slot_writes (o : Fin 3 → ℕ) (X : Vec F S1x512x4096 .bf16) (f : Buf (Elt F) (a6.view.loc (c : Thread nD τ)))
    (inb : ∀ a, o a + S1x512x4096.size a ≤ S2x512x4096.size a) :
    Slot c a6 o X (a6.view.writes (Elt F) f [⟨Rect.unit (s := S2x512x4096) o S1x512x4096.size inb, X⟩]) := fun h =>
  funext fun x => View.read_writes_cons_emb _ _ (Rect.unit (s := S2x512x4096) o S1x512x4096.size inb) X [] x

/-- At the first column. -/
theorem body_even (hc1 : ¬ cond1 i = 1#1) (hc2 : k0_cond2 i = 1#1) (hc3 : ¬ k0_cond3 i = 1#1)
    (X4 : Vec F S4096x1024 .bf16) (X6 : Vec F S1x512x4096 .bf16) (f6) (hs : Slot c a6 (k0_off1 i) X6 f6) (K : PUnit → sProp 𝕄) :
    iprop(owns (c : Thread nD τ) a4 fullShare X4 ∗ (∃ d, owns (c : Thread nD τ) a5 fullShare d) ∗ (a6.view.loc (c : Thread nD τ) ↦{fullShare} f6)
      ∗ (owns (c : Thread nD τ) a4 fullShare X4 ∗ owns (c : Thread nD τ) a5 fullShare (k0_pay2 X6 X4) ∗ (a6.view.loc (c : Thread nD τ) ↦{fullShare} f6) -∗ K ⟨⟩))
    ⊢ wp frame (wpE (defs₀ (F := F)) Variants.none (c : Thread nD τ) none) Set.univ
      (cc0__mm_kernel i a2 h2 a3 h3 a4 h4 a5 h5 a6 h6) K := by
  rw [cc0__mm_kernel_eq_skeleton]
  unfold cc0__mm_kernel_skel
  unfold cond1 at hc1
  dsimp only
  simp only [dif_neg hc1, dif_pos hc2, dif_neg hc3]
  unfold owns
  iintro ⟨⟨%f4, %e4, H4⟩, ⟨%d5, %f5, -, H5⟩, H6, Hk⟩
  subst e4
  sl_exec
  sl_step
  iapply Hk
  isplitl [H4]
  · iexists f4; isplitr; · ipureintro; rfl
    iexact H4
  isplitl [H5]
  · iexists _; isplitr
    swap; · iexact H5
    ipureintro
    exact (read_full _ _ _ _).trans (congrArg₂ k0_pay2 (hs _) (View.readAt_full _ _ _))
  iexact H6

/-- At the last column: the next rows are prepared. -/
theorem body_last (hc1 : ¬ cond1 i = 1#1) (hc2 : ¬ k0_cond2 i = 1#1) (hc3 : k0_cond3 i = 1#1)
    (X2 : Vec F S512x4096 .f32) (X3 : Vec F S1x4096 .f32) (X4 : Vec F S4096x1024 .bf16) (X6 : Vec F S1x512x4096 .bf16) (f6) (hs : Slot c a6 (k0_off2 i) X6 f6) (K : PUnit → sProp 𝕄) :
    iprop(owns (c : Thread nD τ) a2 fullShare X2 ∗ owns (c : Thread nD τ) a3 fullShare X3 ∗ owns (c : Thread nD τ) a4 fullShare X4 ∗ (∃ d, owns (c : Thread nD τ) a5 fullShare d) ∗ (a6.view.loc (c : Thread nD τ) ↦{fullShare} f6)
      ∗ (owns (c : Thread nD τ) a2 fullShare X2 ∗ owns (c : Thread nD τ) a3 fullShare X3 ∗ owns (c : Thread nD τ) a4 fullShare X4 ∗ owns (c : Thread nD τ) a5 fullShare (k0_pay3 X6 X4) ∗ (∃ f, ⌜Slot c a6 (k0_off3 i) (k0_pay4 X2 X3) f⌝ ∗ (a6.view.loc (c : Thread nD τ) ↦{fullShare} f)) -∗ K ⟨⟩))
    ⊢ wp frame (wpE (defs₀ (F := F)) Variants.none (c : Thread nD τ) none) Set.univ
      (cc0__mm_kernel i a2 h2 a3 h3 a4 h4 a5 h5 a6 h6) K := by
  rw [cc0__mm_kernel_eq_skeleton]
  unfold cc0__mm_kernel_skel
  unfold cond1 at hc1
  dsimp only
  simp only [dif_neg hc1, dif_neg hc2, dif_pos hc3]
  unfold owns
  iintro ⟨⟨%f2, %e2, H2⟩, ⟨%f3, %e3, H3⟩, ⟨%f4, %e4, H4⟩, ⟨%d5, %f5, -, H5⟩, H6, Hk⟩
  subst e2 e3 e4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (read_full _ _ _ _).trans (congrArg₂ k0_pay3 (hs _) (View.readAt_full _ _ _))
  iexists _; isplitr
  swap; · iexact H6
  ipureintro
  rw [← View.readAt_full a2.view f2 inb_S512x4096_S512x4096_0_0, ← View.readAt_full a3.view f3 inb_S1x4096_S1x4096_0_0]
  exact slot_writes _ _ _ _ _ _

/-- At the first point. -/
theorem body_first (hc1 : cond1 i = 1#1) (hc2 : k0_cond2 i = 1#1) (hc3 : ¬ k0_cond3 i = 1#1)
    (X2 : Vec F S512x4096 .f32) (X3 : Vec F S1x4096 .f32) (X4 : Vec F S4096x1024 .bf16) (f6) (ho : k0_off1 i = ![0, 0, 0]) (K : PUnit → sProp 𝕄) :
    iprop(owns (c : Thread nD τ) a2 fullShare X2 ∗ owns (c : Thread nD τ) a3 fullShare X3 ∗ owns (c : Thread nD τ) a4 fullShare X4 ∗ (∃ d, owns (c : Thread nD τ) a5 fullShare d) ∗ (a6.view.loc (c : Thread nD τ) ↦{fullShare} f6)
      ∗ (owns (c : Thread nD τ) a2 fullShare X2 ∗ owns (c : Thread nD τ) a3 fullShare X3 ∗ owns (c : Thread nD τ) a4 fullShare X4 ∗ owns (c : Thread nD τ) a5 fullShare (k0_pay2 (k0_pay1 X2 X3) X4) ∗ (∃ f, ⌜Slot c a6 ![0, 0, 0] (k0_pay1 X2 X3) f⌝ ∗ (a6.view.loc (c : Thread nD τ) ↦{fullShare} f)) -∗ K ⟨⟩))
    ⊢ wp frame (wpE (defs₀ (F := F)) Variants.none (c : Thread nD τ) none) Set.univ
      (cc0__mm_kernel i a2 h2 a3 h3 a4 h4 a5 h5 a6 h6) K := by
  rw [cc0__mm_kernel_eq_skeleton]
  unfold cc0__mm_kernel_skel
  unfold cond1 at hc1
  dsimp only
  simp only [dif_pos hc1, dif_pos hc2, dif_neg hc3]
  unfold owns
  iintro ⟨⟨%f2, %e2, H2⟩, ⟨%f3, %e3, H3⟩, ⟨%f4, %e4, H4⟩, ⟨%d5, %f5, -, H5⟩, H6, Hk⟩
  subst e2 e3 e4
  letI : ClosedOff (k0_off1 i) := ⟨![0, 0, 0], ho⟩
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_full _ _ _ _).trans (congrArg₂ k0_pay2 ?_ (View.readAt_full _ _ _))
    unfold body_first.sl.v22 View.readCov
    rw [← View.readAt_full a2.view f2 inb_S512x4096_S512x4096_0_0, ← View.readAt_full a3.view f3 inb_S1x4096_S1x4096_0_0]
    exact (slot_writes c a6 _ _ _ _).congr c a6 ho.symm _
  iexists _; isplitr
  swap; · iexact H6
  ipureintro
  rw [← View.readAt_full a2.view f2 inb_S512x4096_S512x4096_0_0, ← View.readAt_full a3.view f3 inb_S1x4096_S1x4096_0_0]
  exact slot_writes _ _ _ _ _ _

end

end Cert.Kernel6Ideal.Peer

end
-- ==== Proof.Peer.Run.lean ====
module

public import proofs.«01_k».proof.Proof.Peer.Body
public import proofs.«01_k».proof.Proof.Gen.Kernel6Ideal.Points
public import proofs.«01_k».proof.Proof.Gen.Kernel6Ideal.Launch
public import proofs.«01_k».proof.Proof.Gen.Kernel6Ideal.Skeleton
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.Writes
public import Idealize.ShloMosaic.Lib.WritesUnit
public import Idealize.ShloMosaic.Lib.VecWindow
public import Idealize.ShloMosaic.Lib.Pointwise.Index

@[expose] public section

/-!
# The projection onto the experts' queries: the run of the whole program.
-/

set_option maxRecDepth 1664

noncomputable section

namespace Cert.Kernel6Ideal.Peer

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The region's entry -/

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp
    ⟨fun hm => StableHlo.devRef_ne_of_ne h0 (Finset.mem_singleton.mp hm), fun hm => StableHlo.devRef_ne_of_ne h1 (Finset.mem_singleton.mp hm)⟩)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of a number. -/
def pt (n : ℕ) : Fin cfg0.N := ⟨n % 64, Nat.lt_of_lt_of_eq (Nat.mod_lt _ (by decide)) N_0.symm⟩

theorem lt_N (t : Fin cfg0.N) : t.val < 64 := Nat.lt_of_lt_of_eq t.isLt N_0

theorem pt_eq {n : ℕ} (t : Fin cfg0.N) (h : n = t.val) : pt n = t := Fin.ext (by show n % 64 = t.val; rw [h, Nat.mod_eq_of_lt (lt_N t)])

/-- The rows of tile `k`, normalised: prepared at the last column of the tile before (the first tile's at its own first column). -/
def nrm (c : Dev nD) (k : ℕ) : Vec F S1x512x4096 .bf16 := k0_pay1 (iblk m c 0 (pt (2 * k - 1))) (iblk m c 1 (pt (2 * k - 1)))

/-- What the result's block holds at a point. -/
def out (c : Dev nD) (n : ℕ) : Vec F S512x1024 .f32 := k0_pay2 (nrm m c (n / 2)) (iblk m c 2 (pt n))

/-- The scratch array. -/
abbrev scr : Memref sig .tc .vmem S2x512x4096 .bf16 := Memref.whole cc0_scratch0

/-- Before point `n` (past the first): a slot of the scratch array holds the rows of the tile. -/
def inv (c : Dev nD) (n : ℕ) : sProp 𝕄 :=
  iprop((∃ f, ⌜0 < n → Slot c scr ![n / 2 % 2, 0, 0] (nrm m c (n / 2)) f⌝ ∗ (scr.view.loc (c : Thread nD τ) ↦{fullShare} f)) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out m c t.val
  Φ n := inv m c n.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out m c t.val := by dsimp only [dats]
theorem phi_castSucc (c : Dev nD) (t : Fin cfg0.N) : (dats m 0 c).Φ t.castSucc = inv m c t.val := by dsimp only [dats]; rfl
theorem phi_succ (c : Dev nD) (t : Fin cfg0.N) : (dats m 0 c).Φ t.succ = inv m c (t.val + 1) := by dsimp only [dats]; rfl

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem idle_3 : ∀ t : Fin cfg0.N, cfg0.idle 3 (cfg0.grid.coords t) = false :=
  (by decide +kernel : ∀ t : Fin grid0.N, idle0 3 (grid0.coords t) = false)

/-- What the result's buffer is left with. -/
theorem leave_3 (c : Dev nD) (t : Fin cfg0.N) :
    owns (c : Thread nD τ) (st0_3 t) fullShare (out m c t.val) ⊢ ((dats m 0 c).leavesExact 3 t : sProp 𝕄) := by
  unfold Dat.leavesExact
  rw [idle_3, after_3]

/-! ### The body at a point of the grid -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- At the first column. -/
theorem at_even (c : Dev nD) (t : Fin cfg0.N) (h0 : t.val ≠ 0) (h : t.val % 2 = 0) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3⟩
  have hs' := (hs (by omega)).congr c scr (off1_eq t).symm
  iapply (body_even c (grid0.coords t) _ (stage_whole0 0 _) _ (stage_whole0 1 _) _ (stage_whole0 2 _) _ (stage_whole0 3 _) scr (Memref.isWhole_whole _) (mt (cond1_iff t).mp (by omega)) ((cond2_iff t).mpr (by omega)) (mt (cond3_iff t).mp (by omega))
    (iblk m c 2 t) (nrm m c (t.val / 2)) f hs' _)
  isplitl [H2]; · iexact H2
  isplitl [H3]
  · icases H3 with ⟨%d, H3⟩; iexists _; iexact H3
  isplitl [Hf]; · iexact Hf
  iintro ⟨H2, H3, Hf⟩
  isplitl [Hf Hr]
  · isplitl [Hf]
    · iexists _; isplitr
      swap; · iexact Hf
      ipureintro; intro _
      rw [show (t.val + 1) / 2 = t.val / 2 by omega]
      exact hs (by omega)
    iexact Hr
  isplitl [Ho]; · iexact Ho
  isplitl [H0]; · iexact H0
  isplitl [H1]; · iexact H1
  isplitl [H2]; · iexact H2
  iapply (leave_3 m c t)
  rw [show out m c t.val = k0_pay2 (nrm m c (t.val / 2)) (iblk m c 2 t) from by
    unfold out
    rw [pt_eq t rfl]]
  iexact H3

/-- At the last column. -/
theorem at_last (c : Dev nD) (t : Fin cfg0.N) (h : t.val % 2 = 1) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3⟩
  have hs' := (hs (by omega)).congr c scr (off2_eq t).symm
  iapply (body_last c (grid0.coords t) _ (stage_whole0 0 _) _ (stage_whole0 1 _) _ (stage_whole0 2 _) _ (stage_whole0 3 _) scr (Memref.isWhole_whole _) (mt (cond1_iff t).mp (by omega)) (mt (cond2_iff t).mp (by omega)) ((cond3_iff t).mpr (by omega))
    (iblk m c 0 t) (iblk m c 1 t) (iblk m c 2 t) (nrm m c (t.val / 2)) f hs' _)
  isplitl [H0]; · iexact H0
  isplitl [H1]; · iexact H1
  isplitl [H2]; · iexact H2
  isplitl [H3]
  · icases H3 with ⟨%d, H3⟩; iexists _; iexact H3
  isplitl [Hf]; · iexact Hf
  iintro ⟨H0, H1, H2, H3, ⟨%g, %hg, Hf⟩⟩
  isplitl [Hf Hr]
  · isplitl [Hf]
    · iexists _; isplitr
      swap; · iexact Hf
      ipureintro; intro _
      rw [show (t.val + 1) / 2 = t.val / 2 + 1 by omega]
      unfold nrm
      rw [pt_eq t (by omega)]
      exact hg.congr c scr (off3_eq t)
    iexact Hr
  isplitl [Ho]; · iexact Ho
  isplitl [H0]; · iexact H0
  isplitl [H1]; · iexact H1
  isplitl [H2]; · iexact H2
  iapply (leave_3 m c t)
  rw [show out m c t.val = k0_pay3 (nrm m c (t.val / 2)) (iblk m c 2 t) from by
    unfold out
    rw [pt_eq t rfl]
    rfl]
  iexact H3

/-- At the first point. -/
theorem at_first (c : Dev nD) (t : Fin cfg0.N) (h0 : t.val = 0) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3⟩
  iapply (body_first c (grid0.coords t) _ (stage_whole0 0 _) _ (stage_whole0 1 _) _ (stage_whole0 2 _) _ (stage_whole0 3 _) scr (Memref.isWhole_whole _) ((cond1_iff t).mpr (by omega)) ((cond2_iff t).mpr (by omega)) (mt (cond3_iff t).mp (by omega))
    (iblk m c 0 t) (iblk m c 1 t) (iblk m c 2 t) f (by rw [off1_eq t, h0]) _)
  isplitl [H0]; · iexact H0
  isplitl [H1]; · iexact H1
  isplitl [H2]; · iexact H2
  isplitl [H3]
  · icases H3 with ⟨%d, H3⟩; iexists _; iexact H3
  isplitl [Hf]; · iexact Hf
  iintro ⟨H0, H1, H2, H3, ⟨%g, %hg, Hf⟩⟩
  isplitl [Hf Hr]
  · isplitl [Hf]
    · iexists _; isplitr
      swap; · iexact Hf
      ipureintro; intro _
      rw [h0]
      unfold nrm
      rw [pt_eq t (by rw [h0])]
      exact hg
    iexact Hr
  isplitl [Ho]; · iexact Ho
  isplitl [H0]; · iexact H0
  isplitl [H1]; · iexact H1
  isplitl [H2]; · iexact H2
  iapply (leave_3 m c t)
  rw [show out m c t.val = k0_pay2 (k0_pay1 (iblk m c 0 t) (iblk m c 1 t)) (iblk m c 2 t) from by
    unfold out
    rw [pt_eq t rfl]
    unfold nrm
    rw [pt_eq t (by rw [h0])]]
  iexact H3

theorem sound_body (c : Dev nD) (t : Fin cfg0.N) :
    pre m c t ⊢ wp frame (wpE (defs₀ (F := F)) Variants.none (c : Thread nD τ) none) Set.univ (bodyAt0 t) (fun _ => post m c t) := by
  by_cases h0 : t.val = 0
  · exact at_first m c t h0
  by_cases h1 : t.val % 2 = 0
  · exact at_even m c t h0 h1
  exact at_last m c t (by omega)

theorem defs₀_row (t : Fin cfg0.N) :
    (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

theorem phi_in (c : Dev nD) : Pipeline.ΦA spec0 c ⊢ ((dats m 0 c).Φ 0 : sProp 𝕄) := by
  rw [show (dats m 0 c).Φ 0 = inv m c 0 from by dsimp only [dats]; rfl]
  unfold Pipeline.ΦA inv
  rw [scopedRest0_eq c]
  iintro ⟨⟨%f, H⟩, Hr⟩
  isplitl [H]
  · iexists f; isplitr
    · ipureintro; intro h; exact absurd h (Nat.lt_irrefl 0)
    iexact H
  iexact Hr

theorem phi_out (c : Dev nD) : (dats m 0 c).Φ (Fin.last cfg0.N) ⊢ (Pipeline.ΦA spec0 c : sProp 𝕄) := by
  rw [show (dats m 0 c).Φ (Fin.last cfg0.N) = inv m c cfg0.N from by dsimp only [dats]; rfl]
  unfold Pipeline.ΦA inv
  rw [scopedRest0_eq c]
  iintro ⟨⟨%f, -, H⟩, Hr⟩
  isplitl [H]
  · iexists f; iexact H
  iexact Hr

set_option backward.isDefEq.respectTransparency.types false in
theorem run_main : θ_run (defs (F := F)) (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hin := phi_in m) (hout := phi_out m)

/-- The run: the arguments end as they were, the result is what the launch's blocks make it, every counter is zero. -/
theorem run : θ_run (defs (F := F)) (onTc (τ := τ) (main (F := F))) ⟨m, fun _ => 0, ρ⟩ (fun r => (∀ c : Dev nD,
      r.2.mem ((c.tc : Thread nD τ).loc main_v2) = (dats m 0 c).arrAt 3 (Fin.last cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun _ ⟨h, hz⟩ => ⟨fun c => ⟨(h c).1 3,
      ((h c).1 0).trans (((dats m 0 c).arrAt_in 0 (by rfl) _).trans ((A_eq m c 0).trans (V_arg m c main_arg0 (by decide) (by decide)))),
      ((h c).2 main_arg1 (Pipeline.mem_restRefs_of main_arg1 (by decide) (by decide))).trans (V_arg m c main_arg1 (by decide) (by decide)),
      ((h c).2 main_arg2 (Pipeline.mem_restRefs_of main_arg2 (by decide) (by decide))).trans (V_arg m c main_arg2 (by decide) (by decide))⟩,
      hz⟩) (run_main m ρ)

end Cert.Kernel6Ideal.Peer

end
-- ==== Proof.Peer.Value.lean ====
module

public import proofs.«01_k».proof.Proof.Peer.Run
public import proofs.«01_k».proof.Proof.Gen.Reference6Ideal.Run
public import Idealize.ShloMosaic.Lib.Pipeline.ValueKit
public import Idealize.ShloMosaic.Lib.Pointwise

@[expose] public section

/-!
# The projection onto the experts' queries: what the result holds

A tile of rows is normalised into the scratch array, and every point of the launch multiplies it by a
tile of columns; so each place of the result is the reference's sum.
-/

set_option maxRecDepth 16384

noncomputable section

namespace Cert.Reference6Ideal.Peer

open Cert.Reference6Ideal Cert.Reference6Ideal.Gen
open Idealize.ShloMosaic Idealize.ShloMosaic.TcCoe
open scoped BigOperators

/-- The factor that a row is multiplied by: one over its root mean square, from the sum of its squares. -/
def rms (s : EReal) : EReal :=
  Ideal.rsqrt (Ideal.div s (Ideal.ofBits .f32 0x45800000#32) + Ideal.ofBits .f32 0x358637BD#32)

variable (x : FVec Ideal S16384x4096 .f32) (g : FVec Ideal S4096 .f32) (w : FVec Ideal S4096x2048 .f32)

/-- A row, normalised. -/
def rowN (r : Fin 16384) (k : Fin 4096) : EReal :=
  x (ix2 r k) * rms (∑ j : Fin 4096, (x (ix2 r j) * x (ix2 r j) : EReal)) * g (ix1 k)

/-- What the reference leaves, from its arguments. -/
def refF : FVec Ideal S16384x2048 .f32 :=
  Host.dotGeneral dot_S16384x4096_S4096x2048_S16384x2048_1_0_0_1_n_n none (mulf (mulf x (broadcastInDim S16384x4096 ![0, 1]
    bcast_S16384x1_S16384x4096_0_1 (Host.rsqrt (addf (Host.divf (broadcastInDim S16384x1 ![0] bcast_S16384_S16384x1_0
      (Host.reduceAdd (mulf x x) (constant S_ .f32 0x00000000#32) reducesTo_S16384x4096_S16384_d1 h_S_))
      (broadcastInDim S16384x1 ![] bcast_S_S16384x1 (constant S_ .f32 0x45800000#32)))
      (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 g))) w

theorem refF_apply (r : Fin 16384) (d : Fin 2048) :
    (refF x g w (ix2 r d) : EReal) = ∑ k : Fin 4096, rowN x g r k * (w (ix2 k d) : EReal) := by
  pointwise [refF, rowN, rms]

end Cert.Reference6Ideal.Peer

namespace Cert.Kernel6Ideal.Peer

open Cert.Kernel6Ideal Cert.Kernel6Ideal.Gen Cert.Reference6Ideal.Peer
open Idealize.ShloMosaic Idealize.ShloMosaic.TcCoe
open scoped BigOperators

variable (m : (ℓ : Loc nD τ sig) → Buf (Elt Ideal) ℓ) (c : Dev nD)

abbrev argX : FVec Ideal S16384x4096 .f32 := m ((c.tc : Thread nD τ).loc main_arg0)
abbrev argG : FVec Ideal S4096 .f32 := m ((c.tc : Thread nD τ).loc main_arg1)
abbrev argW : FVec Ideal S4096x2048 .f32 := m ((c.tc : Thread nD τ).loc main_arg2)

/-- The arrays that the launch finds. -/
theorem V_g (d : Fin 4096) : (V m c main_v1 (ix2 0 d) : EReal) = argG m c (ix1 d) := by
  have e : V m c main_v1 = shapeCast S1x4096 (argG m c) shapeCasts_S4096_S1x4096 := by
    unfold V
    after_results
    rfl
  rw [e]
  pointwise
theorem V_w (k : Fin 4096) (d : Fin 2048) : (V m c main_v0 (ix2 k d) : EReal) = argW m c (ix2 k d) := by
  have e : V m c main_v0 = truncf .bf16 (argW m c) bitsLt_bf16_f32 := by
    unfold V
    after_results
  rw [e]
  pointwise

theorem pay1_apply (x : FVec Ideal S512x4096 .f32) (g : FVec Ideal S1x4096 .f32) (r : Fin 512) (d : Fin 4096) :
    (k0_pay1 (F := Ideal) x g (ix3 0 r d) : EReal)
      = x (ix2 r d) * rms (∑ k : Fin 4096, (x (ix2 r k) * x (ix2 r k) : EReal)) * g (ix2 0 d) := by
  pointwise [k0_pay1, rms]
theorem pay2_apply (x : FVec Ideal S1x512x4096 .bf16) (w : FVec Ideal S4096x1024 .bf16) (r : Fin 512) (d : Fin 1024) :
    (k0_pay2 (F := Ideal) x w (ix2 r d) : EReal) = ∑ k : Fin 4096, (x (ix3 0 r k) * w (ix2 k d) : EReal) := by
  pointwise [k0_pay2]

/-- The point that prepares the rows of a point's tile. -/
abbrev prep (t : Fin cfg0.N) : Fin cfg0.N := pt (2 * (t.val / 2) - 1)

theorem idx0 : ∀ t : Fin cfg0.N, win0_0.index (prep t) = ![t.val / 2, 0] :=
  (by decide +kernel : ∀ t : Fin grid0.N, win0_0.index (⟨(2 * (t.val / 2) - 1) % 64, _⟩ : Fin grid0.N) = _)
theorem idx1 : ∀ t : Fin cfg0.N, win0_1.index t = ![0, 0] :=
  (by decide +kernel : ∀ t : Fin grid0.N, _)
theorem idx2 : ∀ t : Fin cfg0.N, win0_2.index t = ![0, t.val % 2] :=
  (by decide +kernel : ∀ t : Fin grid0.N, _)
theorem idx3 : ∀ t : Fin cfg0.N, win0_3.index t = ![t.val / 2, t.val % 2] :=
  (by decide +kernel : ∀ t : Fin grid0.N, _)

variable (t : Fin cfg0.N)

/-- A row and a column of a point's tile, in the arrays. -/
def row (r : Fin 512) : Fin 16384 := ⟨t.val / 2 * 512 + r.val, by have := lt_N t; omega⟩
def col (d : Fin 1024) : Fin 2048 := ⟨t.val % 2 * 1024 + d.val, by omega⟩

theorem iblk0_apply (r : Fin 512) (k : Fin 4096) : (iblk m c 0 (prep t) (ix2 r k) : EReal) = argX m c (ix2 (row t r) k) := by
  have h : (win0_0.blk (prep t)).view.emb (ix2 r k) = ix2 (row t r) k := by
    unfold row
    blk_ext [idx0]
  exact (congrArg (V m c main_arg0) h).trans (congrFun (V_arg m c main_arg0 (by decide) (by decide)) _)
theorem iblk1_apply (d : Fin 4096) : (iblk m c 1 t (ix2 0 d) : EReal) = argG m c (ix1 d) := by
  have h : (win0_1.blk t).view.emb (ix2 0 d) = ix2 0 d := by
    blk_ext [idx1]
  exact (congrArg (V m c main_v1) h).trans (V_g m c _)
theorem iblk2_apply (k : Fin 4096) (d : Fin 1024) : (iblk m c 2 t (ix2 k d) : EReal) = argW m c (ix2 k (col t d)) := by
  have h : (win0_2.blk t).view.emb (ix2 k d) = ix2 k (col t d) := by
    unfold col
    blk_ext [idx2]
  exact (congrArg (V m c main_v0) h).trans (V_w m c _ _)

/-- The normalised rows of a point's tile. -/
theorem nrm_apply (r : Fin 512) (k : Fin 4096) :
    (nrm m c (t.val / 2) (ix3 0 r k) : EReal) = rowN (argX m c) (argG m c) (row t r) k := by
  refine (pay1_apply _ _ r k).trans ?_
  rw [iblk1_apply, iblk0_apply]
  refine congrArg (fun s : EReal => _ * rms s * _) (Finset.sum_congr rfl fun k _ => ?_)
  rw [iblk0_apply]

/-- A point's tile of results. -/
theorem block_eq (r : Fin 512) (d : Fin 1024) : (out m c t.val (ix2 r d) : EReal)
    = refF (argX m c) (argG m c) (argW m c) (ix2 (row t r) (col t d)) := by
  refine (pay2_apply _ _ r d).trans (Eq.trans ?_ (refF_apply _ _ _ _ _).symm)
  refine Finset.sum_congr rfl fun k _ => ?_
  rw [nrm_apply, pt_eq t rfl, iblk2_apply]

theorem final : (dats m 0 c).arrAt 3 cfg0.N = refF (argX m c) (argG m c) (argW m c) := by
  refine (dats m 0 c).arrAt_eq_of_covers 3 _ (by decide +kernel) fun t hf y => ?_
  blk_simp
  rw [after_3]
  have hy : y = ix2 (n0 := 512) (n1 := 1024) (y 0) (y 1) := eq_ix2 (n0 := 512) (n1 := 1024) y
  have h : (win0_3.blk t).view.emb (ix2 (n0 := 512) (n1 := 1024) (y 0) (y 1)) = ix2 (row t (y 0)) (col t (y 1)) := by
    unfold row col
    blk_ext [idx3]
  rw [hy, h]
  exact block_eq m c t (y 0) (y 1)

end Cert.Kernel6Ideal.Peer

end
-- ==== Proof.QkvSample.Body.lean ====
module

public import proofs.«01_k».proof.Proof.Gen.Kernel9Ideal.Points
public import proofs.«01_k».proof.Proof.Gen.Kernel9Ideal.Launch
public import proofs.«01_k».proof.Proof.Gen.Kernel9Ideal.Skeleton
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.Writes
public import Idealize.ShloMosaic.Lib.WritesUnit
public import Idealize.ShloMosaic.Lib.VecWindow
public import Idealize.ShloMosaic.Lib.Pointwise.Index

@[expose] public section

/-!
# The sample's projection onto queries, keys and values: its body at a point of the grid.
-/

set_option maxRecDepth 16384

noncomputable section

namespace Cert.Kernel9Ideal.QkvSample

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-- The condition of the first point. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem cond1_iff : ∀ t : Fin grid0.N, cond1 (grid0.coords t) = 1#1 ↔ t.val = 0 := by decide +kernel
theorem cond2_iff : ∀ t : Fin grid0.N, k0_cond2 (grid0.coords t) = 1#1 ↔ t.val % 12 < 11 := by decide +kernel
theorem cond3_iff : ∀ t : Fin grid0.N, k0_cond3 (grid0.coords t) = 1#1 ↔ t.val % 12 < 4 := by decide +kernel
theorem cond4_iff : ∀ t : Fin grid0.N, k0_cond4 (grid0.coords t) = 1#1 ↔ 4 ≤ t.val % 12 ∧ t.val % 12 < 8 := by decide +kernel
theorem cond5_iff : ∀ t : Fin grid0.N, k0_cond5 (grid0.coords t) = 1#1 ↔ 8 ≤ t.val % 12 := by decide +kernel
theorem cond6_iff : ∀ t : Fin grid0.N, k0_cond6 (grid0.coords t) = 1#1 ↔ t.val % 12 = 11 := by decide +kernel
theorem cond7_iff : ∀ t : Fin grid0.N, k0_cond7 (grid0.coords t) = 1#1 ↔ t.val % 12 < 4 := by decide +kernel
theorem cond8_iff : ∀ t : Fin grid0.N, k0_cond8 (grid0.coords t) = 1#1 ↔ 4 ≤ t.val % 12 ∧ t.val % 12 < 8 := by decide +kernel
theorem cond9_iff : ∀ t : Fin grid0.N, k0_cond9 (grid0.coords t) = 1#1 ↔ 8 ≤ t.val % 12 := by decide +kernel
theorem off1_eq : ∀ t : Fin grid0.N, k0_off1 (grid0.coords t) = ![t.val / 12 % 2, 0, 0] := by decide +kernel
theorem off2_eq : ∀ t : Fin grid0.N, k0_off2 (grid0.coords t) = ![t.val / 12 % 2, 0, 0] := by decide +kernel
theorem off3_eq : ∀ t : Fin grid0.N, k0_off3 (grid0.coords t) = ![t.val / 12 % 2, 0, 0] := by decide +kernel
theorem off6_eq : ∀ t : Fin grid0.N, k0_off6 (grid0.coords t) = ![t.val / 12 % 2, 0, 0] := by decide +kernel
theorem off7_eq : ∀ t : Fin grid0.N, k0_off7 (grid0.coords t) = ![(t.val / 12 + 1) % 2, 0, 0] := by decide +kernel

section
variable (c : Dev nD) (i : grid0.Coords)
  (a2 : Memref sig .tc .vmem S128x4096 .f32) (h2 : a2.IsWhole) (a3 : Memref sig .tc .vmem S1x4096 .f32) (h3 : a3.IsWhole)
  (a4 : Memref sig .tc .vmem S4096x1024 .bf16) (h4 : a4.IsWhole) (a5 : Memref sig .tc .vmem S128x1024 .bf16) (h5 : a5.IsWhole)
  (a6 : Memref sig .tc .vmem S128x1024 .f32) (h6 : a6.IsWhole) (a7 : Memref sig .tc .vmem S128x1024 .f32) (h7 : a7.IsWhole)
  (a8 : Memref sig .tc .vmem S2x128x4096 .bf16) (h8 : a8.IsWhole)

/-- A slot of the scratch array holds `X`. -/
def Slot (o : Fin 3 → ℕ) (X : Vec F S1x128x4096 .bf16) (f : Buf (Elt F) (a8.view.loc (c : Thread nD τ))) : Prop :=
  ∀ h : ∀ a, o a + S1x128x4096.size a ≤ S2x128x4096.size a,
    a8.view.readAt (Elt F) (Rect.unit (s := S2x128x4096) o S1x128x4096.size h).toLoadRect f = X

/-- A store over a whole buffer leaves what is stored. -/
theorem read_full {sp : Space} {s : Shape} {e : EltTy} (v : View sig .tc sp s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w := View.read_writes_full v f inb w []

theorem Slot.congr {o o' : Fin 3 → ℕ} (h : o = o') {X : Vec F S1x128x4096 .bf16} {f} (hs : Slot c a8 o X f) : Slot c a8 o' X f := h ▸ hs

/-- A slot just stored holds what was stored. -/
theorem slot_writes (o : Fin 3 → ℕ) (X : Vec F S1x128x4096 .bf16) (f : Buf (Elt F) (a8.view.loc (c : Thread nD τ)))
    (inb : ∀ a, o a + S1x128x4096.size a ≤ S2x128x4096.size a) :
    Slot c a8 o X (a8.view.writes (Elt F) f [⟨Rect.unit (s := S2x128x4096) o S1x128x4096.size inb, X⟩]) := fun h =>
  funext fun x => View.read_writes_cons_emb _ _ (Rect.unit (s := S2x128x4096) o S1x128x4096.size inb) X [] x

/-- At a point of the queries' columns. -/
theorem body_q (hc1 : ¬ cond1 i = 1#1) (hc2 : k0_cond2 i = 1#1) (hc3 : k0_cond3 i = 1#1) (hc4 : ¬ k0_cond4 i = 1#1) (hc5 : ¬ k0_cond5 i = 1#1) (hc6 : ¬ k0_cond6 i = 1#1)
    (X4 : Vec F S4096x1024 .bf16) (X8 : Vec F S1x128x4096 .bf16) (f8) (hs : Slot c a8 (k0_off1 i) X8 f8) (K : PUnit → sProp 𝕄) :
    iprop(owns (c : Thread nD τ) a4 fullShare X4 ∗ (∃ d, owns (c : Thread nD τ) a5 fullShare d) ∗ (a8.view.loc (c : Thread nD τ) ↦{fullShare} f8)
      ∗ (owns (c : Thread nD τ) a4 fullShare X4 ∗ owns (c : Thread nD τ) a5 fullShare (k0_pay2 X8 X4) ∗ (a8.view.loc (c : Thread nD τ) ↦{fullShare} f8) -∗ K ⟨⟩))
    ⊢ wp frame (wpE (defs₀ (F := F)) Variants.none (c : Thread nD τ) none) Set.univ
      (cc0__qkv_kernel i a2 h2 a3 h3 a4 h4 a5 h5 a6 h6 a7 h7 a8 h8) K := by
  rw [cc0__qkv_kernel_eq_skeleton]
  unfold cc0__qkv_kernel_skel
  unfold cond1 at hc1
  dsimp only
  simp only [dif_neg hc1, dif_pos hc2, dif_pos hc3, dif_neg hc4, dif_neg hc5, dif_neg hc6]
  unfold owns
  iintro ⟨⟨%f4, %e4, H4⟩, ⟨%d5, %f5, -, H5⟩, H8, Hk⟩
  subst e4
  sl_exec
  sl_step
  iapply Hk
  isplitl [H4]
  · iexists f4; isplitr; · ipureintro; rfl
    iexact H4
  isplitl [H5]
  · iexists _; isplitr
    swap; · iexact H5
    ipureintro
    exact (read_full _ _ _ _).trans (congrArg₂ k0_pay2 (hs _) (View.readAt_full _ _ _))
  iexact H8

/-- At a point of the keys' columns. -/
theorem body_k (hc1 : ¬ cond1 i = 1#1) (hc2 : k0_cond2 i = 1#1) (hc3 : ¬ k0_cond3 i = 1#1) (hc4 : k0_cond4 i = 1#1) (hc5 : ¬ k0_cond5 i = 1#1) (hc6 : ¬ k0_cond6 i = 1#1)
    (X4 : Vec F S4096x1024 .bf16) (X8 : Vec F S1x128x4096 .bf16) (f8) (hs : Slot c a8 (k0_off2 i) X8 f8) (K : PUnit → sProp 𝕄) :
    iprop(owns (c : Thread nD τ) a4 fullShare X4 ∗ (∃ d, owns (c : Thread nD τ) a6 fullShare d) ∗ (a8.view.loc (c : Thread nD τ) ↦{fullShare} f8)
      ∗ (owns (c : Thread nD τ) a4 fullShare X4 ∗ owns (c : Thread nD τ) a6 fullShare (k0_pay3 X8 X4) ∗ (a8.view.loc (c : Thread nD τ) ↦{fullShare} f8) -∗ K ⟨⟩))
    ⊢ wp frame (wpE (defs₀ (F := F)) Variants.none (c : Thread nD τ) none) Set.univ
      (cc0__qkv_kernel i a2 h2 a3 h3 a4 h4 a5 h5 a6 h6 a7 h7 a8 h8) K := by
  rw [cc0__qkv_kernel_eq_skeleton]
  unfold cc0__qkv_kernel_skel
  unfold cond1 at hc1
  dsimp only
  simp only [dif_neg hc1, dif_pos hc2, dif_neg hc3, dif_pos hc4, dif_neg hc5, dif_neg hc6]
  unfold owns
  iintro ⟨⟨%f4, %e4, H4⟩, ⟨%d6, %f6, -, H6⟩, H8, Hk⟩
  subst e4
  sl_exec
  sl_step
  iapply Hk
  isplitl [H4]
  · iexists f4; isplitr; · ipureintro; rfl
    iexact H4
  isplitl [H6]
  · iexists _; isplitr
    swap; · iexact H6
    ipureintro
    exact (read_full _ _ _ _).trans (congrArg₂ k0_pay3 (hs _) (View.readAt_full _ _ _))
  iexact H8

/-- At a point of the values' columns but the last. -/
theorem body_v (hc1 : ¬ cond1 i = 1#1) (hc2 : k0_cond2 i = 1#1) (hc3 : ¬ k0_cond3 i = 1#1) (hc4 : ¬ k0_cond4 i = 1#1) (hc5 : k0_cond5 i = 1#1) (hc6 : ¬ k0_cond6 i = 1#1)
    (X4 : Vec F S4096x1024 .bf16) (X8 : Vec F S1x128x4096 .bf16) (f8) (hs : Slot c a8 (k0_off3 i) X8 f8) (K : PUnit → sProp 𝕄) :
    iprop(owns (c : Thread nD τ) a4 fullShare X4 ∗ (∃ d, owns (c : Thread nD τ) a7 fullShare d) ∗ (a8.view.loc (c : Thread nD τ) ↦{fullShare} f8)
      ∗ (owns (c : Thread nD τ) a4 fullShare X4 ∗ owns (c : Thread nD τ) a7 fullShare (k0_pay4 X8 X4) ∗ (a8.view.loc (c : Thread nD τ) ↦{fullShare} f8) -∗ K ⟨⟩))
    ⊢ wp frame (wpE (defs₀ (F := F)) Variants.none (c : Thread nD τ) none) Set.univ
      (cc0__qkv_kernel i a2 h2 a3 h3 a4 h4 a5 h5 a6 h6 a7 h7 a8 h8) K := by
  rw [cc0__qkv_kernel_eq_skeleton]
  unfold cc0__qkv_kernel_skel
  unfold cond1 at hc1
  dsimp only
  simp only [dif_neg hc1, dif_pos hc2, dif_neg hc3, dif_neg hc4, dif_pos hc5, dif_neg hc6]
  unfold owns
  iintro ⟨⟨%f4, %e4, H4⟩, ⟨%d7, %f7, -, H7⟩, H8, Hk⟩
  subst e4
  sl_exec
  sl_step
  iapply Hk
  isplitl [H4]
  · iexists f4; isplitr; · ipureintro; rfl
    iexact H4
  isplitl [H7]
  · iexists _; isplitr
    swap; · iexact H7
    ipureintro
    exact (read_full _ _ _ _).trans (congrArg₂ k0_pay4 (hs _) (View.readAt_full _ _ _))
  iexact H8

/-- At the last column: the next rows are prepared. -/
theorem body_last (hc1 : ¬ cond1 i = 1#1) (hc2 : ¬ k0_cond2 i = 1#1) (hc6 : k0_cond6 i = 1#1) (hc7 : ¬ k0_cond7 i = 1#1) (hc8 : ¬ k0_cond8 i = 1#1) (hc9 : k0_cond9 i = 1#1)
    (X2 : Vec F S128x4096 .f32) (X3 : Vec F S1x4096 .f32) (X4 : Vec F S4096x1024 .bf16) (X8 : Vec F S1x128x4096 .bf16) (f8) (hs : Slot c a8 (k0_off6 i) X8 f8) (K : PUnit → sProp 𝕄) :
    iprop(owns (c : Thread nD τ) a2 fullShare X2 ∗ owns (c : Thread nD τ) a3 fullShare X3 ∗ owns (c : Thread nD τ) a4 fullShare X4 ∗ (∃ d, owns (c : Thread nD τ) a7 fullShare d) ∗ (a8.view.loc (c : Thread nD τ) ↦{fullShare} f8)
      ∗ (owns (c : Thread nD τ) a2 fullShare X2 ∗ owns (c : Thread nD τ) a3 fullShare X3 ∗ owns (c : Thread nD τ) a4 fullShare X4 ∗ owns (c : Thread nD τ) a7 fullShare (k0_pay7 X8 X4) ∗ (∃ f, ⌜Slot c a8 (k0_off7 i) (k0_pay8 X2 X3) f⌝ ∗ (a8.view.loc (c : Thread nD τ) ↦{fullShare} f)) -∗ K ⟨⟩))
    ⊢ wp frame (wpE (defs₀ (F := F)) Variants.none (c : Thread nD τ) none) Set.univ
      (cc0__qkv_kernel i a2 h2 a3 h3 a4 h4 a5 h5 a6 h6 a7 h7 a8 h8) K := by
  rw [cc0__qkv_kernel_eq_skeleton]
  unfold cc0__qkv_kernel_skel
  unfold cond1 at hc1
  dsimp only
  simp only [dif_neg hc1, dif_neg hc2, dif_pos hc6, dif_neg hc7, dif_neg hc8, dif_pos hc9]
  unfold owns
  iintro ⟨⟨%f2, %e2, H2⟩, ⟨%f3, %e3, H3⟩, ⟨%f4, %e4, H4⟩, ⟨%d7, %f7, -, H7⟩, H8, Hk⟩
  subst e2 e3 e4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    exact (read_full _ _ _ _).trans (congrArg₂ k0_pay7 (hs _) (View.readAt_full _ _ _))
  iexists _; isplitr
  swap; · iexact H8
  ipureintro
  rw [← View.readAt_full a2.view f2 inb_S128x4096_S128x4096_0_0, ← View.readAt_full a3.view f3 inb_S1x4096_S1x4096_0_0]
  exact slot_writes _ _ _ _ _ _

/-- At the first point. -/
theorem body_first (hc1 : cond1 i = 1#1) (hc2 : k0_cond2 i = 1#1) (hc3 : k0_cond3 i = 1#1) (hc4 : ¬ k0_cond4 i = 1#1) (hc5 : ¬ k0_cond5 i = 1#1) (hc6 : ¬ k0_cond6 i = 1#1)
    (X2 : Vec F S128x4096 .f32) (X3 : Vec F S1x4096 .f32) (X4 : Vec F S4096x1024 .bf16) (f8) (ho : k0_off1 i = ![0, 0, 0]) (K : PUnit → sProp 𝕄) :
    iprop(owns (c : Thread nD τ) a2 fullShare X2 ∗ owns (c : Thread nD τ) a3 fullShare X3 ∗ owns (c : Thread nD τ) a4 fullShare X4 ∗ (∃ d, owns (c : Thread nD τ) a5 fullShare d) ∗ (a8.view.loc (c : Thread nD τ) ↦{fullShare} f8)
      ∗ (owns (c : Thread nD τ) a2 fullShare X2 ∗ owns (c : Thread nD τ) a3 fullShare X3 ∗ owns (c : Thread nD τ) a4 fullShare X4 ∗ owns (c : Thread nD τ) a5 fullShare (k0_pay2 (k0_pay1 X2 X3) X4) ∗ (∃ f, ⌜Slot c a8 ![0, 0, 0] (k0_pay1 X2 X3) f⌝ ∗ (a8.view.loc (c : Thread nD τ) ↦{fullShare} f)) -∗ K ⟨⟩))
    ⊢ wp frame (wpE (defs₀ (F := F)) Variants.none (c : Thread nD τ) none) Set.univ
      (cc0__qkv_kernel i a2 h2 a3 h3 a4 h4 a5 h5 a6 h6 a7 h7 a8 h8) K := by
  rw [cc0__qkv_kernel_eq_skeleton]
  unfold cc0__qkv_kernel_skel
  unfold cond1 at hc1
  dsimp only
  simp only [dif_pos hc1, dif_pos hc2, dif_pos hc3, dif_neg hc4, dif_neg hc5, dif_neg hc6]
  unfold owns
  iintro ⟨⟨%f2, %e2, H2⟩, ⟨%f3, %e3, H3⟩, ⟨%f4, %e4, H4⟩, ⟨%d5, %f5, -, H5⟩, H8, Hk⟩
  subst e2 e3 e4
  letI : ClosedOff (k0_off1 i) := ⟨![0, 0, 0], ho⟩
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_full _ _ _ _).trans (congrArg₂ k0_pay2 ?_ (View.readAt_full _ _ _))
    unfold body_first.sl.v33 View.readCov
    rw [← View.readAt_full a2.view f2 inb_S128x4096_S128x4096_0_0, ← View.readAt_full a3.view f3 inb_S1x4096_S1x4096_0_0]
    exact (slot_writes c a8 _ _ _ _).congr c a8 ho.symm _
  iexists _; isplitr
  swap; · iexact H8
  ipureintro
  rw [← View.readAt_full a2.view f2 inb_S128x4096_S128x4096_0_0, ← View.readAt_full a3.view f3 inb_S1x4096_S1x4096_0_0]
  exact slot_writes _ _ _ _ _ _

end

end Cert.Kernel9Ideal.QkvSample

end
-- ==== Proof.QkvSample.Run.lean ====
module

public import proofs.«01_k».proof.Proof.QkvSample.Body
public import proofs.«01_k».proof.Proof.Gen.Kernel9Ideal.Points
public import proofs.«01_k».proof.Proof.Gen.Kernel9Ideal.Launch
public import proofs.«01_k».proof.Proof.Gen.Kernel9Ideal.Skeleton
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.Writes
public import Idealize.ShloMosaic.Lib.WritesUnit
public import Idealize.ShloMosaic.Lib.VecWindow
public import Idealize.ShloMosaic.Lib.Pointwise.Index

@[expose] public section

/-!
# The sample's projection onto queries, keys and values: the run of the whole program.
-/

set_option maxRecDepth 16384

noncomputable section

namespace Cert.Kernel9Ideal.QkvSample

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The region's entry -/

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

theorem V_arg (c : Dev nD) (b : Ref sig .tc) (h0 : b ≠ main_v0) (h1 : b ≠ main_v1) (h2 : b ≠ main_v2) (h3 : b ≠ main_v3) (h4 : b ≠ main_v4)
    (h5 : b ≠ main_v5) : V m c b = m ((c : Thread nD τ).loc b) :=
  StableHlo.after_of_forall_not_mem (b := Proc.devRef .tc b) _ _ (List.forall_iff_forall_mem.mp
    ⟨fun hm => StableHlo.devRef_ne_of_ne h0 (Finset.mem_singleton.mp hm), fun hm => StableHlo.devRef_ne_of_ne h1 (Finset.mem_singleton.mp hm),
      fun hm => StableHlo.devRef_ne_of_ne h2 (Finset.mem_singleton.mp hm), fun hm => StableHlo.devRef_ne_of_ne h3 (Finset.mem_singleton.mp hm),
      fun hm => StableHlo.devRef_ne_of_ne h4 (Finset.mem_singleton.mp hm), fun hm => StableHlo.devRef_ne_of_ne h5 (Finset.mem_singleton.mp hm)⟩)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of a number. -/
def pt (n : ℕ) : Fin cfg0.N := ⟨n % 12, Nat.lt_of_lt_of_eq (Nat.mod_lt _ (by decide)) N_0.symm⟩

theorem lt_N (t : Fin cfg0.N) : t.val < 12 := Nat.lt_of_lt_of_eq t.isLt N_0

theorem pt_eq {n : ℕ} (t : Fin cfg0.N) (h : n = t.val) : pt n = t := Fin.ext (by show n % 12 = t.val; rw [h, Nat.mod_eq_of_lt (lt_N t)])

/-- The rows of tile `k`, normalised: prepared at the last column of the tile before (the first tile's at its own first column). -/
def nrm (c : Dev nD) (k : ℕ) : Vec F S1x128x4096 .bf16 := k0_pay1 (iblk m c 0 (pt (12 * k - 1))) (iblk m c 1 (pt (12 * k - 1)))

/-- What the three results' blocks hold at a point. -/
def outQ (c : Dev nD) (n : ℕ) : Vec F S128x1024 .bf16 := k0_pay2 (nrm m c (n / 12)) (iblk m c 2 (pt (12 * (n / 12) + min (n % 12) 3)))
def outK (c : Dev nD) (n : ℕ) : Vec F S128x1024 .f32 := k0_pay3 (nrm m c (n / 12)) (iblk m c 2 (pt (12 * (n / 12) + min (n % 12) 7)))
def outV (c : Dev nD) (n : ℕ) : Vec F S128x1024 .f32 := k0_pay4 (nrm m c (n / 12)) (iblk m c 2 (pt n))

/-- The scratch array. -/
abbrev scr : Memref sig .tc .vmem S2x128x4096 .bf16 := Memref.whole cc0_scratch0

/-- Before point `n` (past the first): a slot of the scratch array holds the rows of the tile. -/
def inv (c : Dev nD) (n : ℕ) : sProp 𝕄 :=
  iprop((∃ f, ⌜0 < n → Slot c scr ![n / 12 % 2, 0, 0] (nrm m c (n / 12)) f⌝ ∗ (scr.view.loc (c : Thread nD τ) ↦{fullShare} f)) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outQ m c t.val
    | ⟨4, _⟩ => outK m c t.val
    | ⟨5, _⟩ => outV m c t.val
  Φ n := inv m c n.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outQ m c t.val := by dsimp only [dats]
theorem after_4 (c : Dev nD) (t : Fin cfg0.N) : (dats m 0 c).after 4 t = outK m c t.val := by dsimp only [dats]
theorem after_5 (c : Dev nD) (t : Fin cfg0.N) : (dats m 0 c).after 5 t = outV m c t.val := by dsimp only [dats]
theorem phi_castSucc (c : Dev nD) (t : Fin cfg0.N) : (dats m 0 c).Φ t.castSucc = inv m c t.val := by dsimp only [dats]; rfl
theorem phi_succ (c : Dev nD) (t : Fin cfg0.N) : (dats m 0 c).Φ t.succ = inv m c (t.val + 1) := by dsimp only [dats]; rfl

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ### The results' blocks where the body leaves them alone -/

theorem idle_3 : ∀ t : Fin cfg0.N, cfg0.idle 3 (cfg0.grid.coords t) = decide (4 ≤ t.val % 12) :=
  (by decide +kernel : ∀ t : Fin grid0.N, idle0 3 (grid0.coords t) = decide (4 ≤ t.val % 12))
theorem idle_4 : ∀ t : Fin cfg0.N, cfg0.idle 4 (cfg0.grid.coords t) = !decide (4 ≤ t.val % 12 ∧ t.val % 12 < 8) :=
  (by decide +kernel : ∀ t : Fin grid0.N, idle0 4 (grid0.coords t) = !decide (4 ≤ t.val % 12 ∧ t.val % 12 < 8))
theorem idle_5 : ∀ t : Fin cfg0.N, cfg0.idle 5 (cfg0.grid.coords t) = decide (t.val % 12 < 8) :=
  (by decide +kernel : ∀ t : Fin grid0.N, idle0 5 (grid0.coords t) = decide (t.val % 12 < 8))
theorem flush_3 : ∀ t : Fin cfg0.N, (cfg0.win 3).flush t = decide (t.val % 12 < 3 ∨ t.val % 12 = 11) :=
  (by decide +kernel : ∀ t : Fin grid0.N, win0_3.flush t = decide (t.val % 12 < 3 ∨ t.val % 12 = 11))
theorem flush_4 : ∀ t : Fin cfg0.N, (cfg0.win 4).flush t = decide ((4 ≤ t.val % 12 ∧ t.val % 12 < 7) ∨ t.val % 12 = 11) :=
  (by decide +kernel : ∀ t : Fin grid0.N, win0_4.flush t = decide ((4 ≤ t.val % 12 ∧ t.val % 12 < 7) ∨ t.val % 12 = 11))
theorem flush_5 : ∀ t : Fin cfg0.N, (cfg0.win 5).flush t = decide (8 ≤ t.val % 12) :=
  (by decide +kernel : ∀ t : Fin grid0.N, win0_5.flush t = decide (8 ≤ t.val % 12))

/-- Past its last column, a block of queries is as that column left it. -/
theorem before_3 (c : Dev nD) (d) : ∀ n (h : n < cfg0.N), 4 ≤ n % 12 → (dats m 0 c).before 3 ⟨n, h⟩ d = outQ m c n := by
  intro n
  induction n with
  | zero => intro _ h0; exact absurd h0 (by decide)
  | succ n ih =>
    intro h h4
    rw [(dats m 0 c).before_of_pos 3 ⟨n + 1, h⟩ (Nat.succ_ne_zero n) ((cfg0.win 3).fetch_out rfl _)]
    have hn : n < cfg0.N := Nat.lt_of_succ_lt h
    have e : (⟨(⟨n + 1, h⟩ : Fin cfg0.N).val - 1, Nat.lt_of_le_of_lt (Nat.sub_le _ _) h⟩ : Fin cfg0.N) = ⟨n, hn⟩ := rfl
    rw [e, flush_3, if_neg (by rw [decide_eq_true_eq]; dsimp only; omega)]
    unfold Dat.left
    have eo : outQ m c (n + 1) = outQ m c n := by
      unfold outQ
      rw [show (n + 1) / 12 = n / 12 by omega, show min ((n + 1) % 12) 3 = min (n % 12) 3 by omega]
    rw [idle_3, eo]
    by_cases h5 : 4 ≤ n % 12
    · rw [decide_eq_true (by exact h5)]; exact ih hn h5
    · rw [decide_eq_false (by exact h5)]
      unfold Dat.kept
      rw [after_3]
      exact Window.fill_cut _ _ _

theorem before_4 (c : Dev nD) (d) : ∀ n (h : n < cfg0.N), 8 ≤ n % 12 → (dats m 0 c).before 4 ⟨n, h⟩ d = outK m c n := by
  intro n
  induction n with
  | zero => intro _ h0; exact absurd h0 (by decide)
  | succ n ih =>
    intro h h4
    rw [(dats m 0 c).before_of_pos 4 ⟨n + 1, h⟩ (Nat.succ_ne_zero n) ((cfg0.win 4).fetch_out rfl _)]
    have hn : n < cfg0.N := Nat.lt_of_succ_lt h
    have e : (⟨(⟨n + 1, h⟩ : Fin cfg0.N).val - 1, Nat.lt_of_le_of_lt (Nat.sub_le _ _) h⟩ : Fin cfg0.N) = ⟨n, hn⟩ := rfl
    rw [e, flush_4, if_neg (by rw [decide_eq_true_eq]; dsimp only; omega)]
    unfold Dat.left
    have eo : outK m c (n + 1) = outK m c n := by
      unfold outK
      rw [show (n + 1) / 12 = n / 12 by omega, show min ((n + 1) % 12) 7 = min (n % 12) 7 by omega]
    rw [idle_4, eo]
    by_cases h5 : 8 ≤ n % 12
    · rw [decide_eq_false (by dsimp only; omega)]; exact ih hn h5
    · rw [decide_eq_true (by dsimp only; omega)]
      rw [Bool.not_true]
      dsimp only
      unfold Dat.kept
      rw [after_4]
      exact Window.fill_cut _ _ _

/-- What a window's buffer is left with, where the body writes it, -/
theorem leave_3 (c : Dev nD) (t : Fin cfg0.N) (h : t.val % 12 < 4) :
    owns (c : Thread nD τ) (st0_3 t) fullShare (outQ m c t.val) ⊢ ((dats m 0 c).leavesExact 3 t : sProp 𝕄) := by
  unfold Dat.leavesExact
  rw [idle_3, decide_eq_false (by omega), after_3]
theorem leave_4 (c : Dev nD) (t : Fin cfg0.N) (h : 4 ≤ t.val % 12 ∧ t.val % 12 < 8) :
    owns (c : Thread nD τ) (st0_4 t) fullShare (outK m c t.val) ⊢ ((dats m 0 c).leavesExact 4 t : sProp 𝕄) := by
  unfold Dat.leavesExact
  rw [idle_4, decide_eq_true h, Bool.not_true, after_4]
theorem leave_5 (c : Dev nD) (t : Fin cfg0.N) (h : 8 ≤ t.val % 12) :
    owns (c : Thread nD τ) (st0_5 t) fullShare (outV m c t.val) ⊢ ((dats m 0 c).leavesExact 5 t : sProp 𝕄) := by
  unfold Dat.leavesExact
  rw [idle_5, decide_eq_false (by omega), after_5]

/-- and where it does not. -/
theorem keep_3 (c : Dev nD) (t : Fin cfg0.N) (h : 4 ≤ t.val % 12) :
    iprop(∃ d, owns (c : Thread nD τ) (st0_3 t) fullShare ((dats m 0 c).before 3 t d)) ⊢ ((dats m 0 c).leavesExact 3 t : sProp 𝕄) := by
  unfold Dat.leavesExact
  rw [idle_3, decide_eq_true h, flush_3]
  by_cases h' : t.val % 12 = 11
  · rw [decide_eq_true (.inr h'), after_3]
    iintro ⟨%d, H⟩
    rw [show (dats m 0 c).before 3 t d = outQ m c t.val from before_3 m c d t.val t.isLt h]
    iexact H
  · rw [decide_eq_false (by omega)]
theorem keep_4 (c : Dev nD) (t : Fin cfg0.N) (h : ¬ (4 ≤ t.val % 12 ∧ t.val % 12 < 8)) :
    iprop(∃ d, owns (c : Thread nD τ) (st0_4 t) fullShare ((dats m 0 c).before 4 t d)) ⊢ ((dats m 0 c).leavesExact 4 t : sProp 𝕄) := by
  unfold Dat.leavesExact
  rw [idle_4, decide_eq_false h, Bool.not_false, flush_4]
  by_cases h' : t.val % 12 = 11
  · rw [decide_eq_true (.inr h'), after_4]
    iintro ⟨%d, H⟩
    rw [show (dats m 0 c).before 4 t d = outK m c t.val from before_4 m c d t.val t.isLt (by omega)]
    iexact H
  · rw [decide_eq_false (by omega)]
theorem keep_5 (c : Dev nD) (t : Fin cfg0.N) (h : t.val % 12 < 8) :
    iprop(∃ d, owns (c : Thread nD τ) (st0_5 t) fullShare ((dats m 0 c).before 5 t d)) ⊢ ((dats m 0 c).leavesExact 5 t : sProp 𝕄) := by
  unfold Dat.leavesExact
  rw [idle_5, decide_eq_true h, flush_5, decide_eq_false (by omega)]

/-! ### The body at a point of the grid -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t ∗ (dats m 0 c).leavesExact 4 t ∗ (dats m 0 c).leavesExact 5 t)

/-- At the queries' columns. -/
theorem at_q (c : Dev nD) (t : Fin cfg0.N) (h0 : t.val ≠ 0) (h : t.val % 12 < 4) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3, H4, H5⟩
  have hs' := (hs (by omega)).congr c scr (off1_eq t).symm
  iapply (body_q c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) ((cond2_iff t).mpr (by omega)) ((cond3_iff t).mpr (by omega)) (mt (cond4_iff t).mp (by omega)) (mt (cond5_iff t).mp (by omega)) (mt (cond6_iff t).mp (by omega))
    (iblk m c 2 t) (nrm m c (t.val / 12)) f hs' _)
  isplitl [H2]; · iexact H2
  isplitl [H3]
  · icases H3 with ⟨%d, H3⟩; iexists _; iexact H3
  isplitl [Hf]; · iexact Hf
  iintro ⟨H2, H3, Hf⟩
  isplitl [Hf Hr]
  · isplitl [Hf]
    · iexists _; isplitr
      swap; · iexact Hf
      ipureintro; intro _
      rw [show (t.val + 1) / 12 = t.val / 12 by omega]
      exact hs (by omega)
    iexact Hr
  isplitl [Ho]; · iexact Ho
  isplitl [H0]; · iexact H0
  isplitl [H1]; · iexact H1
  isplitl [H2]; · iexact H2
  isplitl [H3]
  · iapply (leave_3 m c t (by omega))
    rw [show outQ m c t.val = k0_pay2 (nrm m c (t.val / 12)) (iblk m c 2 t) from by
      unfold outQ
      rw [pt_eq t (by omega)]]
    iexact H3
  isplitl [H4]
  · iapply (keep_4 m c t (by omega))
    iexact H4
  iapply (keep_5 m c t (by omega))
  iexact H5

/-- At the keys' columns. -/
theorem at_k (c : Dev nD) (t : Fin cfg0.N) (h : 4 ≤ t.val % 12 ∧ t.val % 12 < 8) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3, H4, H5⟩
  have hs' := (hs (by omega)).congr c scr (off2_eq t).symm
  iapply (body_k c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) ((cond2_iff t).mpr (by omega)) (mt (cond3_iff t).mp (by omega)) ((cond4_iff t).mpr (by omega)) (mt (cond5_iff t).mp (by omega)) (mt (cond6_iff t).mp (by omega))
    (iblk m c 2 t) (nrm m c (t.val / 12)) f hs' _)
  isplitl [H2]; · iexact H2
  isplitl [H4]
  · icases H4 with ⟨%d, H4⟩; iexists _; iexact H4
  isplitl [Hf]; · iexact Hf
  iintro ⟨H2, H4, Hf⟩
  isplitl [Hf Hr]
  · isplitl [Hf]
    · iexists _; isplitr
      swap; · iexact Hf
      ipureintro; intro _
      rw [show (t.val + 1) / 12 = t.val / 12 by omega]
      exact hs (by omega)
    iexact Hr
  isplitl [Ho]; · iexact Ho
  isplitl [H0]; · iexact H0
  isplitl [H1]; · iexact H1
  isplitl [H2]; · iexact H2
  isplitl [H3]
  · iapply (keep_3 m c t (by omega))
    iexact H3
  isplitl [H4]
  · iapply (leave_4 m c t (by omega))
    rw [show outK m c t.val = k0_pay3 (nrm m c (t.val / 12)) (iblk m c 2 t) from by
      unfold outK
      rw [pt_eq t (by omega)]]
    iexact H4
  iapply (keep_5 m c t (by omega))
  iexact H5

/-- At the values' columns but the last. -/
theorem at_v (c : Dev nD) (t : Fin cfg0.N) (h : 8 ≤ t.val % 12) (h' : t.val % 12 ≠ 11) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3, H4, H5⟩
  have hs' := (hs (by omega)).congr c scr (off3_eq t).symm
  iapply (body_v c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) ((cond2_iff t).mpr (by omega)) (mt (cond3_iff t).mp (by omega)) (mt (cond4_iff t).mp (by omega)) ((cond5_iff t).mpr (by omega)) (mt (cond6_iff t).mp (by omega))
    (iblk m c 2 t) (nrm m c (t.val / 12)) f hs' _)
  isplitl [H2]; · iexact H2
  isplitl [H5]
  · icases H5 with ⟨%d, H5⟩; iexists _; iexact H5
  isplitl [Hf]; · iexact Hf
  iintro ⟨H2, H5, Hf⟩
  isplitl [Hf Hr]
  · isplitl [Hf]
    · iexists _; isplitr
      swap; · iexact Hf
      ipureintro; intro _
      rw [show (t.val + 1) / 12 = t.val / 12 by omega]
      exact hs (by omega)
    iexact Hr
  isplitl [Ho]; · iexact Ho
  isplitl [H0]; · iexact H0
  isplitl [H1]; · iexact H1
  isplitl [H2]; · iexact H2
  isplitl [H3]
  · iapply (keep_3 m c t (by omega))
    iexact H3
  isplitl [H4]
  · iapply (keep_4 m c t (by omega))
    iexact H4
  iapply (leave_5 m c t (by omega))
  rw [show outV m c t.val = k0_pay4 (nrm m c (t.val / 12)) (iblk m c 2 t) from by
    unfold outV
    rw [pt_eq t (by omega)]]
  iexact H5

/-- At the last column. -/
theorem at_last (c : Dev nD) (t : Fin cfg0.N) (h : t.val % 12 = 11) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3, H4, H5⟩
  have hs' := (hs (by omega)).congr c scr (off6_eq t).symm
  iapply (body_last c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) (mt (cond2_iff t).mp (by omega)) ((cond6_iff t).mpr (by omega)) (mt (cond7_iff t).mp (by omega)) (mt (cond8_iff t).mp (by omega)) ((cond9_iff t).mpr (by omega))
    (iblk m c 0 t) (iblk m c 1 t) (iblk m c 2 t) (nrm m c (t.val / 12)) f hs' _)
  isplitl [H0]; · iexact H0
  isplitl [H1]; · iexact H1
  isplitl [H2]; · iexact H2
  isplitl [H5]
  · icases H5 with ⟨%d, H5⟩; iexists _; iexact H5
  isplitl [Hf]; · iexact Hf
  iintro ⟨H0, H1, H2, H5, ⟨%g, %hg, Hf⟩⟩
  isplitl [Hf Hr]
  · isplitl [Hf]
    · iexists _; isplitr
      swap; · iexact Hf
      ipureintro; intro _
      rw [show (t.val + 1) / 12 = t.val / 12 + 1 by omega]
      unfold nrm
      rw [pt_eq t (by omega)]
      exact hg.congr c scr (off7_eq t)
    iexact Hr
  isplitl [Ho]; · iexact Ho
  isplitl [H0]; · iexact H0
  isplitl [H1]; · iexact H1
  isplitl [H2]; · iexact H2
  isplitl [H3]
  · iapply (keep_3 m c t (by omega))
    iexact H3
  isplitl [H4]
  · iapply (keep_4 m c t (by omega))
    iexact H4
  iapply (leave_5 m c t (by omega))
  rw [show outV m c t.val = k0_pay7 (nrm m c (t.val / 12)) (iblk m c 2 t) from by
    unfold outV
    rw [pt_eq t (by omega)]
    rfl]
  iexact H5

/-- At the first point. -/
theorem at_first (c : Dev nD) (t : Fin cfg0.N) (h0 : t.val = 0) :
    pre m c t ⊢ wp frame (wpE (defs₀ (F := F)) Variants.none (c : Thread nD τ) none) Set.univ (bodyAt0 t) (fun _ => post m c t) := by
  unfold pre post bodyAt0
  simp only [before_0, before_1, before_2]
  rw [show (dats m 0 c).owesAt () t.succ = (dats m 0 c).owesAt () t.castSucc from rfl, after_0, after_1, after_2, phi_castSucc, phi_succ]
  unfold inv
  iintro ⟨⟨⟨%f, %hs, Hf⟩, Hr⟩, Ho, ⟨%d0, H0⟩, ⟨%d1, H1⟩, ⟨%d2, H2⟩, H3, H4, H5⟩
  iapply (body_first c (grid0.coords t) _ (stage_whole0 0 _) _ (stage_whole0 1 _) _ (stage_whole0 2 _) _ (stage_whole0 3 _) _ (stage_whole0 4 _) _ (stage_whole0 5 _) scr (Memref.isWhole_whole _) ((cond1_iff t).mpr (by omega)) ((cond2_iff t).mpr (by omega)) ((cond3_iff t).mpr (by omega)) (mt (cond4_iff t).mp (by omega)) (mt (cond5_iff t).mp (by omega)) (mt (cond6_iff t).mp (by omega))
    (iblk m c 0 t) (iblk m c 1 t) (iblk m c 2 t) f (by rw [off1_eq t, h0]) _)
  isplitl [H0]; · iexact H0
  isplitl [H1]; · iexact H1
  isplitl [H2]; · iexact H2
  isplitl [H3]
  · icases H3 with ⟨%d, H3⟩; iexists _; iexact H3
  isplitl [Hf]; · iexact Hf
  iintro ⟨H0, H1, H2, H3, ⟨%g, %hg, Hf⟩⟩
  isplitl [Hf Hr]
  · isplitl [Hf]
    · iexists _; isplitr
      swap; · iexact Hf
      ipureintro; intro _
      rw [h0]
      unfold nrm
      rw [pt_eq t (by rw [h0])]
      exact hg
    iexact Hr
  isplitl [Ho]; · iexact Ho
  isplitl [H0]; · iexact H0
  isplitl [H1]; · iexact H1
  isplitl [H2]; · iexact H2
  isplitl [H3]
  · iapply (leave_3 m c t (by omega))
    rw [show outQ m c t.val = k0_pay2 (k0_pay1 (iblk m c 0 t) (iblk m c 1 t)) (iblk m c 2 t) from by
      unfold outQ
      rw [pt_eq t (by omega)]
      unfold nrm
      rw [pt_eq t (by rw [h0])]]
    iexact H3
  isplitl [H4]
  · iapply (keep_4 m c t (by omega))
    iexact H4
  iapply (keep_5 m c t (by omega))
  iexact H5

theorem sound_body (c : Dev nD) (t : Fin cfg0.N) :
    pre m c t ⊢ wp frame (wpE (defs₀ (F := F)) Variants.none (c : Thread nD τ) none) Set.univ (bodyAt0 t) (fun _ => post m c t) := by
  by_cases h0 : t.val = 0
  · exact at_first m c t h0
  by_cases h1 : t.val % 12 < 4
  · exact at_q m c t h0 h1
  by_cases h2 : t.val % 12 < 8
  · exact at_k m c t ⟨by omega, h2⟩
  by_cases h3 : t.val % 12 = 11
  · exact at_last m c t h3
  exact at_v m c t (by omega) h3

theorem defs₀_row (t : Fin cfg0.N) :
    (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

theorem phi_in (c : Dev nD) : Pipeline.ΦA spec0 c ⊢ ((dats m 0 c).Φ 0 : sProp 𝕄) := by
  rw [show (dats m 0 c).Φ 0 = inv m c 0 from by dsimp only [dats]; rfl]
  unfold Pipeline.ΦA inv
  rw [scopedRest0_eq c]
  iintro ⟨⟨%f, H⟩, Hr⟩
  isplitl [H]
  · iexists f; isplitr
    · ipureintro; intro h; exact absurd h (Nat.lt_irrefl 0)
    iexact H
  iexact Hr

theorem phi_out (c : Dev nD) : (dats m 0 c).Φ (Fin.last cfg0.N) ⊢ (Pipeline.ΦA spec0 c : sProp 𝕄) := by
  rw [show (dats m 0 c).Φ (Fin.last cfg0.N) = inv m c cfg0.N from by dsimp only [dats]; rfl]
  unfold Pipeline.ΦA inv
  rw [scopedRest0_eq c]
  iintro ⟨⟨%f, -, H⟩, Hr⟩
  isplitl [H]
  · iexists f; iexact H
  iexact Hr

set_option backward.isDefEq.respectTransparency.types false in
theorem run_main : θ_run (defs (F := F)) (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hin := phi_in m) (hout := phi_out m)

/-- The run: the arguments end as they were, the results are what the launch's blocks make them, every counter is zero. -/
theorem run : θ_run (defs (F := F)) (onTc (τ := τ) (main (F := F))) ⟨m, fun _ => 0, ρ⟩ (fun r => (∀ c : Dev nD,
      (r.2.mem ((c.tc : Thread nD τ).loc main_v6_0) = (dats m 0 c).arrAt 3 (Fin.last cfg0.N)
      ∧ r.2.mem ((c.tc : Thread nD τ).loc main_v6_1) = (dats m 0 c).arrAt 4 (Fin.last cfg0.N)
      ∧ r.2.mem ((c.tc : Thread nD τ).loc main_v6_2) = (dats m 0 c).arrAt 5 (Fin.last cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun _ ⟨h, hz⟩ => ⟨fun c => ⟨⟨(h c).1 3, (h c).1 4, (h c).1 5⟩,
      ((h c).2 main_arg0 (Pipeline.mem_restRefs_of main_arg0 (by decide) (by decide))).trans
        (V_arg m c main_arg0 (by decide) (by decide) (by decide) (by decide) (by decide) (by decide)),
      ((h c).2 main_arg1 (Pipeline.mem_restRefs_of main_arg1 (by decide) (by decide))).trans
        (V_arg m c main_arg1 (by decide) (by decide) (by decide) (by decide) (by decide) (by decide)),
      ((h c).2 main_arg2 (Pipeline.mem_restRefs_of main_arg2 (by decide) (by decide))).trans
        (V_arg m c main_arg2 (by decide) (by decide) (by decide) (by decide) (by decide) (by decide))⟩, hz⟩) (run_main m ρ)

end Cert.Kernel9Ideal.QkvSample

end
-- ==== Proof.QkvSample.Value.lean ====
module

public import proofs.«01_k».proof.Proof.QkvSample.Run
public import proofs.«01_k».proof.Proof.Gen.Reference9Ideal.Run
public import Idealize.ShloMosaic.Lib.Pipeline.ValueKit
public import Idealize.ShloMosaic.Lib.Pointwise

@[expose] public section

/-!
# The sample's projection onto queries, keys and values: what the three results hold

A tile of rows is normalised into the scratch array, and every point of the launch multiplies it by a
tile of columns; so each place of a result is the reference's sum.
-/

set_option maxRecDepth 16384

noncomputable section

namespace Cert.Reference9Ideal.QkvSample

open Cert.Reference9Ideal Cert.Reference9Ideal.Gen
open Idealize.ShloMosaic Idealize.ShloMosaic.TcCoe
open scoped BigOperators

/-- The factor that a row is multiplied by: one over its root mean square, from the sum of its squares. -/
def rms (s : EReal) : EReal :=
  Ideal.rsqrt (Ideal.div s (Ideal.ofBits .f32 0x45800000#32) + Ideal.ofBits .f32 0x358637BD#32)

variable (x : FVec Ideal S8x16x4096 .f32) (g : FVec Ideal S2x4096 .f32) (w : FVec Ideal S1x4096x12288 .f32)

/-- The sequence and the place in it of a row. -/
def hi (r : Fin 128) : Fin 8 := ⟨r.val / 16, by omega⟩
def lo (r : Fin 128) : Fin 16 := ⟨r.val % 16, by omega⟩
/-- A column of one of the three parts, among all. -/
def part (p : Fin 3) (d : Fin 4096) : Fin 12288 := ⟨p.val * 4096 + d.val, by omega⟩

/-- A row, normalised. -/
def rowN (r : Fin 128) (k : Fin 4096) : EReal :=
  x (ix3 (hi r) (lo r) k) * rms (∑ j : Fin 4096, (x (ix3 (hi r) (lo r) j) * x (ix3 (hi r) (lo r) j) : EReal)) * g (ix2 0 k)

/-- One place of the projection. -/
def proj (r : Fin 128) (d : Fin 12288) : EReal := ∑ k : Fin 4096, rowN x g r k * (w (ix3 0 k d) : EReal)

/-- The whole projection, as the reference computes it. -/
def prodF : FVec Ideal S8x16x12288 .f32 :=
  Host.dotGeneral dot_S8x16x4096_S4096x12288_S8x16x12288_2_0_01_1_n_n none (mulf (mulf x (broadcastInDim S8x16x4096 ![0, 1, 2]
    bcast_S8x16x1_S8x16x4096_0_1_2 (Host.rsqrt (addf (Host.divf (broadcastInDim S8x16x1 ![0, 1] bcast_S8x16_S8x16x1_0_1
      (Host.reduceAdd (mulf x x) (constant S_ .f32 0x00000000#32) reducesTo_S8x16x4096_S8x16_d2 h_S_))
      (broadcastInDim S8x16x1 ![] bcast_S_S8x16x1 (constant S_ .f32 0x45800000#32)))
      (broadcastInDim S8x16x1 ![] bcast_S_S8x16x1 (constant S_ .f32 0x358637BD#32))))))
    (broadcastInDim S8x16x4096 ![0, 1, 2] bcast_S1x1x4096_S8x16x4096_0_1_2 (broadcastInDim S1x1x4096 ![2] bcast_S4096_S1x1x4096_2
      (shapeCast _ (extractStridedSlice S1x4096 ![0, 0] g slices_S2x4096_S1x4096_0_0) shapeCasts_S1x4096_S4096))))
    (shapeCast _ w shapeCasts_S1x4096x12288_S4096x12288)

theorem prodF_apply (b : Fin 8) (s : Fin 16) (d : Fin 12288) : (prodF x g w (ix3 b s d) : EReal)
    = ∑ k : Fin 4096, (x (ix3 b s k) * rms (∑ j : Fin 4096, (x (ix3 b s j) * x (ix3 b s j) : EReal)) * g (ix2 0 k)) * (w (ix3 0 k d) : EReal) := by
  pointwise [prodF, rms]

/-- A third of an array of all the columns. -/
def cut0 (P : FVec Ideal S8x16x12288 .f32) : FVec Ideal S128x4096 .f32 :=
  shapeCast _ (extractStridedSlice S128x1x4096 ![0, 0, 0] (shapeCast _ P shapeCasts_S8x16x12288_S128x3x4096)
    slices_S128x3x4096_S128x1x4096_0_0_0) shapeCasts_S128x1x4096_S128x4096
def cut1 (P : FVec Ideal S8x16x12288 .f32) : FVec Ideal S128x4096 .f32 :=
  shapeCast _ (extractStridedSlice S128x1x4096 ![0, 1, 0] (shapeCast _ P shapeCasts_S8x16x12288_S128x3x4096)
    slices_S128x3x4096_S128x1x4096_0_1_0) shapeCasts_S128x1x4096_S128x4096
def cut2 (P : FVec Ideal S8x16x12288 .f32) : FVec Ideal S128x4096 .f32 :=
  shapeCast _ (extractStridedSlice S128x1x4096 ![0, 2, 0] (shapeCast _ P shapeCasts_S8x16x12288_S128x3x4096)
    slices_S128x3x4096_S128x1x4096_0_2_0) shapeCasts_S128x1x4096_S128x4096

theorem cut0_apply (P : FVec Ideal S8x16x12288 .f32) (r : Fin 128) (d : Fin 4096) :
    (cut0 P (ix2 r d) : EReal) = P (ix3 (hi r) (lo r) (part 0 d)) := by
  pointwise [cut0, hi, lo, part]
theorem cut1_apply (P : FVec Ideal S8x16x12288 .f32) (r : Fin 128) (d : Fin 4096) :
    (cut1 P (ix2 r d) : EReal) = P (ix3 (hi r) (lo r) (part 1 d)) := by
  pointwise [cut1, hi, lo, part]
theorem cut2_apply (P : FVec Ideal S8x16x12288 .f32) (r : Fin 128) (d : Fin 4096) :
    (cut2 P (ix2 r d) : EReal) = P (ix3 (hi r) (lo r) (part 2 d)) := by
  pointwise [cut2, hi, lo, part]

/-- What the reference leaves, from its arguments. -/
def refQ : FVec Ideal S128x4096 .bf16 :=
  truncf .bf16 (mulf (cut0 (prodF x g w)) (broadcastInDim S128x4096 ![] bcast_S_S128x4096 (constant S_ .f32 0x3DB504F3#32))) bitsLt_bf16_f32
def refK : FVec Ideal S128x4096 .f32 := cut1 (prodF x g w)
def refV : FVec Ideal S128x4096 .f32 := cut2 (prodF x g w)

theorem refQ_apply (r : Fin 128) (d : Fin 4096) :
    (refQ x g w (ix2 r d) : EReal) = proj x g w r (part 0 d) * Ideal.ofBits .f32 0x3DB504F3#32 := by
  have h : (refQ x g w (ix2 r d) : EReal) = cut0 (prodF x g w) (ix2 r d) * Ideal.ofBits .f32 0x3DB504F3#32 := by
    pointwise [refQ]
  rw [h, cut0_apply, prodF_apply]
  rfl
theorem refK_apply (r : Fin 128) (d : Fin 4096) : (refK x g w (ix2 r d) : EReal) = proj x g w r (part 1 d) := by
  unfold refK
  rw [cut1_apply, prodF_apply]
  rfl
theorem refV_apply (r : Fin 128) (d : Fin 4096) : (refV x g w (ix2 r d) : EReal) = proj x g w r (part 2 d) := by
  unfold refV
  rw [cut2_apply, prodF_apply]
  rfl

end Cert.Reference9Ideal.QkvSample

namespace Cert.Kernel9Ideal.QkvSample

open Cert.Kernel9Ideal Cert.Kernel9Ideal.Gen Cert.Reference9Ideal.QkvSample
open Idealize.ShloMosaic Idealize.ShloMosaic.TcCoe
open scoped BigOperators

variable (m : (ℓ : Loc nD τ sig) → Buf (Elt Ideal) ℓ) (c : Dev nD)

abbrev argX : FVec Ideal S8x16x4096 .f32 := m ((c.tc : Thread nD τ).loc main_arg0)
abbrev argG : FVec Ideal S2x4096 .f32 := m ((c.tc : Thread nD τ).loc main_arg1)
abbrev argW : FVec Ideal S1x4096x12288 .f32 := m ((c.tc : Thread nD τ).loc main_arg2)

/-- The arrays that the launch finds. -/
theorem V_x (r : Fin 128) (k : Fin 4096) : (V m c main_v0 (ix2 r k) : EReal) = argX m c (ix3 (hi r) (lo r) k) := by
  have e : V m c main_v0 = shapeCast S128x4096 (argX m c) shapeCasts_S8x16x4096_S128x4096 := by
    unfold V
    after_results
    rfl
  rw [e]
  pointwise [hi, lo]
theorem V_g (d : Fin 4096) : (V m c main_v5 (ix2 0 d) : EReal) = argG m c (ix2 0 d) := by
  have e : V m c main_v5 = shapeCast S1x4096 (shapeCast S4096 (extractStridedSlice S1x4096 ![0, 0] (argG m c)
      slices_S2x4096_S1x4096_0_0) shapeCasts_S1x4096_S4096) shapeCasts_S4096_S1x4096 := by
    unfold V
    after_results
    rfl
  rw [e]
  pointwise
theorem V_w (k : Fin 4096) (d : Fin 12288) : (V m c main_v2 (ix2 k d) : EReal) = argW m c (ix3 0 k d) := by
  have e : V m c main_v2 = truncf .bf16 (shapeCast S4096x12288 (argW m c) shapeCasts_S1x4096x12288_S4096x12288) bitsLt_bf16_f32 := by
    unfold V
    after_results
    rfl
  rw [e]
  pointwise

theorem pay1_apply (x : FVec Ideal S128x4096 .f32) (g : FVec Ideal S1x4096 .f32) (r : Fin 128) (d : Fin 4096) :
    (k0_pay1 (F := Ideal) x g (ix3 0 r d) : EReal)
      = x (ix2 r d) * rms (∑ k : Fin 4096, (x (ix2 r k) * x (ix2 r k) : EReal)) * g (ix2 0 d) := by
  pointwise [k0_pay1, rms]
theorem pay2_apply (x : FVec Ideal S1x128x4096 .bf16) (w : FVec Ideal S4096x1024 .bf16) (r : Fin 128) (d : Fin 1024) :
    (k0_pay2 (F := Ideal) x w (ix2 r d) : EReal)
      = (∑ k : Fin 4096, (x (ix3 0 r k) * w (ix2 k d) : EReal)) * Ideal.ofBits .f32 0x3DB504F3#32 := by
  pointwise [k0_pay2]
theorem pay3_apply (x : FVec Ideal S1x128x4096 .bf16) (w : FVec Ideal S4096x1024 .bf16) (r : Fin 128) (d : Fin 1024) :
    (k0_pay3 (F := Ideal) x w (ix2 r d) : EReal) = ∑ k : Fin 4096, (x (ix3 0 r k) * w (ix2 k d) : EReal) := by
  pointwise [k0_pay3]
theorem pay4_apply (x : FVec Ideal S1x128x4096 .bf16) (w : FVec Ideal S4096x1024 .bf16) (r : Fin 128) (d : Fin 1024) :
    (k0_pay4 (F := Ideal) x w (ix2 r d) : EReal) = ∑ k : Fin 4096, (x (ix3 0 r k) * w (ix2 k d) : EReal) := by
  pointwise [k0_pay4]

/-- The point that prepares the rows of a point's tile. -/
abbrev prep (t : Fin cfg0.N) : Fin cfg0.N := pt (12 * (t.val / 12) - 1)

theorem idx0 : ∀ t : Fin cfg0.N, win0_0.index (prep t) = ![t.val / 12, 0] :=
  (by decide +kernel : ∀ t : Fin grid0.N, win0_0.index (⟨(12 * (t.val / 12) - 1) % 12, _⟩ : Fin grid0.N) = _)
theorem idx1 : ∀ t : Fin cfg0.N, win0_1.index t = ![0, 0] :=
  (by decide +kernel : ∀ t : Fin grid0.N, _)
theorem idx2 : ∀ t : Fin cfg0.N, win0_2.index t = ![0, t.val % 12] :=
  (by decide +kernel : ∀ t : Fin grid0.N, _)
theorem idx3 : ∀ t : Fin cfg0.N, win0_3.index t = ![t.val / 12, min (t.val % 12) 3] :=
  (by decide +kernel : ∀ t : Fin grid0.N, _)
theorem idx4 : ∀ t : Fin cfg0.N, win0_4.index t = ![t.val / 12, min (t.val % 12 - 4) 3] :=
  (by decide +kernel : ∀ t : Fin grid0.N, _)
theorem idx5 : ∀ t : Fin cfg0.N, win0_5.index t = ![t.val / 12, t.val % 12 - 8] :=
  (by decide +kernel : ∀ t : Fin grid0.N, _)

variable (t : Fin cfg0.N)

/-- A row of a point's tile, in the array. -/
def row (r : Fin 128) : Fin 128 := ⟨t.val / 12 * 128 + r.val, by have := lt_N t; omega⟩
/-- A column of a point's tile of weights. -/
def col (d : Fin 1024) : Fin 12288 := ⟨t.val % 12 * 1024 + d.val, by omega⟩

theorem iblk0_apply (r : Fin 128) (k : Fin 4096) :
    (iblk m c 0 (prep t) (ix2 r k) : EReal) = argX m c (ix3 (hi (row t r)) (lo (row t r)) k) := by
  have h : (win0_0.blk (prep t)).view.emb (ix2 r k) = ix2 (row t r) k := by
    unfold row
    blk_ext [idx0]
  exact (congrArg (V m c main_v0) h).trans (V_x m c _ _)
theorem iblk1_apply (d : Fin 4096) : (iblk m c 1 t (ix2 0 d) : EReal) = argG m c (ix2 0 d) := by
  have h : (win0_1.blk t).view.emb (ix2 0 d) = ix2 0 d := by
    blk_ext [idx1]
  exact (congrArg (V m c main_v5) h).trans (V_g m c _)
theorem iblk2_apply (k : Fin 4096) (d : Fin 1024) : (iblk m c 2 t (ix2 k d) : EReal) = argW m c (ix3 0 k (col t d)) := by
  have h : (win0_2.blk t).view.emb (ix2 k d) = ix2 k (col t d) := by
    unfold col
    blk_ext [idx2]
  exact (congrArg (V m c main_v2) h).trans (V_w m c _ _)

/-- The normalised rows of a point's tile. -/
theorem nrm_apply (r : Fin 128) (k : Fin 4096) :
    (nrm m c (t.val / 12) (ix3 0 r k) : EReal) = rowN (argX m c) (argG m c) (row t r) k := by
  refine (pay1_apply _ _ r k).trans ?_
  rw [iblk1_apply, iblk0_apply]
  refine congrArg (fun s : EReal => _ * rms s * _) (Finset.sum_congr rfl fun k _ => ?_)
  rw [iblk0_apply]

/-- A point's tile of products. -/
theorem sum_eq (u : Fin cfg0.N) (r : Fin 128) (d : Fin 1024) :
    (∑ k : Fin 4096, (nrm m c (t.val / 12) (ix3 0 r k) * iblk m c 2 u (ix2 k d) : EReal))
      = proj (argX m c) (argG m c) (argW m c) (row t r) (col u d) := by
  refine Finset.sum_congr rfl fun k _ => ?_
  rw [nrm_apply, iblk2_apply]

/-- A column of a point's tile of a result. -/
def colQ (d : Fin 1024) : Fin 4096 := ⟨min (t.val % 12) 3 * 1024 + d.val, by omega⟩
def colK (d : Fin 1024) : Fin 4096 := ⟨min (t.val % 12 - 4) 3 * 1024 + d.val, by omega⟩
def colV (d : Fin 1024) : Fin 4096 := ⟨(t.val % 12 - 8) * 1024 + d.val, by omega⟩

theorem blockQ (r : Fin 128) (d : Fin 1024) : (outQ m c t.val (ix2 r d) : EReal)
    = refQ (argX m c) (argG m c) (argW m c) (ix2 (row t r) (colQ t d)) := by
  refine (pay2_apply _ _ r d).trans (Eq.trans ?_ (refQ_apply _ _ _ _ _).symm)
  rw [sum_eq]
  have e : col (pt (12 * (t.val / 12) + min (t.val % 12) 3)) d = part 0 (colQ t d) := Fin.ext (by
    have := lt_N t
    simp only [col, part, colQ, pt]
    have h : (12 * (t.val / 12) + min (t.val % 12) 3) % 12 % 12 = min (t.val % 12) 3 := by omega
    rw [h]
    simp)
  rw [e]
theorem blockK (h4 : 4 ≤ t.val % 12) (r : Fin 128) (d : Fin 1024) : (outK m c t.val (ix2 r d) : EReal)
    = refK (argX m c) (argG m c) (argW m c) (ix2 (row t r) (colK t d)) := by
  refine (pay3_apply _ _ r d).trans (Eq.trans ?_ (refK_apply _ _ _ _ _).symm)
  rw [sum_eq]
  have e : col (pt (12 * (t.val / 12) + min (t.val % 12) 7)) d = part 1 (colK t d) := Fin.ext (by
    have := lt_N t
    simp only [col, part, colK, pt]
    have h : (12 * (t.val / 12) + min (t.val % 12) 7) % 12 % 12 = min (t.val % 12 - 4) 3 + 4 := by omega
    rw [h]
    show _ = 1 * 4096 + _
    omega)
  rw [e]
theorem blockV (h8 : 8 ≤ t.val % 12) (r : Fin 128) (d : Fin 1024) : (outV m c t.val (ix2 r d) : EReal)
    = refV (argX m c) (argG m c) (argW m c) (ix2 (row t r) (colV t d)) := by
  refine (pay4_apply _ _ r d).trans (Eq.trans ?_ (refV_apply _ _ _ _ _).symm)
  rw [sum_eq, pt_eq t rfl]
  have e : col t d = part 2 (colV t d) := Fin.ext (by
    show t.val % 12 * 1024 + d.val = 2 * 4096 + ((t.val % 12 - 8) * 1024 + d.val)
    omega)
  rw [e]

theorem finalQ : (dats m 0 c).arrAt 3 cfg0.N = refQ (argX m c) (argG m c) (argW m c) := by
  refine (dats m 0 c).arrAt_eq_of_covers 3 _ (by decide +kernel) fun t hf y => ?_
  blk_simp
  rw [after_3]
  have hy : y = ix2 (n0 := 128) (n1 := 1024) (y 0) (y 1) := eq_ix2 (n0 := 128) (n1 := 1024) y
  have h : (win0_3.blk t).view.emb (ix2 (n0 := 128) (n1 := 1024) (y 0) (y 1)) = ix2 (row t (y 0)) (colQ t (y 1)) := by
    unfold row colQ
    blk_ext [idx3]
  rw [hy, h]
  exact blockQ m c t (y 0) (y 1)
theorem finalK : (dats m 0 c).arrAt 4 cfg0.N = refK (argX m c) (argG m c) (argW m c) := by
  refine (dats m 0 c).arrAt_eq_of_covers 4 _ (by decide +kernel) fun t hf y => ?_
  have h4 : 4 ≤ t.val % 12 := by
    have := (flush_4 t).symm.trans hf
    simp only [decide_eq_true_eq] at this
    omega
  blk_simp
  rw [after_4]
  have hy : y = ix2 (n0 := 128) (n1 := 1024) (y 0) (y 1) := eq_ix2 (n0 := 128) (n1 := 1024) y
  have h : (win0_4.blk t).view.emb (ix2 (n0 := 128) (n1 := 1024) (y 0) (y 1)) = ix2 (row t (y 0)) (colK t (y 1)) := by
    unfold row colK
    blk_ext [idx4]
  rw [hy, h]
  exact blockK m c t h4 (y 0) (y 1)
theorem finalV : (dats m 0 c).arrAt 5 cfg0.N = refV (argX m c) (argG m c) (argW m c) := by
  refine (dats m 0 c).arrAt_eq_of_covers 5 _ (by decide +kernel) fun t hf y => ?_
  have h8 : 8 ≤ t.val % 12 := by
    have := (flush_5 t).symm.trans hf
    simpa only [decide_eq_true_eq] using this
  blk_simp
  rw [after_5]
  have hy : y = ix2 (n0 := 128) (n1 := 1024) (y 0) (y 1) := eq_ix2 (n0 := 128) (n1 := 1024) y
  have h : (win0_5.blk t).view.emb (ix2 (n0 := 128) (n1 := 1024) (y 0) (y 1)) = ix2 (row t (y 0)) (colV t (y 1)) := by
    unfold row colV
    blk_ext [idx5]
  rw [hy, h]
  exact blockV m c t h8 (y 0) (y 1)

end Cert.Kernel9Ideal.QkvSample

end
-- ==== Proof.KvqSample.Body.lean ====
module

public import proofs.«01_k».proof.Proof.Gen.Kernel10Ideal.Points
public import proofs.«01_k».proof.Proof.Gen.Kernel10Ideal.Launch
public import proofs.«01_k».proof.Proof.Gen.Kernel10Ideal.Skeleton
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.Writes
public import Idealize.ShloMosaic.Lib.WritesUnit
public import Idealize.ShloMosaic.Lib.VecWindow
public import Idealize.ShloMosaic.Lib.Pointwise.Index

@[expose] public section

/-!
# The sample's projection onto the shared keys and values and the second layer's queries: its body at a point of the grid.
-/

set_option maxRecDepth 16384

noncomputable section

namespace Cert.Kernel10Ideal.KvqSample

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-- The condition of the first point. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem cond1_iff : ∀ t : Fin grid0.N, cond1 (grid0.coords t) = 1#1 ↔ t.val = 0 := by decide +kernel
theorem cond2_iff : ∀ t : Fin grid0.N, k0_cond2 (grid0.coords t) = 1#1 ↔ t.val % 6 < 2 := by decide +kernel
theorem cond3_iff : ∀ t : Fin grid0.N, k0_cond3 (grid0.coords t) = 1#1 ↔ 2 ≤ t.val % 6 ∧ t.val % 6 < 5 := by decide +kernel
theorem cond4_iff : ∀ t : Fin grid0.N, k0_cond4 (grid0.coords t) = 1#1 ↔ t.val % 6 = 5 := by decide +kernel
theorem off1_eq : ∀ t : Fin grid0.N, k0_off1 (grid0.coords t) = ![0, t.val / 6 % 2, 0, 0] := by decide +kernel
theorem off2_eq : ∀ t : Fin grid0.N, k0_off2 (grid0.coords t) = ![1, t.val / 6 % 2, 0, 0] := by decide +kernel
theorem off3_eq : ∀ t : Fin grid0.N, k0_off3 (grid0.coords t) = ![1, t.val / 6 % 2, 0, 0] := by decide +kernel
theorem off4_eq : ∀ t : Fin grid0.N, k0_off4 (grid0.coords t) = ![0, (t.val / 6 + 1) % 2, 0, 0] := by decide +kernel
theorem off5_eq : ∀ t : Fin grid0.N, k0_off5 (grid0.coords t) = ![1, (t.val / 6 + 1) % 2, 0, 0] := by decide +kernel

/-- A tile's rows, normalised. -/
def normed (X : Vec F S128x4096 .f32) (g : Vec F S1x4096 .f32) : Vec F S1x1x128x4096 .bf16 := k0_pay2 X g

/-- Both normalised tiles, as an array of the scratch array's shape. -/
def both (X : Vec F S128x4096 .f32) (g g' : Vec F S1x4096 .f32) : Vec F S2x2x128x4096 .bf16 :=
  fun y => if (y 0).val = 0 then normed X g (ix4 0 0 (y 2) (y 3)) else normed X g' (ix4 0 0 (y 2) (y 3))

section
variable (c : Dev nD) (i : grid0.Coords)
  (a2 : Memref sig .tc .vmem S128x4096 .f32) (h2 : a2.IsWhole) (a3 : Memref sig .tc .vmem S1x4096 .f32) (h3 : a3.IsWhole)
  (a4 : Memref sig .tc .vmem S1x4096 .f32) (h4 : a4.IsWhole) (a5 : Memref sig .tc .vmem S4096x1024 .bf16) (h5 : a5.IsWhole)
  (a6 : Memref sig .tc .vmem S128x1024 .f32) (h6 : a6.IsWhole) (a7 : Memref sig .tc .vmem S128x1024 .bf16) (h7 : a7.IsWhole)
  (a8 : Memref sig .tc .vmem S2x2x128x4096 .bf16) (h8 : a8.IsWhole)

/-- A slot of the scratch array holds `X`. -/
def Slot (o : Fin 4 → ℕ) (X : Vec F S1x1x128x4096 .bf16) (f : Buf (Elt F) (a8.view.loc (c : Thread nD τ))) : Prop :=
  ∀ h : ∀ a, o a + S1x1x128x4096.size a ≤ S2x2x128x4096.size a,
    a8.view.readAt (Elt F) (Rect.unit (s := S2x2x128x4096) o S1x1x128x4096.size h).toLoadRect f = X

/-- A store over a whole buffer leaves what is stored. -/
theorem read_full {sp : Space} {s : Shape} {e : EltTy} (v : View sig .tc sp s e) (f : v.ty.Contents (Elt F)) {off : Fin s.rank → ℕ}
    (inb : ∀ a, off a + s.size a ≤ s.size a) (w : s.Idx → Elt F e) :
    v.read (Elt F) (v.writes (Elt F) f [⟨Rect.unit off s.size inb, w⟩]) = w := View.read_writes_full v f inb w []

theorem Slot.congr {o o' : Fin 4 → ℕ} (h : o = o') {X : Vec F S1x1x128x4096 .bf16} {f} (hs : Slot c a8 o X f) : Slot c a8 o' X f := h ▸ hs

/-- A stored piece agrees with the normalised tiles. -/
theorem piece_agrees (X : Vec F S128x4096 .f32) (g g' h : Vec F S1x4096 .f32) (b s : ℕ) (o : Fin 4 → ℕ)
    (inb : ∀ a, o a + S1x1x128x4096.size a ≤ S2x2x128x4096.size a) (ho : o = ![b, s, 0, 0]) (hh : h = if b = 0 then g else g')
    (x : S1x1x128x4096.Idx) :
    normed X h x = both X g g' ((Rect.unit (s := S2x2x128x4096) o S1x1x128x4096.size inb).emb x) := by
  subst ho
  have x0 : (x 0).val = 0 := by have : (x 0).val < 1 := (x 0).isLt; omega
  have x1 : (x 1).val = 0 := by have : (x 1).val < 1 := (x 1).isLt; omega
  have e0 : ((Rect.unit (s := S2x2x128x4096) ![b, s, 0, 0] S1x1x128x4096.size inb).emb x 0).val = b := by
    show b + 1 * (x 0).val = b; omega
  have ez : (ix4 0 0 ((Rect.unit (s := S2x2x128x4096) ![b, s, 0, 0] S1x1x128x4096.size inb).emb x 2)
      ((Rect.unit (s := S2x2x128x4096) ![b, s, 0, 0] S1x1x128x4096.size inb).emb x 3) : S1x1x128x4096.Idx) = x := funext fun a => by
    match a with
    | ⟨0, _⟩ => exact Fin.ext x0.symm
    | ⟨1, _⟩ => exact Fin.ext x1.symm
    | ⟨2, _⟩ => exact Fin.ext (show 0 + 1 * (x 2).val = (x 2).val by omega)
    | ⟨3, _⟩ => exact Fin.ext (show 0 + 1 * (x 3).val = (x 3).val by omega)
  unfold both
  rw [ez, e0, hh]
  split <;> rfl

/-- A place of a piece. -/
theorem mem_piece (b s : ℕ) (o : Fin 4 → ℕ) (inb : ∀ a, o a + S1x1x128x4096.size a ≤ S2x2x128x4096.size a) (ho : o = ![b, s, 0, 0])
    (y : S2x2x128x4096.Idx) (h0 : (y 0).val = b) (h1 : (y 1).val = s) :
    y ∈ (Rect.unit (s := S2x2x128x4096) o S1x1x128x4096.size inb).set := by
  subst ho
  have y2 : (y 2).val < 128 := (y 2).isLt
  have y3 : (y 3).val < 4096 := (y 3).isLt
  refine (LoadRect.mem_set _).mpr fun a => ?_
  match a with
  | ⟨0, _⟩ => exact ⟨0, Nat.zero_lt_one, h0⟩
  | ⟨1, _⟩ => exact ⟨0, Nat.zero_lt_one, h1⟩
  | ⟨2, _⟩ => exact ⟨(y 2).val, y2, show (y 2).val = 0 + 1 * (y 2).val by omega⟩
  | ⟨3, _⟩ => exact ⟨(y 3).val, y3, show (y 3).val = 0 + 1 * (y 3).val by omega⟩

/-- Two stores make both normalised tiles. -/
theorem slots_of_pieces (X : Vec F S128x4096 .f32) (g g' : Vec F S1x4096 .f32) (s : ℕ) (f : Buf (Elt F) (a8.view.loc (c : Thread nD τ)))
    (o4 o5 : Fin 4 → ℕ)
    (i4 : ∀ a, o4 a + S1x1x128x4096.size a ≤ S2x2x128x4096.size a) (i5 : ∀ a, o5 a + S1x1x128x4096.size a ≤ S2x2x128x4096.size a)
    (h4 : o4 = ![0, s, 0, 0]) (h5 : o5 = ![1, s, 0, 0])
    (P4 P5 : Vec F S1x1x128x4096 .bf16) (p4 : P4 = normed X g) (p5 : P5 = normed X g') :
    Slot c a8 ![0, s, 0, 0] (normed X g) (a8.view.writes (Elt F) f
      [⟨Rect.unit (s := S2x2x128x4096) o5 S1x1x128x4096.size i5, P5⟩, ⟨Rect.unit (s := S2x2x128x4096) o4 S1x1x128x4096.size i4, P4⟩])
    ∧ Slot c a8 ![1, s, 0, 0] (normed X g') (a8.view.writes (Elt F) f
      [⟨Rect.unit (s := S2x2x128x4096) o5 S1x1x128x4096.size i5, P5⟩, ⟨Rect.unit (s := S2x2x128x4096) o4 S1x1x128x4096.size i4, P4⟩]) := by
  subst p4 p5
  have hG : ∀ p ∈ ([⟨Rect.unit (s := S2x2x128x4096) o5 S1x1x128x4096.size i5, normed X g'⟩,
      ⟨Rect.unit (s := S2x2x128x4096) o4 S1x1x128x4096.size i4, normed X g⟩] : List (View.Piece (Elt F) S2x2x128x4096 .bf16)),
      ∀ x : p.1.shape.Idx, p.2 x = both X g g' (p.1.emb x) := by
    refine List.forall_mem_cons.mpr ⟨piece_agrees X g g' g' 1 s o5 i5 h5 rfl, ?_⟩
    refine List.forall_mem_cons.mpr ⟨piece_agrees X g g' g 0 s o4 i4 h4 rfl, ?_⟩
    exact fun _ h => absurd h List.not_mem_nil
  have hr : ∀ y : S2x2x128x4096.Idx, (y 1).val = s → a8.view.read (Elt F) (a8.view.writes (Elt F) f
      [⟨Rect.unit (s := S2x2x128x4096) o5 S1x1x128x4096.size i5, normed X g'⟩,
       ⟨Rect.unit (s := S2x2x128x4096) o4 S1x1x128x4096.size i4, normed X g⟩]) y = both X g g' y := by
    intro y hy
    refine View.read_writes_apply_of_pieces a8.view f (both X g g') _ hG y ?_
    have y0 : (y 0).val < 2 := (y 0).isLt
    rcases (by omega : (y 0).val = 0 ∨ (y 0).val = 1) with e0 | e0
    · exact ⟨_, .tail _ (.head _), mem_piece 0 s o4 i4 h4 y e0 hy⟩
    · exact ⟨_, .head _, mem_piece 1 s o5 i5 h5 y e0 hy⟩
  have e1 : ∀ (b : ℕ) (h : ∀ a, (![b, s, 0, 0] : Fin 4 → ℕ) a + S1x1x128x4096.size a ≤ S2x2x128x4096.size a) (x : S1x1x128x4096.Idx),
      ((Rect.unit (s := S2x2x128x4096) ![b, s, 0, 0] S1x1x128x4096.size h).emb x 1).val = s := by
    intro b h x
    have x1 : (x 1).val < 1 := (x 1).isLt
    show s + 1 * (x 1).val = s
    omega
  exact ⟨fun h => funext fun x => (hr _ (e1 0 h x)).trans (piece_agrees X g g' g 0 s _ h rfl rfl x).symm,
    fun h => funext fun x => (hr _ (e1 1 h x)).trans (piece_agrees X g g' g' 1 s _ h rfl rfl x).symm⟩

/-- At a point of the keys' and values' columns. -/
theorem body_kv (hc1 : ¬ cond1 i = 1#1) (hc2 : k0_cond2 i = 1#1) (hc3 : ¬ k0_cond3 i = 1#1) (hc4 : ¬ k0_cond4 i = 1#1)
    (X5 : Vec F S4096x1024 .bf16) (X8 : Vec F S1x1x128x4096 .bf16) (f8) (hs : Slot c a8 (k0_off1 i) X8 f8) (K : PUnit → sProp 𝕄) :
    iprop(owns (c : Thread nD τ) a5 fullShare X5 ∗ (∃ d, owns (c : Thread nD τ) a6 fullShare d) ∗ (a8.view.loc (c : Thread nD τ) ↦{fullShare} f8)
      ∗ (owns (c : Thread nD τ) a5 fullShare X5 ∗ owns (c : Thread nD τ) a6 fullShare (k0_pay4 X8 X5) ∗ (a8.view.loc (c : Thread nD τ) ↦{fullShare} f8) -∗ K ⟨⟩))
    ⊢ wp frame (wpE (defs₀ (F := F)) Variants.none (c : Thread nD τ) none) Set.univ
      (cc0__kvq_kernel i a2 h2 a3 h3 a4 h4 a5 h5 a6 h6 a7 h7 a8 h8) K := by
  rw [cc0__kvq_kernel_eq_skeleton]
  unfold cc0__kvq_kernel_skel
  unfold cond1 at hc1
  dsimp only
  simp only [dif_neg hc1, dif_pos hc2, dif_neg hc3, dif_neg hc4]
  unfold owns
  iintro ⟨⟨%f5, %e5, H5⟩, ⟨%d6, %f6, -, H6⟩, H8, Hk⟩
  subst e5
  sl_exec
  sl_step
  iapply Hk
  isplitl [H5]
  · iexists f5; isplitr; · ipureintro; rfl
    iexact H5
  isplitl [H6]
  · iexists _; isplitr
    swap; · iexact H6
    ipureintro
    exact (read_full _ _ _ _).trans (congrArg₂ k0_pay4 (hs _) (View.readAt_full _ _ _))
  iexact H8

/-- At a point of the queries' columns but the last. -/
theorem body_q (hc1 : ¬ cond1 i = 1#1) (hc2 : ¬ k0_cond2 i = 1#1) (hc3 : k0_cond3 i = 1#1) (hc4 : ¬ k0_cond4 i = 1#1)
    (X5 : Vec F S4096x1024 .bf16) (X8 : Vec F S1x1x128x4096 .bf16) (f8) (hs : Slot c a8 (k0_off2 i) X8 f8) (K : PUnit → sProp 𝕄) :
    iprop(owns (c : Thread nD τ) a5 fullShare X5 ∗ (∃ d, owns (c : Thread nD τ) a7 fullShare d) ∗ (a8.view.loc (c : Thread nD τ) ↦{fullShare} f8)
      ∗ (owns (c : Thread nD τ) a5 fullShare X5 ∗ owns (c : Thread nD τ) a7 fullShare (k0_pay5 X8 X5) ∗ (a8.view.loc (c : Thread nD τ) ↦{fullShare} f8) -∗ K ⟨⟩))
    ⊢ wp frame (wpE (defs₀ (F := F)) Variants.none (c : Thread nD τ) none) Set.univ
      (cc0__kvq_kernel i a2 h2 a3 h3 a4 h4 a5 h5 a6 h6 a7 h7 a8 h8) K := by
  rw [cc0__kvq_kernel_eq_skeleton]
  unfold cc0__kvq_kernel_skel
  unfold cond1 at hc1
  dsimp only
  simp only [dif_neg hc1, dif_neg hc2, dif_pos hc3, dif_neg hc4]
  unfold owns
  iintro ⟨⟨%f5, %e5, H5⟩, ⟨%d7, %f7, -, H7⟩, H8, Hk⟩
  subst e5
  sl_exec
  sl_step
  iapply Hk
  isplitl [H5]
  · iexists f5; isplitr; · ipureintro; rfl
    iexact H5
  isplitl [H7]
  · iexists _; isplitr
    swap; · iexact H7
    ipureintro
    exact (read_full _ _ _ _).trans (congrArg₂ k0_pay5 (hs _) (View.readAt_full _ _ _))
  iexact H8

/-- At the last column: the next rows are prepared. -/
theorem body_last (hc1 : ¬ cond1 i = 1#1) (hc2 : ¬ k0_cond2 i = 1#1) (hc3 : ¬ k0_cond3 i = 1#1) (hc4 : k0_cond4 i = 1#1) (s : ℕ) (hsl : s < 2)
    (o4 : k0_off4 i = ![0, s, 0, 0]) (o5 : k0_off5 i = ![1, s, 0, 0])
    (X2 : Vec F S128x4096 .f32) (X3 X4 : Vec F S1x4096 .f32) (X5 : Vec F S4096x1024 .bf16) (X8 : Vec F S1x1x128x4096 .bf16) (f8) (hs : Slot c a8 (k0_off3 i) X8 f8) (K : PUnit → sProp 𝕄) :
    iprop(owns (c : Thread nD τ) a2 fullShare X2 ∗ owns (c : Thread nD τ) a3 fullShare X3 ∗ owns (c : Thread nD τ) a4 fullShare X4
      ∗ owns (c : Thread nD τ) a5 fullShare X5 ∗ (∃ d, owns (c : Thread nD τ) a7 fullShare d) ∗ (a8.view.loc (c : Thread nD τ) ↦{fullShare} f8)
      ∗ (owns (c : Thread nD τ) a2 fullShare X2 ∗ owns (c : Thread nD τ) a3 fullShare X3 ∗ owns (c : Thread nD τ) a4 fullShare X4
        ∗ owns (c : Thread nD τ) a5 fullShare X5 ∗ owns (c : Thread nD τ) a7 fullShare (k0_pay5 X8 X5)
        ∗ (∃ f, ⌜Slot c a8 ![0, s, 0, 0] (normed X2 X3) f ∧ Slot c a8 ![1, s, 0, 0] (normed X2 X4) f⌝ ∗ (a8.view.loc (c : Thread nD τ) ↦{fullShare} f)) -∗ K ⟨⟩))
    ⊢ wp frame (wpE (defs₀ (F := F)) Variants.none (c : Thread nD τ) none) Set.univ
      (cc0__kvq_kernel i a2 h2 a3 h3 a4 h4 a5 h5 a6 h6 a7 h7 a8 h8) K := by
  rw [cc0__kvq_kernel_eq_skeleton]
  unfold cc0__kvq_kernel_skel
  unfold cond1 at hc1
  dsimp only
  simp only [dif_neg hc1, dif_neg hc2, dif_neg hc3, dif_pos hc4]
  simp only [k0_part1_eq_skeleton]
  unfold owns
  iintro ⟨⟨%f2, %e2, H2⟩, ⟨%f3, %e3, H3⟩, ⟨%f4, %e4, H4⟩, ⟨%f5, %e5, H5⟩, ⟨%d7, %f7, -, H7⟩, H8, Hk⟩
  subst e2 e3 e4 e5
  letI : ClosedOff (k0_off4 i) := ⟨_, o4⟩
  letI : ClosedOff (k0_off5 i) := ⟨_, o5⟩
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    exact (read_full _ _ _ _).trans (congrArg₂ k0_pay5 (hs _) (View.readAt_full _ _ _))
  iexists _; isplitr
  swap; · iexact H8
  ipureintro
  exact slots_of_pieces c a8 _ _ _ s f8 _ _ _ _ o4 o5 _ _
    (congrArg₂ k0_pay2 (View.readAt_full _ _ _) (View.readAt_full _ _ _)) (congrArg₂ k0_pay2 (View.readAt_full _ _ _) (View.readAt_full _ _ _))

/-- At the first point. -/
theorem body_first (hc1 : cond1 i = 1#1) (hc2 : k0_cond2 i = 1#1) (hc3 : ¬ k0_cond3 i = 1#1) (hc4 : ¬ k0_cond4 i = 1#1) (ho : k0_off1 i = ![0, 0, 0, 0])
    (X2 : Vec F S128x4096 .f32) (X3 X4 : Vec F S1x4096 .f32) (X5 : Vec F S4096x1024 .bf16) (f8) (K : PUnit → sProp 𝕄) :
    iprop(owns (c : Thread nD τ) a2 fullShare X2 ∗ owns (c : Thread nD τ) a3 fullShare X3 ∗ owns (c : Thread nD τ) a4 fullShare X4
      ∗ owns (c : Thread nD τ) a5 fullShare X5 ∗ (∃ d, owns (c : Thread nD τ) a6 fullShare d) ∗ (a8.view.loc (c : Thread nD τ) ↦{fullShare} f8)
      ∗ (owns (c : Thread nD τ) a2 fullShare X2 ∗ owns (c : Thread nD τ) a3 fullShare X3 ∗ owns (c : Thread nD τ) a4 fullShare X4
        ∗ owns (c : Thread nD τ) a5 fullShare X5 ∗ owns (c : Thread nD τ) a6 fullShare (k0_pay4 (normed X2 X3) X5)
        ∗ (∃ f, ⌜Slot c a8 ![0, 0, 0, 0] (normed X2 X3) f ∧ Slot c a8 ![1, 0, 0, 0] (normed X2 X4) f⌝ ∗ (a8.view.loc (c : Thread nD τ) ↦{fullShare} f)) -∗ K ⟨⟩))
    ⊢ wp frame (wpE (defs₀ (F := F)) Variants.none (c : Thread nD τ) none) Set.univ
      (cc0__kvq_kernel i a2 h2 a3 h3 a4 h4 a5 h5 a6 h6 a7 h7 a8 h8) K := by
  rw [cc0__kvq_kernel_eq_skeleton]
  unfold cc0__kvq_kernel_skel
  unfold cond1 at hc1
  dsimp only
  simp only [dif_pos hc1, dif_pos hc2, dif_neg hc3, dif_neg hc4]
  unfold owns
  iintro ⟨⟨%f2, %e2, H2⟩, ⟨%f3, %e3, H3⟩, ⟨%f4, %e4, H4⟩, ⟨%f5, %e5, H5⟩, ⟨%d6, %f6, -, H6⟩, H8, Hk⟩
  subst e2 e3 e4 e5
  letI : ClosedOff (k0_off1 i) := ⟨_, ho⟩
  sl_exec
  sl_step
  have key := fun f => slots_of_pieces c a8 (a2.view.read (Elt F) f2) (a3.view.read (Elt F) f3) (a4.view.read (Elt F) f4) 0 f _ _
    inb_S2x2x128x4096_S1x1x128x4096_0_0_0_0 inb_S2x2x128x4096_S1x1x128x4096_1_0_0_0 rfl rfl _ _
    (congrArg₂ k0_pay2 (View.readAt_full a2.view f2 inb_S128x4096_S128x4096_0_0) (View.readAt_full a3.view f3 inb_S1x4096_S1x4096_0_0))
    (congrArg₂ k0_pay2 (View.readAt_full a2.view f2 inb_S128x4096_S128x4096_0_0) (View.readAt_full a4.view f4 inb_S1x4096_S1x4096_0_0))
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_full _ _ _ _).trans (congrArg₂ k0_pay4 ?_ (View.readAt_full _ _ _))
    unfold body_first.sl.v27 View.readCov
    exact (key _).1.congr c a8 ho.symm _
  iexists _; isplitr
  swap; · iexact H8
  ipureintro
  exact key f8

end

end Cert.Kernel10Ideal.KvqSample

end
-- ==== Proof.KvqSample.Run.lean ====
module

public import proofs.«01_k».proof.Proof.KvqSample.Body
public import proofs.«01_k».proof.Proof.Gen.Kernel10Ideal.Points
public import proofs.«01_k».proof.Proof.Gen.Kernel10Ideal.Launch
public import proofs.«01_k».proof.Proof.Gen.Kernel10Ideal.Skeleton
public import Idealize.ShloMosaic.Lib.Pipeline
public import Idealize.ShloMosaic.Lib.Pipeline.FrameBody
public import Idealize.ShloMosaic.Lib.Pipeline.Regions
public import Idealize.ShloMosaic.Lib.StableHlo
public import Idealize.ShloMosaic.Lib.Tactic
public import Idealize.ShloMosaic.Lib.Writes
public import Idealize.ShloMosaic.Lib.WritesUnit
public import Idealize.ShloMosaic.Lib.VecWindow
public import Idealize.ShloMosaic.Lib.Pointwise.Index

@[expose] public section

/-!
# The sample's projection onto the shared keys and values and the second layer's queries: the run of the whole program.
-/

set_option maxRecDepth 16384

noncomputable section

namespace Cert.Kernel10Ideal.KvqSample

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The region's entry -/

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

theorem V_arg (c : Dev nD) (b : Ref sig .tc) (h0 : b ≠ main_v0) (h1 : b ≠ main_v1) (h2 : b ≠ main_v2) (h3 : b ≠ main_v3) (h4 : b ≠ main_v4)
    (h5 : b ≠ main_v5) (h6 : b ≠ main_v6) (h7 : b ≠ main_v7) : V m c b = m ((c : Thread nD τ).loc b) :=
  StableHlo.after_of_forall_not_mem (b := Proc.devRef .tc b) _ _ (List.forall_iff_forall_mem.mp
    ⟨fun hm => StableHlo.devRef_ne_of_ne h0 (Finset.mem_singleton.mp hm), fun hm => StableHlo.devRef_ne_of_ne h1 (Finset.mem_singleton.mp hm),
      fun hm => StableHlo.devRef_ne_of_ne h2 (Finset.mem_singleton.mp hm), fun hm => StableHlo.devRef_ne_of_ne h3 (Finset.mem_singleton.mp hm),
      fun hm => StableHlo.devRef_ne_of_ne h4 (Finset.mem_singleton.mp hm), fun hm => StableHlo.devRef_ne_of_ne h5 (Finset.mem_singleton.mp hm),
      fun hm => StableHlo.devRef_ne_of_ne h6 (Finset.mem_singleton.mp hm), fun hm => StableHlo.devRef_ne_of_ne h7 (Finset.mem_singleton.mp hm)⟩)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of a number. -/
def pt (n : ℕ) : Fin cfg0.N := ⟨n % 6, Nat.lt_of_lt_of_eq (Nat.mod_lt _ (by decide)) N_0.symm⟩

theorem lt_N (t : Fin cfg0.N) : t.val < 6 := Nat.lt_of_lt_of_eq t.isLt N_0

theorem pt_eq {n : ℕ} (t : Fin cfg0.N) (h : n = t.val) : pt n = t := Fin.ext (by show n % 6 = t.val; rw [h, Nat.mod_eq_of_lt (lt_N t)])

/-- The rows of tile `k`, normalised with each gain: prepared at the last column of the tile before (the first tile's at its own first column). -/
def nrmK (c : Dev nD) (k : ℕ) : Vec F S1x1x128x4096 .bf16 := normed (iblk m c 0 (pt (6 * k - 1))) (iblk m c 1 (pt (6 * k - 1)))
def nrmQ (c : Dev nD) (k : ℕ) : Vec F S1x1x128x4096 .bf16 := normed (iblk m c 0 (pt (6 * k - 1))) (iblk m c 2 (pt (6 * k - 1)))

/-- What the two results' blocks hold at a point. -/
def outKV (c : Dev nD) (n : ℕ) : Vec F S128x1024 .f32 := k0_pay4 (nrmK m c (n / 6)) (iblk m c 3 (pt (6 * (n / 6) + min (n % 6) 1)))
def outQ (c : Dev nD) (n : ℕ) : Vec F S128x1024 .bf16 := k0_pay5 (nrmQ m c (n / 6)) (iblk m c 3 (pt n))

/-- The scratch array. -/
abbrev scr : Memref sig .tc .vmem S2x2x128x4096 .bf16 := Memref.whole cc0_scratch0

/-- Before point `n` (past the first): a slot of the scratch array holds the rows of the tile, normalised with each gain. -/
def inv (c : Dev nD) (n : ℕ) : sProp 𝕄 :=
  iprop((∃ f, ⌜0 < n → Slot c scr ![0, n / 6 % 2, 0, 0] (nrmK m c (n / 6)) f ∧ Slot c scr ![1, n / 6 % 2, 0, 0] (nrmQ m c (n / 6)) f⌝
    ∗ (scr.view.loc (c : Thread nD τ) ↦{fullShare} f)) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outKV m c t.val
    | ⟨5, _⟩ => outQ m c t.val
  Φ n := inv m c n.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outKV m c t.val := by dsimp only [dats]
theorem after_5 (c : Dev nD) (t : Fin cfg0.N) : (dats m 0 c).after 5 t = outQ m c t.val := by dsimp only [dats]
theorem phi_castSucc (c : Dev nD) (t : Fin cfg0.N) : (dats m 0 c).Φ t.castSucc = inv m c t.val := by dsimp only [dats]; rfl
theorem phi_succ (c : Dev nD) (t : Fin cfg0.N) : (dats m 0 c).Φ t.succ = inv m c (t.val + 1) := by dsimp only [dats]; rfl

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ### The results' blocks where the body leaves them alone -/

theorem idle_4 : ∀ t : Fin cfg0.N, cfg0.idle 4 (cfg0.grid.coords t) = decide (2 ≤ t.val % 6) :=
  (by decide +kernel : ∀ t : Fin grid0.N, idle0 4 (grid0.coords t) = decide (2 ≤ t.val % 6))
theorem idle_5 : ∀ t : Fin cfg0.N, cfg0.idle 5 (cfg0.grid.coords t) = decide (t.val % 6 < 2) :=
  (by decide +kernel : ∀ t : Fin grid0.N, idle0 5 (grid0.coords t) = decide (t.val % 6 < 2))
theorem flush_4 : ∀ t : Fin cfg0.N, (cfg0.win 4).flush t = decide (t.val % 6 < 1 ∨ t.val % 6 = 5) :=
  (by decide +kernel : ∀ t : Fin grid0.N, win0_4.flush t = decide (t.val % 6 < 1 ∨ t.val % 6 = 5))
theorem flush_5 : ∀ t : Fin cfg0.N, (cfg0.win 5).flush t = decide (2 ≤ t.val % 6) :=
  (by decide +kernel : ∀ t : Fin grid0.N, win0_5.flush t = decide (2 ≤ t.val % 6))

/-- Past its last column, a block of keys and values is as that column left it. -/
theorem before_4 (c : Dev nD) (d) : ∀ n (h : n < cfg0.N), 2 ≤ n % 6 → (dats m 0 c).before 4 ⟨n, h⟩ d = outKV m c n := by
  intro n
  induction n with
  | zero => intro _ h0; exact absurd h0 (by decide)
  | succ n ih =>
    intro h h4
    rw [(dats m 0 c).before_of_pos 4 ⟨n + 1, h⟩ (Nat.succ_ne_zero n) ((cfg0.win 4).fetch_out rfl _)]
    have hn : n < cfg0.N := Nat.lt_of_succ_lt h
    have e : (⟨(⟨n + 1, h⟩ : Fin cfg0.N).val - 1, Nat.lt_of_le_of_lt (Nat.sub_le _ _) h⟩ : Fin cfg0.N) = ⟨n, hn⟩ := rfl
    rw [e, flush_4, if_neg (by rw [decide_eq_true_eq]; dsimp only; omega)]
    unfold Dat.left
    have eo : outKV m c (n + 1) = outKV m c n := by
      unfold outKV
      rw [show (n + 1) / 6 = n / 6 by omega, show min ((n + 1) % 6) 1 = min (n % 6) 1 by omega]
    rw [idle_4, eo]
    by_cases h5 : 2 ≤ n % 6
    · rw [decide_eq_true (by exact h5)]; exact ih hn h5
    · rw [decide_eq_false (by exact h5)]
      unfold Dat.kept
      rw [after_4]
      exact Window.fill_cut _ _ _

/-- What a window's buffer is left with, where the body writes it, -/
theorem leave_4 (c : Dev nD) (t : Fin cfg0.N) (h : t.val % 6 < 2) :
    owns (c : Thread nD τ) (st0_4 t) fullShare (outKV m c t.val) ⊢ ((dats m 0 c).leavesExact 4 t : sProp 𝕄) := by
  unfold Dat.leavesExact
  rw [idle_4, decide_eq_false (by omega), after_4]
theorem leave_5 (c : Dev nD) (t : Fin cfg0.N) (h : 2 ≤ t.val % 6) :
    owns (c : Thread nD τ) (st0_5 t) fullShare (outQ m c t.val) ⊢ ((dats m 0 c).leavesExact 5 t : sProp 𝕄) := by
  unfold Dat.leavesExact
  rw [idle_5, decide_eq_false (by omega), after_5]

/-- and where it does not. -/
theorem keep_4 (c : Dev nD) (t : Fin cfg0.N) (h : 2 ≤ t.val % 6) :
    iprop(∃ d, owns (c : Thread nD τ) (st0_4 t) fullShare ((dats m 0 c).before 4 t d)) ⊢ ((dats m 0 c).leavesExact 4 t : sProp 𝕄) := by
  unfold Dat.leavesExact
  rw [idle_4, decide_eq_true h, flush_4]
  by_cases h' : t.val % 6 = 5
  · rw [decide_eq_true (.inr h'), after_4]
    iintro ⟨%d, H⟩
    rw [show (dats m 0 c).before 4 t d = outKV m c t.val from before_4 m c d t.val t.isLt h]
    iexact H
  · rw [decide_eq_false (by omega)]
theorem keep_5 (c : Dev nD) (t : Fin cfg0.N) (h : t.val % 6 < 2) :
    iprop(∃ d, owns (c : Thread nD τ) (st0_5 t) fullShare ((dats m 0 c).before 5 t d)) ⊢ ((dats m 0 c).leavesExact 5 t : sProp 𝕄) := by
  unfold Dat.leavesExact
  rw [idle_5, decide_eq_true h, flush_5, decide_eq_false (by omega)]

/-! ### The body at a point of the grid -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t ∗ (dats m 0 c).leavesExact 5 t)

/-- At the keys' and values' columns. -/
theorem at_kv (c : Dev nD) (t : Fin cfg0.N) (h0 : t.val ≠ 0) (h : t.val % 6 < 2) :
    pre m c t ⊢ wp frame (wpE (defs₀ (F := F)) Variants.none (c : Thread nD τ) none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, phi_castSucc, phi_succ]
  unfold inv
  iintro ⟨⟨⟨%f, %hs, Hf⟩, Hr⟩, Ho, ⟨%d0, H0⟩, ⟨%d1, H1⟩, ⟨%d2, H2⟩, ⟨%d3, H3⟩, H4, H5⟩
  iapply (body_kv c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) ((cond2_iff t).mpr (by omega)) (mt (cond3_iff t).mp (by omega)) (mt (cond4_iff t).mp (by omega))
    (iblk m c 3 t) (nrmK m c (t.val / 6)) f ((hs (by omega)).1.congr c scr (off1_eq t).symm) _)
  isplitl [H3]; · iexact H3
  isplitl [H4]
  · icases H4 with ⟨%d, H4⟩; iexists _; iexact H4
  isplitl [Hf]; · iexact Hf
  iintro ⟨H3, H4, Hf⟩
  isplitl [Hf Hr]
  · isplitl [Hf]
    · iexists _; isplitr
      swap; · iexact Hf
      ipureintro; intro _
      rw [show (t.val + 1) / 6 = t.val / 6 by omega]
      exact hs (by omega)
    iexact Hr
  isplitl [Ho]; · iexact Ho
  isplitl [H0]; · iexact H0
  isplitl [H1]; · iexact H1
  isplitl [H2]; · iexact H2
  isplitl [H3]; · iexact H3
  isplitl [H4]
  · iapply (leave_4 m c t (by omega))
    rw [show outKV m c t.val = k0_pay4 (nrmK m c (t.val / 6)) (iblk m c 3 t) from by
      unfold outKV
      rw [pt_eq t (by omega)]]
    iexact H4
  iapply (keep_5 m c t (by omega))
  iexact H5

/-- At the queries' columns but the last. -/
theorem at_q (c : Dev nD) (t : Fin cfg0.N) (h : 2 ≤ t.val % 6) (h' : t.val % 6 ≠ 5) :
    pre m c t ⊢ wp frame (wpE (defs₀ (F := F)) Variants.none (c : Thread nD τ) none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, phi_castSucc, phi_succ]
  unfold inv
  iintro ⟨⟨⟨%f, %hs, Hf⟩, Hr⟩, Ho, ⟨%d0, H0⟩, ⟨%d1, H1⟩, ⟨%d2, H2⟩, ⟨%d3, H3⟩, H4, H5⟩
  iapply (body_q c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) (mt (cond2_iff t).mp (by omega)) ((cond3_iff t).mpr (by omega)) (mt (cond4_iff t).mp (by omega))
    (iblk m c 3 t) (nrmQ m c (t.val / 6)) f ((hs (by omega)).2.congr c scr (off2_eq t).symm) _)
  isplitl [H3]; · iexact H3
  isplitl [H5]
  · icases H5 with ⟨%d, H5⟩; iexists _; iexact H5
  isplitl [Hf]; · iexact Hf
  iintro ⟨H3, H5, Hf⟩
  isplitl [Hf Hr]
  · isplitl [Hf]
    · iexists _; isplitr
      swap; · iexact Hf
      ipureintro; intro _
      rw [show (t.val + 1) / 6 = t.val / 6 by omega]
      exact hs (by omega)
    iexact Hr
  isplitl [Ho]; · iexact Ho
  isplitl [H0]; · iexact H0
  isplitl [H1]; · iexact H1
  isplitl [H2]; · iexact H2
  isplitl [H3]; · iexact H3
  isplitl [H4]
  · iapply (keep_4 m c t (by omega))
    iexact H4
  iapply (leave_5 m c t (by omega))
  rw [show outQ m c t.val = k0_pay5 (nrmQ m c (t.val / 6)) (iblk m c 3 t) from by
    unfold outQ
    rw [pt_eq t (rfl)]]
  iexact H5

/-- At the last column. -/
theorem at_last (c : Dev nD) (t : Fin cfg0.N) (h : t.val % 6 = 5) :
    pre m c t ⊢ wp frame (wpE (defs₀ (F := F)) Variants.none (c : Thread nD τ) none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, phi_castSucc, phi_succ]
  unfold inv
  iintro ⟨⟨⟨%f, %hs, Hf⟩, Hr⟩, Ho, ⟨%d0, H0⟩, ⟨%d1, H1⟩, ⟨%d2, H2⟩, ⟨%d3, H3⟩, H4, H5⟩
  iapply (body_last c (grid0.coords t) _ (stage_whole0 0 _) _ (stage_whole0 1 _) _ (stage_whole0 2 _) _ (stage_whole0 3 _) _ (stage_whole0 4 _) _ (stage_whole0 5 _) scr (Memref.isWhole_whole _) (mt (cond1_iff t).mp (by omega)) (mt (cond2_iff t).mp (by omega)) (mt (cond3_iff t).mp (by omega)) ((cond4_iff t).mpr (by omega)) _ (Nat.mod_lt (t.val / 6 + 1) (by decide))
    (off4_eq t) (off5_eq t)
    (iblk m c 0 t) (iblk m c 1 t) (iblk m c 2 t) (iblk m c 3 t) (nrmQ m c (t.val / 6)) f ((hs (by omega)).2.congr c scr (off3_eq t).symm) _)
  isplitl [H0]; · iexact H0
  isplitl [H1]; · iexact H1
  isplitl [H2]; · iexact H2
  isplitl [H3]; · iexact H3
  isplitl [H5]
  · icases H5 with ⟨%d, H5⟩; iexists _; iexact H5
  isplitl [Hf]; · iexact Hf
  iintro ⟨H0, H1, H2, H3, H5, ⟨%g, %hg, Hf⟩⟩
  isplitl [Hf Hr]
  · isplitl [Hf]
    · iexists _; isplitr
      swap; · iexact Hf
      ipureintro; intro _
      rw [show (t.val + 1) / 6 = t.val / 6 + 1 by omega]
      unfold nrmK nrmQ
      rw [pt_eq t (by omega)]
      exact hg
    iexact Hr
  isplitl [Ho]; · iexact Ho
  isplitl [H0]; · iexact H0
  isplitl [H1]; · iexact H1
  isplitl [H2]; · iexact H2
  isplitl [H3]; · iexact H3
  isplitl [H4]
  · iapply (keep_4 m c t (by omega))
    iexact H4
  iapply (leave_5 m c t (by omega))
  rw [show outQ m c t.val = k0_pay5 (nrmQ m c (t.val / 6)) (iblk m c 3 t) from by
    unfold outQ
    rw [pt_eq t (rfl)]]
  iexact H5

/-- At the first point. -/
theorem at_first (c : Dev nD) (t : Fin cfg0.N) (h0 : t.val = 0) :
    pre m c t ⊢ wp frame (wpE (defs₀ (F := F)) Variants.none (c : Thread nD τ) none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, phi_castSucc, phi_succ]
  unfold inv
  iintro ⟨⟨⟨%f, %hs, Hf⟩, Hr⟩, Ho, ⟨%d0, H0⟩, ⟨%d1, H1⟩, ⟨%d2, H2⟩, ⟨%d3, H3⟩, H4, H5⟩
  iapply (body_first c (grid0.coords t) _ (stage_whole0 0 _) _ (stage_whole0 1 _) _ (stage_whole0 2 _) _ (stage_whole0 3 _) _ (stage_whole0 4 _) _ (stage_whole0 5 _) scr (Memref.isWhole_whole _) ((cond1_iff t).mpr (by omega)) ((cond2_iff t).mpr (by omega)) (mt (cond3_iff t).mp (by omega)) (mt (cond4_iff t).mp (by omega)) (by rw [off1_eq t, h0])
    (iblk m c 0 t) (iblk m c 1 t) (iblk m c 2 t) (iblk m c 3 t) f _)
  isplitl [H0]; · iexact H0
  isplitl [H1]; · iexact H1
  isplitl [H2]; · iexact H2
  isplitl [H3]; · iexact H3
  isplitl [H4]
  · icases H4 with ⟨%d, H4⟩; iexists _; iexact H4
  isplitl [Hf]; · iexact Hf
  iintro ⟨H0, H1, H2, H3, H4, ⟨%g, %hg, Hf⟩⟩
  isplitl [Hf Hr]
  · isplitl [Hf]
    · iexists _; isplitr
      swap; · iexact Hf
      ipureintro; intro _
      rw [h0]
      unfold nrmK nrmQ
      rw [pt_eq t (by rw [h0])]
      exact hg
    iexact Hr
  isplitl [Ho]; · iexact Ho
  isplitl [H0]; · iexact H0
  isplitl [H1]; · iexact H1
  isplitl [H2]; · iexact H2
  isplitl [H3]; · iexact H3
  isplitl [H4]
  · iapply (leave_4 m c t (by omega))
    rw [show outKV m c t.val = k0_pay4 (normed (iblk m c 0 t) (iblk m c 1 t)) (iblk m c 3 t) from by
      unfold outKV
      rw [pt_eq t (by omega)]
      unfold nrmK
      rw [pt_eq t (by rw [h0])]]
    iexact H4
  iapply (keep_5 m c t (by omega))
  iexact H5

theorem sound_body (c : Dev nD) (t : Fin cfg0.N) :
    pre m c t ⊢ wp frame (wpE (defs₀ (F := F)) Variants.none (c : Thread nD τ) none) Set.univ (bodyAt0 t) (fun _ => post m c t) := by
  by_cases h0 : t.val = 0
  · exact at_first m c t h0
  by_cases h1 : t.val % 6 < 2
  · exact at_kv m c t h0 h1
  by_cases h3 : t.val % 6 = 5
  · exact at_last m c t h3
  exact at_q m c t (by omega) h3

theorem defs₀_row (t : Fin cfg0.N) :
    (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

theorem phi_in (c : Dev nD) : Pipeline.ΦA spec0 c ⊢ ((dats m 0 c).Φ 0 : sProp 𝕄) := by
  rw [show (dats m 0 c).Φ 0 = inv m c 0 from by dsimp only [dats]; rfl]
  unfold Pipeline.ΦA inv
  rw [scopedRest0_eq c]
  iintro ⟨⟨%f, H⟩, Hr⟩
  isplitl [H]
  · iexists f; isplitr
    · ipureintro; intro h; exact absurd h (Nat.lt_irrefl 0)
    iexact H
  iexact Hr

theorem phi_out (c : Dev nD) : (dats m 0 c).Φ (Fin.last cfg0.N) ⊢ (Pipeline.ΦA spec0 c : sProp 𝕄) := by
  rw [show (dats m 0 c).Φ (Fin.last cfg0.N) = inv m c cfg0.N from by dsimp only [dats]; rfl]
  unfold Pipeline.ΦA inv
  rw [scopedRest0_eq c]
  iintro ⟨⟨%f, -, H⟩, Hr⟩
  isplitl [H]
  · iexists f; iexact H
  iexact Hr

set_option backward.isDefEq.respectTransparency.types false in
theorem run_main : θ_run (defs (F := F)) (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hin := phi_in m) (hout := phi_out m)

/-- The run: the arguments end as they were, the results are what the launch's blocks make them, every counter is zero. -/
theorem run : θ_run (defs (F := F)) (onTc (τ := τ) (main (F := F))) ⟨m, fun _ => 0, ρ⟩ (fun r => (∀ c : Dev nD,
      (r.2.mem ((c.tc : Thread nD τ).loc main_v8_0) = (dats m 0 c).arrAt 4 (Fin.last cfg0.N)
      ∧ r.2.mem ((c.tc : Thread nD τ).loc main_v8_1) = (dats m 0 c).arrAt 5 (Fin.last cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun _ ⟨h, hz⟩ => ⟨fun c => ⟨⟨(h c).1 4, (h c).1 5⟩,
      ((h c).1 0).trans (((dats m 0 c).arrAt_in 0 (by rfl) _).trans ((A_eq m c 0).trans (V_arg m c main_arg0 (by decide) (by decide) (by decide) (by decide) (by decide) (by decide) (by decide) (by decide)))),
      ((h c).2 main_arg1 (Pipeline.mem_restRefs_of main_arg1 (by decide) (by decide))).trans
        (V_arg m c main_arg1 (by decide) (by decide) (by decide) (by decide) (by decide) (by decide) (by decide) (by decide)),
      ((h c).2 main_arg2 (Pipeline.mem_restRefs_of main_arg2 (by decide) (by decide))).trans
        (V_arg m c main_arg2 (by decide) (by decide) (by decide) (by decide) (by decide) (by decide) (by decide) (by decide)),
      ((h c).2 main_arg3 (Pipeline.mem_restRefs_of main_arg3 (by decide) (by decide))).trans
        (V_arg m c main_arg3 (by decide) (by decide) (by decide) (by decide) (by decide) (by decide) (by decide) (by decide)),
      ((h c).2 main_arg4 (Pipeline.mem_restRefs_of main_arg4 (by decide) (by decide))).trans
        (V_arg m c main_arg4 (by decide) (by decide) (by decide) (by decide) (by decide) (by decide) (by decide) (by decide))⟩, hz⟩) (run_main m ρ)

end Cert.Kernel10Ideal.KvqSample

end
-- ==== Proof.KvqSample.Value.lean ====
module

public import proofs.«01_k».proof.Proof.KvqSample.Run
public import proofs.«01_k».proof.Proof.Gen.Reference10Ideal.Run
public import Idealize.ShloMosaic.Lib.Pipeline.Value
public import Idealize.ShloMosaic.Lib.Pipeline.ValueKit
public import Idealize.ShloMosaic.Lib.Pointwise

@[expose] public section

/-!
# The sample's projection onto the shared keys and values and the second layer's queries: what the two results hold

A tile of rows is normalised with each gain into the scratch array, and every point of the launch multiplies one of
the two by a tile of columns; so each place of a result is the reference's sum.
-/

set_option maxRecDepth 16384

noncomputable section

namespace Cert.Reference10Ideal.KvqSample

open Cert.Reference10Ideal Cert.Reference10Ideal.Gen
open Idealize.ShloMosaic Idealize.ShloMosaic.TcCoe
open scoped BigOperators

/-- The factor that a row is multiplied by: one over its root mean square, from the sum of its squares. -/
def rms (s : EReal) : EReal :=
  Ideal.rsqrt (Ideal.div s (Ideal.ofBits .f32 0x45800000#32) + Ideal.ofBits .f32 0x358637BD#32)

variable (x : FVec Ideal S128x4096 .f32) (g : FVec Ideal S4096 .f32) (g' : FVec Ideal S2x4096 .f32)
  (w : FVec Ideal S4096x2048 .f32) (w' : FVec Ideal S1x4096x4096 .f32)

/-- A row, normalised with a gain. -/
def rowN (u : Fin 4096 → EReal) (r : Fin 128) (k : Fin 4096) : EReal :=
  x (ix2 r k) * rms (∑ j : Fin 4096, (x (ix2 r j) * x (ix2 r j) : EReal)) * u k

/-- The rows, normalised with a gain, as the reference computes them. -/
def rowsF (u : FVec Ideal S4096 .f32) : FVec Ideal S128x4096 .f32 :=
  mulf (mulf x (broadcastInDim S128x4096 ![0, 1]
    bcast_S128x1_S128x4096_0_1 (Host.rsqrt (addf (Host.divf (broadcastInDim S128x1 ![0] bcast_S128_S128x1_0
      (Host.reduceAdd (mulf x x) (constant S_ .f32 0x00000000#32) reducesTo_S128x4096_S128_d1 h_S_))
      (broadcastInDim S128x1 ![] bcast_S_S128x1 (constant S_ .f32 0x45800000#32)))
      (broadcastInDim S128x1 ![] bcast_S_S128x1 (constant S_ .f32 0x358637BD#32))))))
    (broadcastInDim S128x4096 ![0, 1] bcast_S1x4096_S128x4096_0_1 (broadcastInDim S1x4096 ![1] bcast_S4096_S1x4096_1 u))

theorem rowsF_apply (u : FVec Ideal S4096 .f32) (r : Fin 128) (k : Fin 4096) :
    (rowsF x u (ix2 r k) : EReal) = rowN x (fun k => u (ix1 k)) r k := by
  pointwise [rowsF, rowN, rms]

/-- The second layer's gain. -/
def gain1 : FVec Ideal S4096 .f32 := shapeCast _ (extractStridedSlice S1x4096 ![1, 0] g' slices_S2x4096_S1x4096_1_0) shapeCasts_S1x4096_S4096

theorem gain1_apply (k : Fin 4096) : (gain1 g' (ix1 k) : EReal) = g' (ix2 1 k) := by
  pointwise [gain1]

/-- What the reference leaves, from its arguments. -/
def refKV : FVec Ideal S128x2048 .f32 :=
  Host.dotGeneral dot_S128x4096_S4096x2048_S128x2048_1_0_0_1_n_n none (rowsF x g) w
def refQ : FVec Ideal S128x4096 .bf16 :=
  truncf .bf16 (mulf (Host.dotGeneral dot_S128x4096_S4096x4096_S128x4096_1_0_0_1_n_n none (rowsF x (gain1 g'))
    (shapeCast _ w' shapeCasts_S1x4096x4096_S4096x4096)) (broadcastInDim S128x4096 ![] bcast_S_S128x4096 (constant S_ .f32 0x3DB504F3#32))) bitsLt_bf16_f32

theorem refKV_apply (r : Fin 128) (d : Fin 2048) :
    (refKV x g w (ix2 r d) : EReal) = ∑ k : Fin 4096, rowN x (fun k => g (ix1 k)) r k * (w (ix2 k d) : EReal) := by
  have h : (refKV x g w (ix2 r d) : EReal) = ∑ k : Fin 4096, (rowsF x g (ix2 r k) : EReal) * (w (ix2 k d) : EReal) := by
    pointwise [refKV]
  rw [h]
  exact Finset.sum_congr rfl fun k _ => congrArg (· * (w (ix2 k d) : EReal)) (rowsF_apply x g r k)
theorem refQ_apply (r : Fin 128) (d : Fin 4096) :
    (refQ x g' w' (ix2 r d) : EReal)
      = (∑ k : Fin 4096, rowN x (fun k => g' (ix2 1 k)) r k * (w' (ix3 0 k d) : EReal)) * Ideal.ofBits .f32 0x3DB504F3#32 := by
  have h : (refQ x g' w' (ix2 r d) : EReal)
      = (∑ k : Fin 4096, (rowsF x (gain1 g') (ix2 r k) : EReal) * (w' (ix3 0 k d) : EReal)) * Ideal.ofBits .f32 0x3DB504F3#32 := by
    pointwise [refQ]
  rw [h]
  refine congrArg (· * Ideal.ofBits .f32 0x3DB504F3#32) (Finset.sum_congr rfl fun k _ => congrArg (· * (w' (ix3 0 k d) : EReal)) ?_)
  rw [rowsF_apply]
  exact congrArg (x (ix2 r k) * rms (∑ j : Fin 4096, (x (ix2 r j) * x (ix2 r j) : EReal)) * ·) (gain1_apply g' k)

end Cert.Reference10Ideal.KvqSample

namespace Cert.Kernel10Ideal.KvqSample

open Cert.Kernel10Ideal Cert.Kernel10Ideal.Gen Cert.Reference10Ideal.KvqSample
open Idealize.ShloMosaic Idealize.ShloMosaic.TcCoe
open scoped BigOperators

variable (m : (ℓ : Loc nD τ sig) → Buf (Elt Ideal) ℓ) (c : Dev nD)

abbrev argX : FVec Ideal S128x4096 .f32 := m ((c.tc : Thread nD τ).loc main_arg0)
abbrev argG : FVec Ideal S4096 .f32 := m ((c.tc : Thread nD τ).loc main_arg1)
abbrev argG' : FVec Ideal S2x4096 .f32 := m ((c.tc : Thread nD τ).loc main_arg2)
abbrev argW : FVec Ideal S4096x2048 .f32 := m ((c.tc : Thread nD τ).loc main_arg3)
abbrev argW' : FVec Ideal S1x4096x4096 .f32 := m ((c.tc : Thread nD τ).loc main_arg4)

/-- The arrays that the launch finds. -/
theorem V_g (d : Fin 4096) : (V m c main_v6 (ix2 0 d) : EReal) = argG m c (ix1 d) := by
  have e : V m c main_v6 = shapeCast S1x4096 (argG m c) shapeCasts_S4096_S1x4096 := by
    unfold V
    after_results
    rfl
  rw [e]
  pointwise
theorem V_g' (d : Fin 4096) : (V m c main_v7 (ix2 0 d) : EReal) = argG' m c (ix2 1 d) := by
  have e : V m c main_v7 = shapeCast S1x4096 (shapeCast S4096 (extractStridedSlice S1x4096 ![1, 0] (argG' m c)
      slices_S2x4096_S1x4096_1_0) shapeCasts_S1x4096_S4096) shapeCasts_S4096_S1x4096 := by
    unfold V
    after_results
    rfl
  rw [e]
  pointwise
theorem V_w : V m c main_v3 = concatenate S4096x6144 1 [⟨S4096x2048, truncf .bf16 (argW m c) bitsLt_bf16_f32⟩,
    ⟨S4096x4096, truncf .bf16 (shapeCast S4096x4096 (argW' m c) shapeCasts_S1x4096x4096_S4096x4096) bitsLt_bf16_f32⟩]
    concatenates_S4096x2048_S4096x4096_S4096x6144_d1 := by
  unfold V
  after_results
  rfl
theorem V_wl (k : Fin 4096) (d : Fin 6144) (d' : Fin 2048) (hd : d.val = d'.val) : (V m c main_v3 (ix2 k d) : EReal) = argW m c (ix2 k d') := by
  rw [V_w, concatenate_pair_apply_left (t := S4096x6144) (s₁ := S4096x2048) (s₂ := S4096x4096) 1 _ _ _ (ix2 k d) rfl (ix2 k d') (fun b => by
    match b with
    | ⟨0, _⟩ => rfl
    | ⟨1, _⟩ => exact hd.symm)]
  pointwise
theorem V_wr (k : Fin 4096) (d : Fin 6144) (d' : Fin 4096) (hd : d'.val + 2048 = d.val) : (V m c main_v3 (ix2 k d) : EReal) = argW' m c (ix3 0 k d') := by
  rw [V_w, concatenate_pair_apply_right (t := S4096x6144) (s₁ := S4096x2048) (s₂ := S4096x4096) 1 _ _ _ (ix2 k d) rfl rfl (ix2 k d') (fun b hb => by
    match b with
    | ⟨0, _⟩ => rfl
    | ⟨1, _⟩ => exact absurd rfl hb) hd]
  pointwise

theorem pay2_apply (x : FVec Ideal S128x4096 .f32) (g : FVec Ideal S1x4096 .f32) (r : Fin 128) (d : Fin 4096) :
    (k0_pay2 (F := Ideal) x g (ix4 0 0 r d) : EReal)
      = x (ix2 r d) * rms (∑ k : Fin 4096, (x (ix2 r k) * x (ix2 r k) : EReal)) * g (ix2 0 d) := by
  pointwise [k0_pay2, k0_pay1, rms]
theorem pay4_apply (x : FVec Ideal S1x1x128x4096 .bf16) (w : FVec Ideal S4096x1024 .bf16) (r : Fin 128) (d : Fin 1024) :
    (k0_pay4 (F := Ideal) x w (ix2 r d) : EReal) = ∑ k : Fin 4096, (x (ix4 0 0 r k) * w (ix2 k d) : EReal) := by
  pointwise [k0_pay4]
theorem pay5_apply (x : FVec Ideal S1x1x128x4096 .bf16) (w : FVec Ideal S4096x1024 .bf16) (r : Fin 128) (d : Fin 1024) :
    (k0_pay5 (F := Ideal) x w (ix2 r d) : EReal)
      = (∑ k : Fin 4096, (x (ix4 0 0 r k) * w (ix2 k d) : EReal)) * Ideal.ofBits .f32 0x3DB504F3#32 := by
  pointwise [k0_pay5]

theorem normed_apply (X : FVec Ideal S128x4096 .f32) (g : FVec Ideal S1x4096 .f32) (r : Fin 128) (k : Fin 4096) :
    (normed (F := Ideal) X g (ix4 0 0 r k) : EReal)
      = X (ix2 r k) * rms (∑ j : Fin 4096, (X (ix2 r j) * X (ix2 r j) : EReal)) * g (ix2 0 k) := by
  exact pay2_apply X g r k

/-- The point that prepares the rows of a point's tile. -/
abbrev prep (t : Fin cfg0.N) : Fin cfg0.N := pt (6 * (t.val / 6) - 1)

theorem idx0 : ∀ t : Fin cfg0.N, win0_0.index (prep t) = ![t.val / 6, 0] :=
  (by decide +kernel : ∀ t : Fin grid0.N, win0_0.index (⟨(6 * (t.val / 6) - 1) % 6, _⟩ : Fin grid0.N) = _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, t.val % 6] :=
  (by decide +kernel : ∀ t : Fin grid0.N, _)
theorem idx4 : ∀ t : Fin cfg0.N, win0_4.index t = ![t.val / 6, min (t.val % 6) 1] :=
  (by decide +kernel : ∀ t : Fin grid0.N, _)
theorem idx5 : ∀ t : Fin cfg0.N, win0_5.index t = ![t.val / 6, t.val % 6 - 2] :=
  (by decide +kernel : ∀ t : Fin grid0.N, _)

variable (t : Fin cfg0.N)

/-- A row of a point's tile, in the array. -/
def row (r : Fin 128) : Fin 128 := ⟨t.val / 6 * 128 + r.val, by have := lt_N t; omega⟩
/-- A column of a point's tile of weights. -/
def col (d : Fin 1024) : Fin 6144 := ⟨t.val % 6 * 1024 + d.val, by omega⟩

theorem iblk0_apply (r : Fin 128) (k : Fin 4096) : (iblk m c 0 (prep t) (ix2 r k) : EReal) = argX m c (ix2 (row t r) k) := by
  have h : (win0_0.blk (prep t)).view.emb (ix2 r k) = ix2 (row t r) k := by
    unfold row
    blk_ext [idx0]
  exact (congrArg (V m c main_arg0) h).trans
    (congrFun (V_arg m c main_arg0 (by decide) (by decide) (by decide) (by decide) (by decide) (by decide) (by decide) (by decide)) _)
theorem iblk1_apply (d : Fin 4096) : (iblk m c 1 t (ix2 0 d) : EReal) = argG m c (ix1 d) := by
  have h : (win0_1.blk t).view.emb (ix2 0 d) = ix2 0 d := by
    blk_ext [idx1]
  exact (congrArg (V m c main_v6) h).trans (V_g m c _)
theorem iblk2_apply (d : Fin 4096) : (iblk m c 2 t (ix2 0 d) : EReal) = argG' m c (ix2 1 d) := by
  have h : (win0_2.blk t).view.emb (ix2 0 d) = ix2 0 d := by
    blk_ext [idx2]
  exact (congrArg (V m c main_v7) h).trans (V_g' m c _)
theorem iblk3_eq (k : Fin 4096) (d : Fin 1024) : (iblk m c 3 t (ix2 k d) : EReal) = V m c main_v3 (ix2 k (col t d)) := by
  have h : (win0_3.blk t).view.emb (ix2 k d) = ix2 k (col t d) := by
    unfold col
    blk_ext [idx3]
  exact congrArg (V m c main_v3) h

/-- The normalised rows of a point's tile. -/
theorem nrmK_apply (r : Fin 128) (k : Fin 4096) :
    (nrmK m c (t.val / 6) (ix4 0 0 r k) : EReal) = rowN (argX m c) (fun k => argG m c (ix1 k)) (row t r) k := by
  refine (normed_apply _ _ r k).trans ?_
  rw [iblk1_apply, iblk0_apply]
  refine congrArg (fun s : EReal => _ * rms s * _) (Finset.sum_congr rfl fun k _ => ?_)
  rw [iblk0_apply]
theorem nrmQ_apply (r : Fin 128) (k : Fin 4096) :
    (nrmQ m c (t.val / 6) (ix4 0 0 r k) : EReal) = rowN (argX m c) (fun k => argG' m c (ix2 1 k)) (row t r) k := by
  refine (normed_apply _ _ r k).trans ?_
  rw [iblk2_apply, iblk0_apply]
  refine congrArg (fun s : EReal => _ * rms s * _) (Finset.sum_congr rfl fun k _ => ?_)
  rw [iblk0_apply]

/-- A column of a point's tile of a result. -/
def colKV (d : Fin 1024) : Fin 2048 := ⟨min (t.val % 6) 1 * 1024 + d.val, by omega⟩
def colQ (d : Fin 1024) : Fin 4096 := ⟨(t.val % 6 - 2) * 1024 + d.val, by omega⟩

theorem blockKV (r : Fin 128) (d : Fin 1024) : (outKV m c t.val (ix2 r d) : EReal)
    = refKV (argX m c) (argG m c) (argW m c) (ix2 (row t r) (colKV t d)) := by
  refine (pay4_apply _ _ r d).trans (Eq.trans ?_ (refKV_apply _ _ _ _ _).symm)
  refine Finset.sum_congr rfl fun k _ => ?_
  rw [nrmK_apply, iblk3_eq, V_wl m c k _ (colKV t d) (by
    have := lt_N t
    have h : (6 * (t.val / 6) + min (t.val % 6) 1) % 6 % 6 = min (t.val % 6) 1 := by omega
    simp only [col, colKV, pt]
    rw [h])]
theorem blockQ (h2 : 2 ≤ t.val % 6) (r : Fin 128) (d : Fin 1024) : (outQ m c t.val (ix2 r d) : EReal)
    = refQ (argX m c) (argG' m c) (argW' m c) (ix2 (row t r) (colQ t d)) := by
  refine (pay5_apply _ _ r d).trans (Eq.trans ?_ (refQ_apply _ _ _ _ _).symm)
  refine congrArg (· * Ideal.ofBits .f32 0x3DB504F3#32) (Finset.sum_congr rfl fun k _ => ?_)
  rw [nrmQ_apply, pt_eq t rfl, iblk3_eq, V_wr m c k _ (colQ t d) (by
    show (t.val % 6 - 2) * 1024 + d.val + 2048 = t.val % 6 * 1024 + d.val
    omega)]

theorem finalKV : (dats m 0 c).arrAt 4 cfg0.N = refKV (argX m c) (argG m c) (argW m c) := by
  refine (dats m 0 c).arrAt_eq_of_covers 4 _ (by decide +kernel) fun t hf y => ?_
  blk_simp
  rw [after_4]
  have hy : y = ix2 (n0 := 128) (n1 := 1024) (y 0) (y 1) := eq_ix2 (n0 := 128) (n1 := 1024) y
  have h : (win0_4.blk t).view.emb (ix2 (n0 := 128) (n1 := 1024) (y 0) (y 1)) = ix2 (row t (y 0)) (colKV t (y 1)) := by
    unfold row colKV
    blk_ext [idx4]
  rw [hy, h]
  exact blockKV m c t (y 0) (y 1)
theorem finalQ : (dats m 0 c).arrAt 5 cfg0.N = refQ (argX m c) (argG' m c) (argW' m c) := by
  refine (dats m 0 c).arrAt_eq_of_covers 5 _ (by decide +kernel) fun t hf y => ?_
  have h2 : 2 ≤ t.val % 6 := by
    have := (flush_5 t).symm.trans hf
    simpa only [decide_eq_true_eq] using this
  blk_simp
  rw [after_5]
  have hy : y = ix2 (n0 := 128) (n1 := 1024) (y 0) (y 1) := eq_ix2 (n0 := 128) (n1 := 1024) y
  have h : (win0_5.blk t).view.emb (ix2 (n0 := 128) (n1 := 1024) (y 0) (y 1)) = ix2 (row t (y 0)) (colQ t (y 1)) := by
    unfold row colQ
    blk_ext [idx5]
  rw [hy, h]
  exact blockQ m c t h2 (y 0) (y 1)

end Cert.Kernel10Ideal.KvqSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel11
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Value
public import proofs.«01_k».proof.Proof.Gen.Reference11Ideal.Run
public import proofs.«01_k».proof.Proof.Band.Pre
public import proofs.«01_k».proof.Proof.Gen.Kernel2
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal.Run
public import proofs.«01_k».proof.Proof.Gen.Kernel5
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal.Run
public import proofs.«01_k».proof.Proof.Gen.Kernel6
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal.Run
public import proofs.«01_k».proof.Proof.Gen.Kernel9
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal.Run
public import proofs.«01_k».proof.Proof.Gen.Kernel10
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Reference10Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.SB.Run
public import proofs.«01_k».proof.Proof.SB.Value
public import proofs.«01_k».proof.Proof.SB.Bits.Run
public import proofs.«01_k».proof.Proof.Proj.Residual
public import proofs.«01_k».proof.Proof.Proj.Gated
public import proofs.«01_k».proof.Proof.Proj.Norm
public import proofs.«01_k».proof.Proof.Proj.NormSample
public import proofs.«01_k».proof.Proof.Qkv.Run
public import proofs.«01_k».proof.Proof.Qkv.Value
public import proofs.«01_k».proof.Proof.Kvq.Run
public import proofs.«01_k».proof.Proof.Kvq.Value
public import proofs.«01_k».proof.Proof.Peer.Run
public import proofs.«01_k».proof.Proof.Peer.Value
public import proofs.«01_k».proof.Proof.QkvSample.Run
public import proofs.«01_k».proof.Proof.QkvSample.Value
public import proofs.«01_k».proof.Proof.KvqSample.Run
public import proofs.«01_k».proof.Proof.KvqSample.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments as they were and every counter at zero. -/
theorem frame_kernel : Cert.quiescent_Kernel (hKernel := Cert.Kernel.Gen.facts) := fun m ρ _ =>
  (θ_run (Cert.Kernel.defs (F := Bits)) _ _).mono (fun _ ⟨h, hz⟩ => ⟨fun c => (h c).2, hz⟩) (Cert.Kernel.SB.run (F := Bits) m ρ)

/-- The same of the kernel over the extended reals. -/
theorem frame_kernelIdeal : Cert.quiescent_KernelIdeal (hKernelIdeal := Cert.KernelIdeal.Gen.facts) := fun m ρ _ =>
  (θ_run (Cert.KernelIdeal.defs (F := Ideal)) _ _).mono (fun _ ⟨h, hz⟩ => ⟨fun c => (h c).2, hz⟩)
    (Cert.KernelIdeal.SB.run (F := Ideal) m ρ)

/-- The same of the reference, which has no counters. -/
theorem frame_referenceIdeal : Cert.quiescent_ReferenceIdeal (hReferenceIdeal := Cert.ReferenceIdeal.Gen.facts) := fun m ρ _ =>
  (θ_run (Cert.ReferenceIdeal.defs (F := Ideal)) _ _).mono
    (fun _ h => ⟨fun c => (h c).2, sem_eq_zero_of_no_sems rfl _⟩) (Cert.ReferenceIdeal.Value.run (F := Ideal) m ρ)

/-- The one named constant: −104 stands for −∞. -/
theorem preserves : Cert.preserves_Kernel_KernelIdeal :=
  IdealRules.named_const.statement Cert.KernelIdeal.κ "dead" .f32 0xC2D00000#32 ⊥ rfl

/-- On equal arguments the two end with equal results. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => (Cert.KernelIdeal.SB.dats m 0 c).arrAt 3 (Fin.last (Cert.KernelIdeal.cfg0 (F := Ideal)).N),
    (θ_run (Cert.KernelIdeal.defs (F := Ideal)) _ _).mono (fun _ h => h.1) (Cert.KernelIdeal.SB.run (F := Ideal) m g),
    (θ_run (Cert.ReferenceIdeal.defs (F := Ideal)) _ _).mono (fun _ h c =>
      ⟨(h c).1.trans ((Cert.ReferenceIdeal.SB.res_eq m' c).trans (by
        rw [(hargs c).1, (hargs c).2.1, (hargs c).2.2]
        exact (Cert.KernelIdeal.SB.final m c).symm)), (h c).2⟩) (Cert.ReferenceIdeal.Value.run (F := Ideal) m' g')⟩

/-! The claims of the output projection. -/

theorem frame_kernel3 : Cert.quiescent_Kernel3 (hKernel3 := Cert.Kernel3.Gen.facts) := fun m ρ _ =>
  Cert.Kernel3.Gen.frame m ρ

theorem frame_kernel3Ideal : Cert.quiescent_Kernel3Ideal (hKernel3Ideal := Cert.Kernel3Ideal.Gen.facts) := fun m ρ _ =>
  Cert.Kernel3Ideal.Gen.frame m ρ

theorem frame_reference3Ideal : Cert.quiescent_Reference3Ideal (hReference3Ideal := Cert.Reference3Ideal.Gen.facts) := fun m ρ _ =>
  (θ_run (Cert.Reference3Ideal.defs (F := Ideal)) _ _).mono
    (fun _ h => ⟨fun c => (h c).2, sem_eq_zero_of_no_sems rfl _⟩) (Cert.Reference3Ideal.Value.run (F := Ideal) m ρ)

theorem algebraic3 : Cert.algebraic_Kernel3Ideal_Reference3Ideal (hKernel3Ideal := Cert.Kernel3Ideal.Gen.facts)
    (hReference3Ideal := Cert.Reference3Ideal.Gen.facts) := fun m g m' g' _ hargs =>
  ⟨fun c => (Cert.Kernel3Ideal.Gen.dats m 0 c).arrAt 3 Cert.Kernel3Ideal.cfg0.N,
    Cert.Kernel3Ideal.Value.run_blocks (F := Ideal) m g,
    (θ_run (Cert.Reference3Ideal.defs (F := Ideal)) _ _).mono (fun _ h c =>
      ⟨(h c).1.trans (by
        rw [(hargs c).1, (hargs c).2.1, (hargs c).2.2]
        exact (Cert.Kernel3Ideal.Residual.final m c).symm), (h c).2⟩) (Cert.Reference3Ideal.Value.run (F := Ideal) m' g')⟩

/-! The claims of the per-layer embedding. -/

theorem frame_kernel4 : Cert.quiescent_Kernel4 (hKernel4 := Cert.Kernel4.Gen.facts) := fun m ρ _ =>
  Cert.Kernel4.Gen.frame m ρ

theorem frame_kernel4Ideal : Cert.quiescent_Kernel4Ideal (hKernel4Ideal := Cert.Kernel4Ideal.Gen.facts) := fun m ρ _ =>
  Cert.Kernel4Ideal.Gen.frame m ρ

theorem frame_reference4Ideal : Cert.quiescent_Reference4Ideal (hReference4Ideal := Cert.Reference4Ideal.Gen.facts) := fun m ρ _ =>
  (θ_run (Cert.Reference4Ideal.defs (F := Ideal)) _ _).mono
    (fun _ h => ⟨fun c => (h c).2, sem_eq_zero_of_no_sems rfl _⟩) (Cert.Reference4Ideal.Value.run (F := Ideal) m ρ)

theorem algebraic4 : Cert.algebraic_Kernel4Ideal_Reference4Ideal (hKernel4Ideal := Cert.Kernel4Ideal.Gen.facts)
    (hReference4Ideal := Cert.Reference4Ideal.Gen.facts) := fun m g m' g' _ hargs =>
  ⟨fun c => (Cert.Kernel4Ideal.Gen.dats m 0 c).arrAt 5 Cert.Kernel4Ideal.cfg0.N,
    Cert.Kernel4Ideal.Value.run_blocks (F := Ideal) m g,
    (θ_run (Cert.Reference4Ideal.defs (F := Ideal)) _ _).mono (fun _ h c =>
      ⟨(h c).1.trans (by
        rw [(hargs c).1, (hargs c).2.1, (hargs c).2.2.1, (hargs c).2.2.2.1, (hargs c).2.2.2.2]
        exact (Cert.Kernel4Ideal.Gated.final m c).symm), (h c).2⟩) (Cert.Reference4Ideal.Value.run (F := Ideal) m' g')⟩

/-! The claims of the last norm. -/

theorem frame_kernel7 : Cert.quiescent_Kernel7 (hKernel7 := Cert.Kernel7.Gen.facts) := fun m ρ _ =>
  Cert.Kernel7.Gen.frame m ρ

theorem frame_kernel7Ideal : Cert.quiescent_Kernel7Ideal (hKernel7Ideal := Cert.Kernel7Ideal.Gen.facts) := fun m ρ _ =>
  Cert.Kernel7Ideal.Gen.frame m ρ

theorem frame_reference7Ideal : Cert.quiescent_Reference7Ideal (hReference7Ideal := Cert.Reference7Ideal.Gen.facts) := fun m ρ _ =>
  (θ_run (Cert.Reference7Ideal.defs (F := Ideal)) _ _).mono
    (fun _ h => ⟨fun c => (h c).2, sem_eq_zero_of_no_sems rfl _⟩) (Cert.Reference7Ideal.Value.run (F := Ideal) m ρ)

theorem algebraic7 : Cert.algebraic_Kernel7Ideal_Reference7Ideal (hKernel7Ideal := Cert.Kernel7Ideal.Gen.facts)
    (hReference7Ideal := Cert.Reference7Ideal.Gen.facts) := fun m g m' g' _ hargs =>
  ⟨fun c => (Cert.Kernel7Ideal.Gen.dats m 0 c).arrAt 2 Cert.Kernel7Ideal.cfg0.N,
    Cert.Kernel7Ideal.Value.run_blocks (F := Ideal) m g,
    (θ_run (Cert.Reference7Ideal.defs (F := Ideal)) _ _).mono (fun _ h c =>
      ⟨(h c).1.trans (by
        rw [(hargs c).1, (hargs c).2]
        exact (Cert.Kernel7Ideal.Norm.final m c).symm), (h c).2⟩) (Cert.Reference7Ideal.Value.run (F := Ideal) m' g')⟩

/-! The claims of the last norm of the sample. -/

theorem frame_kernel8 : Cert.quiescent_Kernel8 (hKernel8 := Cert.Kernel8.Gen.facts) := fun m ρ _ =>
  Cert.Kernel8.Gen.frame m ρ

theorem frame_kernel8Ideal : Cert.quiescent_Kernel8Ideal (hKernel8Ideal := Cert.Kernel8Ideal.Gen.facts) := fun m ρ _ =>
  Cert.Kernel8Ideal.Gen.frame m ρ

theorem frame_reference8Ideal : Cert.quiescent_Reference8Ideal (hReference8Ideal := Cert.Reference8Ideal.Gen.facts) := fun m ρ _ =>
  (θ_run (Cert.Reference8Ideal.defs (F := Ideal)) _ _).mono
    (fun _ h => ⟨fun c => (h c).2, sem_eq_zero_of_no_sems rfl _⟩) (Cert.Reference8Ideal.Value.run (F := Ideal) m ρ)

theorem algebraic8 : Cert.algebraic_Kernel8Ideal_Reference8Ideal (hKernel8Ideal := Cert.Kernel8Ideal.Gen.facts)
    (hReference8Ideal := Cert.Reference8Ideal.Gen.facts) := fun m g m' g' _ hargs =>
  ⟨fun c => (Cert.Kernel8Ideal.Gen.dats m 0 c).arrAt 2 Cert.Kernel8Ideal.cfg0.N,
    Cert.Kernel8Ideal.Value.run_blocks (F := Ideal) m g,
    (θ_run (Cert.Reference8Ideal.defs (F := Ideal)) _ _).mono (fun _ h c =>
      ⟨(h c).1.trans (by
        rw [(hargs c).1, (hargs c).2]
        exact (Cert.Kernel8Ideal.Norm.final m c).symm), (h c).2⟩) (Cert.Reference8Ideal.Value.run (F := Ideal) m' g')⟩

/-! The claims of the projection onto queries, keys and values. -/

/-- The kernel's bodies are the ideal program's, over the machine's floats. -/
theorem bodies2 : @Cert.Kernel2.defs₀ Bits _ Cert.Kernel2.Gen.facts = @Cert.Kernel2Ideal.defs₀ Bits _ Cert.Kernel2Ideal.Gen.facts :=
  congrArg Defs.onTc (funext fun l => funext fun x => match l, x with
    | 0, (_, _) => rfl
    | ⟨_ + 1, h⟩, _ => absurd h (Nat.not_lt.2 (Nat.le_add_left _ _)))

theorem defs2 : @Cert.Kernel2.defs Bits _ Cert.Kernel2.Gen.facts = @Cert.Kernel2Ideal.defs Bits _ Cert.Kernel2Ideal.Gen.facts :=
  congrArg (Pipeline.defs Cert.Kernel2.pcfgs) bodies2

theorem frame_kernel2 : Cert.quiescent_Kernel2 (hKernel2 := Cert.Kernel2.Gen.facts) := fun m ρ _ => by
  rw [defs2]
  exact (θ_run Cert.Kernel2Ideal.defs _ _).mono (fun _ h => ⟨fun c => (h.1 c).2, h.2⟩) (Cert.Kernel2Ideal.Qkv.run (F := Bits) m ρ)

theorem frame_kernel2Ideal : Cert.quiescent_Kernel2Ideal (hKernel2Ideal := Cert.Kernel2Ideal.Gen.facts) := fun m ρ _ =>
  (θ_run (Cert.Kernel2Ideal.defs (F := Ideal)) _ _).mono (fun _ ⟨h, hz⟩ => ⟨fun c => (h c).2, hz⟩) (Cert.Kernel2Ideal.Qkv.run (F := Ideal) m ρ)

theorem frame_reference2Ideal : Cert.quiescent_Reference2Ideal (hReference2Ideal := Cert.Reference2Ideal.Gen.facts) := fun m ρ _ =>
  (θ_run (Cert.Reference2Ideal.defs (F := Ideal)) _ _).mono
    (fun _ h => ⟨fun c => (h c).2.2.2, sem_eq_zero_of_no_sems rfl _⟩) (Cert.Reference2Ideal.Value.run (F := Ideal) m ρ)

theorem algebraic2 : Cert.algebraic_Kernel2Ideal_Reference2Ideal (hKernel2Ideal := Cert.Kernel2Ideal.Gen.facts)
    (hReference2Ideal := Cert.Reference2Ideal.Gen.facts) := fun m g m' g' _ hargs =>
  ⟨fun c => (Cert.Kernel2Ideal.Qkv.dats m 0 c).arrAt 3 (Fin.last Cert.Kernel2Ideal.cfg0.N),
    fun c => (Cert.Kernel2Ideal.Qkv.dats m 0 c).arrAt 4 (Fin.last Cert.Kernel2Ideal.cfg0.N),
    fun c => (Cert.Kernel2Ideal.Qkv.dats m 0 c).arrAt 5 (Fin.last Cert.Kernel2Ideal.cfg0.N),
    (θ_run (Cert.Kernel2Ideal.defs (F := Ideal)) _ _).mono (fun _ h c => ⟨((h.1 c).1).1, ((h.1 c).1).2.1, ((h.1 c).1).2.2, (h.1 c).2⟩) (Cert.Kernel2Ideal.Qkv.run (F := Ideal) m g),
    (θ_run (Cert.Reference2Ideal.defs (F := Ideal)) _ _).mono (fun _ h c =>
      ⟨(h c).1.trans (by
          rw [(hargs c).1, (hargs c).2.1, (hargs c).2.2]
          exact (Cert.Kernel2Ideal.Qkv.finalQ m c).symm),
        (h c).2.1.trans (by
          rw [(hargs c).1, (hargs c).2.1, (hargs c).2.2]
          exact (Cert.Kernel2Ideal.Qkv.finalK m c).symm),
        (h c).2.2.1.trans (by
          rw [(hargs c).1, (hargs c).2.1, (hargs c).2.2]
          exact (Cert.Kernel2Ideal.Qkv.finalV m c).symm),
        (h c).2.2.2⟩) (Cert.Reference2Ideal.Value.run (F := Ideal) m' g')⟩

/-! The claims of the projection onto the shared keys and values, and onto the queries of the second layer. -/

/-- The kernel's bodies are the ideal program's, over the machine's floats. -/
theorem bodies5 : @Cert.Kernel5.defs₀ Bits _ Cert.Kernel5.Gen.facts = @Cert.Kernel5Ideal.defs₀ Bits _ Cert.Kernel5Ideal.Gen.facts :=
  congrArg Defs.onTc (funext fun l => funext fun x => match l, x with
    | 0, (_, _) => rfl
    | ⟨_ + 1, h⟩, _ => absurd h (Nat.not_lt.2 (Nat.le_add_left _ _)))

theorem defs5 : @Cert.Kernel5.defs Bits _ Cert.Kernel5.Gen.facts = @Cert.Kernel5Ideal.defs Bits _ Cert.Kernel5Ideal.Gen.facts :=
  congrArg (Pipeline.defs Cert.Kernel5.pcfgs) bodies5

theorem frame_kernel5 : Cert.quiescent_Kernel5 (hKernel5 := Cert.Kernel5.Gen.facts) := fun m ρ _ => by
  rw [defs5]
  exact (θ_run Cert.Kernel5Ideal.defs _ _).mono (fun _ h => ⟨fun c => (h.1 c).2, h.2⟩) (Cert.Kernel5Ideal.Kvq.run (F := Bits) m ρ)

theorem frame_kernel5Ideal : Cert.quiescent_Kernel5Ideal (hKernel5Ideal := Cert.Kernel5Ideal.Gen.facts) := fun m ρ _ =>
  (θ_run (Cert.Kernel5Ideal.defs (F := Ideal)) _ _).mono (fun _ ⟨h, hz⟩ => ⟨fun c => (h c).2, hz⟩) (Cert.Kernel5Ideal.Kvq.run (F := Ideal) m ρ)

theorem frame_reference5Ideal : Cert.quiescent_Reference5Ideal (hReference5Ideal := Cert.Reference5Ideal.Gen.facts) := fun m ρ _ =>
  (θ_run (Cert.Reference5Ideal.defs (F := Ideal)) _ _).mono
    (fun _ h => ⟨fun c => (h c).2.2, sem_eq_zero_of_no_sems rfl _⟩) (Cert.Reference5Ideal.Value.run (F := Ideal) m ρ)

theorem algebraic5 : Cert.algebraic_Kernel5Ideal_Reference5Ideal (hKernel5Ideal := Cert.Kernel5Ideal.Gen.facts)
    (hReference5Ideal := Cert.Reference5Ideal.Gen.facts) := fun m g m' g' _ hargs =>
  ⟨fun c => (Cert.Kernel5Ideal.Kvq.dats m 0 c).arrAt 4 (Fin.last Cert.Kernel5Ideal.cfg0.N),
    fun c => (Cert.Kernel5Ideal.Kvq.dats m 0 c).arrAt 5 (Fin.last Cert.Kernel5Ideal.cfg0.N),
    (θ_run (Cert.Kernel5Ideal.defs (F := Ideal)) _ _).mono (fun _ h c => ⟨((h.1 c).1).1, ((h.1 c).1).2, (h.1 c).2⟩) (Cert.Kernel5Ideal.Kvq.run (F := Ideal) m g),
    (θ_run (Cert.Reference5Ideal.defs (F := Ideal)) _ _).mono (fun _ h c =>
      ⟨(h c).1.trans (by
          rw [(hargs c).1, (hargs c).2.1, (hargs c).2.2.2.1]
          exact (Cert.Kernel5Ideal.Kvq.finalKV m c).symm),
        (h c).2.1.trans (by
          rw [(hargs c).1, (hargs c).2.2.1, (hargs c).2.2.2.2]
          exact (Cert.Kernel5Ideal.Kvq.finalQ m c).symm),
        (h c).2.2⟩) (Cert.Reference5Ideal.Value.run (F := Ideal) m' g')⟩

/-! The claims of the experts' queries. -/

/-- The kernel's bodies are the ideal program's, over the machine's floats. -/
theorem bodies6 : @Cert.Kernel6.defs₀ Bits _ Cert.Kernel6.Gen.facts = @Cert.Kernel6Ideal.defs₀ Bits _ Cert.Kernel6Ideal.Gen.facts :=
  congrArg Defs.onTc (funext fun l => funext fun x => match l, x with
    | 0, (_, _) => rfl
    | ⟨_ + 1, h⟩, _ => absurd h (Nat.not_lt.2 (Nat.le_add_left _ _)))

theorem defs6 : @Cert.Kernel6.defs Bits _ Cert.Kernel6.Gen.facts = @Cert.Kernel6Ideal.defs Bits _ Cert.Kernel6Ideal.Gen.facts :=
  congrArg (Pipeline.defs Cert.Kernel6.pcfgs) bodies6

theorem frame_kernel6 : Cert.quiescent_Kernel6 (hKernel6 := Cert.Kernel6.Gen.facts) := fun m ρ _ => by
  rw [defs6]
  exact (θ_run Cert.Kernel6Ideal.defs _ _).mono (fun _ h => ⟨fun c => (h.1 c).2, h.2⟩) (Cert.Kernel6Ideal.Peer.run (F := Bits) m ρ)

theorem frame_kernel6Ideal : Cert.quiescent_Kernel6Ideal (hKernel6Ideal := Cert.Kernel6Ideal.Gen.facts) := fun m ρ _ =>
  (θ_run (Cert.Kernel6Ideal.defs (F := Ideal)) _ _).mono (fun _ ⟨h, hz⟩ => ⟨fun c => (h c).2, hz⟩) (Cert.Kernel6Ideal.Peer.run (F := Ideal) m ρ)

theorem frame_reference6Ideal : Cert.quiescent_Reference6Ideal (hReference6Ideal := Cert.Reference6Ideal.Gen.facts) := fun m ρ _ =>
  (θ_run (Cert.Reference6Ideal.defs (F := Ideal)) _ _).mono
    (fun _ h => ⟨fun c => (h c).2, sem_eq_zero_of_no_sems rfl _⟩) (Cert.Reference6Ideal.Value.run (F := Ideal) m ρ)

theorem algebraic6 : Cert.algebraic_Kernel6Ideal_Reference6Ideal (hKernel6Ideal := Cert.Kernel6Ideal.Gen.facts)
    (hReference6Ideal := Cert.Reference6Ideal.Gen.facts) := fun m g m' g' _ hargs =>
  ⟨fun c => (Cert.Kernel6Ideal.Peer.dats m 0 c).arrAt 3 (Fin.last Cert.Kernel6Ideal.cfg0.N),
    (θ_run (Cert.Kernel6Ideal.defs (F := Ideal)) _ _).mono (fun _ h => h.1) (Cert.Kernel6Ideal.Peer.run (F := Ideal) m g),
    (θ_run (Cert.Reference6Ideal.defs (F := Ideal)) _ _).mono (fun _ h c =>
      ⟨(h c).1.trans (by
          rw [(hargs c).1, (hargs c).2.1, (hargs c).2.2]
          exact (Cert.Kernel6Ideal.Peer.final m c).symm),
        (h c).2⟩) (Cert.Reference6Ideal.Value.run (F := Ideal) m' g')⟩

/-! The claims of the same projection for the sample. -/

/-- The kernel's bodies are the ideal program's, over the machine's floats. -/
theorem bodies9 : @Cert.Kernel9.defs₀ Bits _ Cert.Kernel9.Gen.facts = @Cert.Kernel9Ideal.defs₀ Bits _ Cert.Kernel9Ideal.Gen.facts :=
  congrArg Defs.onTc (funext fun l => funext fun x => match l, x with
    | 0, (_, _) => rfl
    | ⟨_ + 1, h⟩, _ => absurd h (Nat.not_lt.2 (Nat.le_add_left _ _)))

theorem defs9 : @Cert.Kernel9.defs Bits _ Cert.Kernel9.Gen.facts = @Cert.Kernel9Ideal.defs Bits _ Cert.Kernel9Ideal.Gen.facts :=
  congrArg (Pipeline.defs Cert.Kernel9.pcfgs) bodies9

theorem frame_kernel9 : Cert.quiescent_Kernel9 (hKernel9 := Cert.Kernel9.Gen.facts) := fun m ρ _ => by
  rw [defs9]
  exact (θ_run Cert.Kernel9Ideal.defs _ _).mono (fun _ h => ⟨fun c => (h.1 c).2, h.2⟩) (Cert.Kernel9Ideal.QkvSample.run (F := Bits) m ρ)

theorem frame_kernel9Ideal : Cert.quiescent_Kernel9Ideal (hKernel9Ideal := Cert.Kernel9Ideal.Gen.facts) := fun m ρ _ =>
  (θ_run (Cert.Kernel9Ideal.defs (F := Ideal)) _ _).mono (fun _ ⟨h, hz⟩ => ⟨fun c => (h c).2, hz⟩) (Cert.Kernel9Ideal.QkvSample.run (F := Ideal) m ρ)

theorem frame_reference9Ideal : Cert.quiescent_Reference9Ideal (hReference9Ideal := Cert.Reference9Ideal.Gen.facts) := fun m ρ _ =>
  (θ_run (Cert.Reference9Ideal.defs (F := Ideal)) _ _).mono
    (fun _ h => ⟨fun c => (h c).2.2.2, sem_eq_zero_of_no_sems rfl _⟩) (Cert.Reference9Ideal.Value.run (F := Ideal) m ρ)

theorem algebraic9 : Cert.algebraic_Kernel9Ideal_Reference9Ideal (hKernel9Ideal := Cert.Kernel9Ideal.Gen.facts)
    (hReference9Ideal := Cert.Reference9Ideal.Gen.facts) := fun m g m' g' _ hargs =>
  ⟨fun c => (Cert.Kernel9Ideal.QkvSample.dats m 0 c).arrAt 3 (Fin.last Cert.Kernel9Ideal.cfg0.N),
    fun c => (Cert.Kernel9Ideal.QkvSample.dats m 0 c).arrAt 4 (Fin.last Cert.Kernel9Ideal.cfg0.N),
    fun c => (Cert.Kernel9Ideal.QkvSample.dats m 0 c).arrAt 5 (Fin.last Cert.Kernel9Ideal.cfg0.N),
    (θ_run (Cert.Kernel9Ideal.defs (F := Ideal)) _ _).mono (fun _ h c => ⟨((h.1 c).1).1, ((h.1 c).1).2.1, ((h.1 c).1).2.2, (h.1 c).2⟩) (Cert.Kernel9Ideal.QkvSample.run (F := Ideal) m g),
    (θ_run (Cert.Reference9Ideal.defs (F := Ideal)) _ _).mono (fun _ h c =>
      ⟨(h c).1.trans (by
          rw [(hargs c).1, (hargs c).2.1, (hargs c).2.2]
          exact (Cert.Kernel9Ideal.QkvSample.finalQ m c).symm),
        (h c).2.1.trans (by
          rw [(hargs c).1, (hargs c).2.1, (hargs c).2.2]
          exact (Cert.Kernel9Ideal.QkvSample.finalK m c).symm),
        (h c).2.2.1.trans (by
          rw [(hargs c).1, (hargs c).2.1, (hargs c).2.2]
          exact (Cert.Kernel9Ideal.QkvSample.finalV m c).symm),
        (h c).2.2.2⟩) (Cert.Reference9Ideal.Value.run (F := Ideal) m' g')⟩

/-! The claims of the same projection for the sample. -/

/-- The kernel's bodies are the ideal program's, over the machine's floats. -/
theorem bodies10 : @Cert.Kernel10.defs₀ Bits _ Cert.Kernel10.Gen.facts = @Cert.Kernel10Ideal.defs₀ Bits _ Cert.Kernel10Ideal.Gen.facts :=
  congrArg Defs.onTc (funext fun l => funext fun x => match l, x with
    | 0, (_, _) => rfl
    | ⟨_ + 1, h⟩, _ => absurd h (Nat.not_lt.2 (Nat.le_add_left _ _)))

theorem defs10 : @Cert.Kernel10.defs Bits _ Cert.Kernel10.Gen.facts = @Cert.Kernel10Ideal.defs Bits _ Cert.Kernel10Ideal.Gen.facts :=
  congrArg (Pipeline.defs Cert.Kernel10.pcfgs) bodies10

theorem frame_kernel10 : Cert.quiescent_Kernel10 (hKernel10 := Cert.Kernel10.Gen.facts) := fun m ρ _ => by
  rw [defs10]
  exact (θ_run Cert.Kernel10Ideal.defs _ _).mono (fun _ h => ⟨fun c => (h.1 c).2, h.2⟩) (Cert.Kernel10Ideal.KvqSample.run (F := Bits) m ρ)

theorem frame_kernel10Ideal : Cert.quiescent_Kernel10Ideal (hKernel10Ideal := Cert.Kernel10Ideal.Gen.facts) := fun m ρ _ =>
  (θ_run (Cert.Kernel10Ideal.defs (F := Ideal)) _ _).mono (fun _ ⟨h, hz⟩ => ⟨fun c => (h c).2, hz⟩) (Cert.Kernel10Ideal.KvqSample.run (F := Ideal) m ρ)

theorem frame_reference10Ideal : Cert.quiescent_Reference10Ideal (hReference10Ideal := Cert.Reference10Ideal.Gen.facts) := fun m ρ _ =>
  (θ_run (Cert.Reference10Ideal.defs (F := Ideal)) _ _).mono
    (fun _ h => ⟨fun c => (h c).2.2, sem_eq_zero_of_no_sems rfl _⟩) (Cert.Reference10Ideal.Value.run (F := Ideal) m ρ)

theorem algebraic10 : Cert.algebraic_Kernel10Ideal_Reference10Ideal (hKernel10Ideal := Cert.Kernel10Ideal.Gen.facts)
    (hReference10Ideal := Cert.Reference10Ideal.Gen.facts) := fun m g m' g' _ hargs =>
  ⟨fun c => (Cert.Kernel10Ideal.KvqSample.dats m 0 c).arrAt 4 (Fin.last Cert.Kernel10Ideal.cfg0.N),
    fun c => (Cert.Kernel10Ideal.KvqSample.dats m 0 c).arrAt 5 (Fin.last Cert.Kernel10Ideal.cfg0.N),
    (θ_run (Cert.Kernel10Ideal.defs (F := Ideal)) _ _).mono (fun _ h c => ⟨((h.1 c).1).1, ((h.1 c).1).2, (h.1 c).2⟩) (Cert.Kernel10Ideal.KvqSample.run (F := Ideal) m g),
    (θ_run (Cert.Reference10Ideal.defs (F := Ideal)) _ _).mono (fun _ h c =>
      ⟨(h c).1.trans (by
          rw [(hargs c).1, (hargs c).2.1, (hargs c).2.2.2.1]
          exact (Cert.Kernel10Ideal.KvqSample.finalKV m c).symm),
        (h c).2.1.trans (by
          rw [(hargs c).1, (hargs c).2.2.1, (hargs c).2.2.2.2]
          exact (Cert.Kernel10Ideal.KvqSample.finalQ m c).symm),
        (h c).2.2⟩) (Cert.Reference10Ideal.Value.run (F := Ideal) m' g')⟩

/-! The claims of the band attention of the prompt. -/

/-- The kernel's bodies are the ideal program's, over the machine's floats. -/
theorem bodies11 : @Cert.Kernel11.defs₀ Bits _ Cert.Kernel11.Gen.facts = @Cert.Kernel11Ideal.defs₀ Bits _ Cert.Kernel11Ideal.Gen.facts :=
  congrArg Defs.onTc (funext fun l => funext fun x => match l, x with
    | 0, (_, _) => rfl
    | ⟨_ + 1, h⟩, _ => absurd h (Nat.not_lt.2 (Nat.le_add_left _ _)))

theorem defs11 : @Cert.Kernel11.defs Bits _ Cert.Kernel11.Gen.facts = @Cert.Kernel11Ideal.defs Bits _ Cert.Kernel11Ideal.Gen.facts :=
  congrArg (Pipeline.defs Cert.Kernel11.pcfgs) bodies11

theorem frame_kernel11 : Cert.quiescent_Kernel11 (hKernel11 := Cert.Kernel11.Gen.facts) := fun m ρ _ => by
  rw [defs11]
  exact Cert.Kernel11Ideal.Gen.frame (F := Bits) m ρ

theorem frame_kernel11Ideal : Cert.quiescent_Kernel11Ideal (hKernel11Ideal := Cert.Kernel11Ideal.Gen.facts) := fun m ρ _ =>
  Cert.Kernel11Ideal.Gen.frame m ρ

theorem frame_kernel11Ideal_pre : Cert.quiescent_Kernel11Ideal_pre_finite11 (hKernel11Ideal := Cert.Kernel11Ideal.Gen.facts)
    (hPre_finite11 := Cert.Pre_finite11.Band.facts) := fun m ρ _ =>
  Cert.Kernel11Ideal.Gen.frame m ρ

theorem frame_reference11Ideal : Cert.quiescent_Reference11Ideal (hReference11Ideal := Cert.Reference11Ideal.Gen.facts) := fun m ρ _ =>
  (θ_run (Cert.Reference11Ideal.defs (F := Ideal)) _ _).mono
    (fun _ h => ⟨fun c => (h c).2, sem_eq_zero_of_no_sems rfl _⟩) (Cert.Reference11Ideal.Value.run (F := Ideal) m ρ)

theorem frame_reference11Ideal_pre : Cert.quiescent_Reference11Ideal_pre_finite11 (hReference11Ideal := Cert.Reference11Ideal.Gen.facts)
    (hPre_finite11 := Cert.Pre_finite11.Band.facts) := fun m ρ _ =>
  frame_reference11Ideal m ρ trivial

theorem algebraic11 : Cert.algebraic_Kernel11Ideal_Reference11Ideal_pre_finite11 (hKernel11Ideal := Cert.Kernel11Ideal.Gen.facts)
    (hReference11Ideal := Cert.Reference11Ideal.Gen.facts) (hPre_finite11 := Cert.Pre_finite11.Band.facts) := fun m g m' g' hpre hargs =>
  ⟨fun c => (Cert.Kernel11Ideal.Gen.dats m 0 c).arrAt 4 Cert.Kernel11Ideal.cfg0.N,
    Cert.Kernel11Ideal.Value.run_blocks (F := Ideal) m g,
    (θ_run (Cert.Reference11Ideal.defs (F := Ideal)) _ _).mono (fun _ h c =>
      ⟨(h c).1.trans (by
        obtain ⟨hq, hk, hr⟩ := Cert.Pre_finite11.Band.finite _ _ _ _ (hpre c)
        rw [Cert.Reference11Ideal.Band.res_eq, (hargs c).1, (hargs c).2.1, (hargs c).2.2.1, (hargs c).2.2.2]
        exact (Cert.Kernel11Ideal.Band.final m c hq hk hr).symm), (h c).2⟩)
      (Cert.Reference11Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, Cert.Pre_finite11.Band.facts,
  frame_kernel, frame_kernelIdeal, frame_referenceIdeal,
  frame_kernel2, frame_kernel2Ideal, frame_reference2Ideal,
  frame_kernel3, frame_kernel3Ideal, frame_reference3Ideal,
  frame_kernel4, frame_kernel4Ideal, frame_reference4Ideal,
  frame_kernel5, frame_kernel5Ideal, frame_reference5Ideal,
  frame_kernel6, frame_kernel6Ideal, frame_reference6Ideal,
  frame_kernel7, frame_kernel7Ideal, frame_reference7Ideal,
  frame_kernel8, frame_kernel8Ideal, frame_reference8Ideal,
  frame_kernel9, frame_kernel9Ideal, frame_reference9Ideal,
  frame_kernel10, frame_kernel10Ideal, frame_reference10Ideal,
  frame_kernel11, frame_kernel11Ideal, frame_kernel11Ideal_pre, frame_reference11Ideal, frame_reference11Ideal_pre,
  preserves, algebraic, trivial, algebraic2, trivial, algebraic3, trivial, algebraic4, trivial, algebraic5, trivial, algebraic6, trivial, algebraic7, trivial, algebraic8, trivial, algebraic9, trivial, algebraic10, trivial, algebraic11⟩

end Cert.Proof

end
